-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2.2.2.2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2.2.2.2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)) (v7 : (c : Dev Cert.KernelIdeal.nD) → Buf (Elt Ideal) ((c.tc : Thread Cert.KernelIdeal.nD Cert.KernelIdeal.τ).loc Cert.KernelIdeal.main_v3_7)) (v8 : (c : Dev Cert.KernelIdeal.nD) → Buf (Elt Ideal) ((c.tc : Thread Cert.KernelIdeal.nD Cert.KernelIdeal.τ).loc Cert.KernelIdeal.main_v3_8)) (v9 : (c : Dev Cert.KernelIdeal.nD) → Buf (Elt Ideal) ((c.tc : Thread Cert.KernelIdeal.nD Cert.KernelIdeal.τ).loc Cert.KernelIdeal.main_v3_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_v3_7) = v7 c
          ∧ r.2.mem ((c.tc : Thread Cert.KernelIdeal.nD Cert.KernelIdeal.τ).loc Cert.KernelIdeal.main_v3_8) = v8 c
          ∧ r.2.mem ((c.tc : Thread Cert.KernelIdeal.nD Cert.KernelIdeal.τ).loc Cert.KernelIdeal.main_v3_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_v108) = v4 c
          ∧ r.2.mem ((c.tc : Thread Cert.ReferenceIdeal.nD Cert.ReferenceIdeal.τ).loc Cert.ReferenceIdeal.main_v115) = v5 c
          ∧ r.2.mem ((c.tc : Thread Cert.ReferenceIdeal.nD Cert.ReferenceIdeal.τ).loc Cert.ReferenceIdeal.main_v70) = v6 c
          ∧ r.2.mem ((c.tc : Thread Cert.ReferenceIdeal.nD Cert.ReferenceIdeal.τ).loc Cert.ReferenceIdeal.main_v67) = v7 c
          ∧ r.2.mem ((c.tc : Thread Cert.ReferenceIdeal.nD Cert.ReferenceIdeal.τ).loc Cert.ReferenceIdeal.main_v98) = v8 c
          ∧ r.2.mem ((c.tc : Thread Cert.ReferenceIdeal.nD Cert.ReferenceIdeal.τ).loc Cert.ReferenceIdeal.main_v106) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v14) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "gelu_c" .f32 0x3D372713#32 ((8943 / 200000 : ℝ) : EReal)
  ∧ IdealRules.named_const.Statement Cert.Kernel3Ideal.κ "gelu_3c" .f32 0x3E095D4F#32 ((26829 / 200000 : ℝ) : EReal)

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v74_0)) (v1 : (c : Dev Cert.Kernel3Ideal.nD) → Buf (Elt Ideal) ((c.tc : Thread Cert.Kernel3Ideal.nD Cert.Kernel3Ideal.τ).loc Cert.Kernel3Ideal.main_v74_1)) (v2 : (c : Dev Cert.Kernel3Ideal.nD) → Buf (Elt Ideal) ((c.tc : Thread Cert.Kernel3Ideal.nD Cert.Kernel3Ideal.τ).loc Cert.Kernel3Ideal.main_v74_2)) (v3 : (c : Dev Cert.Kernel3Ideal.nD) → Buf (Elt Ideal) ((c.tc : Thread Cert.Kernel3Ideal.nD Cert.Kernel3Ideal.τ).loc Cert.Kernel3Ideal.main_v74_3)) (v4 : (c : Dev Cert.Kernel3Ideal.nD) → Buf (Elt Ideal) ((c.tc : Thread Cert.Kernel3Ideal.nD Cert.Kernel3Ideal.τ).loc Cert.Kernel3Ideal.main_v74_4)) (v5 : (c : Dev Cert.Kernel3Ideal.nD) → Buf (Elt Ideal) ((c.tc : Thread Cert.Kernel3Ideal.nD Cert.Kernel3Ideal.τ).loc Cert.Kernel3Ideal.main_v74_5)) (v6 : (c : Dev Cert.Kernel3Ideal.nD) → Buf (Elt Ideal) ((c.tc : Thread Cert.Kernel3Ideal.nD Cert.Kernel3Ideal.τ).loc Cert.Kernel3Ideal.main_v74_6)) (v7 : (c : Dev Cert.Kernel3Ideal.nD) → Buf (Elt Ideal) ((c.tc : Thread Cert.Kernel3Ideal.nD Cert.Kernel3Ideal.τ).loc Cert.Kernel3Ideal.main_v74_7)) (v8 : (c : Dev Cert.Kernel3Ideal.nD) → Buf (Elt Ideal) ((c.tc : Thread Cert.Kernel3Ideal.nD Cert.Kernel3Ideal.τ).loc Cert.Kernel3Ideal.main_v74_8)) (v9 : (c : Dev Cert.Kernel3Ideal.nD) → Buf (Elt Ideal) ((c.tc : Thread Cert.Kernel3Ideal.nD Cert.Kernel3Ideal.τ).loc Cert.Kernel3Ideal.main_v74_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v74_0) = v0 c
          ∧ r.2.mem ((c.tc : Thread Cert.Kernel3Ideal.nD Cert.Kernel3Ideal.τ).loc Cert.Kernel3Ideal.main_v74_1) = v1 c
          ∧ r.2.mem ((c.tc : Thread Cert.Kernel3Ideal.nD Cert.Kernel3Ideal.τ).loc Cert.Kernel3Ideal.main_v74_2) = v2 c
          ∧ r.2.mem ((c.tc : Thread Cert.Kernel3Ideal.nD Cert.Kernel3Ideal.τ).loc Cert.Kernel3Ideal.main_v74_3) = v3 c
          ∧ r.2.mem ((c.tc : Thread Cert.Kernel3Ideal.nD Cert.Kernel3Ideal.τ).loc Cert.Kernel3Ideal.main_v74_4) = v4 c
          ∧ r.2.mem ((c.tc : Thread Cert.Kernel3Ideal.nD Cert.Kernel3Ideal.τ).loc Cert.Kernel3Ideal.main_v74_5) = v5 c
          ∧ r.2.mem ((c.tc : Thread Cert.Kernel3Ideal.nD Cert.Kernel3Ideal.τ).loc Cert.Kernel3Ideal.main_v74_6) = v6 c
          ∧ r.2.mem ((c.tc : Thread Cert.Kernel3Ideal.nD Cert.Kernel3Ideal.τ).loc Cert.Kernel3Ideal.main_v74_7) = v7 c
          ∧ r.2.mem ((c.tc : Thread Cert.Kernel3Ideal.nD Cert.Kernel3Ideal.τ).loc Cert.Kernel3Ideal.main_v74_8) = v8 c
          ∧ r.2.mem ((c.tc : Thread Cert.Kernel3Ideal.nD Cert.Kernel3Ideal.τ).loc Cert.Kernel3Ideal.main_v74_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v130) = v0 c
          ∧ r.2.mem ((c.tc : Thread Cert.Reference3Ideal.nD Cert.Reference3Ideal.τ).loc Cert.Reference3Ideal.main_v159) = v1 c
          ∧ r.2.mem ((c.tc : Thread Cert.Reference3Ideal.nD Cert.Reference3Ideal.τ).loc Cert.Reference3Ideal.main_v160) = v2 c
          ∧ r.2.mem ((c.tc : Thread Cert.Reference3Ideal.nD Cert.Reference3Ideal.τ).loc Cert.Reference3Ideal.main_v161) = v3 c
          ∧ r.2.mem ((c.tc : Thread Cert.Reference3Ideal.nD Cert.Reference3Ideal.τ).loc Cert.Reference3Ideal.main_v162) = v4 c
          ∧ r.2.mem ((c.tc : Thread Cert.Reference3Ideal.nD Cert.Reference3Ideal.τ).loc Cert.Reference3Ideal.main_v163) = v5 c
          ∧ r.2.mem ((c.tc : Thread Cert.Reference3Ideal.nD Cert.Reference3Ideal.τ).loc Cert.Reference3Ideal.main_v153) = v6 c
          ∧ r.2.mem ((c.tc : Thread Cert.Reference3Ideal.nD Cert.Reference3Ideal.τ).loc Cert.Reference3Ideal.main_v101) = v7 c
          ∧ r.2.mem ((c.tc : Thread Cert.Reference3Ideal.nD Cert.Reference3Ideal.τ).loc Cert.Reference3Ideal.main_v98) = v8 c
          ∧ r.2.mem ((c.tc : Thread Cert.Reference3Ideal.nD Cert.Reference3Ideal.τ).loc Cert.Reference3Ideal.main_v157) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v56) = v1 c
          ∧ r.2.mem ((c.tc : Thread Cert.Reference4Ideal.nD Cert.Reference4Ideal.τ).loc Cert.Reference4Ideal.main_v60) = v2 c
          ∧ r.2.mem ((c.tc : Thread Cert.Reference4Ideal.nD Cert.Reference4Ideal.τ).loc Cert.Reference4Ideal.main_v53) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_v6) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_v6) = v2 c
          ∧ r.2.mem ((c.tc : Thread Cert.Reference6Ideal.nD Cert.Reference6Ideal.τ).loc Cert.Reference6Ideal.main_v12) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v7) = v2 c
          ∧ r.2.mem ((c.tc : Thread Cert.Reference7Ideal.nD Cert.Reference7Ideal.τ).loc Cert.Reference7Ideal.main_v13) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_v7) = v2 c
          ∧ r.2.mem ((c.tc : Thread Cert.Reference8Ideal.nD Cert.Reference8Ideal.τ).loc Cert.Reference8Ideal.main_v13) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_v1) = v1 c
          ∧ r.2.mem ((c.tc : Thread Cert.Reference9Ideal.nD Cert.Reference9Ideal.τ).loc Cert.Reference9Ideal.main_v2) = v2 c
          ∧ r.2.mem ((c.tc : Thread Cert.Reference9Ideal.nD Cert.Reference9Ideal.τ).loc Cert.Reference9Ideal.main_v3) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x1024 : Shape := ⟨2, ![8192, 1024]⟩
abbrev S1x1024 : Shape := ⟨2, ![1, 1024]⟩
abbrev S1024x4096 : Shape := ⟨2, ![1024, 4096]⟩
abbrev S1x4096 : Shape := ⟨2, ![1, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x4096 : S_.BroadcastsInDim S1024x4096 (![] : Fin 0 → Fin S1024x4096.rank)
  bcast_S_S1x4096 : S_.BroadcastsInDim S1x4096 (![] : Fin 0 → Fin S1x4096.rank)
  bcast_S_S4096x1024 : S_.BroadcastsInDim S4096x1024 (![] : Fin 0 → Fin S4096x1024.rank)

variable [Facts]

def fn_part1 {F : FTy → Type} [FloatOps F] (main_arg6 : FVec F S4096x1024 .f32) (main_arg7 : FVec F S1x1024 .f32) (main_arg8 : FVec F S1x1024 .f32) (main_arg9 : FVec F S1x1024 .f32) (main_v2 : IVec S8192x1024 1) (main_v5 : IVec S8192x1024 1) (main_v8 : IVec S1x1024 1) (main_v11 : IVec S1x1024 1) (main_v14 : IVec S1024x4096 1) (main_v17 : IVec S1x4096 1) : IVec S8192x1024 1 × IVec S8192x1024 1 × IVec S1x1024 1 × IVec S1x1024 1 × IVec S1024x4096 1 × IVec S1x4096 1 × IVec S4096x1024 1 × IVec S1x1024 1 × IVec S1x1024 1 × IVec S1x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  let main_v27 : FVec F S1x1024 .f32 := Host.absf main_arg9
  let main_cst_8 : FVec F S_ .f32 := constant S_ .f32 0x7F800000#32
  let main_v28 : FVec F S1x1024 .f32 := broadcastInDim S1x1024 ![] bcast_S_S1x1024 main_cst_8
  let main_v29 : IVec S1x1024 1 := cmpf .olt main_v27 main_v28
  (main_v2, main_v5, main_v8, main_v11, main_v14, main_v17, main_v20, main_v23, main_v26, main_v29)

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1024x4096 .f32) (main_arg5 : FVec F S1x4096 .f32) (main_arg6 : FVec F S4096x1024 .f32) (main_arg7 : FVec F S1x1024 .f32) (main_arg8 : FVec F S1x1024 .f32) (main_arg9 : FVec F S1x1024 .f32) : IVec S8192x1024 1 × IVec S8192x1024 1 × IVec S1x1024 1 × IVec S1x1024 1 × IVec S1024x4096 1 × IVec S1x4096 1 × IVec S4096x1024 1 × IVec S1x1024 1 × IVec S1x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x4096 .f32 := Host.absf main_arg4
  let main_cst_3 : FVec F S_ .f32 := constant S_ .f32 0x7F800000#32
  let main_v13 : FVec F S1024x4096 .f32 := broadcastInDim S1024x4096 ![] bcast_S_S1024x4096 main_cst_3
  let main_v14 : IVec S1024x4096 1 := cmpf .olt main_v12 main_v13
  let main_v15 : FVec F S1x4096 .f32 := Host.absf main_arg5
  let main_cst_4 : FVec F S_ .f32 := constant S_ .f32 0x7F800000#32
  let main_v16 : FVec F S1x4096 .f32 := broadcastInDim S1x4096 ![] bcast_S_S1x4096 main_cst_4
  let main_v17 : IVec S1x4096 1 := cmpf .olt main_v15 main_v16
  fn_part1 (F := F) main_arg6 main_arg7 main_arg8 main_arg9 main_v2 main_v5 main_v8 main_v11 main_v14 main_v17
-- ==== Pre_finite3.lean ====
abbrev S8192x1024 : Shape := ⟨2, ![8192, 1024]⟩
abbrev S8192x3072 : Shape := ⟨2, ![8192, 3072]⟩
abbrev S8192x512 : Shape := ⟨2, ![8192, 512]⟩
abbrev S1x3072 : Shape := ⟨2, ![1, 3072]⟩
abbrev S1x1024 : Shape := ⟨2, ![1, 1024]⟩
abbrev S1024x1024 : Shape := ⟨2, ![1024, 1024]⟩
abbrev S512x2048 : Shape := ⟨2, ![512, 2048]⟩
abbrev S512x1024 : Shape := ⟨2, ![512, 1024]⟩
abbrev S_ : Shape := ⟨0, ![]⟩

class Facts : Prop where
  bcast_S_S8192x1024 : S_.BroadcastsInDim S8192x1024 (![] : Fin 0 → Fin S8192x1024.rank)
  bcast_S_S8192x3072 : S_.BroadcastsInDim S8192x3072 (![] : Fin 0 → Fin S8192x3072.rank)
  bcast_S_S8192x512 : S_.BroadcastsInDim S8192x512 (![] : Fin 0 → Fin S8192x512.rank)
  bcast_S_S1x3072 : S_.BroadcastsInDim S1x3072 (![] : Fin 0 → Fin S1x3072.rank)
  bcast_S_S1x1024 : S_.BroadcastsInDim S1x1024 (![] : Fin 0 → Fin S1x1024.rank)
  bcast_S_S1024x1024 : S_.BroadcastsInDim S1024x1024 (![] : Fin 0 → Fin S1024x1024.rank)
  bcast_S_S512x2048 : S_.BroadcastsInDim S512x2048 (![] : Fin 0 → Fin S512x2048.rank)
  bcast_S_S512x1024 : S_.BroadcastsInDim S512x1024 (![] : Fin 0 → Fin S512x1024.rank)

variable [Facts]

def fn_part1 {F : FTy → Type} [FloatOps F] (main_arg6 : FVec F S1x3072 .f32) (main_arg7 : FVec F S1x1024 .f32) (main_arg8 : FVec F S1024x1024 .f32) (main_arg9 : FVec F S512x2048 .f32) (main_arg10 : FVec F S512x1024 .f32) (main_arg11 : FVec F S512x1024 .f32) (main_v2 : IVec S8192x1024 1) (main_v5 : IVec S8192x1024 1) (main_v8 : IVec S8192x3072 1) (main_v11 : IVec S8192x512 1) (main_v14 : IVec S8192x512 1) (main_v17 : IVec S8192x512 1) : IVec S8192x1024 1 × IVec S8192x1024 1 × IVec S8192x3072 1 × IVec S8192x512 1 × IVec S8192x512 1 × IVec S8192x512 1 × IVec S1x3072 1 × IVec S1x1024 1 × IVec S1024x1024 1 × IVec S512x2048 1 × IVec S512x1024 1 × IVec S512x1024 1 :=
  let main_v18 : FVec F S1x3072 .f32 := Host.absf main_arg6
  let main_cst_5 : FVec F S_ .f32 := constant S_ .f32 0x7F800000#32
  let main_v19 : FVec F S1x3072 .f32 := broadcastInDim S1x3072 ![] bcast_S_S1x3072 main_cst_5
  let main_v20 : IVec S1x3072 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_v24 : FVec F S1024x1024 .f32 := Host.absf main_arg8
  let main_cst_7 : FVec F S_ .f32 := constant S_ .f32 0x7F800000#32
  let main_v25 : FVec F S1024x1024 .f32 := broadcastInDim S1024x1024 ![] bcast_S_S1024x1024 main_cst_7
  let main_v26 : IVec S1024x1024 1 := cmpf .olt main_v24 main_v25
  let main_v27 : FVec F S512x2048 .f32 := Host.absf main_arg9
  let main_cst_8 : FVec F S_ .f32 := constant S_ .f32 0x7F800000#32
  let main_v28 : FVec F S512x2048 .f32 := broadcastInDim S512x2048 ![] bcast_S_S512x2048 main_cst_8
  let main_v29 : IVec S512x2048 1 := cmpf .olt main_v27 main_v28
  let main_v30 : FVec F S512x1024 .f32 := Host.absf main_arg10
  let main_cst_9 : FVec F S_ .f32 := constant S_ .f32 0x7F800000#32
  let main_v31 : FVec F S512x1024 .f32 := broadcastInDim S512x1024 ![] bcast_S_S512x1024 main_cst_9
  let main_v32 : IVec S512x1024 1 := cmpf .olt main_v30 main_v31
  let main_v33 : FVec F S512x1024 .f32 := Host.absf main_arg11
  let main_cst_10 : FVec F S_ .f32 := constant S_ .f32 0x7F800000#32
  let main_v34 : FVec F S512x1024 .f32 := broadcastInDim S512x1024 ![] bcast_S_S512x1024 main_cst_10
  let main_v35 : IVec S512x1024 1 := cmpf .olt main_v33 main_v34
  (main_v2, main_v5, main_v8, main_v11, main_v14, main_v17, main_v20, main_v23, main_v26, main_v29, main_v32, main_v35)

def fn {F : FTy → Type} [FloatOps F] (main_arg0 : FVec F S8192x1024 .f32) (main_arg1 : FVec F S8192x1024 .f32) (main_arg2 : FVec F S8192x3072 .f32) (main_arg3 : FVec F S8192x512 .f32) (main_arg4 : FVec F S8192x512 .f32) (main_arg5 : FVec F S8192x512 .f32) (main_arg6 : FVec F S1x3072 .f32) (main_arg7 : FVec F S1x1024 .f32) (main_arg8 : FVec F S1024x1024 .f32) (main_arg9 : FVec F S512x2048 .f32) (main_arg10 : FVec F S512x1024 .f32) (main_arg11 : FVec F S512x1024 .f32) : IVec S8192x1024 1 × IVec S8192x1024 1 × IVec S8192x3072 1 × IVec S8192x512 1 × IVec S8192x512 1 × IVec S8192x512 1 × IVec S1x3072 1 × IVec S1x1024 1 × IVec S1024x1024 1 × IVec S512x2048 1 × IVec S512x1024 1 × IVec S512x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x3072 .f32 := Host.absf main_arg2
  let main_cst_1 : FVec F S_ .f32 := constant S_ .f32 0x7F800000#32
  let main_v7 : FVec F S8192x3072 .f32 := broadcastInDim S8192x3072 ![] bcast_S_S8192x3072 main_cst_1
  let main_v8 : IVec S8192x3072 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x512 .f32 := Host.absf main_arg5
  let main_cst_4 : FVec F S_ .f32 := constant S_ .f32 0x7F800000#32
  let main_v16 : FVec F S8192x512 .f32 := broadcastInDim S8192x512 ![] bcast_S_S8192x512 main_cst_4
  let main_v17 : IVec S8192x512 1 := cmpf .olt main_v15 main_v16
  fn_part1 (F := F) main_arg6 main_arg7 main_arg8 main_arg9 main_arg10 main_arg11 main_v2 main_v5 main_v8 main_v11 main_v14 main_v17
-- ==== Kernel.lean ====
abbrev S8192x1024 : Shape := ⟨2, ![8192, 1024]⟩
abbrev S1x1024 : Shape := ⟨2, ![1, 1024]⟩
abbrev S1024x4096 : Shape := ⟨2, ![1024, 4096]⟩
abbrev S1x4096 : Shape := ⟨2, ![1, 4096]⟩
abbrev S4096x1024 : Shape := ⟨2, ![4096, 1024]⟩
abbrev S1024x8192 : Shape := ⟨2, ![1024, 8192]⟩
abbrev S8192x4096 : Shape := ⟨2, ![8192, 4096]⟩
abbrev S1x128 : Shape := ⟨2, ![1, 128]⟩
abbrev S256x1024 : Shape := ⟨2, ![256, 1024]⟩
abbrev S1024x256 : Shape := ⟨2, ![1024, 256]⟩
abbrev S256x4096 : Shape := ⟨2, ![256, 4096]⟩
abbrev S1024x1024 : Shape := ⟨2, ![1024, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 23
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S1x4096, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S4096x1024, .bf16⟩
  | .hbm, ⟨13, _⟩ => ⟨S1024x8192, .bf16⟩
  | .hbm, ⟨14, _⟩ => ⟨S8192x4096, .bf16⟩
  | .hbm, ⟨15, _⟩ => ⟨S1024x8192, .bf16⟩
  | .hbm, ⟨16, _⟩ => ⟨S8192x4096, .bf16⟩
  | .hbm, ⟨17, _⟩ => ⟨S8192x1024, .f32⟩
  | .hbm, ⟨18, _⟩ => ⟨S1x128, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x4096, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S4096x1024, .bf16⟩
  | .local _ .vmem, ⟨7, _⟩ => ⟨S1x4096, .f32⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x256, .bf16⟩
  | .local _ .vmem, ⟨13, _⟩ => ⟨S1024x256, .bf16⟩
  | .local _ .vmem, ⟨14, _⟩ => ⟨S256x4096, .bf16⟩
  | .local _ .vmem, ⟨15, _⟩ => ⟨S256x4096, .bf16⟩
  | .local _ .vmem, ⟨16, _⟩ => ⟨S1024x256, .bf16⟩
  | .local _ .vmem, ⟨17, _⟩ => ⟨S1024x256, .bf16⟩
  | .local _ .vmem, ⟨18, _⟩ => ⟨S256x4096, .bf16⟩
  | .local _ .vmem, ⟨19, _⟩ => ⟨S256x4096, .bf16⟩
  | .local _ .vmem, ⟨20, _⟩ => ⟨S256x1024, .f32⟩
  | .local _ .vmem, ⟨21, _⟩ => ⟨S256x1024, .f32⟩
  | .local _ .vmem, ⟨22, _⟩ => ⟨S1x128, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x4096, .f32⟩
  | .local _ .vmem, ⟨27, _⟩ => ⟨S256x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev main_v3_7 : Ref sig .tc := ⟨.hbm, 20, rfl⟩
abbrev main_v3_8 : Ref sig .tc := ⟨.hbm, 21, rfl⟩
abbrev main_v3_9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x4096 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S8192x1024 : Shape := ⟨2, ![8192, 1024]⟩
abbrev S1x1024 : Shape := ⟨2, ![1, 1024]⟩
abbrev S1024x4096 : Shape := ⟨2, ![1024, 4096]⟩
abbrev S1x4096 : Shape := ⟨2, ![1, 4096]⟩
abbrev S4096x1024 : Shape := ⟨2, ![4096, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1024 : Shape := ⟨1, ![1024]⟩
abbrev S4096 : Shape := ⟨1, ![4096]⟩
abbrev S1024x8192 : Shape := ⟨2, ![1024, 8192]⟩
abbrev S1x128 : Shape := ⟨2, ![1, 128]⟩

abbrev nBuf : Space → Nat
  | .hbm => 162
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1024x4096, .f32⟩
  | 5 => ⟨S1x4096, .f32⟩
  | 6 => ⟨S4096x1024, .f32⟩
  | 7 => ⟨S1x1024, .f32⟩
  | 8 => ⟨S1x1024, .f32⟩
  | 9 => ⟨S1x1024, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S8192x4096, .f32⟩
  | 16 => ⟨S_, .f32⟩
  | 17 => ⟨S8192x1024, .f32⟩
  | 18 => ⟨S8192x4096, .f32⟩
  | 19 => ⟨S8192x4096, .f32⟩
  | 20 => ⟨S8192x4096, .f32⟩
  | 21 => ⟨S8192x4096, .f32⟩
  | 22 => ⟨S_, .f32⟩
  | 23 => ⟨S8192x4096, .f32⟩
  | 24 => ⟨S8192x4096, .f32⟩
  | 25 => ⟨S_, .f32⟩
  | 26 => ⟨S8192x4096, .f32⟩
  | 27 => ⟨S8192x4096, .i1⟩
  | 28 => ⟨S_, .f32⟩
  | 29 => ⟨S8192x4096, .f32⟩
  | 30 => ⟨S8192x4096, .f32⟩
  | 31 => ⟨S_, .f32⟩
  | 32 => ⟨S8192x4096, .f32⟩
  | 33 => ⟨S8192x4096, .f32⟩
  | 34 => ⟨S_, .f32⟩
  | 35 => ⟨S8192x1024, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S8192x1024, .f32⟩
  | 42 => ⟨S_, .f32⟩
  | 43 => ⟨S8192, .f32⟩
  | 44 => ⟨S8192x1, .f32⟩
  | 45 => ⟨S_, .f32⟩
  | 46 => ⟨S8192x1, .f32⟩
  | 47 => ⟨S8192x1, .f32⟩
  | 48 => ⟨S8192x1024, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S_, .f32⟩
  | 55 => ⟨S8192, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S_, .f32⟩
  | 63 => ⟨S8192x1, .f32⟩
  | 64 => ⟨S8192x1, .f32⟩
  | 65 => ⟨S8192x1, .f32⟩
  | 66 => ⟨S8192x1, .f32⟩
  | 67 => ⟨S_, .f32⟩
  | 68 => ⟨S8192x1, .f32⟩
  | 69 => ⟨S8192x1, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S_, .f32⟩
  | 79 => ⟨S8192x1024, .f32⟩
  | 80 => ⟨S8192x1024, .f32⟩
  | 81 => ⟨S_, .f32⟩
  | 82 => ⟨S8192, .f32⟩
  | 83 => ⟨S_, .f32⟩
  | 84 => ⟨S8192, .f32⟩
  | 85 => ⟨S8192, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S8192, .f32⟩
  | 94 => ⟨S_, .f32⟩
  | 95 => ⟨S8192, .f32⟩
  | 96 => ⟨S8192, .f32⟩
  | 97 => ⟨S8192x1024, .f32⟩
  | 98 => ⟨S8192x1024, .f32⟩
  | 99 => ⟨S_, .f32⟩
  | 100 => ⟨S1024, .f32⟩
  | 101 => ⟨S1x1024, .f32⟩
  | 102 => ⟨S8192x1024, .f32⟩
  | 103 => ⟨S_, .f32⟩
  | 104 => ⟨S1024, .f32⟩
  | 105 => ⟨S1x1024, .f32⟩
  | 106 => ⟨S8192x1024, .f32⟩
  | 107 => ⟨S8192x1024, .f32⟩
  | 108 => ⟨S8192x1024, .f32⟩
  | 109 => ⟨S_, .f32⟩
  | 110 => ⟨S8192, .f32⟩
  | 111 => ⟨S8192x1, .f32⟩
  | 112 => ⟨S8192x1024, .f32⟩
  | 113 => ⟨S8192x1024, .f32⟩
  | 114 => ⟨S8192x1, .f32⟩
  | 115 => ⟨S8192x1024, .f32⟩
  | 116 => ⟨S_, .f32⟩
  | 117 => ⟨S8192, .f32⟩
  | 118 => ⟨S8192x1, .f32⟩
  | 119 => ⟨S_, .f32⟩
  | 120 => ⟨S8192x1, .f32⟩
  | 121 => ⟨S8192x1, .f32⟩
  | 122 => ⟨S_, .f32⟩
  | 123 => ⟨S8192, .f32⟩
  | 124 => ⟨S8192x1024, .f32⟩
  | 125 => ⟨S8192x1024, .f32⟩
  | 126 => ⟨S8192x1024, .f32⟩
  | 127 => ⟨S_, .f32⟩
  | _ => ⟨S8192x1024, .f32⟩

abbrev hbmTy0_1 (i : Nat) : BufTy := match i % 128 with
  | 0 => ⟨S8192, .f32⟩
  | 1 => ⟨S8192x1, .f32⟩
  | 2 => ⟨S8192x1024, .f32⟩
  | 3 => ⟨S8192x1, .f32⟩
  | 4 => ⟨S_, .f32⟩
  | 5 => ⟨S8192x1, .f32⟩
  | 6 => ⟨S8192x1, .f32⟩
  | 7 => ⟨S_, .f32⟩
  | 8 => ⟨S8192, .f32⟩
  | 9 => ⟨S8192x1024, .f32⟩
  | 10 => ⟨S8192x1024, .f32⟩
  | 11 => ⟨S_, .f32⟩
  | 12 => ⟨S1024, .f32⟩
  | 13 => ⟨S1x1024, .f32⟩
  | 14 => ⟨S8192x4096, .f32⟩
  | 15 => ⟨S_, .f32⟩
  | 16 => ⟨S8192x1024, .f32⟩
  | 17 => ⟨S8192x1024, .f32⟩
  | 18 => ⟨S8192x4096, .f32⟩
  | 19 => ⟨S_, .f32⟩
  | 20 => ⟨S8192x4096, .f32⟩
  | 21 => ⟨S8192x4096, .f32⟩
  | 22 => ⟨S_, .f32⟩
  | 23 => ⟨S4096, .f32⟩
  | 24 => ⟨S1x4096, .f32⟩
  | 25 => ⟨S8192x1024, .f32⟩
  | 26 => ⟨S8192x1024, .f32⟩
  | 27 => ⟨S1024x8192, .f32⟩
  | 28 => ⟨S1024x8192, .bf16⟩
  | 29 => ⟨S8192x4096, .bf16⟩
  | 30 => ⟨S1024x8192, .f32⟩
  | 31 => ⟨S1024x8192, .bf16⟩
  | 32 => ⟨S8192x4096, .bf16⟩
  | 33 => ⟨S1x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_cst_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_cst_8 : Ref sig .tc := ⟨.hbm, 54, rfl⟩
abbrev main_v33 : Ref sig .tc := ⟨.hbm, 55, rfl⟩
abbrev main_v34 : Ref sig .tc := ⟨.hbm, 56, rfl⟩
abbrev main_cst_9 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_11 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_cst_13 : Ref sig .tc := ⟨.hbm, 81, rfl⟩
abbrev main_v55 : Ref sig .tc := ⟨.hbm, 82, rfl⟩
abbrev main_cst_14 : Ref sig .tc := ⟨.hbm, 83, rfl⟩
abbrev main_v56 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_cst_16 : Ref sig .tc := ⟨.hbm, 88, rfl⟩
abbrev main_v59 : Ref sig .tc := ⟨.hbm, 89, rfl⟩
abbrev main_cst_17 : Ref sig .tc := ⟨.hbm, 90, rfl⟩
abbrev main_cst_18 : Ref sig .tc := ⟨.hbm, 91, rfl⟩
abbrev main_v60 : Ref sig .tc := ⟨.hbm, 92, rfl⟩
abbrev main_v61 : Ref sig .tc := ⟨.hbm, 93, rfl⟩
abbrev main_cst_19 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_20 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_21 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_22 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_23 : Ref sig .tc := ⟨.hbm, 116, rfl⟩
abbrev main_v80 : Ref sig .tc := ⟨.hbm, 117, rfl⟩
abbrev main_v81 : Ref sig .tc := ⟨.hbm, 118, rfl⟩
abbrev main_cst_24 : Ref sig .tc := ⟨.hbm, 119, rfl⟩
abbrev main_v82 : Ref sig .tc := ⟨.hbm, 120, rfl⟩
abbrev main_v83 : Ref sig .tc := ⟨.hbm, 121, rfl⟩
abbrev main_cst_25 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_26 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_27 : Ref sig .tc := ⟨.hbm, 132, rfl⟩
abbrev main_v92 : Ref sig .tc := ⟨.hbm, 133, rfl⟩
abbrev main_v93 : Ref sig .tc := ⟨.hbm, 134, rfl⟩
abbrev main_cst_28 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_29 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_30 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_31 : Ref sig .tc := ⟨.hbm, 147, rfl⟩
abbrev main_v103 : Ref sig .tc := ⟨.hbm, 148, rfl⟩
abbrev main_v104 : Ref sig .tc := ⟨.hbm, 149, rfl⟩
abbrev main_cst_32 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩

abbrev nD : Nat := 1
abbrev τ : Topo := Topo.v7x

variable {F : FTy → Type} [FloatOps F]
-- ==== Kernel2.lean ====
abbrev S8192x3072 : Shape := ⟨2, ![8192, 3072]⟩
abbrev S8192x1536 : Shape := ⟨2, ![8192, 1536]⟩
abbrev S8192x512 : Shape := ⟨2, ![8192, 512]⟩
abbrev S8192x1024 : Shape := ⟨2, ![8192, 1024]⟩
abbrev S1024x5632 : Shape := ⟨2, ![1024, 5632]⟩
abbrev S5632x1024 : Shape := ⟨2, ![5632, 1024]⟩
abbrev S8192x5632 : Shape := ⟨2, ![8192, 5632]⟩
abbrev S512x3072 : Shape := ⟨2, ![512, 3072]⟩
abbrev S512x1536 : Shape := ⟨2, ![512, 1536]⟩
abbrev S512x512 : Shape := ⟨2, ![512, 512]⟩
abbrev S512x1024 : Shape := ⟨2, ![512, 1024]⟩
abbrev S512x5632 : Shape := ⟨2, ![512, 5632]⟩

abbrev nBuf : Space → Nat
  | .hbm => 10
  | .vmem => 15
  | .smem => 0
  | _ => 0

abbrev bufTy : (tb : Table) → Fin (tcTables nBuf tb) → BufTy
  | .hbm, ⟨0, _⟩ => ⟨S8192x3072, .bf16⟩
  | .hbm, ⟨1, _⟩ => ⟨S8192x1536, .bf16⟩
  | .hbm, ⟨2, _⟩ => ⟨S8192x512, .f32⟩
  | .hbm, ⟨3, _⟩ => ⟨S8192x512, .bf16⟩
  | .hbm, ⟨4, _⟩ => ⟨S8192x1024, .f32⟩
  | .hbm, ⟨5, _⟩ => ⟨S1024x5632, .f32⟩
  | .hbm, ⟨6, _⟩ => ⟨S5632x1024, .f32⟩
  | .hbm, ⟨7, _⟩ => ⟨S5632x1024, .bf16⟩
  | .hbm, ⟨8, _⟩ => ⟨S8192x1024, .f32⟩
  | .hbm, ⟨9, _⟩ => ⟨S8192x5632, .bf16⟩
  | .local _ .vmem, ⟨0, _⟩ => ⟨S512x3072, .bf16⟩
  | .local _ .vmem, ⟨1, _⟩ => ⟨S512x3072, .bf16⟩
  | .local _ .vmem, ⟨2, _⟩ => ⟨S512x1536, .bf16⟩
  | .local _ .vmem, ⟨3, _⟩ => ⟨S512x1536, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S5632x1024, .bf16⟩
  | .local _ .vmem, ⟨11, _⟩ => ⟨S512x1024, .f32⟩
  | .local _ .vmem, ⟨12, _⟩ => ⟨S512x1024, .f32⟩
  | .local _ .vmem, ⟨13, _⟩ => ⟨S512x5632, .bf16⟩
  | .local _ .vmem, ⟨14, _⟩ => ⟨S512x5632, .bf16⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8192x3072 : Shape := ⟨2, ![8192, 3072]⟩
abbrev S8192x1536 : Shape := ⟨2, ![8192, 1536]⟩
abbrev S8192x512 : Shape := ⟨2, ![8192, 512]⟩
abbrev S8192x1024 : Shape := ⟨2, ![8192, 1024]⟩
abbrev S1024x5632 : Shape := ⟨2, ![1024, 5632]⟩
abbrev S_ : Shape := ⟨0, ![]⟩
abbrev S8192x5632 : Shape := ⟨2, ![8192, 5632]⟩

abbrev nBuf : Space → Nat
  | .hbm => 23
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1536, .bf16⟩
  | .hbm, ⟨2, _⟩ => ⟨S8192x512, .f32⟩
  | .hbm, ⟨3, _⟩ => ⟨S8192x512, .bf16⟩
  | .hbm, ⟨4, _⟩ => ⟨S8192x1024, .f32⟩
  | .hbm, ⟨5, _⟩ => ⟨S1024x5632, .f32⟩
  | .hbm, ⟨6, _⟩ => ⟨S_, .f32⟩
  | .hbm, ⟨7, _⟩ => ⟨S8192x1024, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S8192x3072, .f32⟩
  | .hbm, ⟨13, _⟩ => ⟨S8192x1536, .f32⟩
  | .hbm, ⟨14, _⟩ => ⟨S8192x512, .f32⟩
  | .hbm, ⟨15, _⟩ => ⟨S8192x512, .f32⟩
  | .hbm, ⟨16, _⟩ => ⟨S8192x3072, .f32⟩
  | .hbm, ⟨17, _⟩ => ⟨S8192x1536, .f32⟩
  | .hbm, ⟨18, _⟩ => ⟨S8192x512, .f32⟩
  | .hbm, ⟨19, _⟩ => ⟨S8192x5632, .f32⟩
  | .hbm, ⟨20, _⟩ => ⟨S8192x1024, .f32⟩
  | .hbm, ⟨21, _⟩ => ⟨S8192x1024, .f32⟩
  | .hbm, ⟨22, _⟩ => ⟨S8192x5632, .bf16⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel3.lean ====
abbrev S8192x1024 : Shape := ⟨2, ![8192, 1024]⟩
abbrev S8192x3072 : Shape := ⟨2, ![8192, 3072]⟩
abbrev S8192x512 : Shape := ⟨2, ![8192, 512]⟩
abbrev S1x3072 : Shape := ⟨2, ![1, 3072]⟩
abbrev S1x1024 : Shape := ⟨2, ![1, 1024]⟩
abbrev S1024x1024 : Shape := ⟨2, ![1024, 1024]⟩
abbrev S512x2048 : Shape := ⟨2, ![512, 2048]⟩
abbrev S512x1024 : Shape := ⟨2, ![512, 1024]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S2048x512 : Shape := ⟨2, ![2048, 512]⟩
abbrev S1024x512 : Shape := ⟨2, ![1024, 512]⟩
abbrev S1024x8192 : Shape := ⟨2, ![1024, 8192]⟩
abbrev S256x1024 : Shape := ⟨2, ![256, 1024]⟩
abbrev S256x1 : Shape := ⟨2, ![256, 1]⟩
abbrev S256x3072 : Shape := ⟨2, ![256, 3072]⟩
abbrev S256x512 : Shape := ⟨2, ![256, 512]⟩
abbrev S1024x256 : Shape := ⟨2, ![1024, 256]⟩
abbrev S256x2048 : Shape := ⟨2, ![256, 2048]⟩
abbrev S1024 : Shape := ⟨1, ![1024]⟩
abbrev S256 : Shape := ⟨1, ![256]⟩

abbrev nBuf : Space → Nat
  | .hbm => 111
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x3072, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S1x3072, .f32⟩
  | .hbm, ⟨7, _⟩ => ⟨S1x1024, .f32⟩
  | .hbm, ⟨8, _⟩ => ⟨S1024x1024, .f32⟩
  | .hbm, ⟨9, _⟩ => ⟨S512x2048, .f32⟩
  | .hbm, ⟨10, _⟩ => ⟨S512x1024, .f32⟩
  | .hbm, ⟨11, _⟩ => ⟨S512x1024, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S_, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x2048, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S8192, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x3072, .bf16⟩
  | .hbm, ⟨92, _⟩ => ⟨S8192x512, .bf16⟩
  | .hbm, ⟨93, _⟩ => ⟨S8192x512, .bf16⟩
  | .hbm, ⟨94, _⟩ => ⟨S1024x1024, .bf16⟩
  | .hbm, ⟨95, _⟩ => ⟨S2048x512, .f32⟩
  | .hbm, ⟨96, _⟩ => ⟨S2048x512, .bf16⟩
  | .hbm, ⟨97, _⟩ => ⟨S1024x512, .f32⟩
  | .hbm, ⟨98, _⟩ => ⟨S1024x512, .bf16⟩
  | .hbm, ⟨99, _⟩ => ⟨S1024x512, .f32⟩
  | .hbm, ⟨100, _⟩ => ⟨S1024x512, .bf16⟩
  | .hbm, ⟨101, _⟩ => ⟨S8192x1024, .f32⟩
  | .hbm, ⟨102, _⟩ => ⟨S1024x8192, .bf16⟩
  | .hbm, ⟨103, _⟩ => ⟨S8192x3072, .bf16⟩
  | .hbm, ⟨104, _⟩ => ⟨S8192x1024, .bf16⟩
  | .hbm, ⟨105, _⟩ => ⟨S8192x1024, .bf16⟩
  | .hbm, ⟨106, _⟩ => ⟨S8192x2048, .bf16⟩
  | .hbm, ⟨107, _⟩ => ⟨S8192x512, .f32⟩
  | .hbm, ⟨108, _⟩ => ⟨S1x1024, .f32⟩
  | .hbm, ⟨109, _⟩ => ⟨S1x1024, .f32⟩
  | .hbm, ⟨110, _⟩ => ⟨S1x3072, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1, .f32⟩
  | .local _ .vmem, ⟨5, _⟩ => ⟨S256x1, .f32⟩
  | .local _ .vmem, ⟨6, _⟩ => ⟨S256x3072, .bf16⟩
  | .local _ .vmem, ⟨7, _⟩ => ⟨S256x3072, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x512, .f32⟩
  | .local _ .vmem, ⟨14, _⟩ => ⟨S1x1024, .f32⟩
  | .local _ .vmem, ⟨15, _⟩ => ⟨S1024x1024, .bf16⟩
  | .local _ .vmem, ⟨16, _⟩ => ⟨S2048x512, .bf16⟩
  | .local _ .vmem, ⟨17, _⟩ => ⟨S1024x512, .bf16⟩
  | .local _ .vmem, ⟨18, _⟩ => ⟨S1024x512, .bf16⟩
  | .local _ .vmem, ⟨19, _⟩ => ⟨S256x1024, .f32⟩
  | .local _ .vmem, ⟨20, _⟩ => ⟨S256x1024, .f32⟩
  | .local _ .vmem, ⟨21, _⟩ => ⟨S1024x256, .bf16⟩
  | .local _ .vmem, ⟨22, _⟩ => ⟨S1024x256, .bf16⟩
  | .local _ .vmem, ⟨23, _⟩ => ⟨S256x3072, .bf16⟩
  | .local _ .vmem, ⟨24, _⟩ => ⟨S256x3072, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x2048, .bf16⟩
  | .local _ .vmem, ⟨30, _⟩ => ⟨S256x2048, .bf16⟩
  | .local _ .vmem, ⟨31, _⟩ => ⟨S256x512, .f32⟩
  | .local _ .vmem, ⟨32, _⟩ => ⟨S256x512, .f32⟩
  | .local _ .vmem, ⟨33, _⟩ => ⟨S1x1024, .f32⟩
  | .local _ .vmem, ⟨34, _⟩ => ⟨S1x1024, .f32⟩
  | .local _ .vmem, ⟨35, _⟩ => ⟨S1x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74_0 : Ref sig .tc := ⟨.hbm, 101, rfl⟩
abbrev main_v74_1 : Ref sig .tc := ⟨.hbm, 102, rfl⟩
abbrev main_v74_2 : Ref sig .tc := ⟨.hbm, 103, rfl⟩
abbrev main_v74_3 : Ref sig .tc := ⟨.hbm, 104, rfl⟩
abbrev main_v74_4 : Ref sig .tc := ⟨.hbm, 105, rfl⟩
abbrev main_v74_5 : Ref sig .tc := ⟨.hbm, 106, rfl⟩
abbrev main_v74_6 : Ref sig .tc := ⟨.hbm, 107, rfl⟩
abbrev main_v74_7 : Ref sig .tc := ⟨.hbm, 108, rfl⟩
abbrev main_v74_8 : Ref sig .tc := ⟨.hbm, 109, rfl⟩
abbrev main_v74_9 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem20_0 : DmaSem sig := 34
abbrev cc0_sem21_0 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x3072 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== Kernel3Ideal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== Reference3Ideal.lean ====
abbrev S8192x1024 : Shape := ⟨2, ![8192, 1024]⟩
abbrev S8192x3072 : Shape := ⟨2, ![8192, 3072]⟩
abbrev S8192x512 : Shape := ⟨2, ![8192, 512]⟩
abbrev S1x3072 : Shape := ⟨2, ![1, 3072]⟩
abbrev S1x1024 : Shape := ⟨2, ![1, 1024]⟩
abbrev S1024x1024 : Shape := ⟨2, ![1024, 1024]⟩
abbrev S512x2048 : Shape := ⟨2, ![512, 2048]⟩
abbrev S512x1024 : Shape := ⟨2, ![512, 1024]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S1024 : Shape := ⟨1, ![1024]⟩
abbrev S3072 : Shape := ⟨1, ![3072]⟩
abbrev S1024x8192 : Shape := ⟨2, ![1024, 8192]⟩

abbrev nBuf : Space → Nat
  | .hbm => 216
  | .vmem => 0
  | .smem => 0
  | _ => 0

abbrev hbmTy0_0 (i : Nat) : BufTy := match i % 128 with
  | 0 => ⟨S8192x1024, .f32⟩
  | 1 => ⟨S8192x1024, .f32⟩
  | 2 => ⟨S8192x3072, .f32⟩
  | 3 => ⟨S8192x512, .f32⟩
  | 4 => ⟨S8192x512, .f32⟩
  | 5 => ⟨S8192x512, .f32⟩
  | 6 => ⟨S1x3072, .f32⟩
  | 7 => ⟨S1x1024, .f32⟩
  | 8 => ⟨S1024x1024, .f32⟩
  | 9 => ⟨S512x2048, .f32⟩
  | 10 => ⟨S512x1024, .f32⟩
  | 11 => ⟨S512x1024, .f32⟩
  | 12 => ⟨S_, .f32⟩
  | 13 => ⟨S1x1024, .f32⟩
  | 14 => ⟨S_, .f32⟩
  | 15 => ⟨S8192x1024, .f32⟩
  | 16 => ⟨S_, .f32⟩
  | 17 => ⟨S8192x1024, .f32⟩
  | 18 => ⟨S_, .f32⟩
  | 19 => ⟨S8192x2048, .f32⟩
  | 20 => ⟨S_, .f32⟩
  | 21 => ⟨S8192x1024, .f32⟩
  | 22 => ⟨S8192x3072, .f32⟩
  | 23 => ⟨S8192x3072, .f32⟩
  | 24 => ⟨S8192x3072, .f32⟩
  | 25 => ⟨S8192x3072, .f32⟩
  | 26 => ⟨S_, .f32⟩
  | 27 => ⟨S8192x3072, .f32⟩
  | 28 => ⟨S8192x3072, .f32⟩
  | 29 => ⟨S_, .f32⟩
  | 30 => ⟨S8192x3072, .f32⟩
  | 31 => ⟨S8192x3072, .f32⟩
  | 32 => ⟨S_, .f32⟩
  | 33 => ⟨S8192x3072, .f32⟩
  | 34 => ⟨S8192x3072, .f32⟩
  | 35 => ⟨S8192x3072, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S_, .f32⟩
  | 42 => ⟨S_, .f32⟩
  | 43 => ⟨S_, .f32⟩
  | 44 => ⟨S8192x512, .f32⟩
  | 45 => ⟨S8192x512, .f32⟩
  | 46 => ⟨S8192x512, .f32⟩
  | 47 => ⟨S_, .f32⟩
  | 48 => ⟨S8192x512, .f32⟩
  | 49 => ⟨S8192x512, .f32⟩
  | 50 => ⟨S8192x512, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S8192x512, .f32⟩
  | 57 => ⟨S_, .f32⟩
  | 58 => ⟨S8192x512, .f32⟩
  | 59 => ⟨S8192x512, .f32⟩
  | 60 => ⟨S_, .f32⟩
  | 61 => ⟨S8192x512, .f32⟩
  | 62 => ⟨S8192x512, .f32⟩
  | 63 => ⟨S8192x512, .f32⟩
  | 64 => ⟨S_, .f32⟩
  | 65 => ⟨S8192x512, .f32⟩
  | 66 => ⟨S8192x512, .f32⟩
  | 67 => ⟨S_, .f32⟩
  | 68 => ⟨S8192x512, .f32⟩
  | 69 => ⟨S8192x512, .f32⟩
  | 70 => ⟨S8192x512, .f32⟩
  | 71 => ⟨S8192x2048, .f32⟩
  | 72 => ⟨S8192x2048, .f32⟩
  | 73 => ⟨S8192x1024, .f32⟩
  | 74 => ⟨S8192x1024, .f32⟩
  | 75 => ⟨S8192x1024, .f32⟩
  | 76 => ⟨S8192x1024, .f32⟩
  | 77 => ⟨S_, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S_, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S_, .f32⟩
  | 102 => ⟨S8192, .f32⟩
  | 103 => ⟨S8192x1, .f32⟩
  | 104 => ⟨S_, .f32⟩
  | 105 => ⟨S8192x1, .f32⟩
  | 106 => ⟨S8192x1, .f32⟩
  | 107 => ⟨S8192x1024, .f32⟩
  | 108 => ⟨S8192x1024, .f32⟩
  | 109 => ⟨S8192x1024, .f32⟩
  | 110 => ⟨S_, .f32⟩
  | 111 => ⟨S8192x1024, .f32⟩
  | 112 => ⟨S8192x1024, .f32⟩
  | 113 => ⟨S_, .f32⟩
  | 114 => ⟨S8192, .f32⟩
  | 115 => ⟨S8192x1, .f32⟩
  | 116 => ⟨S_, .f32⟩
  | 117 => ⟨S8192x1, .f32⟩
  | 118 => ⟨S8192x1, .f32⟩
  | 119 => ⟨S8192x1024, .f32⟩
  | 120 => ⟨S8192x1024, .f32⟩
  | 121 => ⟨S_, .f32⟩
  | 122 => ⟨S8192x1, .f32⟩
  | 123 => ⟨S8192x1, .f32⟩
  | 124 => ⟨S8192x1, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S_, .f32⟩
  | 9 => ⟨S1024, .f32⟩
  | 10 => ⟨S1x1024, .f32⟩
  | 11 => ⟨S8192x1024, .f32⟩
  | 12 => ⟨S_, .f32⟩
  | 13 => ⟨S1024, .f32⟩
  | 14 => ⟨S1x1024, .f32⟩
  | 15 => ⟨S8192x1024, .f32⟩
  | 16 => ⟨S8192x1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1024, .f32⟩
  | 23 => ⟨S8192x1, .f32⟩
  | 24 => ⟨S8192x1024, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S_, .f32⟩
  | 32 => ⟨S8192, .f32⟩
  | 33 => ⟨S8192x1024, .f32⟩
  | 34 => ⟨S8192x1024, .f32⟩
  | 35 => ⟨S8192x1024, .f32⟩
  | 36 => ⟨S_, .f32⟩
  | 37 => ⟨S8192, .f32⟩
  | 38 => ⟨S8192x1, .f32⟩
  | 39 => ⟨S8192x1024, .f32⟩
  | 40 => ⟨S8192x1, .f32⟩
  | 41 => ⟨S_, .f32⟩
  | 42 => ⟨S8192x1, .f32⟩
  | 43 => ⟨S8192x1, .f32⟩
  | 44 => ⟨S_, .f32⟩
  | 45 => ⟨S8192, .f32⟩
  | 46 => ⟨S8192x1024, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S8192x2048, .f32⟩
  | 62 => ⟨S8192x512, .f32⟩
  | 63 => ⟨S8192x512, .f32⟩
  | 64 => ⟨S8192x512, .f32⟩
  | 65 => ⟨S_, .f32⟩
  | 66 => ⟨S8192x512, .f32⟩
  | 67 => ⟨S8192x512, .f32⟩
  | 68 => ⟨S8192x512, .f32⟩
  | 69 => ⟨S_, .f32⟩
  | 70 => ⟨S8192x512, .f32⟩
  | 71 => ⟨S8192x512, .f32⟩
  | 72 => ⟨S8192x512, .f32⟩
  | 73 => ⟨S8192x512, .f32⟩
  | 74 => ⟨S8192x512, .f32⟩
  | 75 => ⟨S8192x512, .f32⟩
  | 76 => ⟨S8192x512, .f32⟩
  | 77 => ⟨S8192x3072, .f32⟩
  | 78 => ⟨S8192x3072, .f32⟩
  | 79 => ⟨S_, .f32⟩
  | 80 => ⟨S3072, .f32⟩
  | 81 => ⟨S1x3072, .f32⟩
  | 82 => ⟨S1024x8192, .f32⟩
  | 83 => ⟨S1024x8192, .bf16⟩
  | 84 => ⟨S8192x3072, .bf16⟩
  | 85 => ⟨S8192x1024, .bf16⟩
  | 86 => ⟨S8192x1024, .bf16⟩
  | 87 => ⟨S8192x2048, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_cst_2 : Ref sig .tc := ⟨.hbm, 18, rfl⟩
abbrev main_v3 : Ref sig .tc := ⟨.hbm, 19, rfl⟩
abbrev main_cst_3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_cst_5 : Ref sig .tc := ⟨.hbm, 29, rfl⟩
abbrev main_v11 : Ref sig .tc := ⟨.hbm, 30, rfl⟩
abbrev main_v12 : Ref sig .tc := ⟨.hbm, 31, rfl⟩
abbrev main_cst_6 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_7 : Ref sig .tc := ⟨.hbm, 41, rfl⟩
abbrev main_cst_8 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_9 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_10 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_11 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_13 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_15 : Ref sig .tc := ⟨.hbm, 77, rfl⟩
abbrev main_v49 : Ref sig .tc := ⟨.hbm, 78, rfl⟩
abbrev main_v50 : Ref sig .tc := ⟨.hbm, 79, rfl⟩
abbrev main_cst_16 : Ref sig .tc := ⟨.hbm, 80, rfl⟩
abbrev main_v51 : Ref sig .tc := ⟨.hbm, 81, rfl⟩
abbrev main_v52 : Ref sig .tc := ⟨.hbm, 82, rfl⟩
abbrev main_cst_17 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_18 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_19 : Ref sig .tc := ⟨.hbm, 101, rfl⟩
abbrev main_v69 : Ref sig .tc := ⟨.hbm, 102, rfl⟩
abbrev main_v70 : Ref sig .tc := ⟨.hbm, 103, rfl⟩
abbrev main_cst_20 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_21 : Ref sig .tc := ⟨.hbm, 110, rfl⟩
abbrev main_v76 : Ref sig .tc := ⟨.hbm, 111, rfl⟩
abbrev main_v77 : Ref sig .tc := ⟨.hbm, 112, rfl⟩
abbrev main_cst_22 : Ref sig .tc := ⟨.hbm, 113, rfl⟩
abbrev main_v78 : Ref sig .tc := ⟨.hbm, 114, rfl⟩
abbrev main_v79 : Ref sig .tc := ⟨.hbm, 115, rfl⟩
abbrev main_cst_23 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_24 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_25 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_26 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_cst_27 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_28 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_29 : Ref sig .tc := ⟨.hbm, 153, rfl⟩
abbrev main_v111 : Ref sig .tc := ⟨.hbm, 154, rfl⟩
abbrev main_v112 : Ref sig .tc := ⟨.hbm, 155, rfl⟩
abbrev main_cst_30 : Ref sig .tc := ⟨.hbm, 156, rfl⟩
abbrev main_v113 : Ref sig .tc := ⟨.hbm, 157, rfl⟩
abbrev main_v114 : Ref sig .tc := ⟨.hbm, 158, rfl⟩
abbrev main_cst_31 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_32 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_33 : Ref sig .tc := ⟨.hbm, 169, rfl⟩
abbrev main_v123 : Ref sig .tc := ⟨.hbm, 170, rfl⟩
abbrev main_v124 : Ref sig .tc := ⟨.hbm, 171, rfl⟩
abbrev main_cst_34 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_35 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_cst_36 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_37 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_38 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩

abbrev nD : Nat := 1
abbrev τ : Topo := Topo.v7x

variable {F : FTy → Type} [FloatOps F]
-- ==== Kernel4.lean ====
abbrev S8192x512 : Shape := ⟨2, ![8192, 512]⟩
abbrev S8192x3072 : Shape := ⟨2, ![8192, 3072]⟩
abbrev S8192x1024 : Shape := ⟨2, ![8192, 1024]⟩
abbrev S512x2048 : Shape := ⟨2, ![512, 2048]⟩
abbrev S512x1024 : Shape := ⟨2, ![512, 1024]⟩
abbrev S1024x1024 : Shape := ⟨2, ![1024, 1024]⟩
abbrev S1x1024 : Shape := ⟨2, ![1, 1024]⟩
abbrev S2048x512 : Shape := ⟨2, ![2048, 512]⟩
abbrev S1024x512 : Shape := ⟨2, ![1024, 512]⟩
abbrev S512x8192 : Shape := ⟨2, ![512, 8192]⟩
abbrev S8192x1 : Shape := ⟨2, ![8192, 1]⟩
abbrev S512x512 : Shape := ⟨2, ![512, 512]⟩
abbrev S512x3072 : Shape := ⟨2, ![512, 3072]⟩
abbrev S512x1 : Shape := ⟨2, ![512, 1]⟩
abbrev S512 : Shape := ⟨1, ![512]⟩

abbrev nBuf : Space → Nat
  | .hbm => 22
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x3072, .bf16⟩
  | .hbm, ⟨2, _⟩ => ⟨S8192x512, .bf16⟩
  | .hbm, ⟨3, _⟩ => ⟨S8192x512, .bf16⟩
  | .hbm, ⟨4, _⟩ => ⟨S8192x1024, .f32⟩
  | .hbm, ⟨5, _⟩ => ⟨S512x2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S2048x512, .f32⟩
  | .hbm, ⟨12, _⟩ => ⟨S2048x512, .bf16⟩
  | .hbm, ⟨13, _⟩ => ⟨S1024x512, .f32⟩
  | .hbm, ⟨14, _⟩ => ⟨S1024x512, .bf16⟩
  | .hbm, ⟨15, _⟩ => ⟨S1024x512, .f32⟩
  | .hbm, ⟨16, _⟩ => ⟨S1024x512, .bf16⟩
  | .hbm, ⟨17, _⟩ => ⟨S1024x1024, .bf16⟩
  | .hbm, ⟨18, _⟩ => ⟨S512x8192, .bf16⟩
  | .hbm, ⟨19, _⟩ => ⟨S8192x1024, .bf16⟩
  | .hbm, ⟨20, _⟩ => ⟨S8192x1024, .f32⟩
  | .hbm, ⟨21, _⟩ => ⟨S8192x1, .f32⟩
  | .local _ .vmem, ⟨0, _⟩ => ⟨S512x512, .f32⟩
  | .local _ .vmem, ⟨1, _⟩ => ⟨S512x512, .f32⟩
  | .local _ .vmem, ⟨2, _⟩ => ⟨S512x3072, .bf16⟩
  | .local _ .vmem, ⟨3, _⟩ => ⟨S512x3072, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1024, .f32⟩
  | .local _ .vmem, ⟨9, _⟩ => ⟨S512x1024, .f32⟩
  | .local _ .vmem, ⟨10, _⟩ => ⟨S2048x512, .bf16⟩
  | .local _ .vmem, ⟨11, _⟩ => ⟨S1024x512, .bf16⟩
  | .local _ .vmem, ⟨12, _⟩ => ⟨S1024x512, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x512, .bf16⟩
  | .local _ .vmem, ⟨17, _⟩ => ⟨S512x512, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1, .f32⟩
  | .local _ .vmem, ⟨23, _⟩ => ⟨S512x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S8192x512 : Shape := ⟨2, ![8192, 512]⟩
abbrev S8192x3072 : Shape := ⟨2, ![8192, 3072]⟩
abbrev S8192x1024 : Shape := ⟨2, ![8192, 1024]⟩
abbrev S512x2048 : Shape := ⟨2, ![512, 2048]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S512x8192 : Shape := ⟨2, ![512, 8192]⟩

abbrev nBuf : Space → Nat
  | .hbm => 84
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x3072, .bf16⟩
  | .hbm, ⟨2, _⟩ => ⟨S8192x512, .bf16⟩
  | .hbm, ⟨3, _⟩ => ⟨S8192x512, .bf16⟩
  | .hbm, ⟨4, _⟩ => ⟨S8192x1024, .f32⟩
  | .hbm, ⟨5, _⟩ => ⟨S512x2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1x1024, .f32⟩
  | .hbm, ⟨10, _⟩ => ⟨S1x1024, .f32⟩
  | .hbm, ⟨11, _⟩ => ⟨S8192x3072, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x2048, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x512, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x512, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x1, .f32⟩
  | .hbm, ⟨77, _⟩ => ⟨S512x8192, .f32⟩
  | .hbm, ⟨78, _⟩ => ⟨S512x8192, .bf16⟩
  | .hbm, ⟨79, _⟩ => ⟨S8192x1024, .bf16⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Kernel5.lean ====
abbrev S256x1024 : Shape := ⟨2, ![256, 1024]⟩
abbrev S1024x1024 : Shape := ⟨2, ![1024, 1024]⟩
abbrev S512x256 : Shape := ⟨2, ![512, 256]⟩
abbrev S256x512 : Shape := ⟨2, ![256, 512]⟩

abbrev nBuf : Space → Nat
  | .hbm => 6
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .bf16⟩
  | .hbm, ⟨3, _⟩ => ⟨S256x1024, .bf16⟩
  | .hbm, ⟨4, _⟩ => ⟨S512x256, .bf16⟩
  | .hbm, ⟨5, _⟩ => ⟨S256x1024, .bf16⟩
  | .local _ .vmem, ⟨0, _⟩ => ⟨S256x1024, .f32⟩
  | .local _ .vmem, ⟨1, _⟩ => ⟨S1024x1024, .bf16⟩
  | .local _ .vmem, ⟨2, _⟩ => ⟨S256x1024, .bf16⟩
  | .local _ .vmem, ⟨3, _⟩ => ⟨S512x256, .bf16⟩
  | .local _ .vmem, ⟨4, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference5Ideal.lean ====
abbrev S256x1024 : Shape := ⟨2, ![256, 1024]⟩
abbrev S1024x1024 : Shape := ⟨2, ![1024, 1024]⟩
abbrev S256x512 : Shape := ⟨2, ![256, 512]⟩
abbrev S512x256 : Shape := ⟨2, ![512, 256]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S256x512, .f32⟩
  | .hbm, ⟨4, _⟩ => ⟨S256x512, .f32⟩
  | .hbm, ⟨5, _⟩ => ⟨S256x1024, .bf16⟩
  | .hbm, ⟨6, _⟩ => ⟨S512x256, .f32⟩
  | .hbm, ⟨7, _⟩ => ⟨S512x256, .bf16⟩
  | .hbm, ⟨8, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel6.lean ====
abbrev S1024x512 : Shape := ⟨2, ![1024, 512]⟩
abbrev S4x1024x512 : Shape := ⟨3, ![4, 1024, 512]⟩
abbrev S256x512 : Shape := ⟨2, ![256, 512]⟩
abbrev S4x256x512 : Shape := ⟨3, ![4, 256, 512]⟩
abbrev S1x256x512 : Shape := ⟨3, ![1, 256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S4x1024x512, .bf16⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S4x256x512, .bf16⟩
  | .local _ .vmem, ⟨3, _⟩ => ⟨S4x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S1024x512 : Shape := ⟨2, ![1024, 512]⟩
abbrev S4x1024x512 : Shape := ⟨3, ![4, 1024, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S4x1024x512, .bf16⟩
  | .hbm, ⟨4, _⟩ => ⟨S4x1024x512, .f32⟩
  | .hbm, ⟨5, _⟩ => ⟨S_, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S_, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x512, .f32⟩
  | .hbm, ⟨29, _⟩ => ⟨S_, .f32⟩
  | .hbm, ⟨30, _⟩ => ⟨S1024x512, .f32⟩
  | .hbm, ⟨31, _⟩ => ⟨S1024x512, .f32⟩
  | .hbm, ⟨32, _⟩ => ⟨S1024x512, .f32⟩
  | .hbm, ⟨33, _⟩ => ⟨S_, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S_, .f32⟩
  | .hbm, ⟨38, _⟩ => ⟨S1024x512, .f32⟩
  | .hbm, ⟨39, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel7.lean ====
abbrev S704x1024 : Shape := ⟨2, ![704, 1024]⟩
abbrev S4x1024x704 : Shape := ⟨3, ![4, 1024, 704]⟩
abbrev S704x256 : Shape := ⟨2, ![704, 256]⟩
abbrev S4x256x704 : Shape := ⟨3, ![4, 256, 704]⟩
abbrev S1x256x704 : Shape := ⟨3, ![1, 256, 704]⟩
abbrev S256x704 : Shape := ⟨2, ![256, 704]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S4x1024x704, .bf16⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S704x256, .f32⟩
  | .local _ .vmem, ⟨1, _⟩ => ⟨S704x256, .f32⟩
  | .local _ .vmem, ⟨2, _⟩ => ⟨S4x256x704, .bf16⟩
  | .local _ .vmem, ⟨3, _⟩ => ⟨S4x256x704, .bf16⟩
  | .local _ .vmem, ⟨4, _⟩ => ⟨S704x256, .f32⟩
  | .local _ .vmem, ⟨5, _⟩ => ⟨S704x256, .f32⟩
  | .local _ .vmem, ⟨6, _⟩ => ⟨S704x256, .f32⟩
  | .local _ .vmem, ⟨7, _⟩ => ⟨S704x256, .f32⟩
  | .local _ .vmem, ⟨8, _⟩ => ⟨S704x256, .f32⟩
  | .local _ .vmem, ⟨9, _⟩ => ⟨S704x256, .f32⟩
  | .local _ .vmem, ⟨10, _⟩ => ⟨S704x256, .f32⟩
  | .local _ .vmem, ⟨11, _⟩ => ⟨S704x256, .f32⟩
  | .local _ .vmem, ⟨12, _⟩ => ⟨S704x256, .f32⟩
  | .local _ .vmem, ⟨13, _⟩ => ⟨S704x256, .f32⟩
  | .local _ .vmem, ⟨14, _⟩ => ⟨S704x256, .f32⟩
  | .local _ .vmem, ⟨15, _⟩ => ⟨S704x256, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S704x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S704x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S704x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S704x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S704x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S704x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S704x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S704x1024 : Shape := ⟨2, ![704, 1024]⟩
abbrev S4x1024x704 : Shape := ⟨3, ![4, 1024, 704]⟩
abbrev S_ : Shape := ⟨0, ![]⟩
abbrev S1024x704 : Shape := ⟨2, ![1024, 704]⟩

abbrev nBuf : Space → Nat
  | .hbm => 41
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S4x1024x704, .bf16⟩
  | .hbm, ⟨4, _⟩ => ⟨S4x1024x704, .f32⟩
  | .hbm, ⟨5, _⟩ => ⟨S_, .f32⟩
  | .hbm, ⟨6, _⟩ => ⟨S1024x704, .f32⟩
  | .hbm, ⟨7, _⟩ => ⟨S704x1024, .f32⟩
  | .hbm, ⟨8, _⟩ => ⟨S_, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel8.lean ====
abbrev S512x1024 : Shape := ⟨2, ![512, 1024]⟩
abbrev S4x1024x512 : Shape := ⟨3, ![4, 1024, 512]⟩
abbrev S512x256 : Shape := ⟨2, ![512, 256]⟩
abbrev S4x256x512 : Shape := ⟨3, ![4, 256, 512]⟩
abbrev S1x256x512 : Shape := ⟨3, ![1, 256, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S4x1024x512, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S512x256, .f32⟩
  | .local _ .vmem, ⟨1, _⟩ => ⟨S512x256, .f32⟩
  | .local _ .vmem, ⟨2, _⟩ => ⟨S4x256x512, .bf16⟩
  | .local _ .vmem, ⟨3, _⟩ => ⟨S4x256x512, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S512x1024 : Shape := ⟨2, ![512, 1024]⟩
abbrev S4x1024x512 : Shape := ⟨3, ![4, 1024, 512]⟩
abbrev S_ : Shape := ⟨0, ![]⟩
abbrev S1024x512 : Shape := ⟨2, ![1024, 512]⟩

abbrev nBuf : Space → Nat
  | .hbm => 41
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S4x1024x512, .bf16⟩
  | .hbm, ⟨4, _⟩ => ⟨S4x1024x512, .f32⟩
  | .hbm, ⟨5, _⟩ => ⟨S_, .f32⟩
  | .hbm, ⟨6, _⟩ => ⟨S1024x512, .f32⟩
  | .hbm, ⟨7, _⟩ => ⟨S512x1024, .f32⟩
  | .hbm, ⟨8, _⟩ => ⟨S_, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S512x1024, .f32⟩
  | .hbm, ⟨23, _⟩ => ⟨S_, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S_, .f32⟩
  | .hbm, ⟨39, _⟩ => ⟨S512x1024, .f32⟩
  | .hbm, ⟨40, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel9.lean ====
abbrev S4x1x12801 : Shape := ⟨3, ![4, 1, 12801]⟩
abbrev S4x1056x128 : Shape := ⟨3, ![4, 1056, 128]⟩
abbrev S4x1x32 : Shape := ⟨3, ![4, 1, 32]⟩
abbrev S4x8x512 : Shape := ⟨3, ![4, 8, 512]⟩
abbrev S1x12801 : Shape := ⟨2, ![1, 12801]⟩
abbrev S1056x128 : Shape := ⟨2, ![1056, 128]⟩
abbrev S1x32 : Shape := ⟨2, ![1, 32]⟩
abbrev S8x512 : Shape := ⟨2, ![8, 512]⟩
abbrev S1x1x12801 : Shape := ⟨3, ![1, 1, 12801]⟩
abbrev S1x1056x128 : Shape := ⟨3, ![1, 1056, 128]⟩
abbrev S1x1x32 : Shape := ⟨3, ![1, 1, 32]⟩
abbrev S1x8x512 : Shape := ⟨3, ![1, 8, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x1x12801, .f32⟩
  | .hbm, ⟨1, _⟩ => ⟨S4x1056x128, .f32⟩
  | .hbm, ⟨2, _⟩ => ⟨S4x1x32, .f32⟩
  | .hbm, ⟨3, _⟩ => ⟨S4x8x512, .f32⟩
  | .hbm, ⟨4, _⟩ => ⟨S1x12801, .f32⟩
  | .hbm, ⟨5, _⟩ => ⟨S1056x128, .f32⟩
  | .hbm, ⟨6, _⟩ => ⟨S1x32, .f32⟩
  | .hbm, ⟨7, _⟩ => ⟨S8x512, .f32⟩
  | .local _ .vmem, ⟨0, _⟩ => ⟨S4x1x12801, .f32⟩
  | .local _ .vmem, ⟨1, _⟩ => ⟨S4x1056x128, .f32⟩
  | .local _ .vmem, ⟨2, _⟩ => ⟨S4x1x32, .f32⟩
  | .local _ .vmem, ⟨3, _⟩ => ⟨S4x8x512, .f32⟩
  | .local _ .vmem, ⟨4, _⟩ => ⟨S1x12801, .f32⟩
  | .local _ .vmem, ⟨5, _⟩ => ⟨S1056x128, .f32⟩
  | .local _ .vmem, ⟨6, _⟩ => ⟨S1x32, .f32⟩
  | .local _ .vmem, ⟨7, _⟩ => ⟨S8x512, .f32⟩
  | _, _ => ⟨S4x1x12801, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x1x12801 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1056x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x12801 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1056x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference9Ideal.lean ====
abbrev S4x1x12801 : Shape := ⟨3, ![4, 1, 12801]⟩
abbrev S4x1056x128 : Shape := ⟨3, ![4, 1056, 128]⟩
abbrev S4x1x32 : Shape := ⟨3, ![4, 1, 32]⟩
abbrev S4x8x512 : Shape := ⟨3, ![4, 8, 512]⟩
abbrev S_ : Shape := ⟨0, ![]⟩
abbrev S1x12801 : Shape := ⟨2, ![1, 12801]⟩
abbrev S1056x128 : Shape := ⟨2, ![1056, 128]⟩
abbrev S1x32 : Shape := ⟨2, ![1, 32]⟩
abbrev S8x512 : Shape := ⟨2, ![8, 512]⟩

abbrev nBuf : Space → Nat
  | .hbm => 12
  | .vmem => 0
  | .smem => 0
  | _ => 0

abbrev bufTy : (tb : Table) → Fin (tcTables nBuf tb) → BufTy
  | .hbm, ⟨0, _⟩ => ⟨S4x1x12801, .f32⟩
  | .hbm, ⟨1, _⟩ => ⟨S4x1056x128, .f32⟩
  | .hbm, ⟨2, _⟩ => ⟨S4x1x32, .f32⟩
  | .hbm, ⟨3, _⟩ => ⟨S4x8x512, .f32⟩
  | .hbm, ⟨4, _⟩ => ⟨S_, .f32⟩
  | .hbm, ⟨5, _⟩ => ⟨S1x12801, .f32⟩
  | .hbm, ⟨6, _⟩ => ⟨S_, .f32⟩
  | .hbm, ⟨7, _⟩ => ⟨S1056x128, .f32⟩
  | .hbm, ⟨8, _⟩ => ⟨S_, .f32⟩
  | .hbm, ⟨9, _⟩ => ⟨S1x32, .f32⟩
  | .hbm, ⟨10, _⟩ => ⟨S_, .f32⟩
  | .hbm, ⟨11, _⟩ => ⟨S8x512, .f32⟩
  | _, _ => ⟨S4x1x12801, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩

abbrev nD : Nat := 1
abbrev τ : Topo := Topo.v7x

variable {F : FTy → Type} [FloatOps F]
-- ==== Proof.Lift.lean ====
/-
  Arrays of real numbers as the idealized programs' arrays. `up S f` is the array of shape `S` whose element at the
  coordinates `(r, c)` is the real number `f r c`, read as an extended real; a rank-1 array is read with `c = 0`, a
  rank-0 array with `r = c = 0`. Each lemma says what one operation of the programs does to such arrays: the result is
  again of the form `up S g`, with `g` the same operation over the real numbers. A program run on finite inputs is
  thereby computed over the real numbers by rewriting, one operation at a time.
-/
module

public import Idealize.ShloMosaic.Lib.Pipeline.Value
public import Idealize.ShloMosaic.Lib.ValueIdx
public import Idealize.ShloMosaic.Lib.ValueIdxRank1
public import Idealize.ShloMosaic.Lib.MatmulPlain
public import Idealize.ShloMosaic.PureOps.Ideal.Laws
public import Idealize.ShloMosaic.Lib.StableHlo.Run

@[expose] public section

noncomputable section

namespace Cert.Lift

open Idealize.ShloMosaic Idealize.ShloMosaic.ValueIdx

/-- The `k`-th coordinate of an index as a natural number, zero past the rank. -/
def rd {S : Shape} (i : S.Idx) (k : ℕ) : ℕ := if h : k < S.rank then (i ⟨k, h⟩).val else 0

/-- The array of shape `S` holding the real number `f r c` at row `r` and column `c`. -/
def up (S : Shape) (f : ℕ → ℕ → ℝ) : S.Idx → EReal := fun i => ((f (rd i 0) (rd i 1) : ℝ) : EReal)

theorem up_apply (S : Shape) (f : ℕ → ℕ → ℝ) (i : S.Idx) : up S f i = ((f (rd i 0) (rd i 1) : ℝ) : EReal) := rfl

theorem rd2_0 {m n : ℕ} (i : (⟨2, ![m, n]⟩ : Shape).Idx) : rd i 0 = (i 0).val := rfl
theorem rd2_1 {m n : ℕ} (i : (⟨2, ![m, n]⟩ : Shape).Idx) : rd i 1 = (i 1).val := rfl
theorem rd1_0 {n : ℕ} (i : (⟨1, ![n]⟩ : Shape).Idx) : rd i 0 = (i 0).val := rfl
theorem rd1_1 {n : ℕ} (i : (⟨1, ![n]⟩ : Shape).Idx) : rd i 1 = 0 := rfl
theorem rd0 (d : Fin 0 → ℕ) (i : (⟨0, d⟩ : Shape).Idx) (k : ℕ) : rd i k = 0 := by
  unfold rd
  rw [dif_neg (Nat.not_lt_zero k)]

theorem lt2_0 {m n : ℕ} (i : (⟨2, ![m, n]⟩ : Shape).Idx) : rd i 0 < m := (i 0).isLt
theorem lt2_1 {m n : ℕ} (i : (⟨2, ![m, n]⟩ : Shape).Idx) : rd i 1 < n := (i 1).isLt
theorem lt1_0 {n : ℕ} (i : (⟨1, ![n]⟩ : Shape).Idx) : rd i 0 < n := (i 0).isLt

/-- Two arrays of a rank-2 shape are equal when their real entries inside the extents are. -/
theorem up_congr2 {m n : ℕ} {f g : ℕ → ℕ → ℝ} (h : ∀ r < m, ∀ c < n, f r c = g r c) :
    up ⟨2, ![m, n]⟩ f = up ⟨2, ![m, n]⟩ g :=
  funext fun i => congrArg _ (h _ (lt2_0 i) _ (lt2_1 i))

/-- An array of finite extended reals is the lift of its entries. -/
theorem exists_up2 {m n : ℕ} (x : (⟨2, ![m, n]⟩ : Shape).Idx → EReal) (hx : ∀ i, ∃ r : ℝ, x i = (r : EReal)) :
    ∃ f : ℕ → ℕ → ℝ, x = up ⟨2, ![m, n]⟩ f := by
  classical
  choose g hg using hx
  refine ⟨fun r c => if h : r < m ∧ c < n then g (ix2 ⟨r, h.1⟩ ⟨c, h.2⟩) else 0, funext fun i => ?_⟩
  rw [up_apply, dif_pos ⟨lt2_0 i, lt2_1 i⟩, hg i]
  exact congrArg (fun j => ((g j : ℝ) : EReal)) (eq_ix2 i)

section Pointwise
variable {S : Shape} {φ ψ : FTy} (f g : ℕ → ℕ → ℝ)

theorem mulf_up : mulf (F := Ideal) (φ := φ) (up S f) (up S g) = up S (fun r c => f r c * g r c) := rfl
theorem addf_up : addf (F := Ideal) (φ := φ) (up S f) (up S g) = up S (fun r c => f r c + g r c) := rfl
theorem subf_up : subf (F := Ideal) (φ := φ) (up S f) (up S g) = up S (fun r c => f r c - g r c) :=
  funext fun i => (EReal.coe_sub _ _).symm
theorem maximumf_up : maximumf (F := Ideal) (φ := φ) (up S f) (up S g) = up S (fun r c => max (f r c) (g r c)) :=
  funext fun i => (EReal.coe_strictMono.monotone.map_max).symm
theorem truncf_up (h : ψ.bits < φ.bits) : truncf (F := Ideal) (φ := φ) ψ (up S f) h = up S f := rfl
theorem extf_up (h : φ.bits < ψ.bits) : extf (F := Ideal) (φ := φ) ψ (up S f) h = up S f := rfl
theorem host_negf_up : Host.negf (F := Ideal) (φ := φ) (up S f) = up S (fun r c => -f r c) :=
  funext fun i => (EReal.coe_neg _).symm
theorem tanh_up : tanh (F := Ideal) (φ := φ) (up S f) = up S (fun r c => Real.tanh (f r c)) := rfl
theorem host_tanh_up : Host.tanh (F := Ideal) (φ := φ) (up S f) = up S (fun r c => Real.tanh (f r c)) := rfl
theorem host_exp_up : Host.exp (F := Ideal) (φ := φ) (up S f) = up S (fun r c => Real.exp (f r c)) := rfl
theorem logistic_up : logistic (F := Ideal) (φ := φ) (up S f) = up S (fun r c => (1 + Real.exp (-f r c))⁻¹) :=
  funext fun i => Ideal.logistic_coe _

theorem ideal_div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A quotient by an array with no zero entry. -/
theorem divf_up (hg : ∀ r c, g r c ≠ 0) :
    divf (F := Ideal) (φ := φ) (up S f) (up S g) = up S (fun r c => f r c / g r c) :=
  funext fun i => ideal_div_coe _ _ (hg _ _)
theorem host_divf_up (hg : ∀ r c, g r c ≠ 0) :
    Host.divf (F := Ideal) (φ := φ) (up S f) (up S g) = up S (fun r c => f r c / g r c) :=
  funext fun i => ideal_div_coe _ _ (hg _ _)

theorem ideal_rsqrt_coe (a : ℝ) (ha : 0 < a) : Ideal.rsqrt (a : EReal) = (((Real.sqrt a)⁻¹ : ℝ) : EReal) := by
  rw [Ideal.rsqrt_coe, if_neg (not_lt.2 ha.le), if_neg ha.ne']

/-- A reciprocal square root of an array of positive entries. -/
theorem rsqrt_up (hf : ∀ r c, 0 < f r c) :
    rsqrt (F := Ideal) (φ := φ) (up S f) = up S (fun r c => (Real.sqrt (f r c))⁻¹) :=
  funext fun i => ideal_rsqrt_coe _ (hf _ _)
theorem host_rsqrt_up (hf : ∀ r c, 0 < f r c) :
    Host.rsqrt (F := Ideal) (φ := φ) (up S f) = up S (fun r c => (Real.sqrt (f r c))⁻¹) :=
  funext fun i => ideal_rsqrt_coe _ (hf _ _)

theorem select_cmp_coe (a b p q : ℝ) :
    Scalar.select (Ideal.cmp .ogt (a : EReal) (b : EReal)) (p : EReal) (q : EReal) = ((if b < a then p else q : ℝ) : EReal) := by
  unfold Scalar.select
  by_cases h : b < a <;> simp [Ideal.cmp, h]

/-- Choosing by a comparison with another array. -/
theorem select_cmpf_up (a b : ℕ → ℕ → ℝ) :
    select (cmpf (F := Ideal) (φ := φ) .ogt (up S a) (up S b)) (up S f) (up S g)
      = up S (fun r c => if b r c < a r c then f r c else g r c) :=
  funext fun i => select_cmp_coe _ _ _ _

end Pointwise

section Layout
variable {φ : FTy} (f g : ℕ → ℕ → ℝ)

theorem broadcast_up (S : Shape) (x : ℝ) : broadcast S (x : EReal) = up S (fun _ _ => x) := rfl

theorem constant_up (S : Shape) (b : BitVec φ.bits) (x : ℝ) (h : Ideal.ofBits φ b = (x : EReal)) :
    constant (F := Ideal) S φ b = up S (fun _ _ => x) := funext fun _ => h

theorem shapeCast_same (S : Shape) (h : S.ShapeCasts S) : shapeCast S (up S f) h = up S f := shapeCast_self _ _

/-- A column of numbers spread along its rows. -/
theorem broadcastTo_col {m n : ℕ} (hm : m ≠ 1) (h : (⟨2, ![m, 1]⟩ : Shape).Broadcasts ⟨2, ![m, n]⟩) :
    broadcastTo ⟨2, ![m, n]⟩ (up ⟨2, ![m, 1]⟩ f) h = up ⟨2, ![m, n]⟩ (fun r _ => f r 0) := by
  funext i
  rw [broadcastTo_apply _ h i (ix2 (i 0) (0 : Fin 1)) (fun a => by
    match a with
    | ⟨0, _⟩ => exact (if_neg (show ¬(m = 1) from hm)).symm
    | ⟨1, _⟩ => exact (if_pos (show (1 : ℕ) = 1 from rfl)).symm)]
  rfl

/-- A row of numbers spread along its columns. -/
theorem broadcastTo_row {m n : ℕ} (hn : n ≠ 1) (h : (⟨2, ![1, n]⟩ : Shape).Broadcasts ⟨2, ![m, n]⟩) :
    broadcastTo ⟨2, ![m, n]⟩ (up ⟨2, ![1, n]⟩ f) h = up ⟨2, ![m, n]⟩ (fun _ c => f 0 c) := by
  funext i
  rw [broadcastTo_apply _ h i (ix2 (0 : Fin 1) (i 1)) (fun a => by
    match a with
    | ⟨0, _⟩ => exact (if_pos (show (1 : ℕ) = 1 from rfl)).symm
    | ⟨1, _⟩ => exact (if_neg (show ¬(n = 1) from hn)).symm)]
  rfl

/-- One number spread over a whole array. -/
theorem broadcastTo_one {m n : ℕ} (h : (⟨2, ![1, 1]⟩ : Shape).Broadcasts ⟨2, ![m, n]⟩) :
    broadcastTo ⟨2, ![m, n]⟩ (up ⟨2, ![1, 1]⟩ f) h = up ⟨2, ![m, n]⟩ (fun _ _ => f 0 0) := by
  funext i
  rw [broadcastTo_apply _ h i (ix2 (0 : Fin 1) (0 : Fin 1)) (fun a => by
    match a with
    | ⟨0, _⟩ => exact (if_pos (show (1 : ℕ) = 1 from rfl)).symm
    | ⟨1, _⟩ => exact (if_pos (show (1 : ℕ) = 1 from rfl)).symm)]
  rfl

theorem bcast_row {m n : ℕ} (hn : n ≠ 1) (h : (⟨2, ![1, n]⟩ : Shape).BroadcastsInDim ⟨2, ![m, n]⟩ ![0, 1]) :
    broadcastInDim ⟨2, ![m, n]⟩ ![0, 1] h (up ⟨2, ![1, n]⟩ f) = up ⟨2, ![m, n]⟩ (fun _ c => f 0 c) := by
  funext i
  rw [broadcastInDim_apply _ h _ i (ix2 (0 : Fin 1) (i 1)) (fun a => by
    match a with
    | ⟨0, _⟩ => exact (if_pos (show (1 : ℕ) = 1 from rfl)).symm
    | ⟨1, _⟩ => exact (if_neg (show ¬(n = 1) from hn)).symm)]
  rfl

theorem bcast_col {m n : ℕ} (hm : m ≠ 1) (h : (⟨2, ![m, 1]⟩ : Shape).BroadcastsInDim ⟨2, ![m, n]⟩ ![0, 1]) :
    broadcastInDim ⟨2, ![m, n]⟩ ![0, 1] h (up ⟨2, ![m, 1]⟩ f) = up ⟨2, ![m, n]⟩ (fun r _ => f r 0) := by
  funext i
  rw [broadcastInDim_apply _ h _ i (ix2 (i 0) (0 : Fin 1)) (fun a => by
    match a with
    | ⟨0, _⟩ => exact (if_neg (show ¬(m = 1) from hm)).symm
    | ⟨1, _⟩ => exact (if_pos (show (1 : ℕ) = 1 from rfl)).symm)]
  rfl

/-- A vector laid along the rows of an array. -/
theorem bcast_vec {m n : ℕ} (hm : m ≠ 1) (h : (⟨1, ![m]⟩ : Shape).BroadcastsInDim ⟨2, ![m, n]⟩ ![0]) :
    broadcastInDim ⟨2, ![m, n]⟩ ![0] h (up ⟨1, ![m]⟩ f) = up ⟨2, ![m, n]⟩ (fun r _ => f r 0) := by
  funext i
  rw [broadcastInDim_apply _ h _ i (fun a => match a with | ⟨0, _⟩ => i 0) (fun a => by
    match a with
    | ⟨0, _⟩ => exact (if_neg (show ¬(m = 1) from hm)).symm)]
  rfl

/-- A vector as a column. -/
theorem bcast_v1 {m : ℕ} (hm : m ≠ 1) (h : (⟨1, ![m]⟩ : Shape).BroadcastsInDim ⟨2, ![m, 1]⟩ ![0]) :
    broadcastInDim ⟨2, ![m, 1]⟩ ![0] h (up ⟨1, ![m]⟩ f) = up ⟨2, ![m, 1]⟩ (fun r _ => f r 0) := bcast_vec f hm h

/-- A number spread over an array. -/
theorem bcast_num (S : Shape) (d : Fin 0 → ℕ) (δ : Fin 0 → Fin S.rank) (h : (⟨0, d⟩ : Shape).BroadcastsInDim S δ) :
    broadcastInDim S δ h (up ⟨0, d⟩ f) = up S (fun _ _ => f 0 0) := by
  funext i
  rw [broadcastInDim_apply _ h _ i (fun a => a.elim0) (fun a => a.elim0), up_apply, rd0, rd0]
  rfl

theorem shapeCast_col {m : ℕ} (h : (⟨1, ![m]⟩ : Shape).ShapeCasts ⟨2, ![m, 1]⟩) :
    shapeCast ⟨2, ![m, 1]⟩ (up ⟨1, ![m]⟩ f) h = up ⟨2, ![m, 1]⟩ (fun r _ => f r 0) := by
  funext i
  rw [shapeCast_apply _ h i (fun a => match a with | ⟨0, _⟩ => i 0) (by
    rewrite [Shape.rowMajor_val_one, Shape.rowMajor_val_two]
    have h1 : (i 1).val < 1 := (i 1).isLt
    show (i 0).val = (i 0).val * 1 + (i 1).val
    omega)]
  rfl

theorem shapeCast_row {n : ℕ} (h : (⟨1, ![n]⟩ : Shape).ShapeCasts ⟨2, ![1, n]⟩) :
    shapeCast ⟨2, ![1, n]⟩ (up ⟨1, ![n]⟩ f) h = up ⟨2, ![1, n]⟩ (fun _ c => f c 0) := by
  funext i
  rw [shapeCast_addUnit_apply ![n] _ h i]
  rfl

theorem transpose_up {m n : ℕ} (h : (⟨2, ![m, n]⟩ : Shape).Transposes [1, 0] ⟨2, ![n, m]⟩) :
    transpose ⟨2, ![n, m]⟩ [1, 0] (up ⟨2, ![m, n]⟩ f) h = up ⟨2, ![n, m]⟩ (fun r c => f c r) := by
  funext i
  rw [transpose_apply _ _ h i (ix2 (i 1) (i 0)) (fun b => by
    match b with
    | ⟨0, _⟩ => rfl
    | ⟨1, _⟩ => rfl)]
  rfl

theorem extract_up {m n m' n' o p : ℕ} (h : (⟨2, ![m, n]⟩ : Shape).Slices ![o, p] ⟨2, ![m', n']⟩) :
    extractStridedSlice ⟨2, ![m', n']⟩ ![o, p] (up ⟨2, ![m, n]⟩ f) h
      = up ⟨2, ![m', n']⟩ (fun r c => f (o + r) (p + c)) := rfl

theorem concat_up {m n₁ n₂ n : ℕ} (hn : n = n₁ + n₂)
    (h : Shape.Concatenates [⟨2, ![m, n₁]⟩, ⟨2, ![m, n₂]⟩] ⟨2, ![m, n]⟩ 1) :
    concatenate ⟨2, ![m, n]⟩ 1 [⟨⟨2, ![m, n₁]⟩, up ⟨2, ![m, n₁]⟩ f⟩, ⟨⟨2, ![m, n₂]⟩, up ⟨2, ![m, n₂]⟩ g⟩] h
      = up ⟨2, ![m, n]⟩ (fun r c => if c < n₁ then f r c else g r (c - n₁)) := by
  funext i
  have hi := lt2_1 i
  rw [rd2_1] at hi
  rw [up_apply, rd2_0, rd2_1]
  by_cases hc : (i 1).val < n₁
  · rw [if_pos hc, concatenate_pair_apply_left 1 _ _ h i rfl (ix2 (i 0) ⟨(i 1).val, hc⟩) (fun b => by
      match b with
      | ⟨0, _⟩ => rfl
      | ⟨1, _⟩ => rfl)]
    rfl
  · rw [if_neg hc, concatenate_pair_apply_right 1 _ _ h i rfl rfl (ix2 (i 0) ⟨(i 1).val - n₁, by omega⟩) (fun b hb => by
      match b with
      | ⟨0, _⟩ => rfl
      | ⟨1, _⟩ => exact absurd rfl hb) (by
        show (i 1).val - n₁ + n₁ = (i 1).val
        omega)]
    rfl

end Layout

section Sums
variable {φ φ₁ φ₂ : FTy} (f g a : ℕ → ℕ → ℝ)

/-- A sum of finite extended reals over `Fin n` is the sum of the real numbers. -/
theorem coe_sum_fin (n : ℕ) (h : ℕ → ℝ) : (∑ k : Fin n, ((h k.val : ℝ) : EReal)) = ((∑ k ∈ Finset.range n, h k : ℝ) : EReal) := by
  rw [Fin.sum_univ_eq_sum_range (fun k => ((h k : ℝ) : EReal)) n]
  induction n with
  | zero => simp
  | succ n ih => rw [Finset.sum_range_succ, ih, Finset.sum_range_succ, EReal.coe_add]

theorem sum_rows {m n : ℕ} (acc : BitVec φ.bits) (h : (⟨2, ![m, n]⟩ : Shape).Reduces [1] ⟨1, ![m]⟩)
    (hφ : FKind.Formats φ) (hacc : acc = FKind.add.neutral φ hφ) :
    multiReduction (F := Ideal) .add [1] ⟨1, ![m]⟩ (up ⟨2, ![m, n]⟩ f) acc h hφ hacc
      = up ⟨1, ![m]⟩ (fun r _ => ∑ k ∈ Finset.range n, f r k) := by
  funext j
  rw [Ideal.multiReduction_add_single]
  exact (coe_sum_fin n fun k => f (j 0).val k)

theorem sum_cols {m n : ℕ} (acc : BitVec φ.bits) (h : (⟨2, ![m, n]⟩ : Shape).Reduces [0] ⟨1, ![n]⟩)
    (hφ : FKind.Formats φ) (hacc : acc = FKind.add.neutral φ hφ) :
    multiReduction (F := Ideal) .add [0] ⟨1, ![n]⟩ (up ⟨2, ![m, n]⟩ f) acc h hφ hacc
      = up ⟨1, ![n]⟩ (fun c _ => ∑ k ∈ Finset.range m, f k c) := by
  funext j
  rw [Ideal.multiReduction_add_single]
  exact (coe_sum_fin m fun k => f k (j 0).val)

theorem host_sum_rows {m n : ℕ} (z : ℕ → ℕ → ℝ) (h' : (⟨2, ![m, n]⟩ : Shape).ReducesTo [1] ⟨1, ![m]⟩)
    (h : (⟨2, ![m, n]⟩ : Shape).Reduces [1] ⟨1, ![m]⟩) (hu : 0 < (⟨0, ![]⟩ : Shape).numel) :
    Host.reduceAdd (F := Ideal) (φ := φ) (up ⟨2, ![m, n]⟩ f) (up ⟨0, ![]⟩ z) h' hu
      = up ⟨1, ![m]⟩ (fun r _ => z 0 0 + ∑ k ∈ Finset.range n, f r k) := by
  funext j
  simp only [Host.reduceAdd, Ideal.hostReduceAdd_def]
  rw [Ideal.hostReduceAdd_single h' h, up_apply, rd0, rd0, up_apply, EReal.coe_add]
  exact congrArg (_ + ·) (coe_sum_fin n fun k => f (j 0).val k)

theorem host_sum_cols {m n : ℕ} (z : ℕ → ℕ → ℝ) (h' : (⟨2, ![m, n]⟩ : Shape).ReducesTo [0] ⟨1, ![n]⟩)
    (h : (⟨2, ![m, n]⟩ : Shape).Reduces [0] ⟨1, ![n]⟩) (hu : 0 < (⟨0, ![]⟩ : Shape).numel) :
    Host.reduceAdd (F := Ideal) (φ := φ) (up ⟨2, ![m, n]⟩ f) (up ⟨0, ![]⟩ z) h' hu
      = up ⟨1, ![n]⟩ (fun c _ => z 0 0 + ∑ k ∈ Finset.range m, f k c) := by
  funext j
  simp only [Host.reduceAdd, Ideal.hostReduceAdd_def]
  rw [Ideal.hostReduceAdd_single h' h, up_apply, rd0, rd0, up_apply, EReal.coe_add]
  exact congrArg (_ + ·) (coe_sum_fin m fun k => f k (j 0).val)

theorem host_sum_all {m : ℕ} (z : ℕ → ℕ → ℝ) (h' : (⟨1, ![m]⟩ : Shape).ReducesTo [0] ⟨0, ![]⟩)
    (hu : 0 < (⟨0, ![]⟩ : Shape).numel) :
    Host.reduceAdd (F := Ideal) (φ := φ) (up ⟨1, ![m]⟩ f) (up ⟨0, ![]⟩ z) h' hu
      = up ⟨0, ![]⟩ (fun _ _ => z 0 0 + ∑ k ∈ Finset.range m, f k 0) := by
  funext j
  simp only [Host.reduceAdd, Ideal.hostReduceAdd_def]
  rw [Ideal.hostReduceAdd_total h' (fun b => b.elim0), up_apply, rd0, rd0, up_apply, EReal.coe_add,
    ← Equiv.sum_comp (idxEquiv1 (n := m)).symm]
  exact congrArg (_ + ·) (coe_sum_fin m fun k => f k 0)

/-- The matrix unit's product of `[M, K]` and `[K, N]`. -/
theorem matmul_up {M K N : ℕ} (prec : Option ContractPrecision) :
    FloatOps.matmul (F := Ideal) (φ₁ := φ₁) (φ₂ := φ₂) (DotDims.plain M K N) prec (up ⟨2, ![M, K]⟩ f) (up ⟨2, ![K, N]⟩ g) (up ⟨2, ![M, N]⟩ a)
      = up ⟨2, ![M, N]⟩ (fun r c => a r c + ∑ k ∈ Finset.range K, f r k * g k c) := by
  funext i
  obtain ⟨r, c, rfl⟩ : ∃ (r : Fin M) (c : Fin N), i = ix2 r c := ⟨i 0, i 1, eq_ix2 i⟩
  rw [Ideal.matmul_plain_apply, up_apply, up_apply, EReal.coe_add]
  exact congrArg (_ + ·) (coe_sum_fin K fun k => f r.val k * g k c.val)

/-- The matrix unit's product of `[M, K]` and `[N, K]`, the right operand contracted along its last axis. -/
theorem matmulT_up {M K N : ℕ} (prec : Option ContractPrecision) :
    FloatOps.matmul (F := Ideal) (φ₁ := φ₁) (φ₂ := φ₂) (DotDims.transposedRhs M K N) prec (up ⟨2, ![M, K]⟩ f) (up ⟨2, ![N, K]⟩ g) (up ⟨2, ![M, N]⟩ a)
      = up ⟨2, ![M, N]⟩ (fun r c => a r c + ∑ k ∈ Finset.range K, f r k * g c k) := by
  funext i
  obtain ⟨r, c, rfl⟩ : ∃ (r : Fin M) (c : Fin N), i = ix2 r c := ⟨i 0, i 1, eq_ix2 i⟩
  rw [Ideal.matmul_transposedRhs_apply, up_apply, up_apply, EReal.coe_add]
  exact congrArg (_ + ·) (coe_sum_fin K fun k => f r.val k * g c.val k)

/-- The host's product is the matrix unit's into a zero accumulator. -/
theorem dotGeneral_eq_matmul {sl sr so : Shape} (d : DotDims sl sr so) (prec : Option ContractPrecision)
    (x : FVec Ideal sl φ₁) (y : FVec Ideal sr φ₂) :
    Host.dotGeneral d prec x y = FloatOps.matmul (F := Ideal) d prec x y (up so fun _ _ => 0) := by
  funext j
  simp only [Host.dotGeneral]
  rw [Ideal.dotGeneral_apply, Ideal.matmul_apply, up_apply, EReal.coe_zero, zero_add]

end Sums

end Cert.Lift

end
-- ==== Proof.InProj.lean ====
/-
  The value claim of the input projection's backward call: the four gradients laid side by side, and the gradient by the
  projection's input. Both sides are sums of the same products, so nothing is asked of the arguments.
-/
module

public import proofs.«01_k».proof.Defs
public import proofs.«01_k».proof.Proof.Lift
public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.InProj

open Idealize.ShloMosaic Idealize.ShloMosaic.TcCoe Idealize.SL.Sem Cert.Lift

/-- The array of shape `S` holding the extended real `f r c` at row `r` and column `c`. -/
def lay (S : Shape) (f : ℕ → ℕ → EReal) : S.Idx → EReal := fun i => f (rd i 0) (rd i 1)

theorem lay_apply (S : Shape) (f : ℕ → ℕ → EReal) (i : S.Idx) : lay S f i = f (rd i 0) (rd i 1) := rfl

/-- Every rank-2 array is laid out of a table of extended reals. -/
theorem exists_lay {m n : ℕ} (x : (⟨2, ![m, n]⟩ : Shape).Idx → EReal) : ∃ f : ℕ → ℕ → EReal, x = lay ⟨2, ![m, n]⟩ f := by
  classical
  refine ⟨fun r c => if h : r < m ∧ c < n then x (ValueIdx.ix2 ⟨r, h.1⟩ ⟨c, h.2⟩) else 0, funext fun i => ?_⟩
  rw [lay_apply, dif_pos ⟨lt2_0 i, lt2_1 i⟩]
  exact congrArg x (ValueIdx.eq_ix2 i)

/-- Four tables side by side, of 3072, 1536, 512 and further columns. -/
def side (f₀ f₁ f₂ f₃ : ℕ → ℕ → EReal) (r k : ℕ) : EReal :=
  if k < 3072 then f₀ r k else if k < 4608 then f₁ r (k - 3072) else if k < 5120 then f₂ r (k - 4608) else f₃ r (k - 5120)

variable (f₀ f₁ f₂ f₃ f g : ℕ → ℕ → EReal)

/-- The four tables as the pieces of a concatenation. -/
abbrev parts (m : ℕ) : List ((s : Shape) × (s.Idx → EReal)) :=
  [⟨⟨2, ![m, 3072]⟩, lay ⟨2, ![m, 3072]⟩ f₀⟩, ⟨⟨2, ![m, 1536]⟩, lay ⟨2, ![m, 1536]⟩ f₁⟩,
    ⟨⟨2, ![m, 512]⟩, lay ⟨2, ![m, 512]⟩ f₂⟩, ⟨⟨2, ![m, 512]⟩, lay ⟨2, ![m, 512]⟩ f₃⟩]

theorem concat_lay {m : ℕ} (h : Shape.Concatenates [⟨2, ![m, 3072]⟩, ⟨2, ![m, 1536]⟩, ⟨2, ![m, 512]⟩, ⟨2, ![m, 512]⟩] ⟨2, ![m, 5632]⟩ 1) :
    concatenate ⟨2, ![m, 5632]⟩ 1 (parts f₀ f₁ f₂ f₃ m) h
      = lay ⟨2, ![m, 5632]⟩ (side f₀ f₁ f₂ f₃) := by
  funext i
  have hi := lt2_1 i
  rw [rd2_1] at hi
  rw [lay_apply, rd2_0, rd2_1]
  unfold side
  by_cases h0 : (i 1).val < 3072
  · rw [if_pos h0, concatenate_apply_piece (t := ⟨2, ![m, 5632]⟩) 1 (parts f₀ f₁ f₂ f₃ m) h i 0 (by show 0 < 4; decide) ⟨2, ![m, 3072]⟩ (lay ⟨2, ![m, 3072]⟩ f₀) rfl rfl 0 rfl (ValueIdx.ix2 (i 0) ⟨(i 1).val, h0⟩) (fun b hb => by
      match b with
      | ⟨0, _⟩ => rfl
      | ⟨1, _⟩ => exact absurd rfl hb) (by show 0 + (i 1).val = (i 1).val; omega)]
    rfl
  rw [if_neg h0]
  by_cases h1 : (i 1).val < 4608
  · rw [if_pos h1, concatenate_apply_piece (t := ⟨2, ![m, 5632]⟩) 1 (parts f₀ f₁ f₂ f₃ m) h i 1 (by show 1 < 4; decide) ⟨2, ![m, 1536]⟩ (lay ⟨2, ![m, 1536]⟩ f₁) rfl rfl 3072 rfl (ValueIdx.ix2 (i 0) ⟨(i 1).val - 3072, by omega⟩) (fun b hb => by
      match b with
      | ⟨0, _⟩ => rfl
      | ⟨1, _⟩ => exact absurd rfl hb) (by show 3072 + ((i 1).val - 3072) = (i 1).val; omega)]
    rfl
  rw [if_neg h1]
  by_cases h2 : (i 1).val < 5120
  · rw [if_pos h2, concatenate_apply_piece (t := ⟨2, ![m, 5632]⟩) 1 (parts f₀ f₁ f₂ f₃ m) h i 2 (by show 2 < 4; decide) ⟨2, ![m, 512]⟩ (lay ⟨2, ![m, 512]⟩ f₂) rfl rfl 4608 rfl (ValueIdx.ix2 (i 0) ⟨(i 1).val - 4608, by omega⟩) (fun b hb => by
      match b with
      | ⟨0, _⟩ => rfl
      | ⟨1, _⟩ => exact absurd rfl hb) (by show 4608 + ((i 1).val - 4608) = (i 1).val; omega)]
    rfl
  · rw [if_neg h2, concatenate_apply_piece (t := ⟨2, ![m, 5632]⟩) 1 (parts f₀ f₁ f₂ f₃ m) h i 3 (by show 3 < 4; decide) ⟨2, ![m, 512]⟩ (lay ⟨2, ![m, 512]⟩ f₃) rfl rfl 5120 rfl (ValueIdx.ix2 (i 0) ⟨(i 1).val - 5120, by omega⟩) (fun b hb => by
      match b with
      | ⟨0, _⟩ => rfl
      | ⟨1, _⟩ => exact absurd rfl hb) (by show 5120 + ((i 1).val - 5120) = (i 1).val; omega)]
    rfl

section
variable {φ₁ φ₂ : FTy} (M K N : ℕ)

/-- The matrix unit's product into a zero accumulator. -/
theorem matmul_lay (prec : Option ContractPrecision) :
    FloatOps.matmul (F := Ideal) (φ₁ := φ₁) (φ₂ := φ₂) (DotDims.plain M K N) prec (lay ⟨2, ![M, K]⟩ f) (lay ⟨2, ![K, N]⟩ g)
        (constant (F := Ideal) ⟨2, ![M, N]⟩ .f32 0x00000000#32)
      = lay ⟨2, ![M, N]⟩ (fun r c => ∑ k ∈ Finset.range K, f r k * g k c) := by
  funext i
  obtain ⟨r, c, rfl⟩ : ∃ (r : Fin M) (c : Fin N), i = ValueIdx.ix2 r c := ⟨i 0, i 1, ValueIdx.eq_ix2 i⟩
  have hz : constant (F := Ideal) ⟨2, ![M, N]⟩ .f32 0x00000000#32 (ValueIdx.ix2 r c) = (0 : EReal) := by
    show Ideal.ofBits .f32 0x00000000#32 = 0
    simp [Ideal.ofBits, Ideal.ieee]
  rw [Ideal.matmul_plain_apply, hz, zero_add, lay_apply]
  exact Fin.sum_univ_eq_sum_range (fun k => f r.val k * g k c.val) K

/-- The host's product, the right operand contracted along its last axis. -/
theorem dot_lay (prec : Option ContractPrecision) :
    Host.dotGeneral (F := Ideal) (φ₁ := φ₁) (φ₂ := φ₂) (DotDims.transposedRhs M K N) prec (lay ⟨2, ![M, K]⟩ f) (lay ⟨2, ![N, K]⟩ g)
      = lay ⟨2, ![M, N]⟩ (fun r c => ∑ k ∈ Finset.range K, f r k * g c k) := by
  rw [dotGeneral_eq_matmul]
  funext i
  obtain ⟨r, c, rfl⟩ : ∃ (r : Fin M) (c : Fin N), i = ValueIdx.ix2 r c := ⟨i 0, i 1, ValueIdx.eq_ix2 i⟩
  rw [Ideal.matmul_transposedRhs_apply, up_apply, EReal.coe_zero, zero_add, lay_apply]
  exact Fin.sum_univ_eq_sum_range (fun k => f r.val k * g c.val k) K

end

/-- The gradient by the projection's input: the residual's part, and the four gradients times the transposed weights. -/
def back (f₀ f₁ f₂ f₃ x w : ℕ → ℕ → EReal) (r c : ℕ) : EReal :=
  x r c + ∑ k ∈ Finset.range 5632, side f₀ f₁ f₂ f₃ r k * w c k

section Kernel
open Cert.Kernel2Ideal Cert.Kernel2Ideal.Gen

variable (x w : ℕ → ℕ → EReal)

/-- One grid point's block of the four gradients side by side. -/
theorem block7 : out0_7 (F := Ideal) (lay S512x3072 f₀) (lay S512x1536 f₁) (lay S512x512 f₂) (lay S512x512 f₃) (lay S512x1024 x) (lay S5632x1024 w)
    = lay S512x5632 (side f₀ f₁ f₂ f₃) := by
  unfold out0_7
  rw [View.canon_cons_unit_lit (Val := Elt Ideal) _ _ _ (by decide), View.ld_unit_lit (Val := Elt Ideal) _ _ (by decide),
    View.ld_unit_lit (Val := Elt Ideal) _ _ (by decide), View.ld_unit_lit (Val := Elt Ideal) _ _ (by decide), View.ld_unit_lit (Val := Elt Ideal) _ _ (by decide)]
  exact concat_lay f₀ f₁ f₂ f₃ (m := 512) concatenates_S512x3072_S512x1536_S512x512_S512x512_S512x5632_d1

/-- One grid point's block of the gradient by the projection's input. -/
theorem block6 : out0_6 (F := Ideal) (lay S512x3072 f₀) (lay S512x1536 f₁) (lay S512x512 f₂) (lay S512x512 f₃) (lay S512x1024 x) (lay S5632x1024 fun k c => w c k)
    = lay S512x1024 (back f₀ f₁ f₂ f₃ x w) := by
  unfold out0_6
  rw [View.canon_cons_unit_lit (Val := Elt Ideal) _ _ _ (by decide), View.ld_unit_lit (Val := Elt Ideal) _ _ (by decide),
    View.ld_unit_lit (Val := Elt Ideal) _ _ (by decide), View.ld_unit_lit (Val := Elt Ideal) _ _ (by decide), View.ld_unit_lit (Val := Elt Ideal) _ _ (by decide),
    View.ld_unit_lit (Val := Elt Ideal) _ _ (by decide), View.ld_unit_lit (Val := Elt Ideal) _ _ (by decide)]
  have e1 : k0_pay1 (F := Ideal) (lay S512x3072 f₀) (lay S512x1536 f₁) (lay S512x512 f₂) (lay S512x512 f₃) = lay S512x5632 (side f₀ f₁ f₂ f₃) :=
    concat_lay f₀ f₁ f₂ f₃ (m := 512) concatenates_S512x3072_S512x1536_S512x512_S512x512_S512x5632_d1
  unfold k0_pay2
  rw [e1, shapeCast_self]
  funext i
  exact congrArg (lay S512x1024 x i + ·) (congrFun (matmul_lay (side f₀ f₁ f₂ f₃) (fun k c => w c k) 512 5632 1024 (φ₁ := .bf16) (φ₂ := .bf16) none) i)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel

/-- The program's arguments on a device are these tables. -/
structure Given (m : (ℓ : Loc nD τ sig) → Buf (Elt Ideal) ℓ) (c : Dev nD) (f₀ f₁ f₂ f₃ x w : ℕ → ℕ → EReal) : Prop where
  h0 : m ((c : Thread nD τ).loc main_arg0) = lay S8192x3072 f₀
  h1 : m ((c : Thread nD τ).loc main_arg1) = lay S8192x1536 f₁
  h2 : m ((c : Thread nD τ).loc main_arg2) = lay S8192x512 f₂
  h3 : m ((c : Thread nD τ).loc main_arg3) = lay S8192x512 f₃
  h4 : m ((c : Thread nD τ).loc main_arg4) = lay S8192x1024 x
  h5 : m ((c : Thread nD τ).loc main_arg5) = lay S1024x5632 w

variable {m : (ℓ : Loc nD τ sig) → Buf (Elt Ideal) ℓ} {c : Dev nD} {f₀ f₁ f₂ f₃ x w : ℕ → ℕ → EReal}

theorem Given.v1 (h : Given m c f₀ f₁ f₂ f₃ x w) : V m c main_v1 = lay S5632x1024 fun k c => w c k := by
  have e : V m c main_v1 = truncf (F := Ideal) (φ := .f32) .bf16 (transpose S5632x1024 [1, 0] (m ((c : Thread nD τ).loc main_arg5)) transposes_S1024x5632_S5632x1024_1_0) bitsLt_bf16_f32 := by
    unfold_abbrev_sides
    after_results
  rw [e, h.h5]
  funext i
  show transpose S5632x1024 [1, 0] (lay S1024x5632 w) transposes_S1024x5632_S5632x1024_1_0 i = _
  refine (transpose_apply [1, 0] (lay S1024x5632 w) transposes_S1024x5632_S5632x1024_1_0 i (ValueIdx.ix2 (i 1) (i 0)) (fun b => by
      match b with
      | ⟨0, _⟩ => rfl
      | ⟨1, _⟩ => rfl)).trans ?_
  rfl

theorem Given.in0 (h : Given m c f₀ f₁ f₂ f₃ x w) (t : Fin cfg0.N) : iblk m c 0 t = lay S512x3072 fun r k => f₀ (512 * t.val + r) k := by
  funext y
  have e : iblk m c 0 t y = m ((c : Thread nD τ).loc main_arg0) (((cfg0.win 0).blk t).view.emb y) := congrFun (V_main_arg0 m c) _
  rw [e, h.h0]
  refine congrArg₂ f₀ ?_ ?_
  · show (((cfg0.win 0).blk t).view.emb y 0).val = 512 * t.val + (y 0).val
    blk_simp [index0 t]
    try omega
  · show (((cfg0.win 0).blk t).view.emb y 1).val = (y 1).val
    blk_simp [index0 t]
    try omega

theorem Given.in1 (h : Given m c f₀ f₁ f₂ f₃ x w) (t : Fin cfg0.N) : iblk m c 1 t = lay S512x1536 fun r k => f₁ (512 * t.val + r) k := by
  funext y
  have e : iblk m c 1 t y = m ((c : Thread nD τ).loc main_arg1) (((cfg0.win 1).blk t).view.emb y) := congrFun (V_main_arg1 m c) _
  rw [e, h.h1]
  refine congrArg₂ f₁ ?_ ?_
  · show (((cfg0.win 1).blk t).view.emb y 0).val = 512 * t.val + (y 0).val
    blk_simp [index1 t]
    try omega
  · show (((cfg0.win 1).blk t).view.emb y 1).val = (y 1).val
    blk_simp [index1 t]
    try omega

theorem Given.in2 (h : Given m c f₀ f₁ f₂ f₃ x w) (t : Fin cfg0.N) : iblk m c 2 t = lay S512x512 fun r k => f₂ (512 * t.val + r) k := by
  funext y
  have e : iblk m c 2 t y = m ((c : Thread nD τ).loc main_arg2) (((cfg0.win 2).blk t).view.emb y) := congrFun (V_main_arg2 m c) _
  rw [e, h.h2]
  refine congrArg₂ f₂ ?_ ?_
  · show (((cfg0.win 2).blk t).view.emb y 0).val = 512 * t.val + (y 0).val
    blk_simp [index2 t]
    try omega
  · show (((cfg0.win 2).blk t).view.emb y 1).val = (y 1).val
    blk_simp [index2 t]
    try omega

theorem Given.in3 (h : Given m c f₀ f₁ f₂ f₃ x w) (t : Fin cfg0.N) : iblk m c 3 t = lay S512x512 fun r k => f₃ (512 * t.val + r) k := by
  funext y
  have e : iblk m c 3 t y = m ((c : Thread nD τ).loc main_arg3) (((cfg0.win 3).blk t).view.emb y) := congrFun (V_main_arg3 m c) _
  rw [e, h.h3]
  refine congrArg₂ f₃ ?_ ?_
  · show (((cfg0.win 3).blk t).view.emb y 0).val = 512 * t.val + (y 0).val
    blk_simp [index3 t]
    try omega
  · show (((cfg0.win 3).blk t).view.emb y 1).val = (y 1).val
    blk_simp [index3 t]
    try omega

theorem Given.in4 (h : Given m c f₀ f₁ f₂ f₃ x w) (t : Fin cfg0.N) : iblk m c 4 t = lay S512x1024 fun r k => x (512 * t.val + r) k := by
  funext y
  have e : iblk m c 4 t y = m ((c : Thread nD τ).loc main_arg4) (((cfg0.win 4).blk t).view.emb y) := congrFun (V_main_arg4 m c) _
  rw [e, h.h4]
  refine congrArg₂ x ?_ ?_
  · show (((cfg0.win 4).blk t).view.emb y 0).val = 512 * t.val + (y 0).val
    blk_simp [index4 t]
    try omega
  · show (((cfg0.win 4).blk t).view.emb y 1).val = (y 1).val
    blk_simp [index4 t]
    try omega

theorem Given.in5 (h : Given m c f₀ f₁ f₂ f₃ x w) (t : Fin cfg0.N) : iblk m c 5 t = lay S5632x1024 fun k c => w c k := by
  funext y
  have e : iblk m c 5 t y = V m c main_v1 (((cfg0.win 5).blk t).view.emb y) := rfl
  rw [e, h.v1]
  refine congrArg₂ (fun k c => w c k) ?_ ?_
  · show (((cfg0.win 5).blk t).view.emb y 0).val = (y 0).val
    blk_simp [index5 t]
    try omega
  · show (((cfg0.win 5).blk t).view.emb y 1).val = (y 1).val
    blk_simp [index5 t]
    try omega

/-- The gradient by the projection's input. -/
theorem out6 (h : Given m c f₀ f₁ f₂ f₃ x w) : (dats m 0 c).arrAt 6 cfg0.N = lay S8192x1024 (back f₀ f₁ f₂ f₃ x w) := by
  refine (dats m 0 c).arrAt_eq_of_covers 6 (lay S8192x1024 (back f₀ f₁ f₂ f₃ x w)) (by decide +kernel) fun t _ y => ?_
  refine (congrFun (after0_6 m c t) _).trans ?_
  rw [h.in0, h.in1, h.in2, h.in3, h.in4, h.in5]
  refine (congrFun (block6 _ _ _ _ _ _) _).trans ?_
  refine congrArg₂ (back f₀ f₁ f₂ f₃ x w) ?_ ?_
  · show 512 * t.val + (y 0).val = (((cfg0.win 6).blk t).view.emb y 0).val
    blk_simp [index6 t]
    try omega
  · show (y 1).val = (((cfg0.win 6).blk t).view.emb y 1).val
    blk_simp [index6 t]
    try omega

/-- The four gradients side by side. -/
theorem out7 (h : Given m c f₀ f₁ f₂ f₃ x w) : (dats m 0 c).arrAt 7 cfg0.N = lay S8192x5632 (side f₀ f₁ f₂ f₃) := by
  refine (dats m 0 c).arrAt_eq_of_covers 7 (lay S8192x5632 (side f₀ f₁ f₂ f₃)) (by decide +kernel) fun t _ y => ?_
  refine (congrFun (after0_7 m c t) _).trans ?_
  rw [h.in0, h.in1, h.in2, h.in3, h.in4, h.in5]
  refine (congrFun (block7 _ _ _ _ _ _) _).trans ?_
  refine congrArg₂ (side f₀ f₁ f₂ f₃) ?_ ?_
  · show 512 * t.val + (y 0).val = (((cfg0.win 7).blk t).view.emb y 0).val
    blk_simp [index7 t]
    try omega
  · show (y 1).val = (((cfg0.win 7).blk t).view.emb y 1).val
    blk_simp [index7 t]
    try omega

end Kernel

/-- Every launch's arguments are laid out of tables. -/
theorem exists_given (m : (ℓ : Loc Cert.Kernel2Ideal.nD Cert.Kernel2Ideal.τ Cert.Kernel2Ideal.sig) → Buf (Elt Ideal) ℓ) (c : Dev Cert.Kernel2Ideal.nD) :
    ∃ f : Fin 6 → ℕ → ℕ → EReal, Given m c (f 0) (f 1) (f 2) (f 3) (f 4) (f 5) := by
  obtain ⟨f₀, h0⟩ := exists_lay (m := 8192) (n := 3072) (m ((c.tc : Thread Cert.Kernel2Ideal.nD Cert.Kernel2Ideal.τ).loc Cert.Kernel2Ideal.main_arg0))
  obtain ⟨f₁, h1⟩ := exists_lay (m := 8192) (n := 1536) (m ((c.tc : Thread Cert.Kernel2Ideal.nD Cert.Kernel2Ideal.τ).loc Cert.Kernel2Ideal.main_arg1))
  obtain ⟨f₂, h2⟩ := exists_lay (m := 8192) (n := 512) (m ((c.tc : Thread Cert.Kernel2Ideal.nD Cert.Kernel2Ideal.τ).loc Cert.Kernel2Ideal.main_arg2))
  obtain ⟨f₃, h3⟩ := exists_lay (m := 8192) (n := 512) (m ((c.tc : Thread Cert.Kernel2Ideal.nD Cert.Kernel2Ideal.τ).loc Cert.Kernel2Ideal.main_arg3))
  obtain ⟨x, h4⟩ := exists_lay (m := 8192) (n := 1024) (m ((c.tc : Thread Cert.Kernel2Ideal.nD Cert.Kernel2Ideal.τ).loc Cert.Kernel2Ideal.main_arg4))
  obtain ⟨w, h5⟩ := exists_lay (m := 1024) (n := 5632) (m ((c.tc : Thread Cert.Kernel2Ideal.nD Cert.Kernel2Ideal.τ).loc Cert.Kernel2Ideal.main_arg5))
  exact ⟨fun | 0 => f₀ | 1 => f₁ | 2 => f₂ | 3 => f₃ | 4 => x | 5 => w, ⟨h0, h1, h2, h3, h4, h5⟩⟩

theorem equal : Cert.algebraic_Kernel2Ideal_Reference2Ideal := by
  intro m g m' g' _ hargs
  choose f hf using exists_given m
  refine ⟨fun c => lay Cert.Kernel2Ideal.S8192x1024 (back (f c 0) (f c 1) (f c 2) (f c 3) (f c 4) (f c 5)),
    fun c => lay Cert.Kernel2Ideal.S8192x5632 (side (f c 0) (f c 1) (f c 2) (f c 3)), ?_, ?_⟩
  · refine (θ_run _ _ _).mono (fun r h c => ?_) (Cert.Kernel2Ideal.Value.run_blocks m g)
    obtain ⟨k0, k1, ka⟩ := h c
    exact ⟨k0.trans (out6 (hf c)), k1.trans (out7 (hf c)), ka⟩
  · refine (θ_run _ _ _).mono (fun r h c => ?_) (Cert.Reference2Ideal.Value.run m' g')
    obtain ⟨k0, k1, ka⟩ := h c
    obtain ⟨b0, b1, b2, b3, b4, b5⟩ := hargs c
    have a0 := b0.trans (hf c).h0
    have a1 := b1.trans (hf c).h1
    have a2 := b2.trans (hf c).h2
    have a3 := b3.trans (hf c).h3
    have a4 := b4.trans (hf c).h4
    have a5 := b5.trans (hf c).h5
    have e := concat_lay (f c 0) (f c 1) (f c 2) (f c 3) (m := 8192) Cert.Reference2Ideal.Facts₀.concatenates_S8192x3072_S8192x1536_S8192x512_S8192x512_S8192x5632_d1
    refine ⟨k0.trans ?_, k1.trans ?_, ka⟩
    · rw [a0, a1, a2, a3, a4, a5]
      refine (congrArg (fun X => addf (F := Ideal) (φ := .f32) (lay Cert.Kernel2Ideal.S8192x1024 (f c 4)) (Host.dotGeneral (F := Ideal) (φ₁ := .f32) (φ₂ := .f32)
        Cert.Reference2Ideal.dot_S8192x5632_S1024x5632_S8192x1024_1_1_0_0_n_n none X (lay Cert.Kernel2Ideal.S1024x5632 (f c 5)))) e).trans ?_
      funext i
      exact congrArg (lay Cert.Kernel2Ideal.S8192x1024 (f c 4) i + ·) (congrFun (dot_lay (side (f c 0) (f c 1) (f c 2) (f c 3)) (f c 5) 8192 5632 1024 (φ₁ := .f32) (φ₂ := .f32) none) i)
    · rw [a0, a1, a2, a3]
      exact e

end Cert.InProj

end
-- ==== Proof.Merge.lean ====
/-
  The value claim of the merge's forward call: the activated state-space output, the gated sum of the three branches, and
  the first layer norm before its scale and shift with the reciprocal of its deviation. The two programs' activation differs
  by the order of its factors alone, every other line is the same operation row by row, so nothing is asked of the arguments.
-/
module

public import proofs.«01_k».proof.Proof.InProj
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

namespace Cert.Merge

open Idealize.ShloMosaic Idealize.ShloMosaic.TcCoe Idealize.SL.Sem Cert.Lift Cert.InProj

section Pointwise
variable {S : Shape} {φ ψ : FTy} (f g : ℕ → ℕ → EReal)

theorem mulf_lay : mulf (F := Ideal) (φ := φ) (lay S f) (lay S g) = lay S (fun r c => f r c * g r c) := rfl
theorem addf_lay : addf (F := Ideal) (φ := φ) (lay S f) (lay S g) = lay S (fun r c => f r c + g r c) := rfl
theorem subf_lay : subf (F := Ideal) (φ := φ) (lay S f) (lay S g) = lay S (fun r c => f r c - g r c) := rfl
theorem divf_lay : divf (F := Ideal) (φ := φ) (lay S f) (lay S g) = lay S (fun r c => Ideal.div (f r c) (g r c)) := rfl
theorem host_divf_lay : Host.divf (F := Ideal) (φ := φ) (lay S f) (lay S g) = lay S (fun r c => Ideal.div (f r c) (g r c)) := rfl
theorem truncf_lay (h : ψ.bits < φ.bits) : truncf (F := Ideal) (φ := φ) ψ (lay S f) h = lay S f := rfl
theorem extf_lay (h : φ.bits < ψ.bits) : extf (F := Ideal) (φ := φ) ψ (lay S f) h = lay S f := rfl
theorem tanh_lay : tanh (F := Ideal) (φ := φ) (lay S f) = lay S (fun r c => Ideal.tanh (f r c)) := rfl
theorem host_tanh_lay : Host.tanh (F := Ideal) (φ := φ) (lay S f) = lay S (fun r c => Ideal.tanh (f r c)) := rfl
theorem host_negf_lay : Host.negf (F := Ideal) (φ := φ) (lay S f) = lay S (fun r c => -f r c) := rfl
theorem host_exp_lay : Host.exp (F := Ideal) (φ := φ) (lay S f) = lay S (fun r c => Ideal.exp (f r c)) := rfl
theorem logistic_lay : logistic (F := Ideal) (φ := φ) (lay S f) = lay S (fun r c => Ideal.logistic (f r c)) := rfl
theorem rsqrt_lay : rsqrt (F := Ideal) (φ := φ) (lay S f) = lay S (fun r c => Ideal.rsqrt (f r c)) := rfl
theorem host_rsqrt_lay : Host.rsqrt (F := Ideal) (φ := φ) (lay S f) = lay S (fun r c => Ideal.rsqrt (f r c)) := rfl
theorem constant_lay (b : BitVec φ.bits) : constant (F := Ideal) S φ b = lay S (fun _ _ => Ideal.ofBits φ b) := rfl
theorem broadcast_lay (b : BitVec φ.bits) : broadcast S (Scalar.ofBits (F := Ideal) φ b) = lay S (fun _ _ => Ideal.ofBits φ b) := rfl

theorem extract_lay {m n m' n' o p : ℕ} (h : (⟨2, ![m, n]⟩ : Shape).Slices ![o, p] ⟨2, ![m', n']⟩) :
    extractStridedSlice ⟨2, ![m', n']⟩ ![o, p] (lay ⟨2, ![m, n]⟩ f) h = lay ⟨2, ![m', n']⟩ (fun r c => f (o + r) (p + c)) := rfl

theorem transpose_lay {m n : ℕ} (h : (⟨2, ![m, n]⟩ : Shape).Transposes [1, 0] ⟨2, ![n, m]⟩) :
    transpose ⟨2, ![n, m]⟩ [1, 0] (lay ⟨2, ![m, n]⟩ f) h = lay ⟨2, ![n, m]⟩ (fun r c => f c r) := by
  funext i
  rw [transpose_apply _ _ h i (ValueIdx.ix2 (i 1) (i 0)) (fun b => by
    match b with
    | ⟨0, _⟩ => rfl
    | ⟨1, _⟩ => rfl)]
  rfl

/-- A column of numbers spread along its rows, by the kernel and by the host. -/
theorem broadcastTo_col_lay {m n : ℕ} (hm : m ≠ 1) (h : (⟨2, ![m, 1]⟩ : Shape).Broadcasts ⟨2, ![m, n]⟩) :
    broadcastTo ⟨2, ![m, n]⟩ (lay ⟨2, ![m, 1]⟩ f) h = lay ⟨2, ![m, n]⟩ (fun r _ => f r 0) := by
  funext i
  rw [broadcastTo_apply _ h i (ValueIdx.ix2 (i 0) (0 : Fin 1)) (fun a => by
    match a with
    | ⟨0, _⟩ => exact (if_neg (show ¬(m = 1) from hm)).symm
    | ⟨1, _⟩ => exact (if_pos (show (1 : ℕ) = 1 from rfl)).symm)]
  rfl

theorem bcast_col_lay {m n : ℕ} (hm : m ≠ 1) (h : (⟨2, ![m, 1]⟩ : Shape).BroadcastsInDim ⟨2, ![m, n]⟩ ![0, 1]) :
    broadcastInDim ⟨2, ![m, n]⟩ ![0, 1] h (lay ⟨2, ![m, 1]⟩ f) = lay ⟨2, ![m, n]⟩ (fun r _ => f r 0) := by
  funext i
  rw [broadcastInDim_apply _ h _ i (ValueIdx.ix2 (i 0) (0 : Fin 1)) (fun a => by
    match a with
    | ⟨0, _⟩ => exact (if_neg (show ¬(m = 1) from hm)).symm
    | ⟨1, _⟩ => exact (if_pos (show (1 : ℕ) = 1 from rfl)).symm)]
  rfl

/-- A vector as a column, by the kernel and by the host. -/
theorem shapeCast_col_lay {m : ℕ} (h : (⟨1, ![m]⟩ : Shape).ShapeCasts ⟨2, ![m, 1]⟩) :
    shapeCast ⟨2, ![m, 1]⟩ (lay ⟨1, ![m]⟩ f) h = lay ⟨2, ![m, 1]⟩ (fun r _ => f r 0) := by
  funext i
  rw [shapeCast_apply _ h i (fun a => match a with | ⟨0, _⟩ => i 0) (by
    rewrite [Shape.rowMajor_val_one, Shape.rowMajor_val_two]
    have h1 : (i 1).val < 1 := (i 1).isLt
    show (i 0).val = (i 0).val * 1 + (i 1).val
    omega)]
  rfl

theorem bcast_vec_lay {m n : ℕ} (hm : m ≠ 1) (h : (⟨1, ![m]⟩ : Shape).BroadcastsInDim ⟨2, ![m, n]⟩ ![0]) :
    broadcastInDim ⟨2, ![m, n]⟩ ![0] h (lay ⟨1, ![m]⟩ f) = lay ⟨2, ![m, n]⟩ (fun r _ => f r 0) := by
  funext i
  rw [broadcastInDim_apply _ h _ i (fun a => match a with | ⟨0, _⟩ => i 0) (fun a => by
    match a with
    | ⟨0, _⟩ => exact (if_neg (show ¬(m = 1) from hm)).symm)]
  rfl

theorem bcast_num_lay (S : Shape) (d : Fin 0 → ℕ) (δ : Fin 0 → Fin S.rank) (h : (⟨0, d⟩ : Shape).BroadcastsInDim S δ) :
    broadcastInDim S δ h (lay ⟨0, d⟩ f) = lay S (fun _ _ => f 0 0) := by
  funext i
  rw [broadcastInDim_apply _ h _ i (fun a => a.elim0) (fun a => a.elim0), lay_apply, rd0, rd0]
  rfl

theorem sum_rows_lay {m n : ℕ} (acc : BitVec φ.bits) (h : (⟨2, ![m, n]⟩ : Shape).Reduces [1] ⟨1, ![m]⟩)
    (hφ : FKind.Formats φ) (hacc : acc = FKind.add.neutral φ hφ) :
    multiReduction (F := Ideal) .add [1] ⟨1, ![m]⟩ (lay ⟨2, ![m, n]⟩ f) acc h hφ hacc
      = lay ⟨1, ![m]⟩ (fun r _ => ∑ k ∈ Finset.range n, f r k) := by
  funext j
  rw [Ideal.multiReduction_add_single]
  exact Fin.sum_univ_eq_sum_range (fun k => f (j 0).val k) n

theorem host_sum_rows_lay {m n : ℕ} (z : ℕ → ℕ → EReal) (hz : z 0 0 = 0) (h' : (⟨2, ![m, n]⟩ : Shape).ReducesTo [1] ⟨1, ![m]⟩)
    (h : (⟨2, ![m, n]⟩ : Shape).Reduces [1] ⟨1, ![m]⟩) (hu : 0 < (⟨0, ![]⟩ : Shape).numel) :
    Host.reduceAdd (F := Ideal) (φ := φ) (lay ⟨2, ![m, n]⟩ f) (lay ⟨0, ![]⟩ z) h' hu
      = lay ⟨1, ![m]⟩ (fun r _ => ∑ k ∈ Finset.range n, f r k) := by
  funext j
  simp only [Host.reduceAdd, Ideal.hostReduceAdd_def]
  rw [Ideal.hostReduceAdd_single h' h, lay_apply, rd0, rd0, hz, zero_add]
  exact Fin.sum_univ_eq_sum_range (fun k => f (j 0).val k) n

theorem zero_word : Ideal.ofBits .f32 0x00000000#32 = 0 := by
  simp [Ideal.ofBits, Ideal.ieee]

end Pointwise

section Products
variable {φ₁ φ₂ : FTy} (f g : ℕ → ℕ → EReal) (M K N : ℕ)

/-- The matrix unit's product into a zero accumulator, the right operand contracted along its last axis. -/
theorem matmulT_lay (prec : Option ContractPrecision) :
    FloatOps.matmul (F := Ideal) (φ₁ := φ₁) (φ₂ := φ₂) (DotDims.transposedRhs M K N) prec (lay ⟨2, ![M, K]⟩ f) (lay ⟨2, ![N, K]⟩ g)
        (lay ⟨2, ![M, N]⟩ fun _ _ => Ideal.ofBits .f32 0x00000000#32)
      = lay ⟨2, ![M, N]⟩ (fun r c => ∑ k ∈ Finset.range K, f r k * g c k) := by
  funext i
  obtain ⟨r, c, rfl⟩ : ∃ (r : Fin M) (c : Fin N), i = ValueIdx.ix2 r c := ⟨i 0, i 1, ValueIdx.eq_ix2 i⟩
  rw [Ideal.matmul_transposedRhs_apply, lay_apply, zero_word, zero_add, lay_apply]
  exact Fin.sum_univ_eq_sum_range (fun k => f r.val k * g c.val k) K

/-- The host's product. -/
theorem plain_lay (prec : Option ContractPrecision) :
    Host.dotGeneral (F := Ideal) (φ₁ := φ₁) (φ₂ := φ₂) (DotDims.plain M K N) prec (lay ⟨2, ![M, K]⟩ f) (lay ⟨2, ![K, N]⟩ g)
      = lay ⟨2, ![M, N]⟩ (fun r c => ∑ k ∈ Finset.range K, f r k * g k c) := by
  rw [dotGeneral_eq_matmul]
  funext i
  obtain ⟨r, c, rfl⟩ : ∃ (r : Fin M) (c : Fin N), i = ValueIdx.ix2 r c := ⟨i 0, i 1, ValueIdx.eq_ix2 i⟩
  rw [Ideal.matmul_plain_apply, up_apply, EReal.coe_zero, zero_add, lay_apply]
  exact Fin.sum_univ_eq_sum_range (fun k => f r.val k * g k c.val) K

end Products

/-- The activation, by the factors' order of the kernel. -/
def gelu (x : EReal) : EReal :=
  (Ideal.ofBits .f32 0x3F000000#32 * x) * (Ideal.ofBits .f32 0x3F800000#32 + Ideal.tanh (Ideal.ofBits .f32 0x3F4C422A#32 * (x + Ideal.ofBits .f32 0x3D372713#32 * x * x * x)))

/-- The tables the call takes. -/
structure Args where
  (y gates ain ob x wg wc wx wo : ℕ → ℕ → EReal)

variable (P : Args)

/-- The activated state-space output. -/
def act (r k : ℕ) : EReal := gelu (P.y r k)
/-- Its product with the gated unit's weights. -/
def glu (r c : ℕ) : EReal := ∑ k ∈ Finset.range 512, act P r k * P.wg k c
/-- The gated unit. -/
def unit (r c : ℕ) : EReal := glu P r c * Ideal.logistic (glu P r (1024 + c))
/-- The two other branches. -/
def conv (r c : ℕ) : EReal := ∑ k ∈ Finset.range 512, P.ain r k * P.wc k c
def attn (r c : ℕ) : EReal := ∑ k ∈ Finset.range 512, P.ob r k * P.wx k c
/-- The gated sum of the three branches. -/
def merged (r c : ℕ) : EReal := P.gates r c * conv P r c + P.gates r (1024 + c) * unit P r c + P.gates r (2048 + c) * attn P r c
/-- The residual sum. -/
def res (r c : ℕ) : EReal := Ideal.ofBits .f32 0x3F9837F0#32 * P.x r c + ∑ k ∈ Finset.range 1024, merged P r k * P.wo k c
def mean (r : ℕ) : EReal := Ideal.div (∑ k ∈ Finset.range 1024, res P r k) (Ideal.ofBits .f32 0x44800000#32)
def dev (r c : ℕ) : EReal := res P r c - mean P r
def rstd (r : ℕ) : EReal := Ideal.rsqrt (Ideal.div (∑ k ∈ Finset.range 1024, dev P r k * dev P r k) (Ideal.ofBits .f32 0x44800000#32) + Ideal.ofBits .f32 0x3727C5AC#32)
/-- The normalized residual sum. -/
def norm (r c : ℕ) : EReal := dev P r c * rstd P r

/-- The tables read from row `o` on. -/
def Args.from (o : ℕ) : Args :=
  ⟨fun r k => P.y (o + r) k, fun r k => P.gates (o + r) k, fun r k => P.ain (o + r) k, fun r k => P.ob (o + r) k, fun r k => P.x (o + r) k, P.wg, P.wc, P.wx, P.wo⟩

section Kernel
open Cert.Kernel4Ideal Cert.Kernel4Ideal.Gen

theorem pay6 : k0_pay6 (F := Ideal) (lay S512x512 P.y) = lay S512x512 (act P) := rfl

theorem pay7 : k0_pay7 (F := Ideal) (lay S512x512 P.ain) (lay S1024x512 fun c k => P.wc k c) = lay S512x1024 (conv P) := by
  unfold k0_pay7
  rw [shapeCast_self]
  exact matmulT_lay P.ain (fun c k => P.wc k c) 512 512 1024 none

theorem pay8 : k0_pay8 (F := Ideal) (lay S512x512 P.ob) (lay S1024x512 fun c k => P.wx k c) = lay S512x1024 (attn P) := by
  unfold k0_pay8
  rw [shapeCast_self]
  exact matmulT_lay P.ob (fun c k => P.wx k c) 512 512 1024 none

theorem pay9 : k0_pay9 (F := Ideal) (lay S512x512 P.y) (lay S2048x512 fun c k => P.wg k c) = lay S512x1024 (unit P) := by
  unfold k0_pay9
  rw [shapeCast_self, pay6]
  have e : FloatOps.matmul (F := Ideal) (φ₁ := .bf16) (φ₂ := .bf16) dot_S512x512_S2048x512_S512x2048_1_1_0_0_n_n none (lay S512x512 (act P)) (lay S2048x512 fun c k => P.wg k c) (constant S512x2048 .f32 0x00000000#32)
      = lay S512x2048 (glu P) := matmulT_lay (act P) (fun c k => P.wg k c) 512 512 2048 none
  dsimp only
  rw [show matmul (F := Ideal) (φ₁ := .bf16) (φ₂ := .bf16) dot_S512x512_S2048x512_S512x2048_1_1_0_0_n_n none (lay S512x512 (act P)) (lay S2048x512 fun c k => P.wg k c) (constant S512x2048 .f32 0x00000000#32) = lay S512x2048 (glu P) from e]
  funext i
  show glu P (0 + rd i 0) (0 + rd i 1) * Ideal.logistic (glu P (0 + rd i 0) (1024 + rd i 1)) = _
  rw [Nat.zero_add, Nat.zero_add]
  rfl

theorem pay10 : k0_pay10 (F := Ideal) (lay S512x512 P.y) = lay S512x512 (fun k r => act P r k) := by
  unfold k0_pay10
  rw [pay6]
  exact transpose_lay (m := 512) (n := 512) (act P) _

theorem pay12 : k0_pay12 (F := Ideal) (lay S512x3072 P.gates) = lay S512x1024 P.gates := by
  funext i
  show P.gates (0 + rd i 0) (0 + rd i 1) = _
  rw [Nat.zero_add, Nat.zero_add]
  rfl

/-- The five values the rest of the body reads. -/
abbrev On {α : Sort*} (k : FVec Ideal S512x1024 .f32 → FVec Ideal S512x1024 .f32 → FVec Ideal S512x1024 .f32 → FVec Ideal S512x3072 .f32 → FVec Ideal S512x1024 .f32 → α) : α :=
  k (lay S512x1024 (conv P)) (lay S512x1024 (attn P)) (lay S512x1024 (unit P)) (lay S512x3072 P.gates) (lay S512x1024 P.gates)

theorem pay1 : On P (k0_pay1 (F := Ideal)) = lay S512x1024 (merged P) := by
  funext i
  show P.gates (rd i 0) (rd i 1) * conv P (rd i 0) (rd i 1) + P.gates (0 + rd i 0) (1024 + rd i 1) * unit P (rd i 0) (rd i 1) + P.gates (0 + rd i 0) (2048 + rd i 1) * attn P (rd i 0) (rd i 1) = _
  rw [Nat.zero_add]
  rfl

theorem pay2 : On P (k0_pay2 (F := Ideal)) (lay S512x1024 P.x) (lay S1024x1024 P.wo) = lay S512x1024 (res P) := by
  have e1 := pay1 P
  unfold On at e1 ⊢
  unfold k0_pay2
  rw [shapeCast_self, e1]
  dsimp only
  rw [show matmul (F := Ideal) (φ₁ := .bf16) (φ₂ := .bf16) dot_S512x1024_S1024x1024_S512x1024_1_0_0_1_n_n none (lay S512x1024 (merged P)) (lay S1024x1024 P.wo) (constant S512x1024 .f32 0x00000000#32)
    = lay S512x1024 (fun r c => ∑ k ∈ Finset.range 1024, merged P r k * P.wo k c) from matmul_lay (merged P) P.wo 512 1024 1024 none]
  rfl

theorem pay3 : On P (k0_pay3 (F := Ideal)) (lay S512x1024 P.x) (lay S1024x1024 P.wo) = lay S512x1 (fun r _ => mean P r) := by
  have e2 := pay2 P
  unfold On at e2 ⊢
  unfold k0_pay3
  rw [e2]
  dsimp only
  rw [show multiReduction (F := Ideal) .add [1] S512 (lay S512x1024 (res P)) 0x00000000#32 reduces_S512x1024_S512 (.inl rfl) rfl = lay S512 (fun r _ => ∑ k ∈ Finset.range 1024, res P r k) from
      sum_rows_lay (m := 512) (n := 1024) (res P) _ _ _ _]
  rw [show shapeCast S512x1 (lay S512 (fun r _ => ∑ k ∈ Finset.range 1024, res P r k)) shapeCasts_S512_S512x1 = lay S512x1 (fun r _ => ∑ k ∈ Finset.range 1024, res P r k) from
      shapeCast_col_lay (m := 512) (fun r _ => ∑ k ∈ Finset.range 1024, res P r k) _]
  rfl

theorem spread (f : ℕ → ℕ → EReal) : broadcastTo S512x1024 (lay S512x1 f) broadcasts_S512x1_S512x1024 = lay S512x1024 (fun r _ => f r 0) :=
  broadcastTo_col_lay (m := 512) (n := 1024) f (by decide) _

theorem pay4 : On P (k0_pay4 (F := Ideal)) (lay S512x1024 P.x) (lay S1024x1024 P.wo) = lay S512x1 (fun r _ => rstd P r) := by
  have e2 := pay2 P
  have e3 := pay3 P
  unfold On at e2 e3 ⊢
  unfold k0_pay4
  rw [e2, e3]
  dsimp only
  rw [spread, subf_lay, mulf_lay]
  rw [show multiReduction (F := Ideal) .add [1] S512 (lay S512x1024 (fun r c => (res P r c - mean P r) * (res P r c - mean P r))) 0x00000000#32 reduces_S512x1024_S512 (.inl rfl) rfl = lay S512 (fun r _ => ∑ k ∈ Finset.range 1024, (res P r k - mean P r) * (res P r k - mean P r)) from
      sum_rows_lay (m := 512) (n := 1024) _ _ _ _ _]
  rw [show shapeCast S512x1 (lay S512 (fun r _ => ∑ k ∈ Finset.range 1024, (res P r k - mean P r) * (res P r k - mean P r))) shapeCasts_S512_S512x1 = lay S512x1 (fun r _ => ∑ k ∈ Finset.range 1024, (res P r k - mean P r) * (res P r k - mean P r)) from
      shapeCast_col_lay (m := 512) (fun r _ => ∑ k ∈ Finset.range 1024, (res P r k - mean P r) * (res P r k - mean P r)) _]
  rfl

theorem pay5 : On P (k0_pay5 (F := Ideal)) (lay S512x1024 P.x) (lay S1024x1024 P.wo) = lay S512x1024 (norm P) := by
  have e2 := pay2 P
  have e3 := pay3 P
  have e4 := pay4 P
  unfold On at e2 e3 e4 ⊢
  unfold k0_pay5
  rw [e2, e3, e4]
  dsimp only
  rw [spread, spread]
  rfl

variable (x9 x10 : Vec Ideal S1x1024 .f32)

/-- One grid point's block of the activated state-space output, laid along the columns. -/
theorem block11 : out0_11 (F := Ideal) (lay S512x512 P.y) (lay S512x3072 P.gates) (lay S512x512 P.ain) (lay S512x512 P.ob) (lay S512x1024 P.x) (lay S2048x512 fun c k => P.wg k c) (lay S1024x512 fun c k => P.wc k c) (lay S1024x512 fun c k => P.wx k c) (lay S1024x1024 P.wo) x9 x10 = lay S512x512 (fun k r => act P r k) := by
  unfold out0_11
  rw [View.canon_cons_unit_lit (Val := Elt Ideal) _ _ _ (by decide), View.ld_unit_lit (Val := Elt Ideal) _ _ (by decide)]
  exact pay10 P

theorem body13 : k0_pay13 (F := Ideal) (lay S512x512 P.y) (lay S512x3072 P.gates) (lay S512x512 P.ain) (lay S512x512 P.ob) (lay S512x1024 P.x) (lay S2048x512 fun c k => P.wg k c) (lay S1024x512 fun c k => P.wc k c) (lay S1024x512 fun c k => P.wx k c) (lay S1024x1024 P.wo) x9 x10 = lay S512x1024 (conv P) := by
  unfold k0_pay13
  rw [View.ld_unit_lit (Val := Elt Ideal) _ _ (by decide), View.ld_unit_lit (Val := Elt Ideal) _ _ (by decide)]
  exact pay7 P
theorem body14 : k0_pay14 (F := Ideal) (lay S512x512 P.y) (lay S512x3072 P.gates) (lay S512x512 P.ain) (lay S512x512 P.ob) (lay S512x1024 P.x) (lay S2048x512 fun c k => P.wg k c) (lay S1024x512 fun c k => P.wc k c) (lay S1024x512 fun c k => P.wx k c) (lay S1024x1024 P.wo) x9 x10 = lay S512x1024 (attn P) := by
  unfold k0_pay14
  rw [View.ld_unit_lit (Val := Elt Ideal) _ _ (by decide), View.ld_unit_lit (Val := Elt Ideal) _ _ (by decide)]
  exact pay8 P
theorem body15 : k0_pay15 (F := Ideal) (lay S512x512 P.y) (lay S512x3072 P.gates) (lay S512x512 P.ain) (lay S512x512 P.ob) (lay S512x1024 P.x) (lay S2048x512 fun c k => P.wg k c) (lay S1024x512 fun c k => P.wc k c) (lay S1024x512 fun c k => P.wx k c) (lay S1024x1024 P.wo) x9 x10 = lay S512x1024 (unit P) := by
  unfold k0_pay15
  rw [View.ld_unit_lit (Val := Elt Ideal) _ _ (by decide), View.ld_unit_lit (Val := Elt Ideal) _ _ (by decide)]
  exact pay9 P
theorem body16 : k0_pay16 (F := Ideal) (lay S512x512 P.y) (lay S512x3072 P.gates) (lay S512x512 P.ain) (lay S512x512 P.ob) (lay S512x1024 P.x) (lay S2048x512 fun c k => P.wg k c) (lay S1024x512 fun c k => P.wc k c) (lay S1024x512 fun c k => P.wx k c) (lay S1024x1024 P.wo) x9 x10 = lay S512x3072 P.gates := by
  unfold k0_pay16
  rw [View.ld_unit_lit (Val := Elt Ideal) _ _ (by decide)]
  rfl
theorem body17 : k0_pay17 (F := Ideal) (lay S512x512 P.y) (lay S512x3072 P.gates) (lay S512x512 P.ain) (lay S512x512 P.ob) (lay S512x1024 P.x) (lay S2048x512 fun c k => P.wg k c) (lay S1024x512 fun c k => P.wc k c) (lay S1024x512 fun c k => P.wx k c) (lay S1024x1024 P.wo) x9 x10 = lay S512x1024 P.gates := by
  unfold k0_pay17
  rw [View.ld_unit_lit (Val := Elt Ideal) _ _ (by decide)]
  exact pay12 P

/-- One grid point's block of the gated sum. -/
theorem block12 : out0_12 (F := Ideal) (lay S512x512 P.y) (lay S512x3072 P.gates) (lay S512x512 P.ain) (lay S512x512 P.ob) (lay S512x1024 P.x) (lay S2048x512 fun c k => P.wg k c) (lay S1024x512 fun c k => P.wc k c) (lay S1024x512 fun c k => P.wx k c) (lay S1024x1024 P.wo) x9 x10 = lay S512x1024 (merged P) := by
  unfold out0_12
  rw [View.canon_cons_unit_lit (Val := Elt Ideal) _ _ _ (by decide), body13, body14, body15, body16, body17]
  exact pay1 P

/-- One grid point's block of the normalized residual sum. -/
theorem block13 : out0_13 (F := Ideal) (lay S512x512 P.y) (lay S512x3072 P.gates) (lay S512x512 P.ain) (lay S512x512 P.ob) (lay S512x1024 P.x) (lay S2048x512 fun c k => P.wg k c) (lay S1024x512 fun c k => P.wc k c) (lay S1024x512 fun c k => P.wx k c) (lay S1024x1024 P.wo) x9 x10 = lay S512x1024 (norm P) := by
  unfold out0_13
  rw [View.canon_cons_unit_lit (Val := Elt Ideal) _ _ _ (by decide), body13, body14, body15, body16, body17, View.ld_unit_lit (Val := Elt Ideal) _ _ (by decide), View.ld_unit_lit (Val := Elt Ideal) _ _ (by decide)]
  exact pay5 P

/-- One grid point's block of the reciprocal deviation. -/
theorem block14 : out0_14 (F := Ideal) (lay S512x512 P.y) (lay S512x3072 P.gates) (lay S512x512 P.ain) (lay S512x512 P.ob) (lay S512x1024 P.x) (lay S2048x512 fun c k => P.wg k c) (lay S1024x512 fun c k => P.wc k c) (lay S1024x512 fun c k => P.wx k c) (lay S1024x1024 P.wo) x9 x10 = lay S512x1 (fun r _ => rstd P r) := by
  unfold out0_14
  rw [View.canon_cons_unit_lit (Val := Elt Ideal) _ _ _ (by decide), body13, body14, body15, body16, body17, View.ld_unit_lit (Val := Elt Ideal) _ _ (by decide), View.ld_unit_lit (Val := Elt Ideal) _ _ (by decide)]
  exact pay4 P

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index11 : ∀ t : Fin grid0.N, win0_11.index t 0 = 0 ∧ win0_11.index t 1 = t.val := by decide +kernel
theorem index12 : ∀ t : Fin grid0.N, win0_12.index t 0 = t.val ∧ win0_12.index t 1 = 0 := by decide +kernel
theorem index13 : ∀ t : Fin grid0.N, win0_13.index t 0 = t.val ∧ win0_13.index t 1 = 0 := by decide +kernel
theorem index14 : ∀ t : Fin grid0.N, win0_14.index t 0 = t.val ∧ win0_14.index t 1 = 0 := by decide +kernel

/-- The program's arguments on a device are these tables. -/
structure Given (m : (ℓ : Loc nD τ sig) → Buf (Elt Ideal) ℓ) (c : Dev nD) (P : Args) : Prop where
  h0 : m ((c : Thread nD τ).loc main_arg0) = lay S8192x512 P.y
  h1 : m ((c : Thread nD τ).loc main_arg1) = lay S8192x3072 P.gates
  h2 : m ((c : Thread nD τ).loc main_arg2) = lay S8192x512 P.ain
  h3 : m ((c : Thread nD τ).loc main_arg3) = lay S8192x512 P.ob
  h4 : m ((c : Thread nD τ).loc main_arg4) = lay S8192x1024 P.x
  h5 : m ((c : Thread nD τ).loc main_arg5) = lay S512x2048 P.wg
  h6 : m ((c : Thread nD τ).loc main_arg6) = lay S512x1024 P.wc
  h7 : m ((c : Thread nD τ).loc main_arg7) = lay S512x1024 P.wx
  h8 : m ((c : Thread nD τ).loc main_arg8) = lay S1024x1024 P.wo

variable {m : (ℓ : Loc nD τ sig) → Buf (Elt Ideal) ℓ} {c : Dev nD} {P : Args}

theorem Given.v1 (h : Given m c P) : V m c main_v1 = lay S2048x512 fun c k => P.wg k c := by
  have e : V m c main_v1 = truncf (F := Ideal) (φ := .f32) .bf16 (transpose S2048x512 [1, 0] (m ((c : Thread nD τ).loc main_arg5)) transposes_S512x2048_S2048x512_1_0) bitsLt_bf16_f32 := by
    unfold_abbrev_sides
    after_results
  rw [e, h.h5]
  exact transpose_lay (m := 512) (n := 2048) P.wg _

theorem Given.v3 (h : Given m c P) : V m c main_v3 = lay S1024x512 fun c k => P.wc k c := by
  have e : V m c main_v3 = truncf (F := Ideal) (φ := .f32) .bf16 (transpose S1024x512 [1, 0] (m ((c : Thread nD τ).loc main_arg6)) transposes_S512x1024_S1024x512_1_0) bitsLt_bf16_f32 := by
    unfold_abbrev_sides
    after_results
  rw [e, h.h6]
  exact transpose_lay (m := 512) (n := 1024) P.wc _

theorem Given.v5 (h : Given m c P) : V m c main_v5 = lay S1024x512 fun c k => P.wx k c := by
  have e : V m c main_v5 = truncf (F := Ideal) (φ := .f32) .bf16 (transpose S1024x512 [1, 0] (m ((c : Thread nD τ).loc main_arg7)) transposes_S512x1024_S1024x512_1_0) bitsLt_bf16_f32 := by
    unfold_abbrev_sides
    after_results
  rw [e, h.h7]
  exact transpose_lay (m := 512) (n := 1024) P.wx _

theorem Given.v6 (h : Given m c P) : V m c main_v6 = lay S1024x1024 P.wo := by
  have e : V m c main_v6 = truncf (F := Ideal) (φ := .f32) .bf16 (m ((c : Thread nD τ).loc main_arg8)) bitsLt_bf16_f32 := by
    unfold_abbrev_sides
    after_results
  rw [e, h.h8]
  rfl

theorem Given.in0 (h : Given m c P) (t : Fin cfg0.N) : iblk m c 0 t = lay S512x512 (P.from (512 * t.val)).y := by
  funext y
  have e : iblk m c 0 t y = m ((c : Thread nD τ).loc main_arg0) (((cfg0.win 0).blk t).view.emb y) := congrFun (V_main_arg0 m c) _
  rw [e, h.h0]
  refine congrArg₂ P.y ?_ ?_
  · show (((cfg0.win 0).blk t).view.emb y 0).val = 512 * t.val + (y 0).val
    blk_simp [index0 t]
    try omega
  · show (((cfg0.win 0).blk t).view.emb y 1).val = (y 1).val
    blk_simp [index0 t]
    try omega

theorem Given.in1 (h : Given m c P) (t : Fin cfg0.N) : iblk m c 1 t = lay S512x3072 (P.from (512 * t.val)).gates := by
  funext y
  have e : iblk m c 1 t y = m ((c : Thread nD τ).loc main_arg1) (((cfg0.win 1).blk t).view.emb y) := congrFun (V_main_arg1 m c) _
  rw [e, h.h1]
  refine congrArg₂ P.gates ?_ ?_
  · show (((cfg0.win 1).blk t).view.emb y 0).val = 512 * t.val + (y 0).val
    blk_simp [index1 t]
    try omega
  · show (((cfg0.win 1).blk t).view.emb y 1).val = (y 1).val
    blk_simp [index1 t]
    try omega

theorem Given.in2 (h : Given m c P) (t : Fin cfg0.N) : iblk m c 2 t = lay S512x512 (P.from (512 * t.val)).ain := by
  funext y
  have e : iblk m c 2 t y = m ((c : Thread nD τ).loc main_arg2) (((cfg0.win 2).blk t).view.emb y) := congrFun (V_main_arg2 m c) _
  rw [e, h.h2]
  refine congrArg₂ P.ain ?_ ?_
  · show (((cfg0.win 2).blk t).view.emb y 0).val = 512 * t.val + (y 0).val
    blk_simp [index2 t]
    try omega
  · show (((cfg0.win 2).blk t).view.emb y 1).val = (y 1).val
    blk_simp [index2 t]
    try omega

theorem Given.in3 (h : Given m c P) (t : Fin cfg0.N) : iblk m c 3 t = lay S512x512 (P.from (512 * t.val)).ob := by
  funext y
  have e : iblk m c 3 t y = m ((c : Thread nD τ).loc main_arg3) (((cfg0.win 3).blk t).view.emb y) := congrFun (V_main_arg3 m c) _
  rw [e, h.h3]
  refine congrArg₂ P.ob ?_ ?_
  · show (((cfg0.win 3).blk t).view.emb y 0).val = 512 * t.val + (y 0).val
    blk_simp [index3 t]
    try omega
  · show (((cfg0.win 3).blk t).view.emb y 1).val = (y 1).val
    blk_simp [index3 t]
    try omega

theorem Given.in4 (h : Given m c P) (t : Fin cfg0.N) : iblk m c 4 t = lay S512x1024 (P.from (512 * t.val)).x := by
  funext y
  have e : iblk m c 4 t y = m ((c : Thread nD τ).loc main_arg4) (((cfg0.win 4).blk t).view.emb y) := congrFun (V_main_arg4 m c) _
  rw [e, h.h4]
  refine congrArg₂ P.x ?_ ?_
  · show (((cfg0.win 4).blk t).view.emb y 0).val = 512 * t.val + (y 0).val
    blk_simp [index4 t]
    try omega
  · show (((cfg0.win 4).blk t).view.emb y 1).val = (y 1).val
    blk_simp [index4 t]
    try omega

theorem Given.in5 (h : Given m c P) (t : Fin cfg0.N) : iblk m c 5 t = lay S2048x512 (fun c k => P.wg k c) := by
  funext y
  have e : iblk m c 5 t y = V m c main_v1 (((cfg0.win 5).blk t).view.emb y) := rfl
  rw [e, h.v1]
  refine congrArg₂ (fun c k => P.wg k c) ?_ ?_
  · show (((cfg0.win 5).blk t).view.emb y 0).val = (y 0).val
    blk_simp [index5 t]
    try omega
  · show (((cfg0.win 5).blk t).view.emb y 1).val = (y 1).val
    blk_simp [index5 t]
    try omega

theorem Given.in6 (h : Given m c P) (t : Fin cfg0.N) : iblk m c 6 t = lay S1024x512 (fun c k => P.wc k c) := by
  funext y
  have e : iblk m c 6 t y = V m c main_v3 (((cfg0.win 6).blk t).view.emb y) := rfl
  rw [e, h.v3]
  refine congrArg₂ (fun c k => P.wc k c) ?_ ?_
  · show (((cfg0.win 6).blk t).view.emb y 0).val = (y 0).val
    blk_simp [index6 t]
    try omega
  · show (((cfg0.win 6).blk t).view.emb y 1).val = (y 1).val
    blk_simp [index6 t]
    try omega

theorem Given.in7 (h : Given m c P) (t : Fin cfg0.N) : iblk m c 7 t = lay S1024x512 (fun c k => P.wx k c) := by
  funext y
  have e : iblk m c 7 t y = V m c main_v5 (((cfg0.win 7).blk t).view.emb y) := rfl
  rw [e, h.v5]
  refine congrArg₂ (fun c k => P.wx k c) ?_ ?_
  · show (((cfg0.win 7).blk t).view.emb y 0).val = (y 0).val
    blk_simp [index7 t]
    try omega
  · show (((cfg0.win 7).blk t).view.emb y 1).val = (y 1).val
    blk_simp [index7 t]
    try omega

theorem Given.in8 (h : Given m c P) (t : Fin cfg0.N) : iblk m c 8 t = lay S1024x1024 P.wo := by
  funext y
  have e : iblk m c 8 t y = V m c main_v6 (((cfg0.win 8).blk t).view.emb y) := rfl
  rw [e, h.v6]
  refine congrArg₂ P.wo ?_ ?_
  · show (((cfg0.win 8).blk t).view.emb y 0).val = (y 0).val
    blk_simp [index8 t]
    try omega
  · show (((cfg0.win 8).blk t).view.emb y 1).val = (y 1).val
    blk_simp [index8 t]
    try omega

/-- The activated state-space output, its columns the positions. -/
theorem out11 (h : Given m c P) : (dats m 0 c).arrAt 11 cfg0.N = lay S512x8192 (fun k r => act P r k) := by
  refine (dats m 0 c).arrAt_eq_of_covers 11 (lay S512x8192 (fun k r => act P r k)) (by decide +kernel) fun t _ y => ?_
  refine (congrFun (after0_11 m c t) _).trans ?_
  rw [h.in0, h.in1, h.in2, h.in3, h.in4, h.in5, h.in6, h.in7, h.in8]
  refine (congrFun (block11 (P.from (512 * t.val)) _ _) _).trans ?_
  refine congrArg₂ (fun k r => act P r k) ?_ ?_
  · show (y 0).val = (((cfg0.win 11).blk t).view.emb y 0).val
    blk_simp [index11 t]
    try omega
  · show 512 * t.val + (y 1).val = (((cfg0.win 11).blk t).view.emb y 1).val
    blk_simp [index11 t]
    try omega

/-- The gated sum. -/
theorem out12 (h : Given m c P) : (dats m 0 c).arrAt 12 cfg0.N = lay S8192x1024 (merged P) := by
  refine (dats m 0 c).arrAt_eq_of_covers 12 (lay S8192x1024 (merged P)) (by decide +kernel) fun t _ y => ?_
  refine (congrFun (after0_12 m c t) _).trans ?_
  rw [h.in0, h.in1, h.in2, h.in3, h.in4, h.in5, h.in6, h.in7, h.in8]
  refine (congrFun (block12 (P.from (512 * t.val)) _ _) _).trans ?_
  refine congrArg₂ (merged P) ?_ ?_
  · show 512 * t.val + (y 0).val = (((cfg0.win 12).blk t).view.emb y 0).val
    blk_simp [index12 t]
    try omega
  · show (y 1).val = (((cfg0.win 12).blk t).view.emb y 1).val
    blk_simp [index12 t]
    try omega

/-- The normalized residual sum. -/
theorem out13 (h : Given m c P) : (dats m 0 c).arrAt 13 cfg0.N = lay S8192x1024 (norm P) := by
  refine (dats m 0 c).arrAt_eq_of_covers 13 (lay S8192x1024 (norm P)) (by decide +kernel) fun t _ y => ?_
  refine (congrFun (after0_13 m c t) _).trans ?_
  rw [h.in0, h.in1, h.in2, h.in3, h.in4, h.in5, h.in6, h.in7, h.in8]
  refine (congrFun (block13 (P.from (512 * t.val)) _ _) _).trans ?_
  refine congrArg₂ (norm P) ?_ ?_
  · show 512 * t.val + (y 0).val = (((cfg0.win 13).blk t).view.emb y 0).val
    blk_simp [index13 t]
    try omega
  · show (y 1).val = (((cfg0.win 13).blk t).view.emb y 1).val
    blk_simp [index13 t]
    try omega

/-- The reciprocal deviation. -/
theorem out14 (h : Given m c P) : (dats m 0 c).arrAt 14 cfg0.N = lay S8192x1 (fun r _ => rstd P r) := by
  refine (dats m 0 c).arrAt_eq_of_covers 14 (lay S8192x1 (fun r _ => rstd P r)) (by decide +kernel) fun t _ y => ?_
  refine (congrFun (after0_14 m c t) _).trans ?_
  rw [h.in0, h.in1, h.in2, h.in3, h.in4, h.in5, h.in6, h.in7, h.in8]
  refine (congrFun (block14 (P.from (512 * t.val)) _ _) _).trans ?_
  refine congrArg (rstd P) ?_
  show 512 * t.val + (y 0).val = (((cfg0.win 14).blk t).view.emb y 0).val
  blk_simp [index14 t]
  try omega

end Kernel

section Reference
open Cert.Reference4Ideal Cert.Reference4Ideal.Gen Cert.Reference4Ideal.Read

theorem one_word : Ideal.ofBits .f32 0x3F800000#32 = 1 := by
  simp [Ideal.ofBits, Ideal.ieee, -EReal.coe_mul]; try norm_num

/-- The activation, by the factors' order of the reference. -/
theorem gelu_eq (x : EReal) :
    x * (Ideal.ofBits .f32 0x3F000000#32 * (Ideal.ofBits .f32 0x3F800000#32 + Ideal.tanh (Ideal.ofBits .f32 0x3F4C422A#32 * (x + Ideal.ofBits .f32 0x3D372713#32 * (x * x * x))))) = gelu x := by
  unfold gelu
  rw [← mul_assoc, mul_comm x (Ideal.ofBits .f32 0x3F000000#32), ← mul_assoc, ← mul_assoc]

theorem ref_act : val_main_v16 (F := Ideal) (lay S8192x512 P.y) = lay S8192x512 (act P) := by
  funext i
  exact gelu_eq (P.y (rd i 0) (rd i 1))

theorem ref_glu : val_main_v17 (F := Ideal) (lay S8192x512 P.y) (lay S512x2048 P.wg) = lay S8192x2048 (glu P) := by
  unfold val_main_v17
  rw [ref_act]
  exact plain_lay (act P) P.wg 8192 512 2048 none

theorem ref_unit : val_main_v26 (F := Ideal) (lay S8192x512 P.y) (lay S512x2048 P.wg) = lay S8192x1024 (unit P) := by
  unfold val_main_v26 val_main_v25 val_main_v24 val_main_cst_4 val_main_v23 val_main_v22 val_main_cst_3 val_main_v21 val_main_v20 val_main_v19 val_main_v18
  rw [ref_glu]
  funext i
  show glu P (0 + rd i 0) (0 + rd i 1) * Ideal.div (Ideal.ofBits .f32 0x3F800000#32) (Ideal.ofBits .f32 0x3F800000#32 + Ideal.exp (-glu P (0 + rd i 0) (1024 + rd i 1))) = _
  rw [Nat.zero_add, Nat.zero_add, one_word]
  rfl

theorem ref_conv : val_main_v28 (F := Ideal) (lay S8192x512 P.ain) (lay S512x1024 P.wc) = lay S8192x1024 (conv P) :=
  plain_lay P.ain P.wc 8192 512 1024 (φ₁ := .f32) (φ₂ := .f32) none

theorem ref_attn : val_main_v33 (F := Ideal) (lay S8192x512 P.ob) (lay S512x1024 P.wx) = lay S8192x1024 (attn P) :=
  plain_lay P.ob P.wx 8192 512 1024 (φ₁ := .f32) (φ₂ := .f32) none

theorem ref_merged : val_main_v35 (F := Ideal) (lay S8192x512 P.y) (lay S8192x3072 P.gates) (lay S8192x512 P.ain) (lay S8192x512 P.ob) (lay S512x2048 P.wg) (lay S512x1024 P.wc) (lay S512x1024 P.wx)
    = lay S8192x1024 (merged P) := by
  unfold val_main_v35 val_main_v34 val_main_v31 val_main_v30 val_main_v29
  rw [ref_unit, ref_conv, ref_attn]
  funext i
  show P.gates (0 + rd i 0) (0 + rd i 1) * conv P (rd i 0) (rd i 1) + P.gates (0 + rd i 0) (1024 + rd i 1) * unit P (rd i 0) (rd i 1) + P.gates (0 + rd i 0) (2048 + rd i 1) * attn P (rd i 0) (rd i 1) = _
  rw [Nat.zero_add, Nat.zero_add]
  rfl

/-- The reference's values from the residual sum on read all nine tables. -/
abbrev At {α : Sort*} (k : (⟨S8192x512, .f32⟩ : BufTy).Contents (Elt Ideal) → (⟨S8192x3072, .bf16⟩ : BufTy).Contents (Elt Ideal) → (⟨S8192x512, .bf16⟩ : BufTy).Contents (Elt Ideal) → (⟨S8192x512, .bf16⟩ : BufTy).Contents (Elt Ideal) → (⟨S8192x1024, .f32⟩ : BufTy).Contents (Elt Ideal) → (⟨S512x2048, .f32⟩ : BufTy).Contents (Elt Ideal) → (⟨S512x1024, .f32⟩ : BufTy).Contents (Elt Ideal) → (⟨S512x1024, .f32⟩ : BufTy).Contents (Elt Ideal) → (⟨S1024x1024, .f32⟩ : BufTy).Contents (Elt Ideal) → α) : α :=
  k (lay S8192x512 P.y) (lay S8192x3072 P.gates) (lay S8192x512 P.ain) (lay S8192x512 P.ob) (lay S8192x1024 P.x) (lay S512x2048 P.wg) (lay S512x1024 P.wc) (lay S512x1024 P.wx) (lay S1024x1024 P.wo)

theorem ref_res : At P (val_main_v39 (F := Ideal)) = lay S8192x1024 (res P) := by
  unfold At val_main_v39 val_main_v38
  rw [ref_merged]
  rw [show Host.dotGeneral (F := Ideal) (φ₁ := .f32) (φ₂ := .f32) dot_S8192x1024_S1024x1024_S8192x1024_1_0_0_1_n_n none (lay S8192x1024 (merged P)) (lay S1024x1024 P.wo) = lay S8192x1024 (fun r c => ∑ k ∈ Finset.range 1024, merged P r k * P.wo k c) from
    plain_lay (merged P) P.wo 8192 1024 1024 none]
  rfl

theorem rows : S8192x1024.Reduces [1] S8192 := by decide

theorem total (f : ℕ → ℕ → EReal) :
    broadcastInDim S8192x1 ![0] Facts₀.bcast_S8192_S8192x1_0 (Host.reduceAdd (F := Ideal) (φ := .f32) (lay S8192x1024 f) (constant S_ .f32 0x00000000#32) Facts₀.reducesTo_S8192x1024_S8192_d1 Facts₀.h_S_)
      = lay S8192x1 (fun r _ => ∑ k ∈ Finset.range 1024, f r k) := by
  rw [show Host.reduceAdd (F := Ideal) (φ := .f32) (lay S8192x1024 f) (constant S_ .f32 0x00000000#32) Facts₀.reducesTo_S8192x1024_S8192_d1 Facts₀.h_S_
      = lay S8192 (fun r _ => ∑ k ∈ Finset.range 1024, f r k) from host_sum_rows_lay (m := 8192) (n := 1024) f (fun _ _ => Ideal.ofBits .f32 0x00000000#32) zero_word _ rows _]
  exact bcast_vec_lay (m := 8192) (n := 1) (fun r _ => ∑ k ∈ Finset.range 1024, f r k) (by decide) _

theorem widen (f : ℕ → ℕ → EReal) : broadcastInDim S8192x1024 ![0, 1] Facts₀.bcast_S8192x1_S8192x1024_0_1 (lay S8192x1 f) = lay S8192x1024 (fun r _ => f r 0) :=
  bcast_col_lay (m := 8192) (n := 1024) f (by decide) _

theorem ref_mean : At P (val_main_v43 (F := Ideal)) = lay S8192x1 (fun r _ => mean P r) := by
  have e := ref_res P
  unfold At at e ⊢
  unfold val_main_v43 val_main_v41 val_main_v40
  rw [e]
  exact congrArg (fun X => Host.divf (F := Ideal) (φ := .f32) X (val_main_v42 (F := Ideal))) (total (res P))

theorem ref_dev : At P (val_main_v45 (F := Ideal)) = lay S8192x1024 (dev P) := by
  have e := ref_res P
  have e' := ref_mean P
  unfold At at e e' ⊢
  unfold val_main_v45 val_main_v44
  rw [e, e', widen]
  rfl

theorem ref_rstd : At P (val_main_v53 (F := Ideal)) = lay S8192x1 (fun r _ => rstd P r) := by
  have e := ref_dev P
  unfold At at e ⊢
  unfold val_main_v53 val_main_v52 val_main_v50 val_main_v48 val_main_v47 val_main_v46
  rw [e]
  exact congrArg (fun X => Host.rsqrt (F := Ideal) (φ := .f32) (addf (F := Ideal) (φ := .f32) (Host.divf (F := Ideal) (φ := .f32) X (val_main_v49 (F := Ideal))) (val_main_v51 (F := Ideal)))) (total fun r k => dev P r k * dev P r k)

theorem ref_norm : At P (val_main_v60 (F := Ideal)) = lay S8192x1024 (norm P) := by
  have e := ref_res P
  have e' := ref_mean P
  have e'' := ref_rstd P
  unfold At at e e' e'' ⊢
  unfold val_main_v60 val_main_v59 val_main_v58 val_main_v57
  rw [e, e', e'', widen, widen]
  rfl

theorem ref_actT : val_main_v55 (F := Ideal) (lay S8192x512 P.y) = lay S512x8192 (fun k r => act P r k) := by
  unfold val_main_v55 val_main_v54
  rw [ref_act]
  exact transpose_lay (m := 8192) (n := 512) (act P) _

end Reference

/-- Every launch's arguments are laid out of tables. -/
theorem exists_given (m : (ℓ : Loc Cert.Kernel4Ideal.nD Cert.Kernel4Ideal.τ Cert.Kernel4Ideal.sig) → Buf (Elt Ideal) ℓ) (c : Dev Cert.Kernel4Ideal.nD) :
    ∃ P : Args, Given m c P := by
  obtain ⟨f0, h0⟩ := exists_lay (m := 8192) (n := 512) (m ((c.tc : Thread Cert.Kernel4Ideal.nD Cert.Kernel4Ideal.τ).loc Cert.Kernel4Ideal.main_arg0))
  obtain ⟨f1, h1⟩ := exists_lay (m := 8192) (n := 3072) (m ((c.tc : Thread Cert.Kernel4Ideal.nD Cert.Kernel4Ideal.τ).loc Cert.Kernel4Ideal.main_arg1))
  obtain ⟨f2, h2⟩ := exists_lay (m := 8192) (n := 512) (m ((c.tc : Thread Cert.Kernel4Ideal.nD Cert.Kernel4Ideal.τ).loc Cert.Kernel4Ideal.main_arg2))
  obtain ⟨f3, h3⟩ := exists_lay (m := 8192) (n := 512) (m ((c.tc : Thread Cert.Kernel4Ideal.nD Cert.Kernel4Ideal.τ).loc Cert.Kernel4Ideal.main_arg3))
  obtain ⟨f4, h4⟩ := exists_lay (m := 8192) (n := 1024) (m ((c.tc : Thread Cert.Kernel4Ideal.nD Cert.Kernel4Ideal.τ).loc Cert.Kernel4Ideal.main_arg4))
  obtain ⟨f5, h5⟩ := exists_lay (m := 512) (n := 2048) (m ((c.tc : Thread Cert.Kernel4Ideal.nD Cert.Kernel4Ideal.τ).loc Cert.Kernel4Ideal.main_arg5))
  obtain ⟨f6, h6⟩ := exists_lay (m := 512) (n := 1024) (m ((c.tc : Thread Cert.Kernel4Ideal.nD Cert.Kernel4Ideal.τ).loc Cert.Kernel4Ideal.main_arg6))
  obtain ⟨f7, h7⟩ := exists_lay (m := 512) (n := 1024) (m ((c.tc : Thread Cert.Kernel4Ideal.nD Cert.Kernel4Ideal.τ).loc Cert.Kernel4Ideal.main_arg7))
  obtain ⟨f8, h8⟩ := exists_lay (m := 1024) (n := 1024) (m ((c.tc : Thread Cert.Kernel4Ideal.nD Cert.Kernel4Ideal.τ).loc Cert.Kernel4Ideal.main_arg8))
  exact ⟨⟨f0, f1, f2, f3, f4, f5, f6, f7, f8⟩, ⟨h0, h1, h2, h3, h4, h5, h6, h7, h8⟩⟩

theorem equal : Cert.algebraic_Kernel4Ideal_Reference4Ideal := by
  intro m g m' g' _ hargs
  choose P hP using exists_given m
  refine ⟨fun c => lay Cert.Kernel4Ideal.S512x8192 (fun k r => act (P c) r k), fun c => lay Cert.Kernel4Ideal.S8192x1024 (merged (P c)),
    fun c => lay Cert.Kernel4Ideal.S8192x1024 (norm (P c)), fun c => lay Cert.Kernel4Ideal.S8192x1 (fun r _ => rstd (P c) r), ?_, ?_⟩
  · refine (θ_run _ _ _).mono (fun r h c => ?_) (Cert.Kernel4Ideal.Value.run_blocks m g)
    obtain ⟨k0, k1, k2, k3, ka⟩ := h c
    exact ⟨k0.trans (out11 (hP c)), k1.trans (out12 (hP c)), k2.trans (out13 (hP c)), k3.trans (out14 (hP c)), ka⟩
  · refine (θ_run _ _ _).mono (fun r h c => ?_) (Cert.Reference4Ideal.Value.run m' g')
    obtain ⟨k0, k1, k2, k3, ka⟩ := h c
    obtain ⟨b0, b1, b2, b3, b4, b5, b6, b7, b8, _⟩ := hargs c
    have a0 := b0.trans (hP c).h0
    have a1 := b1.trans (hP c).h1
    have a2 := b2.trans (hP c).h2
    have a3 := b3.trans (hP c).h3
    have a4 := b4.trans (hP c).h4
    have a5 := b5.trans (hP c).h5
    have a6 := b6.trans (hP c).h6
    have a7 := b7.trans (hP c).h7
    have a8 := b8.trans (hP c).h8
    have e2 := ref_norm (P c)
    have e3 := ref_rstd (P c)
    unfold At at e2 e3
    refine ⟨k0.trans ?_, k1.trans ?_, k2.trans ?_, k3.trans ?_, ka⟩
    · rw [Cert.Reference4Ideal.Read.val_main_v55_eq, a0]
      exact ref_actT (P c)
    · rw [Cert.Reference4Ideal.Read.val_main_v56_eq, a0, a1, a2, a3, a5, a6, a7]
      exact ref_merged (P c)
    · rw [Cert.Reference4Ideal.Read.val_main_v60_eq, a0, a1, a2, a3, a4, a5, a6, a7, a8]
      exact e2
    · rw [Cert.Reference4Ideal.Read.val_main_v53_eq, a0, a1, a2, a3, a4, a5, a6, a7, a8]
      exact e3

end Cert.Merge

end
-- ==== Proof.Adam.lean ====
/-
  The optimiser on one weight: the four devices' parts of its gradient added up, and the step on that sum, as tables of
  extended reals. Kernel and reference use the same operations in the same order, but for the sum of the parts.
-/
module

public import proofs.«01_k».proof.Proof.Merge

@[expose] public section

noncomputable section

namespace Cert.Adam

open Idealize.ShloMosaic Idealize.ShloMosaic.TcCoe Idealize.SL.Sem Cert.Lift Cert.InProj Cert.Merge

/-- The array of shape `S` holding `p j r c` at part `j`, row `r` and column `c`. -/
def lay3 (S : Shape) (p : ℕ → ℕ → ℕ → EReal) : S.Idx → EReal := fun i => p (rd i 0) (rd i 1) (rd i 2)

theorem lay3_apply (S : Shape) (p : ℕ → ℕ → ℕ → EReal) (i : S.Idx) : lay3 S p i = p (rd i 0) (rd i 1) (rd i 2) := rfl

/-- Every stack of four parts is laid out of a table. -/
theorem exists_lay3 {m n : ℕ} (x : (⟨3, ![4, m, n]⟩ : Shape).Idx → EReal) :
    ∃ p : ℕ → ℕ → ℕ → EReal, x = lay3 ⟨3, ![4, m, n]⟩ p := by
  classical
  refine ⟨fun j r c => if h : j < 4 ∧ r < m ∧ c < n then x (ValueIdx.ix3 ⟨j, h.1⟩ ⟨r, h.2.1⟩ ⟨c, h.2.2⟩) else 0, funext fun i => ?_⟩
  have h : rd i 0 < 4 ∧ rd i 1 < m ∧ rd i 2 < n := ⟨(i 0).isLt, (i 1).isLt, (i 2).isLt⟩
  rw [lay3_apply, dif_pos h]
  exact congrArg x (ValueIdx.eq_ix3 i)

/-- The gradient: the parts added up. -/
def sum4 (p : ℕ → ℕ → ℕ → EReal) (r c : ℕ) : EReal := p 0 r c + p 1 r c + p 2 r c + p 3 r c

/-- The new first moment of a gradient `g` and a moment `m`. -/
def mom (g m : EReal) : EReal := Ideal.ofBits .f32 0x3F666666#32 * m + Ideal.ofBits .f32 0x3DCCCCCD#32 * g

/-- The new second moment of a gradient `g` and a moment `v`. -/
def vel (g v : EReal) : EReal := Ideal.ofBits .f32 0x3F7FBE77#32 * v + Ideal.ofBits .f32 0x3A83126F#32 * (g * g)

/-- The step of a weight `w`. -/
def step (w g m v : EReal) : EReal :=
  Ideal.ofBits .f32 0xBA83126F#32 *
    (Ideal.div (Ideal.div (mom g m) (Ideal.ofBits .f32 0x3F26BD02#32))
        (Ideal.sqrt (Ideal.div (vel g v) (Ideal.ofBits .f32 0x3C231ACC#32)) + Ideal.ofBits .f32 0x322BCC77#32)
      + Ideal.ofBits .f32 0x3C23D70A#32 * w)

variable (p : ℕ → ℕ → ℕ → EReal)

/-- One part, loaded out of the stack. -/
theorem ld_part {m n o : ℕ} (inb : ∀ a, (![o, 0, 0] : Fin 3 → ℕ) a + (![1, m, n] : Fin 3 → ℕ) a ≤ (⟨3, ![4, m, n]⟩ : Shape).size a) :
    View.ld (Val := Elt Ideal) (e' := .bf16) (lay3 ⟨3, ![4, m, n]⟩ p) (Rect.unit (s := ⟨3, ![4, m, n]⟩) ![o, 0, 0] ![1, m, n] inb)
      = lay3 ⟨3, ![1, m, n]⟩ (fun _ r c => p o r c) := by
  funext j
  have h0 : (j 0).val < 1 := (j 0).isLt
  show p (o + 1 * (j 0).val) (0 + 1 * (j 1).val) (0 + 1 * (j 2).val) = p o (j 1).val (j 2).val
  rw [show o + 1 * (j 0).val = o by omega, show 0 + 1 * (j 1).val = (j 1).val by omega, show 0 + 1 * (j 2).val = (j 2).val by omega]

/-- A part without its leading axis. -/
theorem shapeCast_part {m n : ℕ} (h : (⟨3, ![1, m, n]⟩ : Shape).ShapeCasts ⟨2, ![m, n]⟩) (q : ℕ → ℕ → EReal) :
    shapeCast ⟨2, ![m, n]⟩ (lay3 ⟨3, ![1, m, n]⟩ fun _ => q) h = lay ⟨2, ![m, n]⟩ q := by
  funext i
  rw [shapeCast_apply _ h i (fun a => match a with | ⟨0, _⟩ => (0 : Fin 1) | ⟨1, _⟩ => i 0 | ⟨2, _⟩ => i 1) (by
    rewrite [Shape.rowMajor_val_three, Shape.rowMajor_val_two]
    show (0 * m + (i 0).val) * n + (i 1).val = (i 0).val * n + (i 1).val
    rw [Nat.zero_mul, Nat.zero_add])]
  rfl

/-- The host's sum over the leading axis. -/
theorem host_sum4 {m n : ℕ} (h' : (⟨3, ![4, m, n]⟩ : Shape).ReducesTo [0] ⟨2, ![m, n]⟩)
    (h : (⟨3, ![4, m, n]⟩ : Shape).Reduces [0] ⟨2, ![m, n]⟩) (hu : 0 < (⟨0, ![]⟩ : Shape).numel) :
    Host.reduceAdd (F := Ideal) (φ := .f32) (lay3 ⟨3, ![4, m, n]⟩ p) (constant (F := Ideal) ⟨0, ![]⟩ .f32 0x00000000#32) h' hu
      = lay ⟨2, ![m, n]⟩ (sum4 p) := by
  funext j
  simp only [Host.reduceAdd, Ideal.hostReduceAdd_def]
  rw [Ideal.hostReduceAdd_single h' h, constant_lay, lay_apply, zero_word, zero_add]
  exact Fin.sum_univ_four (fun k : Fin 4 => p k.val (j 0).val (j 1).val)

end Cert.Adam

end
-- ==== Proof.AdamUp.lean ====
/-
  The value claim of the optimiser's call on the up weights: the gradient, the step and the two new moments, from the
  four devices' parts of the gradient. Nothing is asked of the arguments.
-/
module

public import proofs.«01_k».proof.Proof.Adam
public import proofs.«01_k».proof.Proof.Gen.Kernel6Ideal.Value
public import proofs.«01_k».proof.Proof.Gen.Reference6Ideal.Run

@[expose] public section

set_option maxRecDepth 16384

noncomputable section

namespace Cert.AdamUp

open Idealize.ShloMosaic Idealize.ShloMosaic.TcCoe Idealize.SL.Sem Cert.Lift Cert.InProj Cert.Merge Cert.Adam

/-- The gradient. -/
def grad (p : ℕ → ℕ → ℕ → EReal) (r c : ℕ) : EReal := sum4 p r c

section Kernel
open Cert.Kernel6Ideal Cert.Kernel6Ideal.Gen

variable (w x v : ℕ → ℕ → EReal) (p : ℕ → ℕ → ℕ → EReal)

theorem pay2 : k0_pay2 (F := Ideal) (lay3 S1x256x512 fun _ => p 0) (lay3 S1x256x512 fun _ => p 1) (lay3 S1x256x512 fun _ => p 2) (lay3 S1x256x512 fun _ => p 3)
    = lay S256x512 (grad p) := by
  unfold k0_pay2
  rw [show shapeCast S256x512 (lay3 S1x256x512 fun _ => p 0) shapeCasts_S1x256x512_S256x512 = lay S256x512 (p 0) from shapeCast_part _ _,
    show shapeCast S256x512 (lay3 S1x256x512 fun _ => p 1) shapeCasts_S1x256x512_S256x512 = lay S256x512 (p 1) from shapeCast_part _ _,
    show shapeCast S256x512 (lay3 S1x256x512 fun _ => p 2) shapeCasts_S1x256x512_S256x512 = lay S256x512 (p 2) from shapeCast_part _ _,
    show shapeCast S256x512 (lay3 S1x256x512 fun _ => p 3) shapeCasts_S1x256x512_S256x512 = lay S256x512 (p 3) from shapeCast_part _ _]
  rfl

theorem part (o : ℕ) (inb : ∀ a, (![o, 0, 0] : Fin 3 → ℕ) a + S1x256x512.size a ≤ S4x256x512.size a) :
    View.ld (Val := Elt Ideal) (e' := .bf16) (lay3 S4x256x512 p) (Rect.unit (s := S4x256x512) ![o, 0, 0] S1x256x512.size inb) = lay3 S1x256x512 fun _ => p o :=
  ld_part p inb

theorem block4 : out0_4 (F := Ideal) (lay S256x512 w) (lay3 S4x256x512 p) (lay S256x512 x) (lay S256x512 v) = lay S256x512 (grad p) := by
  unfold out0_4
  rw [View.canon_cons_unit_lit (Val := Elt Ideal) _ _ _ (by decide), part, part, part, part]
  exact pay2 p

theorem block6 : out0_6 (F := Ideal) (lay S256x512 w) (lay3 S4x256x512 p) (lay S256x512 x) (lay S256x512 v) = lay S256x512 fun r c => mom (grad p r c) (x r c) := by
  unfold out0_6
  rw [View.canon_cons_unit_lit (Val := Elt Ideal) _ _ _ (by decide), part, part, part, part, View.ld_unit_lit (Val := Elt Ideal) _ _ (by decide)]
  unfold k0_pay3
  rw [pay2]
  rfl

theorem pay6 : k0_pay6 (F := Ideal) (lay S256x512 w) (lay3 S4x256x512 p) (lay S256x512 x) (lay S256x512 v) = lay S256x512 fun r c => vel (grad p r c) (v r c) := by
  unfold k0_pay6
  rw [part, part, part, part, View.ld_unit_lit (Val := Elt Ideal) _ _ (by decide)]
  unfold k0_pay4
  rw [pay2]
  rfl

theorem block7 : out0_7 (F := Ideal) (lay S256x512 w) (lay3 S4x256x512 p) (lay S256x512 x) (lay S256x512 v) = lay S256x512 fun r c => vel (grad p r c) (v r c) := by
  unfold out0_7
  rw [View.canon_cons_unit_lit (Val := Elt Ideal) _ _ _ (by decide)]
  exact pay6 w x v p

theorem block5 : out0_5 (F := Ideal) (lay S256x512 w) (lay3 S4x256x512 p) (lay S256x512 x) (lay S256x512 v)
    = lay S256x512 fun r c => step (w r c) (grad p r c) (x r c) (v r c) := by
  unfold out0_5
  rw [View.canon_cons_unit_lit (Val := Elt Ideal) _ _ _ (by decide), pay6, part, part, part, part, View.ld_unit_lit (Val := Elt Ideal) _ _ (by decide),
    View.ld_unit_lit (Val := Elt Ideal) _ _ (by decide)]
  unfold k0_pay5 k0_pay3
  rw [pay2]
  rfl

theorem index0 : ∀ t : Fin grid0.N, win0_0.index t 0 = t.val ∧ win0_0.index t 1 = 0 := by decide +kernel
theorem index1 : ∀ t : Fin grid0.N, win0_1.index t 0 = 0 ∧ win0_1.index t 1 = t.val ∧ win0_1.index t 2 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel

/-- The program's arguments on a device are these tables. -/
structure Given (m : (ℓ : Loc nD τ sig) → Buf (Elt Ideal) ℓ) (c : Dev nD) (w x v : ℕ → ℕ → EReal) (p : ℕ → ℕ → ℕ → EReal) : Prop where
  h0 : m ((c : Thread nD τ).loc main_arg0) = lay S1024x512 w
  h1 : m ((c : Thread nD τ).loc main_arg1) = lay S1024x512 x
  h2 : m ((c : Thread nD τ).loc main_arg2) = lay S1024x512 v
  h3 : m ((c : Thread nD τ).loc main_arg3) = lay3 S4x1024x512 p

variable {m : (ℓ : Loc nD τ sig) → Buf (Elt Ideal) ℓ} {c : Dev nD} {w x v : ℕ → ℕ → EReal} {p : ℕ → ℕ → ℕ → EReal}

/-- A table from the block of the point `t` on. -/
def at_ (t : ℕ) (f : ℕ → ℕ → EReal) (r k : ℕ) : EReal := f (256 * t + r) k

theorem Given.in0 (h : Given m c w x v p) (t : Fin cfg0.N) : iblk m c 0 t = lay S256x512 (at_ t.val w) := by
  funext y
  have e : iblk m c 0 t y = m ((c : Thread nD τ).loc main_arg0) (((cfg0.win 0).blk t).view.emb y) := congrFun (V_main_arg0 m c) _
  rw [e, h.h0]
  refine congrArg₂ w ?_ ?_
  · show (((cfg0.win 0).blk t).view.emb y 0).val = 256 * t.val + (y 0).val
    blk_simp [index0 t]
    try omega
  · show (((cfg0.win 0).blk t).view.emb y 1).val = (y 1).val
    blk_simp [index0 t]
    try omega

theorem Given.in2 (h : Given m c w x v p) (t : Fin cfg0.N) : iblk m c 2 t = lay S256x512 (at_ t.val x) := by
  funext y
  have e : iblk m c 2 t y = m ((c : Thread nD τ).loc main_arg1) (((cfg0.win 2).blk t).view.emb y) := congrFun (V_main_arg1 m c) _
  rw [e, h.h1]
  refine congrArg₂ x ?_ ?_
  · show (((cfg0.win 2).blk t).view.emb y 0).val = 256 * t.val + (y 0).val
    blk_simp [index2 t]
    try omega
  · show (((cfg0.win 2).blk t).view.emb y 1).val = (y 1).val
    blk_simp [index2 t]
    try omega

theorem Given.in3 (h : Given m c w x v p) (t : Fin cfg0.N) : iblk m c 3 t = lay S256x512 (at_ t.val v) := by
  funext y
  have e : iblk m c 3 t y = m ((c : Thread nD τ).loc main_arg2) (((cfg0.win 3).blk t).view.emb y) := congrFun (V_main_arg2 m c) _
  rw [e, h.h2]
  refine congrArg₂ v ?_ ?_
  · show (((cfg0.win 3).blk t).view.emb y 0).val = 256 * t.val + (y 0).val
    blk_simp [index3 t]
    try omega
  · show (((cfg0.win 3).blk t).view.emb y 1).val = (y 1).val
    blk_simp [index3 t]
    try omega

theorem Given.in1 (h : Given m c w x v p) (t : Fin cfg0.N) : iblk m c 1 t = lay3 S4x256x512 fun j r k => p j (256 * t.val + r) k := by
  funext y
  have e : iblk m c 1 t y = m ((c : Thread nD τ).loc main_arg3) (((cfg0.win 1).blk t).view.emb y) := congrFun (V_main_arg3 m c) _
  rw [e, h.h3]
  have e0 : (((cfg0.win 1).blk t).view.emb y 0).val = (y 0).val := by
    blk_simp [index1 t]
    try omega
  have e1 : (((cfg0.win 1).blk t).view.emb y 1).val = 256 * t.val + (y 1).val := by
    blk_simp [index1 t]
    try omega
  have e2 : (((cfg0.win 1).blk t).view.emb y 2).val = (y 2).val := by
    blk_simp [index1 t]
    try omega
  show p (((cfg0.win 1).blk t).view.emb y 0).val (((cfg0.win 1).blk t).view.emb y 1).val (((cfg0.win 1).blk t).view.emb y 2).val = p (y 0).val (256 * t.val + (y 1).val) (y 2).val
  rw [e0, e1, e2]

theorem out4 (h : Given m c w x v p) : (dats m 0 c).arrAt 4 cfg0.N = lay S1024x512 (grad p) := by
  refine (dats m 0 c).arrAt_eq_of_covers 4 (lay S1024x512 (grad p)) (by decide +kernel) fun t _ y => ?_
  refine (congrFun (after0_4 m c t) _).trans ?_
  rw [h.in0, h.in1, h.in2, h.in3]
  refine (congrFun (block4 _ _ _ _) _).trans ?_
  show at_ t.val (grad p) (y 0).val (y 1).val = _
  refine congrArg₂ (grad p) ?_ ?_
  · show 256 * t.val + (y 0).val = (((cfg0.win 4).blk t).view.emb y 0).val
    blk_simp [index4 t]
    try omega
  · show (y 1).val = (((cfg0.win 4).blk t).view.emb y 1).val
    blk_simp [index4 t]
    try omega

theorem out5 (h : Given m c w x v p) : (dats m 0 c).arrAt 5 cfg0.N = lay S1024x512 (fun r c => step (w r c) (grad p r c) (x r c) (v r c)) := by
  refine (dats m 0 c).arrAt_eq_of_covers 5 (lay S1024x512 (fun r c => step (w r c) (grad p r c) (x r c) (v r c))) (by decide +kernel) fun t _ y => ?_
  refine (congrFun (after0_5 m c t) _).trans ?_
  rw [h.in0, h.in1, h.in2, h.in3]
  refine (congrFun (block5 _ _ _ _) _).trans ?_
  show at_ t.val (fun r c => step (w r c) (grad p r c) (x r c) (v r c)) (y 0).val (y 1).val = _
  refine congrArg₂ (fun r c => step (w r c) (grad p r c) (x r c) (v r c)) ?_ ?_
  · show 256 * t.val + (y 0).val = (((cfg0.win 5).blk t).view.emb y 0).val
    blk_simp [index5 t]
    try omega
  · show (y 1).val = (((cfg0.win 5).blk t).view.emb y 1).val
    blk_simp [index5 t]
    try omega

theorem out6 (h : Given m c w x v p) : (dats m 0 c).arrAt 6 cfg0.N = lay S1024x512 (fun r c => mom (grad p r c) (x r c)) := by
  refine (dats m 0 c).arrAt_eq_of_covers 6 (lay S1024x512 (fun r c => mom (grad p r c) (x r c))) (by decide +kernel) fun t _ y => ?_
  refine (congrFun (after0_6 m c t) _).trans ?_
  rw [h.in0, h.in1, h.in2, h.in3]
  refine (congrFun (block6 _ _ _ _) _).trans ?_
  show at_ t.val (fun r c => mom (grad p r c) (x r c)) (y 0).val (y 1).val = _
  refine congrArg₂ (fun r c => mom (grad p r c) (x r c)) ?_ ?_
  · show 256 * t.val + (y 0).val = (((cfg0.win 6).blk t).view.emb y 0).val
    blk_simp [index6 t]
    try omega
  · show (y 1).val = (((cfg0.win 6).blk t).view.emb y 1).val
    blk_simp [index6 t]
    try omega

theorem out7 (h : Given m c w x v p) : (dats m 0 c).arrAt 7 cfg0.N = lay S1024x512 (fun r c => vel (grad p r c) (v r c)) := by
  refine (dats m 0 c).arrAt_eq_of_covers 7 (lay S1024x512 (fun r c => vel (grad p r c) (v r c))) (by decide +kernel) fun t _ y => ?_
  refine (congrFun (after0_7 m c t) _).trans ?_
  rw [h.in0, h.in1, h.in2, h.in3]
  refine (congrFun (block7 _ _ _ _) _).trans ?_
  show at_ t.val (fun r c => vel (grad p r c) (v r c)) (y 0).val (y 1).val = _
  refine congrArg₂ (fun r c => vel (grad p r c) (v r c)) ?_ ?_
  · show 256 * t.val + (y 0).val = (((cfg0.win 7).blk t).view.emb y 0).val
    blk_simp [index7 t]
    try omega
  · show (y 1).val = (((cfg0.win 7).blk t).view.emb y 1).val
    blk_simp [index7 t]
    try omega

end Kernel

/-- Every launch's arguments are laid out of tables. -/
theorem exists_given (m : (ℓ : Loc Cert.Kernel6Ideal.nD Cert.Kernel6Ideal.τ Cert.Kernel6Ideal.sig) → Buf (Elt Ideal) ℓ) (c : Dev Cert.Kernel6Ideal.nD) :
    ∃ (f : Fin 3 → ℕ → ℕ → EReal) (p : ℕ → ℕ → ℕ → EReal), Given m c (f 0) (f 1) (f 2) p := by
  obtain ⟨f, h0⟩ := exists_lay (m := 1024) (n := 512) (m ((c.tc : Thread Cert.Kernel6Ideal.nD Cert.Kernel6Ideal.τ).loc Cert.Kernel6Ideal.main_arg0))
  obtain ⟨g, h1⟩ := exists_lay (m := 1024) (n := 512) (m ((c.tc : Thread Cert.Kernel6Ideal.nD Cert.Kernel6Ideal.τ).loc Cert.Kernel6Ideal.main_arg1))
  obtain ⟨k, h2⟩ := exists_lay (m := 1024) (n := 512) (m ((c.tc : Thread Cert.Kernel6Ideal.nD Cert.Kernel6Ideal.τ).loc Cert.Kernel6Ideal.main_arg2))
  obtain ⟨p, h3⟩ := exists_lay3 (m := 1024) (n := 512) (m ((c.tc : Thread Cert.Kernel6Ideal.nD Cert.Kernel6Ideal.τ).loc Cert.Kernel6Ideal.main_arg3))
  exact ⟨fun | 0 => f | 1 => g | 2 => k, p, ⟨h0, h1, h2, h3⟩⟩

theorem equal : Cert.algebraic_Kernel6Ideal_Reference6Ideal := by
  intro m g m' g' _ hargs
  choose f p hf using exists_given m
  refine ⟨fun c => lay Cert.Kernel6Ideal.S1024x512 (grad (p c)),
    fun c => lay Cert.Kernel6Ideal.S1024x512 (fun r k => step (f c 0 r k) (grad (p c) r k) (f c 1 r k) (f c 2 r k)),
    fun c => lay Cert.Kernel6Ideal.S1024x512 (fun r k => mom (grad (p c) r k) (f c 1 r k)),
    fun c => lay Cert.Kernel6Ideal.S1024x512 (fun r k => vel (grad (p c) r k) (f c 2 r k)), ?_, ?_⟩
  · refine (θ_run _ _ _).mono (fun r h c => ?_) (Cert.Kernel6Ideal.Value.run_blocks m g)
    obtain ⟨k0, k1, k2, k3, ka⟩ := h c
    exact ⟨k0.trans (out4 (hf c)), k1.trans (out5 (hf c)), k2.trans (out6 (hf c)), k3.trans (out7 (hf c)), ka⟩
  · refine (θ_run _ _ _).mono (fun r h c => ?_) (Cert.Reference6Ideal.Value.run m' g')
    obtain ⟨k0, k1, k2, k3, ka⟩ := h c
    obtain ⟨b0, b1, b2, b3⟩ := hargs c
    have a0 := b0.trans (hf c).h0
    have a1 := b1.trans (hf c).h1
    have a2 := b2.trans (hf c).h2
    have a3 := b3.trans (hf c).h3
    have e : Host.reduceAdd (F := Ideal) (extf .f32 (lay3 Cert.Kernel6Ideal.S4x1024x512 (p c)) Cert.Reference6Ideal.Facts₀.bitsLt_bf16_f32) (constant Cert.Reference6Ideal.S_ .f32 0x00000000#32)
        Cert.Reference6Ideal.Facts₀.reducesTo_S4x1024x512_S1024x512_d0 Cert.Reference6Ideal.Facts₀.h_S_ = lay Cert.Reference6Ideal.S1024x512 (sum4 (p c)) :=
      host_sum4 (p c) _ (by decide) _
    refine ⟨k0.trans ?_, k1.trans ?_, k2.trans ?_, k3.trans ?_, ka⟩
    · rw [a3, e]
      rfl
    · rw [a3, a0, a1, a2, e]
      rfl
    · rw [a3, a1, e]
      rfl
    · rw [a3, a2, e]
      rfl

end Cert.AdamUp

end
-- ==== Proof.AdamIn.lean ====
/-
  The value claim of the optimiser's call on the input projection's weights: the gradient, the step and the two new moments, from the
  four devices' parts of the gradient, transposed. Nothing is asked of the arguments.
-/
module

public import proofs.«01_k».proof.Proof.Adam
public import proofs.«01_k».proof.Proof.Gen.Kernel7Ideal.Value
public import proofs.«01_k».proof.Proof.Gen.Reference7Ideal.Run

@[expose] public section

set_option maxRecDepth 16384

noncomputable section

namespace Cert.AdamIn

open Idealize.ShloMosaic Idealize.ShloMosaic.TcCoe Idealize.SL.Sem Cert.Lift Cert.InProj Cert.Merge Cert.Adam

/-- The gradient. -/
def grad (p : ℕ → ℕ → ℕ → EReal) (r c : ℕ) : EReal := sum4 p c r

section Kernel
open Cert.Kernel7Ideal Cert.Kernel7Ideal.Gen

variable (w x v : ℕ → ℕ → EReal) (p : ℕ → ℕ → ℕ → EReal)

theorem pay2 : k0_pay2 (F := Ideal) (lay3 S1x256x704 fun _ => p 0) (lay3 S1x256x704 fun _ => p 1) (lay3 S1x256x704 fun _ => p 2) (lay3 S1x256x704 fun _ => p 3)
    = lay S704x256 (grad p) := by
  unfold k0_pay2
  rw [show shapeCast S256x704 (lay3 S1x256x704 fun _ => p 0) shapeCasts_S1x256x704_S256x704 = lay S256x704 (p 0) from shapeCast_part _ _,
    show shapeCast S256x704 (lay3 S1x256x704 fun _ => p 1) shapeCasts_S1x256x704_S256x704 = lay S256x704 (p 1) from shapeCast_part _ _,
    show shapeCast S256x704 (lay3 S1x256x704 fun _ => p 2) shapeCasts_S1x256x704_S256x704 = lay S256x704 (p 2) from shapeCast_part _ _,
    show shapeCast S256x704 (lay3 S1x256x704 fun _ => p 3) shapeCasts_S1x256x704_S256x704 = lay S256x704 (p 3) from shapeCast_part _ _]
  exact transpose_lay (m := 256) (n := 704) (fun r c => sum4 p r c) _

theorem part (o : ℕ) (inb : ∀ a, (![o, 0, 0] : Fin 3 → ℕ) a + S1x256x704.size a ≤ S4x256x704.size a) :
    View.ld (Val := Elt Ideal) (e' := .bf16) (lay3 S4x256x704 p) (Rect.unit (s := S4x256x704) ![o, 0, 0] S1x256x704.size inb) = lay3 S1x256x704 fun _ => p o :=
  ld_part p inb

theorem block4 : out0_4 (F := Ideal) (lay S704x256 w) (lay3 S4x256x704 p) (lay S704x256 x) (lay S704x256 v) = lay S704x256 (grad p) := by
  unfold out0_4
  rw [View.canon_cons_unit_lit (Val := Elt Ideal) _ _ _ (by decide), part, part, part, part]
  exact pay2 p

theorem block6 : out0_6 (F := Ideal) (lay S704x256 w) (lay3 S4x256x704 p) (lay S704x256 x) (lay S704x256 v) = lay S704x256 fun r c => mom (grad p r c) (x r c) := by
  unfold out0_6
  rw [View.canon_cons_unit_lit (Val := Elt Ideal) _ _ _ (by decide), part, part, part, part, View.ld_unit_lit (Val := Elt Ideal) _ _ (by decide)]
  unfold k0_pay3
  rw [pay2]
  rfl

theorem pay6 : k0_pay6 (F := Ideal) (lay S704x256 w) (lay3 S4x256x704 p) (lay S704x256 x) (lay S704x256 v) = lay S704x256 fun r c => vel (grad p r c) (v r c) := by
  unfold k0_pay6
  rw [part, part, part, part, View.ld_unit_lit (Val := Elt Ideal) _ _ (by decide)]
  unfold k0_pay4
  rw [pay2]
  rfl

theorem block7 : out0_7 (F := Ideal) (lay S704x256 w) (lay3 S4x256x704 p) (lay S704x256 x) (lay S704x256 v) = lay S704x256 fun r c => vel (grad p r c) (v r c) := by
  unfold out0_7
  rw [View.canon_cons_unit_lit (Val := Elt Ideal) _ _ _ (by decide)]
  exact pay6 w x v p

theorem block5 : out0_5 (F := Ideal) (lay S704x256 w) (lay3 S4x256x704 p) (lay S704x256 x) (lay S704x256 v)
    = lay S704x256 fun r c => step (w r c) (grad p r c) (x r c) (v r c) := by
  unfold out0_5
  rw [View.canon_cons_unit_lit (Val := Elt Ideal) _ _ _ (by decide), pay6, part, part, part, part, View.ld_unit_lit (Val := Elt Ideal) _ _ (by decide),
    View.ld_unit_lit (Val := Elt Ideal) _ _ (by decide)]
  unfold k0_pay5 k0_pay3
  rw [pay2]
  rfl

theorem index0 : ∀ t : Fin grid0.N, win0_0.index t 0 = 0 ∧ win0_0.index t 1 = t.val := by decide +kernel
theorem index1 : ∀ t : Fin grid0.N, win0_1.index t 0 = 0 ∧ win0_1.index t 1 = t.val ∧ win0_1.index t 2 = 0 := by decide +kernel
theorem index2 : ∀ t : Fin grid0.N, win0_2.index t 0 = 0 ∧ win0_2.index t 1 = t.val := by decide +kernel
theorem index3 : ∀ t : Fin grid0.N, win0_3.index t 0 = 0 ∧ win0_3.index t 1 = t.val := by decide +kernel
theorem index4 : ∀ t : Fin grid0.N, win0_4.index t 0 = 0 ∧ win0_4.index t 1 = t.val := by decide +kernel
theorem index5 : ∀ t : Fin grid0.N, win0_5.index t 0 = 0 ∧ win0_5.index t 1 = t.val := by decide +kernel
theorem index6 : ∀ t : Fin grid0.N, win0_6.index t 0 = 0 ∧ win0_6.index t 1 = t.val := by decide +kernel
theorem index7 : ∀ t : Fin grid0.N, win0_7.index t 0 = 0 ∧ win0_7.index t 1 = t.val := by decide +kernel

/-- The program's arguments on a device are these tables. -/
structure Given (m : (ℓ : Loc nD τ sig) → Buf (Elt Ideal) ℓ) (c : Dev nD) (w x v : ℕ → ℕ → EReal) (p : ℕ → ℕ → ℕ → EReal) : Prop where
  h0 : m ((c : Thread nD τ).loc main_arg0) = lay S704x1024 w
  h1 : m ((c : Thread nD τ).loc main_arg1) = lay S704x1024 x
  h2 : m ((c : Thread nD τ).loc main_arg2) = lay S704x1024 v
  h3 : m ((c : Thread nD τ).loc main_arg3) = lay3 S4x1024x704 p

variable {m : (ℓ : Loc nD τ sig) → Buf (Elt Ideal) ℓ} {c : Dev nD} {w x v : ℕ → ℕ → EReal} {p : ℕ → ℕ → ℕ → EReal}

/-- A table from the block of the point `t` on. -/
def at_ (t : ℕ) (f : ℕ → ℕ → EReal) (r k : ℕ) : EReal := f r (256 * t + k)

theorem Given.in0 (h : Given m c w x v p) (t : Fin cfg0.N) : iblk m c 0 t = lay S704x256 (at_ t.val w) := by
  funext y
  have e : iblk m c 0 t y = m ((c : Thread nD τ).loc main_arg0) (((cfg0.win 0).blk t).view.emb y) := congrFun (V_main_arg0 m c) _
  rw [e, h.h0]
  refine congrArg₂ w ?_ ?_
  · show (((cfg0.win 0).blk t).view.emb y 0).val = (y 0).val
    blk_simp [index0 t]
    try omega
  · show (((cfg0.win 0).blk t).view.emb y 1).val = 256 * t.val + (y 1).val
    blk_simp [index0 t]
    try omega

theorem Given.in2 (h : Given m c w x v p) (t : Fin cfg0.N) : iblk m c 2 t = lay S704x256 (at_ t.val x) := by
  funext y
  have e : iblk m c 2 t y = m ((c : Thread nD τ).loc main_arg1) (((cfg0.win 2).blk t).view.emb y) := congrFun (V_main_arg1 m c) _
  rw [e, h.h1]
  refine congrArg₂ x ?_ ?_
  · show (((cfg0.win 2).blk t).view.emb y 0).val = (y 0).val
    blk_simp [index2 t]
    try omega
  · show (((cfg0.win 2).blk t).view.emb y 1).val = 256 * t.val + (y 1).val
    blk_simp [index2 t]
    try omega

theorem Given.in3 (h : Given m c w x v p) (t : Fin cfg0.N) : iblk m c 3 t = lay S704x256 (at_ t.val v) := by
  funext y
  have e : iblk m c 3 t y = m ((c : Thread nD τ).loc main_arg2) (((cfg0.win 3).blk t).view.emb y) := congrFun (V_main_arg2 m c) _
  rw [e, h.h2]
  refine congrArg₂ v ?_ ?_
  · show (((cfg0.win 3).blk t).view.emb y 0).val = (y 0).val
    blk_simp [index3 t]
    try omega
  · show (((cfg0.win 3).blk t).view.emb y 1).val = 256 * t.val + (y 1).val
    blk_simp [index3 t]
    try omega

theorem Given.in1 (h : Given m c w x v p) (t : Fin cfg0.N) : iblk m c 1 t = lay3 S4x256x704 fun j r k => p j (256 * t.val + r) k := by
  funext y
  have e : iblk m c 1 t y = m ((c : Thread nD τ).loc main_arg3) (((cfg0.win 1).blk t).view.emb y) := congrFun (V_main_arg3 m c) _
  rw [e, h.h3]
  have e0 : (((cfg0.win 1).blk t).view.emb y 0).val = (y 0).val := by
    blk_simp [index1 t]
    try omega
  have e1 : (((cfg0.win 1).blk t).view.emb y 1).val = 256 * t.val + (y 1).val := by
    blk_simp [index1 t]
    try omega
  have e2 : (((cfg0.win 1).blk t).view.emb y 2).val = (y 2).val := by
    blk_simp [index1 t]
    try omega
  show p (((cfg0.win 1).blk t).view.emb y 0).val (((cfg0.win 1).blk t).view.emb y 1).val (((cfg0.win 1).blk t).view.emb y 2).val = p (y 0).val (256 * t.val + (y 1).val) (y 2).val
  rw [e0, e1, e2]

theorem out4 (h : Given m c w x v p) : (dats m 0 c).arrAt 4 cfg0.N = lay S704x1024 (grad p) := by
  refine (dats m 0 c).arrAt_eq_of_covers 4 (lay S704x1024 (grad p)) (by decide +kernel) fun t _ y => ?_
  refine (congrFun (after0_4 m c t) _).trans ?_
  rw [h.in0, h.in1, h.in2, h.in3]
  refine (congrFun (block4 _ _ _ _) _).trans ?_
  show at_ t.val (grad p) (y 0).val (y 1).val = _
  refine congrArg₂ (grad p) ?_ ?_
  · show (y 0).val = (((cfg0.win 4).blk t).view.emb y 0).val
    blk_simp [index4 t]
    try omega
  · show 256 * t.val + (y 1).val = (((cfg0.win 4).blk t).view.emb y 1).val
    blk_simp [index4 t]
    try omega

theorem out5 (h : Given m c w x v p) : (dats m 0 c).arrAt 5 cfg0.N = lay S704x1024 (fun r c => step (w r c) (grad p r c) (x r c) (v r c)) := by
  refine (dats m 0 c).arrAt_eq_of_covers 5 (lay S704x1024 (fun r c => step (w r c) (grad p r c) (x r c) (v r c))) (by decide +kernel) fun t _ y => ?_
  refine (congrFun (after0_5 m c t) _).trans ?_
  rw [h.in0, h.in1, h.in2, h.in3]
  refine (congrFun (block5 _ _ _ _) _).trans ?_
  show at_ t.val (fun r c => step (w r c) (grad p r c) (x r c) (v r c)) (y 0).val (y 1).val = _
  refine congrArg₂ (fun r c => step (w r c) (grad p r c) (x r c) (v r c)) ?_ ?_
  · show (y 0).val = (((cfg0.win 5).blk t).view.emb y 0).val
    blk_simp [index5 t]
    try omega
  · show 256 * t.val + (y 1).val = (((cfg0.win 5).blk t).view.emb y 1).val
    blk_simp [index5 t]
    try omega

theorem out6 (h : Given m c w x v p) : (dats m 0 c).arrAt 6 cfg0.N = lay S704x1024 (fun r c => mom (grad p r c) (x r c)) := by
  refine (dats m 0 c).arrAt_eq_of_covers 6 (lay S704x1024 (fun r c => mom (grad p r c) (x r c))) (by decide +kernel) fun t _ y => ?_
  refine (congrFun (after0_6 m c t) _).trans ?_
  rw [h.in0, h.in1, h.in2, h.in3]
  refine (congrFun (block6 _ _ _ _) _).trans ?_
  show at_ t.val (fun r c => mom (grad p r c) (x r c)) (y 0).val (y 1).val = _
  refine congrArg₂ (fun r c => mom (grad p r c) (x r c)) ?_ ?_
  · show (y 0).val = (((cfg0.win 6).blk t).view.emb y 0).val
    blk_simp [index6 t]
    try omega
  · show 256 * t.val + (y 1).val = (((cfg0.win 6).blk t).view.emb y 1).val
    blk_simp [index6 t]
    try omega

theorem out7 (h : Given m c w x v p) : (dats m 0 c).arrAt 7 cfg0.N = lay S704x1024 (fun r c => vel (grad p r c) (v r c)) := by
  refine (dats m 0 c).arrAt_eq_of_covers 7 (lay S704x1024 (fun r c => vel (grad p r c) (v r c))) (by decide +kernel) fun t _ y => ?_
  refine (congrFun (after0_7 m c t) _).trans ?_
  rw [h.in0, h.in1, h.in2, h.in3]
  refine (congrFun (block7 _ _ _ _) _).trans ?_
  show at_ t.val (fun r c => vel (grad p r c) (v r c)) (y 0).val (y 1).val = _
  refine congrArg₂ (fun r c => vel (grad p r c) (v r c)) ?_ ?_
  · show (y 0).val = (((cfg0.win 7).blk t).view.emb y 0).val
    blk_simp [index7 t]
    try omega
  · show 256 * t.val + (y 1).val = (((cfg0.win 7).blk t).view.emb y 1).val
    blk_simp [index7 t]
    try omega

end Kernel

/-- Every launch's arguments are laid out of tables. -/
theorem exists_given (m : (ℓ : Loc Cert.Kernel7Ideal.nD Cert.Kernel7Ideal.τ Cert.Kernel7Ideal.sig) → Buf (Elt Ideal) ℓ) (c : Dev Cert.Kernel7Ideal.nD) :
    ∃ (f : Fin 3 → ℕ → ℕ → EReal) (p : ℕ → ℕ → ℕ → EReal), Given m c (f 0) (f 1) (f 2) p := by
  obtain ⟨f, h0⟩ := exists_lay (m := 704) (n := 1024) (m ((c.tc : Thread Cert.Kernel7Ideal.nD Cert.Kernel7Ideal.τ).loc Cert.Kernel7Ideal.main_arg0))
  obtain ⟨g, h1⟩ := exists_lay (m := 704) (n := 1024) (m ((c.tc : Thread Cert.Kernel7Ideal.nD Cert.Kernel7Ideal.τ).loc Cert.Kernel7Ideal.main_arg1))
  obtain ⟨k, h2⟩ := exists_lay (m := 704) (n := 1024) (m ((c.tc : Thread Cert.Kernel7Ideal.nD Cert.Kernel7Ideal.τ).loc Cert.Kernel7Ideal.main_arg2))
  obtain ⟨p, h3⟩ := exists_lay3 (m := 1024) (n := 704) (m ((c.tc : Thread Cert.Kernel7Ideal.nD Cert.Kernel7Ideal.τ).loc Cert.Kernel7Ideal.main_arg3))
  exact ⟨fun | 0 => f | 1 => g | 2 => k, p, ⟨h0, h1, h2, h3⟩⟩

theorem equal : Cert.algebraic_Kernel7Ideal_Reference7Ideal := by
  intro m g m' g' _ hargs
  choose f p hf using exists_given m
  refine ⟨fun c => lay Cert.Kernel7Ideal.S704x1024 (grad (p c)),
    fun c => lay Cert.Kernel7Ideal.S704x1024 (fun r k => step (f c 0 r k) (grad (p c) r k) (f c 1 r k) (f c 2 r k)),
    fun c => lay Cert.Kernel7Ideal.S704x1024 (fun r k => mom (grad (p c) r k) (f c 1 r k)),
    fun c => lay Cert.Kernel7Ideal.S704x1024 (fun r k => vel (grad (p c) r k) (f c 2 r k)), ?_, ?_⟩
  · refine (θ_run _ _ _).mono (fun r h c => ?_) (Cert.Kernel7Ideal.Value.run_blocks m g)
    obtain ⟨k0, k1, k2, k3, ka⟩ := h c
    exact ⟨k0.trans (out4 (hf c)), k1.trans (out5 (hf c)), k2.trans (out6 (hf c)), k3.trans (out7 (hf c)), ka⟩
  · refine (θ_run _ _ _).mono (fun r h c => ?_) (Cert.Reference7Ideal.Value.run m' g')
    obtain ⟨k0, k1, k2, k3, ka⟩ := h c
    obtain ⟨b0, b1, b2, b3⟩ := hargs c
    have a0 := b0.trans (hf c).h0
    have a1 := b1.trans (hf c).h1
    have a2 := b2.trans (hf c).h2
    have a3 := b3.trans (hf c).h3
    have e : Host.reduceAdd (F := Ideal) (extf .f32 (lay3 Cert.Kernel7Ideal.S4x1024x704 (p c)) Cert.Reference7Ideal.Facts₀.bitsLt_bf16_f32) (constant Cert.Reference7Ideal.S_ .f32 0x00000000#32)
        Cert.Reference7Ideal.Facts₀.reducesTo_S4x1024x704_S1024x704_d0 Cert.Reference7Ideal.Facts₀.h_S_ = lay Cert.Reference7Ideal.S1024x704 (sum4 (p c)) :=
      host_sum4 (p c) _ (by decide) _
    have et : transpose Cert.Reference7Ideal.S704x1024 [1, 0] (lay Cert.Reference7Ideal.S1024x704 (sum4 (p c))) Cert.Reference7Ideal.Facts₀.transposes_S1024x704_S704x1024_1_0 = lay Cert.Reference7Ideal.S704x1024 (grad (p c)) :=
      transpose_lay (m := 1024) (n := 704) (sum4 (p c)) _
    refine ⟨k0.trans ?_, k1.trans ?_, k2.trans ?_, k3.trans ?_, ka⟩
    · rw [a3, e, et]
    · rw [a3, a0, a1, a2, e, et]
      rfl
    · rw [a3, a1, e, et]
      rfl
    · rw [a3, a2, e, et]
      rfl

end Cert.AdamIn

end
-- ==== Proof.AdamDown.lean ====
/-
  The value claim of the optimiser's call on the down weights: the gradient, the step and the two new moments, from the
  four devices' parts of the gradient, transposed. Nothing is asked of the arguments.
-/
module

public import proofs.«01_k».proof.Proof.Adam
public import proofs.«01_k».proof.Proof.Gen.Kernel8Ideal.Value
public import proofs.«01_k».proof.Proof.Gen.Reference8Ideal.Run

@[expose] public section

set_option maxRecDepth 16384

noncomputable section

namespace Cert.AdamDown

open Idealize.ShloMosaic Idealize.ShloMosaic.TcCoe Idealize.SL.Sem Cert.Lift Cert.InProj Cert.Merge Cert.Adam

/-- The gradient. -/
def grad (p : ℕ → ℕ → ℕ → EReal) (r c : ℕ) : EReal := sum4 p c r

section Kernel
open Cert.Kernel8Ideal Cert.Kernel8Ideal.Gen

variable (w x v : ℕ → ℕ → EReal) (p : ℕ → ℕ → ℕ → EReal)

theorem pay2 : k0_pay2 (F := Ideal) (lay3 S1x256x512 fun _ => p 0) (lay3 S1x256x512 fun _ => p 1) (lay3 S1x256x512 fun _ => p 2) (lay3 S1x256x512 fun _ => p 3)
    = lay S512x256 (grad p) := by
  unfold k0_pay2
  rw [show shapeCast S256x512 (lay3 S1x256x512 fun _ => p 0) shapeCasts_S1x256x512_S256x512 = lay S256x512 (p 0) from shapeCast_part _ _,
    show shapeCast S256x512 (lay3 S1x256x512 fun _ => p 1) shapeCasts_S1x256x512_S256x512 = lay S256x512 (p 1) from shapeCast_part _ _,
    show shapeCast S256x512 (lay3 S1x256x512 fun _ => p 2) shapeCasts_S1x256x512_S256x512 = lay S256x512 (p 2) from shapeCast_part _ _,
    show shapeCast S256x512 (lay3 S1x256x512 fun _ => p 3) shapeCasts_S1x256x512_S256x512 = lay S256x512 (p 3) from shapeCast_part _ _]
  exact transpose_lay (m := 256) (n := 512) (fun r c => sum4 p r c) _

theorem part (o : ℕ) (inb : ∀ a, (![o, 0, 0] : Fin 3 → ℕ) a + S1x256x512.size a ≤ S4x256x512.size a) :
    View.ld (Val := Elt Ideal) (e' := .bf16) (lay3 S4x256x512 p) (Rect.unit (s := S4x256x512) ![o, 0, 0] S1x256x512.size inb) = lay3 S1x256x512 fun _ => p o :=
  ld_part p inb

theorem block4 : out0_4 (F := Ideal) (lay S512x256 w) (lay3 S4x256x512 p) (lay S512x256 x) (lay S512x256 v) = lay S512x256 (grad p) := by
  unfold out0_4
  rw [View.canon_cons_unit_lit (Val := Elt Ideal) _ _ _ (by decide), part, part, part, part]
  exact pay2 p

theorem block6 : out0_6 (F := Ideal) (lay S512x256 w) (lay3 S4x256x512 p) (lay S512x256 x) (lay S512x256 v) = lay S512x256 fun r c => mom (grad p r c) (x r c) := by
  unfold out0_6
  rw [View.canon_cons_unit_lit (Val := Elt Ideal) _ _ _ (by decide), part, part, part, part, View.ld_unit_lit (Val := Elt Ideal) _ _ (by decide)]
  unfold k0_pay3
  rw [pay2]
  rfl

theorem pay6 : k0_pay6 (F := Ideal) (lay S512x256 w) (lay3 S4x256x512 p) (lay S512x256 x) (lay S512x256 v) = lay S512x256 fun r c => vel (grad p r c) (v r c) := by
  unfold k0_pay6
  rw [part, part, part, part, View.ld_unit_lit (Val := Elt Ideal) _ _ (by decide)]
  unfold k0_pay4
  rw [pay2]
  rfl

theorem block7 : out0_7 (F := Ideal) (lay S512x256 w) (lay3 S4x256x512 p) (lay S512x256 x) (lay S512x256 v) = lay S512x256 fun r c => vel (grad p r c) (v r c) := by
  unfold out0_7
  rw [View.canon_cons_unit_lit (Val := Elt Ideal) _ _ _ (by decide)]
  exact pay6 w x v p

theorem block5 : out0_5 (F := Ideal) (lay S512x256 w) (lay3 S4x256x512 p) (lay S512x256 x) (lay S512x256 v)
    = lay S512x256 fun r c => step (w r c) (grad p r c) (x r c) (v r c) := by
  unfold out0_5
  rw [View.canon_cons_unit_lit (Val := Elt Ideal) _ _ _ (by decide), pay6, part, part, part, part, View.ld_unit_lit (Val := Elt Ideal) _ _ (by decide),
    View.ld_unit_lit (Val := Elt Ideal) _ _ (by decide)]
  unfold k0_pay5 k0_pay3
  rw [pay2]
  rfl

theorem index0 : ∀ t : Fin grid0.N, win0_0.index t 0 = 0 ∧ win0_0.index t 1 = t.val := by decide +kernel
theorem index1 : ∀ t : Fin grid0.N, win0_1.index t 0 = 0 ∧ win0_1.index t 1 = t.val ∧ win0_1.index t 2 = 0 := by decide +kernel
theorem index2 : ∀ t : Fin grid0.N, win0_2.index t 0 = 0 ∧ win0_2.index t 1 = t.val := by decide +kernel
theorem index3 : ∀ t : Fin grid0.N, win0_3.index t 0 = 0 ∧ win0_3.index t 1 = t.val := by decide +kernel
theorem index4 : ∀ t : Fin grid0.N, win0_4.index t 0 = 0 ∧ win0_4.index t 1 = t.val := by decide +kernel
theorem index5 : ∀ t : Fin grid0.N, win0_5.index t 0 = 0 ∧ win0_5.index t 1 = t.val := by decide +kernel
theorem index6 : ∀ t : Fin grid0.N, win0_6.index t 0 = 0 ∧ win0_6.index t 1 = t.val := by decide +kernel
theorem index7 : ∀ t : Fin grid0.N, win0_7.index t 0 = 0 ∧ win0_7.index t 1 = t.val := by decide +kernel

/-- The program's arguments on a device are these tables. -/
structure Given (m : (ℓ : Loc nD τ sig) → Buf (Elt Ideal) ℓ) (c : Dev nD) (w x v : ℕ → ℕ → EReal) (p : ℕ → ℕ → ℕ → EReal) : Prop where
  h0 : m ((c : Thread nD τ).loc main_arg0) = lay S512x1024 w
  h1 : m ((c : Thread nD τ).loc main_arg1) = lay S512x1024 x
  h2 : m ((c : Thread nD τ).loc main_arg2) = lay S512x1024 v
  h3 : m ((c : Thread nD τ).loc main_arg3) = lay3 S4x1024x512 p

variable {m : (ℓ : Loc nD τ sig) → Buf (Elt Ideal) ℓ} {c : Dev nD} {w x v : ℕ → ℕ → EReal} {p : ℕ → ℕ → ℕ → EReal}

/-- A table from the block of the point `t` on. -/
def at_ (t : ℕ) (f : ℕ → ℕ → EReal) (r k : ℕ) : EReal := f r (256 * t + k)

theorem Given.in0 (h : Given m c w x v p) (t : Fin cfg0.N) : iblk m c 0 t = lay S512x256 (at_ t.val w) := by
  funext y
  have e : iblk m c 0 t y = m ((c : Thread nD τ).loc main_arg0) (((cfg0.win 0).blk t).view.emb y) := congrFun (V_main_arg0 m c) _
  rw [e, h.h0]
  refine congrArg₂ w ?_ ?_
  · show (((cfg0.win 0).blk t).view.emb y 0).val = (y 0).val
    blk_simp [index0 t]
    try omega
  · show (((cfg0.win 0).blk t).view.emb y 1).val = 256 * t.val + (y 1).val
    blk_simp [index0 t]
    try omega

theorem Given.in2 (h : Given m c w x v p) (t : Fin cfg0.N) : iblk m c 2 t = lay S512x256 (at_ t.val x) := by
  funext y
  have e : iblk m c 2 t y = m ((c : Thread nD τ).loc main_arg1) (((cfg0.win 2).blk t).view.emb y) := congrFun (V_main_arg1 m c) _
  rw [e, h.h1]
  refine congrArg₂ x ?_ ?_
  · show (((cfg0.win 2).blk t).view.emb y 0).val = (y 0).val
    blk_simp [index2 t]
    try omega
  · show (((cfg0.win 2).blk t).view.emb y 1).val = 256 * t.val + (y 1).val
    blk_simp [index2 t]
    try omega

theorem Given.in3 (h : Given m c w x v p) (t : Fin cfg0.N) : iblk m c 3 t = lay S512x256 (at_ t.val v) := by
  funext y
  have e : iblk m c 3 t y = m ((c : Thread nD τ).loc main_arg2) (((cfg0.win 3).blk t).view.emb y) := congrFun (V_main_arg2 m c) _
  rw [e, h.h2]
  refine congrArg₂ v ?_ ?_
  · show (((cfg0.win 3).blk t).view.emb y 0).val = (y 0).val
    blk_simp [index3 t]
    try omega
  · show (((cfg0.win 3).blk t).view.emb y 1).val = 256 * t.val + (y 1).val
    blk_simp [index3 t]
    try omega

theorem Given.in1 (h : Given m c w x v p) (t : Fin cfg0.N) : iblk m c 1 t = lay3 S4x256x512 fun j r k => p j (256 * t.val + r) k := by
  funext y
  have e : iblk m c 1 t y = m ((c : Thread nD τ).loc main_arg3) (((cfg0.win 1).blk t).view.emb y) := congrFun (V_main_arg3 m c) _
  rw [e, h.h3]
  have e0 : (((cfg0.win 1).blk t).view.emb y 0).val = (y 0).val := by
    blk_simp [index1 t]
    try omega
  have e1 : (((cfg0.win 1).blk t).view.emb y 1).val = 256 * t.val + (y 1).val := by
    blk_simp [index1 t]
    try omega
  have e2 : (((cfg0.win 1).blk t).view.emb y 2).val = (y 2).val := by
    blk_simp [index1 t]
    try omega
  show p (((cfg0.win 1).blk t).view.emb y 0).val (((cfg0.win 1).blk t).view.emb y 1).val (((cfg0.win 1).blk t).view.emb y 2).val = p (y 0).val (256 * t.val + (y 1).val) (y 2).val
  rw [e0, e1, e2]

theorem out4 (h : Given m c w x v p) : (dats m 0 c).arrAt 4 cfg0.N = lay S512x1024 (grad p) := by
  refine (dats m 0 c).arrAt_eq_of_covers 4 (lay S512x1024 (grad p)) (by decide +kernel) fun t _ y => ?_
  refine (congrFun (after0_4 m c t) _).trans ?_
  rw [h.in0, h.in1, h.in2, h.in3]
  refine (congrFun (block4 _ _ _ _) _).trans ?_
  show at_ t.val (grad p) (y 0).val (y 1).val = _
  refine congrArg₂ (grad p) ?_ ?_
  · show (y 0).val = (((cfg0.win 4).blk t).view.emb y 0).val
    blk_simp [index4 t]
    try omega
  · show 256 * t.val + (y 1).val = (((cfg0.win 4).blk t).view.emb y 1).val
    blk_simp [index4 t]
    try omega

theorem out5 (h : Given m c w x v p) : (dats m 0 c).arrAt 5 cfg0.N = lay S512x1024 (fun r c => step (w r c) (grad p r c) (x r c) (v r c)) := by
  refine (dats m 0 c).arrAt_eq_of_covers 5 (lay S512x1024 (fun r c => step (w r c) (grad p r c) (x r c) (v r c))) (by decide +kernel) fun t _ y => ?_
  refine (congrFun (after0_5 m c t) _).trans ?_
  rw [h.in0, h.in1, h.in2, h.in3]
  refine (congrFun (block5 _ _ _ _) _).trans ?_
  show at_ t.val (fun r c => step (w r c) (grad p r c) (x r c) (v r c)) (y 0).val (y 1).val = _
  refine congrArg₂ (fun r c => step (w r c) (grad p r c) (x r c) (v r c)) ?_ ?_
  · show (y 0).val = (((cfg0.win 5).blk t).view.emb y 0).val
    blk_simp [index5 t]
    try omega
  · show 256 * t.val + (y 1).val = (((cfg0.win 5).blk t).view.emb y 1).val
    blk_simp [index5 t]
    try omega

theorem out6 (h : Given m c w x v p) : (dats m 0 c).arrAt 6 cfg0.N = lay S512x1024 (fun r c => mom (grad p r c) (x r c)) := by
  refine (dats m 0 c).arrAt_eq_of_covers 6 (lay S512x1024 (fun r c => mom (grad p r c) (x r c))) (by decide +kernel) fun t _ y => ?_
  refine (congrFun (after0_6 m c t) _).trans ?_
  rw [h.in0, h.in1, h.in2, h.in3]
  refine (congrFun (block6 _ _ _ _) _).trans ?_
  show at_ t.val (fun r c => mom (grad p r c) (x r c)) (y 0).val (y 1).val = _
  refine congrArg₂ (fun r c => mom (grad p r c) (x r c)) ?_ ?_
  · show (y 0).val = (((cfg0.win 6).blk t).view.emb y 0).val
    blk_simp [index6 t]
    try omega
  · show 256 * t.val + (y 1).val = (((cfg0.win 6).blk t).view.emb y 1).val
    blk_simp [index6 t]
    try omega

theorem out7 (h : Given m c w x v p) : (dats m 0 c).arrAt 7 cfg0.N = lay S512x1024 (fun r c => vel (grad p r c) (v r c)) := by
  refine (dats m 0 c).arrAt_eq_of_covers 7 (lay S512x1024 (fun r c => vel (grad p r c) (v r c))) (by decide +kernel) fun t _ y => ?_
  refine (congrFun (after0_7 m c t) _).trans ?_
  rw [h.in0, h.in1, h.in2, h.in3]
  refine (congrFun (block7 _ _ _ _) _).trans ?_
  show at_ t.val (fun r c => vel (grad p r c) (v r c)) (y 0).val (y 1).val = _
  refine congrArg₂ (fun r c => vel (grad p r c) (v r c)) ?_ ?_
  · show (y 0).val = (((cfg0.win 7).blk t).view.emb y 0).val
    blk_simp [index7 t]
    try omega
  · show 256 * t.val + (y 1).val = (((cfg0.win 7).blk t).view.emb y 1).val
    blk_simp [index7 t]
    try omega

end Kernel

/-- Every launch's arguments are laid out of tables. -/
theorem exists_given (m : (ℓ : Loc Cert.Kernel8Ideal.nD Cert.Kernel8Ideal.τ Cert.Kernel8Ideal.sig) → Buf (Elt Ideal) ℓ) (c : Dev Cert.Kernel8Ideal.nD) :
    ∃ (f : Fin 3 → ℕ → ℕ → EReal) (p : ℕ → ℕ → ℕ → EReal), Given m c (f 0) (f 1) (f 2) p := by
  obtain ⟨f, h0⟩ := exists_lay (m := 512) (n := 1024) (m ((c.tc : Thread Cert.Kernel8Ideal.nD Cert.Kernel8Ideal.τ).loc Cert.Kernel8Ideal.main_arg0))
  obtain ⟨g, h1⟩ := exists_lay (m := 512) (n := 1024) (m ((c.tc : Thread Cert.Kernel8Ideal.nD Cert.Kernel8Ideal.τ).loc Cert.Kernel8Ideal.main_arg1))
  obtain ⟨k, h2⟩ := exists_lay (m := 512) (n := 1024) (m ((c.tc : Thread Cert.Kernel8Ideal.nD Cert.Kernel8Ideal.τ).loc Cert.Kernel8Ideal.main_arg2))
  obtain ⟨p, h3⟩ := exists_lay3 (m := 1024) (n := 512) (m ((c.tc : Thread Cert.Kernel8Ideal.nD Cert.Kernel8Ideal.τ).loc Cert.Kernel8Ideal.main_arg3))
  exact ⟨fun | 0 => f | 1 => g | 2 => k, p, ⟨h0, h1, h2, h3⟩⟩

theorem equal : Cert.algebraic_Kernel8Ideal_Reference8Ideal := by
  intro m g m' g' _ hargs
  choose f p hf using exists_given m
  refine ⟨fun c => lay Cert.Kernel8Ideal.S512x1024 (grad (p c)),
    fun c => lay Cert.Kernel8Ideal.S512x1024 (fun r k => step (f c 0 r k) (grad (p c) r k) (f c 1 r k) (f c 2 r k)),
    fun c => lay Cert.Kernel8Ideal.S512x1024 (fun r k => mom (grad (p c) r k) (f c 1 r k)),
    fun c => lay Cert.Kernel8Ideal.S512x1024 (fun r k => vel (grad (p c) r k) (f c 2 r k)), ?_, ?_⟩
  · refine (θ_run _ _ _).mono (fun r h c => ?_) (Cert.Kernel8Ideal.Value.run_blocks m g)
    obtain ⟨k0, k1, k2, k3, ka⟩ := h c
    exact ⟨k0.trans (out4 (hf c)), k1.trans (out5 (hf c)), k2.trans (out6 (hf c)), k3.trans (out7 (hf c)), ka⟩
  · refine (θ_run _ _ _).mono (fun r h c => ?_) (Cert.Reference8Ideal.Value.run m' g')
    obtain ⟨k0, k1, k2, k3, ka⟩ := h c
    obtain ⟨b0, b1, b2, b3⟩ := hargs c
    have a0 := b0.trans (hf c).h0
    have a1 := b1.trans (hf c).h1
    have a2 := b2.trans (hf c).h2
    have a3 := b3.trans (hf c).h3
    have e : Host.reduceAdd (F := Ideal) (extf .f32 (lay3 Cert.Kernel8Ideal.S4x1024x512 (p c)) Cert.Reference8Ideal.Facts₀.bitsLt_bf16_f32) (constant Cert.Reference8Ideal.S_ .f32 0x00000000#32)
        Cert.Reference8Ideal.Facts₀.reducesTo_S4x1024x512_S1024x512_d0 Cert.Reference8Ideal.Facts₀.h_S_ = lay Cert.Reference8Ideal.S1024x512 (sum4 (p c)) :=
      host_sum4 (p c) _ (by decide) _
    have et : transpose Cert.Reference8Ideal.S512x1024 [1, 0] (lay Cert.Reference8Ideal.S1024x512 (sum4 (p c))) Cert.Reference8Ideal.Facts₀.transposes_S1024x512_S512x1024_1_0 = lay Cert.Reference8Ideal.S512x1024 (grad (p c)) :=
      transpose_lay (m := 1024) (n := 512) (sum4 (p c)) _
    refine ⟨k0.trans ?_, k1.trans ?_, k2.trans ?_, k3.trans ?_, ka⟩
    · rw [a3, e, et]
    · rw [a3, a0, a1, a2, e, et]
      rfl
    · rw [a3, a1, e, et]
      rfl
    · rw [a3, a2, e, et]
      rfl

end Cert.AdamDown

end
-- ==== Proof.Sums.lean ====
/-
  The value claim of the call that adds up the four devices' parts of the small weights' gradients and of the loss.
  Nothing is asked of the arguments.
-/
module

public import proofs.«01_k».proof.Proof.Adam
public import proofs.«01_k».proof.Proof.Gen.Kernel9Ideal.Value
public import proofs.«01_k».proof.Proof.Gen.Reference9Ideal.Run

@[expose] public section

set_option maxRecDepth 16384

noncomputable section

namespace Cert.Sums

open Idealize.ShloMosaic Idealize.ShloMosaic.TcCoe Idealize.SL.Sem Cert.Lift Cert.InProj Cert.Merge Cert.Adam

/-- Tables read at the same places agree. -/
theorem lay_emb {m n : ℕ} (f : ℕ → ℕ → EReal) (y z : (⟨2, ![m, n]⟩ : Shape).Idx)
    (e0 : (y 0).val = (z 0).val) (e1 : (y 1).val = (z 1).val) : lay ⟨2, ![m, n]⟩ f y = lay ⟨2, ![m, n]⟩ f z := congrArg₂ f e0 e1

theorem lay3_emb {m n : ℕ} (p : ℕ → ℕ → ℕ → EReal) (y z : (⟨3, ![4, m, n]⟩ : Shape).Idx)
    (e0 : (y 0).val = (z 0).val) (e1 : (y 1).val = (z 1).val) (e2 : (y 2).val = (z 2).val) :
    lay3 ⟨3, ![4, m, n]⟩ p y = lay3 ⟨3, ![4, m, n]⟩ p z := by
  show p (y 0).val (y 1).val (y 2).val = p (z 0).val (z 1).val (z 2).val
  rw [e0, e1, e2]

/-- One part, loaded out of the stack and without its leading axis. -/
theorem part {m n o : ℕ} (p : ℕ → ℕ → ℕ → EReal)
    (inb : ∀ a, (![o, 0, 0] : Fin 3 → ℕ) a + (![1, m, n] : Fin 3 → ℕ) a ≤ (⟨3, ![4, m, n]⟩ : Shape).size a)
    (h : (⟨3, ![1, m, n]⟩ : Shape).ShapeCasts ⟨2, ![m, n]⟩) :
    shapeCast ⟨2, ![m, n]⟩ (View.ld (Val := Elt Ideal) (e' := .f32) (lay3 ⟨3, ![4, m, n]⟩ p) (Rect.unit (s := ⟨3, ![4, m, n]⟩) ![o, 0, 0] ![1, m, n] inb)) h
      = lay ⟨2, ![m, n]⟩ (p o) :=
  (congrArg (fun z => shapeCast ⟨2, ![m, n]⟩ z h) (ld_part p inb)).trans (shapeCast_part h (p o))

section Kernel
open Cert.Kernel9Ideal Cert.Kernel9Ideal.Gen

variable (q : ℕ → ℕ → ℕ → EReal) (p : ℕ → ℕ → ℕ → ℕ → EReal)

theorem part0 (o : ℕ) (inb : ∀ a, (![o, 0, 0] : Fin 3 → ℕ) a + S1x1x12801.size a ≤ S4x1x12801.size a) (h) :
    shapeCast S1x12801 (View.ld (Val := Elt Ideal) (e' := .f32) (lay3 S4x1x12801 q) (Rect.unit (s := S4x1x12801) ![o, 0, 0] S1x1x12801.size inb)) h = lay S1x12801 (q o) :=
  part (m := 1) (n := 12801) q inb h

theorem block4 : out0_4 (F := Ideal) (lay3 S4x1x12801 (p 0)) (lay3 S4x1056x128 (p 1)) (lay3 S4x1x32 (p 2)) (lay3 S4x8x512 (p 3)) = lay S1x12801 (sum4 (p 0)) := by
  unfold out0_4
  rw [View.canon_cons_unit_lit (Val := Elt Ideal) _ _ _ (by decide)]
  unfold k0_pay3
  rw [part0, part0, part0, part0]
  rfl

theorem part1 (o : ℕ) (inb : ∀ a, (![o, 0, 0] : Fin 3 → ℕ) a + S1x1056x128.size a ≤ S4x1056x128.size a) (h) :
    shapeCast S1056x128 (View.ld (Val := Elt Ideal) (e' := .f32) (lay3 S4x1056x128 q) (Rect.unit (s := S4x1056x128) ![o, 0, 0] S1x1056x128.size inb)) h = lay S1056x128 (q o) :=
  part (m := 1056) (n := 128) q inb h

theorem block5 : out0_5 (F := Ideal) (lay3 S4x1x12801 (p 0)) (lay3 S4x1056x128 (p 1)) (lay3 S4x1x32 (p 2)) (lay3 S4x8x512 (p 3)) = lay S1056x128 (sum4 (p 1)) := by
  unfold out0_5
  rw [View.canon_cons_unit_lit (Val := Elt Ideal) _ _ _ (by decide)]
  unfold k0_pay4
  rw [part1, part1, part1, part1]
  rfl

theorem part2 (o : ℕ) (inb : ∀ a, (![o, 0, 0] : Fin 3 → ℕ) a + S1x1x32.size a ≤ S4x1x32.size a) (h) :
    shapeCast S1x32 (View.ld (Val := Elt Ideal) (e' := .f32) (lay3 S4x1x32 q) (Rect.unit (s := S4x1x32) ![o, 0, 0] S1x1x32.size inb)) h = lay S1x32 (q o) :=
  part (m := 1) (n := 32) q inb h

theorem block6 : out0_6 (F := Ideal) (lay3 S4x1x12801 (p 0)) (lay3 S4x1056x128 (p 1)) (lay3 S4x1x32 (p 2)) (lay3 S4x8x512 (p 3)) = lay S1x32 (sum4 (p 2)) := by
  unfold out0_6
  rw [View.canon_cons_unit_lit (Val := Elt Ideal) _ _ _ (by decide)]
  unfold k0_pay1 k0_pay5
  rw [part2, part2, part2, part2]
  rfl

theorem part3 (o : ℕ) (inb : ∀ a, (![o, 0, 0] : Fin 3 → ℕ) a + S1x8x512.size a ≤ S4x8x512.size a) (h) :
    shapeCast S8x512 (View.ld (Val := Elt Ideal) (e' := .f32) (lay3 S4x8x512 q) (Rect.unit (s := S4x8x512) ![o, 0, 0] S1x8x512.size inb)) h = lay S8x512 (q o) :=
  part (m := 8) (n := 512) q inb h

theorem block7 : out0_7 (F := Ideal) (lay3 S4x1x12801 (p 0)) (lay3 S4x1056x128 (p 1)) (lay3 S4x1x32 (p 2)) (lay3 S4x8x512 (p 3)) = lay S8x512 (sum4 (p 3)) := by
  unfold out0_7
  rw [View.canon_cons_unit_lit (Val := Elt Ideal) _ _ _ (by decide)]
  unfold k0_pay2
  rw [part3, part3, part3, part3]
  rfl

theorem index : ∀ t : Fin grid0.N, win0_0.index t 0 = 0 ∧ win0_0.index t 1 = 0 ∧ win0_0.index t 2 = 0 ∧ win0_1.index t 0 = 0 ∧ win0_1.index t 1 = 0 ∧ win0_1.index t 2 = 0 ∧ win0_2.index t 0 = 0 ∧ win0_2.index t 1 = 0 ∧ win0_2.index t 2 = 0 ∧ win0_3.index t 0 = 0 ∧ win0_3.index t 1 = 0 ∧ win0_3.index t 2 = 0 ∧ win0_4.index t 0 = 0 ∧ win0_4.index t 1 = 0 ∧ win0_5.index t 0 = 0 ∧ win0_5.index t 1 = 0 ∧ win0_6.index t 0 = 0 ∧ win0_6.index t 1 = 0 ∧ win0_7.index t 0 = 0 ∧ win0_7.index t 1 = 0 := by decide +kernel

/-- The program's arguments on a device are these tables. -/
structure Given (m : (ℓ : Loc nD τ sig) → Buf (Elt Ideal) ℓ) (c : Dev nD) (p : ℕ → ℕ → ℕ → ℕ → EReal) : Prop where
  h0 : m ((c : Thread nD τ).loc main_arg0) = lay3 S4x1x12801 (p 0)
  h1 : m ((c : Thread nD τ).loc main_arg1) = lay3 S4x1056x128 (p 1)
  h2 : m ((c : Thread nD τ).loc main_arg2) = lay3 S4x1x32 (p 2)
  h3 : m ((c : Thread nD τ).loc main_arg3) = lay3 S4x8x512 (p 3)

variable {m : (ℓ : Loc nD τ sig) → Buf (Elt Ideal) ℓ} {c : Dev nD} {p : ℕ → ℕ → ℕ → ℕ → EReal}

theorem Given.in0 (h : Given m c p) (t : Fin cfg0.N) : iblk m c 0 t = lay3 S4x1x12801 (p 0) := by
  funext y
  refine (congrFun h.h0 (((cfg0.win 0).blk t).view.emb y)).trans (lay3_emb _ _ _ ?_ ?_ ?_)
  all_goals
    blk_simp [index t]
    try omega

theorem Given.in1 (h : Given m c p) (t : Fin cfg0.N) : iblk m c 1 t = lay3 S4x1056x128 (p 1) := by
  funext y
  refine (congrFun h.h1 (((cfg0.win 1).blk t).view.emb y)).trans (lay3_emb _ _ _ ?_ ?_ ?_)
  all_goals
    blk_simp [index t]
    try omega

theorem Given.in2 (h : Given m c p) (t : Fin cfg0.N) : iblk m c 2 t = lay3 S4x1x32 (p 2) := by
  funext y
  refine (congrFun h.h2 (((cfg0.win 2).blk t).view.emb y)).trans (lay3_emb _ _ _ ?_ ?_ ?_)
  all_goals
    blk_simp [index t]
    try omega

theorem Given.in3 (h : Given m c p) (t : Fin cfg0.N) : iblk m c 3 t = lay3 S4x8x512 (p 3) := by
  funext y
  refine (congrFun h.h3 (((cfg0.win 3).blk t).view.emb y)).trans (lay3_emb _ _ _ ?_ ?_ ?_)
  all_goals
    blk_simp [index t]
    try omega

theorem out4 (h : Given m c p) : (dats m 0 c).arrAt 4 cfg0.N = lay S1x12801 (sum4 (p 0)) := by
  refine (dats m 0 c).arrAt_eq_of_covers 4 (lay S1x12801 (sum4 (p 0))) (by decide +kernel) fun t _ y => ?_
  refine (congrFun (after0_4 m c t) _).trans ?_
  rw [h.in0, h.in1, h.in2, h.in3]
  refine (congrFun (block4 p) y).trans (lay_emb _ _ _ ?_ ?_)
  all_goals
    blk_simp [index t]
    try omega

theorem out5 (h : Given m c p) : (dats m 0 c).arrAt 5 cfg0.N = lay S1056x128 (sum4 (p 1)) := by
  refine (dats m 0 c).arrAt_eq_of_covers 5 (lay S1056x128 (sum4 (p 1))) (by decide +kernel) fun t _ y => ?_
  refine (congrFun (after0_5 m c t) _).trans ?_
  rw [h.in0, h.in1, h.in2, h.in3]
  refine (congrFun (block5 p) y).trans (lay_emb _ _ _ ?_ ?_)
  all_goals
    blk_simp [index t]
    try omega

theorem out6 (h : Given m c p) : (dats m 0 c).arrAt 6 cfg0.N = lay S1x32 (sum4 (p 2)) := by
  refine (dats m 0 c).arrAt_eq_of_covers 6 (lay S1x32 (sum4 (p 2))) (by decide +kernel) fun t _ y => ?_
  refine (congrFun (after0_6 m c t) _).trans ?_
  rw [h.in0, h.in1, h.in2, h.in3]
  refine (congrFun (block6 p) y).trans (lay_emb _ _ _ ?_ ?_)
  all_goals
    blk_simp [index t]
    try omega

theorem out7 (h : Given m c p) : (dats m 0 c).arrAt 7 cfg0.N = lay S8x512 (sum4 (p 3)) := by
  refine (dats m 0 c).arrAt_eq_of_covers 7 (lay S8x512 (sum4 (p 3))) (by decide +kernel) fun t _ y => ?_
  refine (congrFun (after0_7 m c t) _).trans ?_
  rw [h.in0, h.in1, h.in2, h.in3]
  refine (congrFun (block7 p) y).trans (lay_emb _ _ _ ?_ ?_)
  all_goals
    blk_simp [index t]
    try omega

end Kernel

/-- Every launch's arguments are laid out of tables. -/
theorem exists_given (m : (ℓ : Loc Cert.Kernel9Ideal.nD Cert.Kernel9Ideal.τ Cert.Kernel9Ideal.sig) → Buf (Elt Ideal) ℓ) (c : Dev Cert.Kernel9Ideal.nD) :
    ∃ p : ℕ → ℕ → ℕ → ℕ → EReal, Given m c p := by
  obtain ⟨p0, h0⟩ := exists_lay3 (m := 1) (n := 12801) (m ((c.tc : Thread Cert.Kernel9Ideal.nD Cert.Kernel9Ideal.τ).loc Cert.Kernel9Ideal.main_arg0))
  obtain ⟨p1, h1⟩ := exists_lay3 (m := 1056) (n := 128) (m ((c.tc : Thread Cert.Kernel9Ideal.nD Cert.Kernel9Ideal.τ).loc Cert.Kernel9Ideal.main_arg1))
  obtain ⟨p2, h2⟩ := exists_lay3 (m := 1) (n := 32) (m ((c.tc : Thread Cert.Kernel9Ideal.nD Cert.Kernel9Ideal.τ).loc Cert.Kernel9Ideal.main_arg2))
  obtain ⟨p3, h3⟩ := exists_lay3 (m := 8) (n := 512) (m ((c.tc : Thread Cert.Kernel9Ideal.nD Cert.Kernel9Ideal.τ).loc Cert.Kernel9Ideal.main_arg3))
  exact ⟨fun | 0 => p0 | 1 => p1 | 2 => p2 | _ => p3, ⟨h0, h1, h2, h3⟩⟩

theorem equal : Cert.algebraic_Kernel9Ideal_Reference9Ideal := by
  intro m g m' g' _ hargs
  choose p hp using exists_given m
  refine ⟨fun c => lay Cert.Kernel9Ideal.S1x12801 (sum4 (p c 0)), fun c => lay Cert.Kernel9Ideal.S1056x128 (sum4 (p c 1)), fun c => lay Cert.Kernel9Ideal.S1x32 (sum4 (p c 2)), fun c => lay Cert.Kernel9Ideal.S8x512 (sum4 (p c 3)), ?_, ?_⟩
  · refine (θ_run _ _ _).mono (fun r h c => ?_) (Cert.Kernel9Ideal.Value.run_blocks m g)
    obtain ⟨k0, k1, k2, k3, ka⟩ := h c
    exact ⟨k0.trans (out4 (hp c)), k1.trans (out5 (hp c)), k2.trans (out6 (hp c)), k3.trans (out7 (hp c)), ka⟩
  · refine (θ_run _ _ _).mono (fun r h c => ?_) (Cert.Reference9Ideal.Value.run m' g')
    obtain ⟨k0, k1, k2, k3, ka⟩ := h c
    obtain ⟨b0, b1, b2, b3⟩ := hargs c
    refine ⟨k0.trans ?_, k1.trans ?_, k2.trans ?_, k3.trans ?_, ka⟩
    · rw [show m' ((c.tc : Thread Cert.Reference9Ideal.nD Cert.Reference9Ideal.τ).loc Cert.Reference9Ideal.main_arg0) = _ from b0.trans (hp c).h0]
      exact host_sum4 (m := 1) (n := 12801) (p c 0) Cert.Reference9Ideal.Facts₀.reducesTo_S4x1x12801_S1x12801_d0 (by decide) Cert.Reference9Ideal.Facts₀.h_S_
    · rw [show m' ((c.tc : Thread Cert.Reference9Ideal.nD Cert.Reference9Ideal.τ).loc Cert.Reference9Ideal.main_arg1) = _ from b1.trans (hp c).h1]
      exact host_sum4 (m := 1056) (n := 128) (p c 1) Cert.Reference9Ideal.Facts₀.reducesTo_S4x1056x128_S1056x128_d0 (by decide) Cert.Reference9Ideal.Facts₀.h_S_
    · rw [show m' ((c.tc : Thread Cert.Reference9Ideal.nD Cert.Reference9Ideal.τ).loc Cert.Reference9Ideal.main_arg2) = _ from b2.trans (hp c).h2]
      exact host_sum4 (m := 1) (n := 32) (p c 2) Cert.Reference9Ideal.Facts₀.reducesTo_S4x1x32_S1x32_d0 (by decide) Cert.Reference9Ideal.Facts₀.h_S_
    · rw [show m' ((c.tc : Thread Cert.Reference9Ideal.nD Cert.Reference9Ideal.τ).loc Cert.Reference9Ideal.main_arg3) = _ from b3.trans (hp c).h3]
      exact host_sum4 (m := 8) (n := 512) (p c 3) Cert.Reference9Ideal.Facts₀.reducesTo_S4x8x512_S8x512_d0 (by decide) Cert.Reference9Ideal.Facts₀.h_S_

end Cert.Sums

end
-- ==== Proof.Spec.lean ====
/-
  The squared-ReLU block of the training step over the real numbers: its forward pass, the loss of its layer norm's output,
  and the gradients. Arrays are functions of a row and a column; every quantity of a row depends on that row alone, so that
  the same definitions serve a block of rows and the whole array. At the end, the algebra that joins the two ways in which
  the programs write the same gradient.
-/
module

public import Mathlib.Analysis.SpecialFunctions.Pow.Real
public import Mathlib.Algebra.BigOperators.Intervals

@[expose] public section

noncomputable section

namespace Cert.Spec

open Finset

/-- An array of real numbers, by row and column. -/
abbrev Mat := ℕ → ℕ → ℝ

/-- The residual's weight, the rational of its float word. -/
def alpha : ℝ := 9975792 / 8388608
/-- What the layer norm adds to the variance, the rational of its float word. -/
def eps : ℝ := 10995116 / 1099511627776

theorem eps_pos : 0 < eps := by unfold eps; norm_num

/-- The block's arguments: the normalised rows `X`, the targets `T`, the first norm's scale and shift `g`, `b`, the two
    products' weights and biases, and the second norm's scale and shift. -/
structure Args where
  X : Mat
  T : Mat
  g : Mat
  b : Mat
  wu : Mat
  bu : Mat
  wd : Mat
  bd : Mat
  g2 : Mat
  b2 : Mat

/-- The arguments as block `t` of 256 rows sees them. -/
def Args.rows (P : Args) (t : ℕ) : Args :=
  { P with X := fun r c => P.X (256 * t + r) c, T := fun r c => P.T (256 * t + r) c }

variable (P : Args)

/-- The block's input. -/
def x1 : Mat := fun r c => P.X r c * P.g 0 c + P.b 0 c
/-- The hidden layer before the ReLU. -/
def pre : Mat := fun r k => (∑ j ∈ range 1024, x1 P r j * P.wu j k) + P.bu 0 k
/-- The hidden layer's ReLU. -/
def rl : Mat := fun r k => max (pre P r k) 0
/-- The residual sum. -/
def r2 : Mat := fun r c => alpha * x1 P r c + (∑ k ∈ range 4096, (rl P r k * rl P r k) * P.wd k c) + P.bd 0 c
/-- A row's mean. -/
def mu : ℕ → ℝ := fun r => (∑ c ∈ range 1024, r2 P r c) / 1024
/-- The deviation from the row's mean. -/
def dev : Mat := fun r c => r2 P r c - mu P r
/-- A row's variance with `eps` added. -/
def vare : ℕ → ℝ := fun r => (∑ c ∈ range 1024, dev P r c * dev P r c) / 1024 + eps
/-- The reciprocal standard deviation. -/
def rstd : ℕ → ℝ := fun r => (Real.sqrt (vare P r))⁻¹
/-- The normalised row. -/
def xhat : Mat := fun r c => dev P r c * rstd P r
/-- The output less the target. -/
def err : Mat := fun r c => xhat P r c * P.g2 0 c + P.b2 0 c - P.T r c
/-- The loss's gradient by the output. -/
def dy : Mat := fun r c => err P r c * (1 / 1024)
/-- … by the normalised row. -/
def ct : Mat := fun r c => dy P r c * P.g2 0 c
/-- … by the residual sum. -/
def dr2 : Mat := fun r c =>
  rstd P r * (ct P r c - (∑ j ∈ range 1024, ct P r j) / 1024
    - xhat P r c * ((∑ j ∈ range 1024, ct P r j * xhat P r j) / 1024))
/-- … by the hidden layer's square. -/
def dh : Mat := fun r k => ∑ c ∈ range 1024, dr2 P r c * P.wd k c
/-- … by the hidden layer before the ReLU. -/
def dpre : Mat := fun r k => dh P r k * (2 * rl P r k)
/-- … by the block's input. -/
def dx1 : Mat := fun r c => alpha * dr2 P r c + ∑ k ∈ range 4096, dpre P r k * P.wu c k
/-- A row's sum of squared errors. -/
def sqr : ℕ → ℝ := fun r => ∑ c ∈ range 1024, err P r c * err P r c

theorem vare_pos (r : ℕ) : 0 < vare P r := by
  unfold vare
  have h : 0 ≤ ∑ c ∈ range 1024, dev P r c * dev P r c := sum_nonneg fun c _ => mul_self_nonneg _
  have := eps_pos
  positivity

/-- A row's deviations add up to zero. -/
theorem dev_sum (r : ℕ) : ∑ c ∈ range 1024, dev P r c = 0 := by
  simp only [dev, sum_sub_distrib, sum_const, card_range, nsmul_eq_mul]
  unfold mu
  norm_num
  ring

/-- A sum of 4096 terms as four sums of 1024. -/
theorem sum_four (f : ℕ → ℝ) :
    ∑ k ∈ range 4096, f k = ((∑ k ∈ range 1024, f k + ∑ k ∈ range 1024, f (1024 + k)) + ∑ k ∈ range 1024, f (2048 + k))
      + ∑ k ∈ range 1024, f (3072 + k) := by
  rw [show (4096 : ℕ) = 3072 + 1024 from rfl, sum_range_add, show (3072 : ℕ) = 2048 + 1024 from rfl, sum_range_add,
    show (2048 : ℕ) = 1024 + 1024 from rfl, sum_range_add]

/-- A sum over `n` blocks of 256 rows is the sum over their rows. -/
theorem sum_rows (f : ℕ → ℝ) (n : ℕ) :
    ∑ t ∈ range n, ∑ r ∈ range 256, f (256 * t + r) = ∑ r ∈ range (256 * n), f r := by
  induction n with
  | zero => simp
  | succ n ih => rw [sum_range_succ, ih, Nat.mul_succ, sum_range_add]

/-- The layer norm's gradient: the form that a derivative rule gives, through the variance and the mean, is the short form
    with two row means. `a` are the row's deviations, `c` the gradient by the normalised row, `v` the variance with `eps`. -/
theorem norm_grad (a c : ℕ → ℝ) (v : ℝ) (hv : 0 < v) (ha : ∑ k ∈ range 1024, a k = 0) (k : ℕ) :
    (c k * (Real.sqrt v)⁻¹
        + ((∑ j ∈ range 1024, a j * c j) * (-(1 / 2) * ((Real.sqrt v)⁻¹ / v))) / 1024 * (2 * a k))
      + ((∑ j ∈ range 1024, -(c j * (Real.sqrt v)⁻¹))
          + ∑ j ∈ range 1024, -(((∑ j ∈ range 1024, a j * c j) * (-(1 / 2) * ((Real.sqrt v)⁻¹ / v))) / 1024 * (2 * a j))) / 1024
    = (Real.sqrt v)⁻¹ * (c k - (∑ j ∈ range 1024, c j) / 1024
        - a k * (Real.sqrt v)⁻¹ * ((∑ j ∈ range 1024, c j * (a j * (Real.sqrt v)⁻¹)) / 1024)) := by
  have hs : (Real.sqrt v)⁻¹ * (Real.sqrt v)⁻¹ = 1 / v := by
    rw [← mul_inv, Real.mul_self_sqrt hv.le, one_div]
  have h1 : ∑ j ∈ range 1024, -(c j * (Real.sqrt v)⁻¹) = -((∑ j ∈ range 1024, c j) * (Real.sqrt v)⁻¹) := by
    rw [sum_neg_distrib, sum_mul]
  have h2 : ∀ K : ℝ, ∑ j ∈ range 1024, -(K / 1024 * (2 * a j)) = 0 := fun K => by
    have : ∀ j, -(K / 1024 * (2 * a j)) = -(K / 512) * a j := fun j => by ring
    rw [sum_congr rfl fun j _ => this j, ← mul_sum, ha, mul_zero]
  have h3 : ∑ j ∈ range 1024, c j * (a j * (Real.sqrt v)⁻¹) = (∑ j ∈ range 1024, a j * c j) * (Real.sqrt v)⁻¹ := by
    rw [sum_mul]
    exact sum_congr rfl fun j _ => by ring
  rw [h1, h2, h3]
  have hs' : (Real.sqrt v)⁻¹ / v = (Real.sqrt v)⁻¹ * ((Real.sqrt v)⁻¹ * (Real.sqrt v)⁻¹) := by rw [hs]; ring
  rw [hs']
  ring

/-- The squared ReLU's gradient, chosen by the sign of its argument. -/
theorem relu_grad (p d : ℝ) : (if 0 < p then d * (2 * max p 0) else 0) = d * (2 * max p 0) := by
  split
  · rfl
  · next h => rw [max_eq_right (not_lt.1 h)]; ring

end Cert.Spec

end
-- ==== Proof.Lits.lean ====
/-
  The float constants of the programs as the rationals that their words are.
-/
module

public import proofs.«01_k».proof.Proof.Lift
public import proofs.«01_k».proof.Proof.Spec

@[expose] public section

noncomputable section

namespace Cert.Lift

open Idealize.ShloMosaic Cert.Spec

theorem word_zero : Ideal.ofBits .f32 0x00000000#32 = ((0 : ℝ) : EReal) := by simp [Ideal.ofBits, Ideal.ieee]
theorem word_one : Ideal.ofBits .f32 0x3F800000#32 = ((1 : ℝ) : EReal) := by
  simp [Ideal.ofBits, Ideal.ieee, -EReal.coe_mul]; try norm_num
theorem word_two : Ideal.ofBits .f32 0x40000000#32 = ((2 : ℝ) : EReal) := by
  simp [Ideal.ofBits, Ideal.ieee, -EReal.coe_mul]; try norm_num
theorem word_half : Ideal.ofBits .f32 0x3F000000#32 = ((1 / 2 : ℝ) : EReal) := by
  simp [Ideal.ofBits, Ideal.ieee, -EReal.coe_mul]; try norm_num
theorem word_neg_half : Ideal.ofBits .f32 0xBF000000#32 = ((-(1 / 2) : ℝ) : EReal) := by
  simp [Ideal.ofBits, Ideal.ieee, -EReal.coe_mul]; try norm_num
theorem word_1024 : Ideal.ofBits .f32 0x44800000#32 = ((1024 : ℝ) : EReal) := by
  simp [Ideal.ofBits, Ideal.ieee, -EReal.coe_mul]; try norm_num
theorem word_1024th : Ideal.ofBits .f32 0x3A800000#32 = ((1 / 1024 : ℝ) : EReal) := by
  simp [Ideal.ofBits, Ideal.ieee, -EReal.coe_mul]; try norm_num
theorem word_2048th : Ideal.ofBits .f32 0x3A000000#32 = ((1 / 2048 : ℝ) : EReal) := by
  simp [Ideal.ofBits, Ideal.ieee, -EReal.coe_mul]; try norm_num
theorem word_alpha : Ideal.ofBits .f32 0x3F9837F0#32 = ((alpha : ℝ) : EReal) := by
  unfold alpha
  simp [Ideal.ofBits, Ideal.ieee, -EReal.coe_mul]; try norm_num
theorem word_eps : Ideal.ofBits .f32 0x3727C5AC#32 = ((eps : ℝ) : EReal) := by
  unfold eps
  simp [Ideal.ofBits, Ideal.ieee, -EReal.coe_mul]; try norm_num

section
variable (S : Shape)
theorem lit_zero : constant (F := Ideal) S .f32 0x00000000#32 = up S fun _ _ => 0 := constant_up S _ _ word_zero
theorem lit_one : constant (F := Ideal) S .f32 0x3F800000#32 = up S fun _ _ => 1 := constant_up S _ _ word_one
theorem lit_two : constant (F := Ideal) S .f32 0x40000000#32 = up S fun _ _ => 2 := constant_up S _ _ word_two
theorem lit_half : constant (F := Ideal) S .f32 0x3F000000#32 = up S fun _ _ => 1 / 2 := constant_up S _ _ word_half
theorem lit_neg_half : constant (F := Ideal) S .f32 0xBF000000#32 = up S fun _ _ => -(1 / 2) := constant_up S _ _ word_neg_half
theorem lit_1024 : constant (F := Ideal) S .f32 0x44800000#32 = up S fun _ _ => 1024 := constant_up S _ _ word_1024
theorem lit_alpha : constant (F := Ideal) S .f32 0x3F9837F0#32 = up S fun _ _ => alpha := constant_up S _ _ word_alpha
theorem lit_eps : constant (F := Ideal) S .f32 0x3727C5AC#32 = up S fun _ _ => eps := constant_up S _ _ word_eps

theorem num_zero : broadcast S (Scalar.ofBits (F := Ideal) .f32 0x00000000#32) = up S fun _ _ => 0 := funext fun _ => word_zero
theorem num_two : broadcast S (Scalar.ofBits (F := Ideal) .f32 0x40000000#32) = up S fun _ _ => 2 := funext fun _ => word_two
theorem num_1024 : broadcast S (Scalar.ofBits (F := Ideal) .f32 0x44800000#32) = up S fun _ _ => 1024 := funext fun _ => word_1024
theorem num_1024th : broadcast S (Scalar.ofBits (F := Ideal) .f32 0x3A800000#32) = up S fun _ _ => 1 / 1024 :=
  funext fun _ => word_1024th
theorem num_2048th : broadcast S (Scalar.ofBits (F := Ideal) .f32 0x3A000000#32) = up S fun _ _ => 1 / 2048 :=
  funext fun _ => word_2048th
theorem num_alpha : broadcast S (Scalar.ofBits (F := Ideal) .f32 0x3F9837F0#32) = up S fun _ _ => alpha := funext fun _ => word_alpha
theorem num_eps : broadcast S (Scalar.ofBits (F := Ideal) .f32 0x3727C5AC#32) = up S fun _ _ => eps := funext fun _ => word_eps

/-- A quotient by the number 1024. -/
theorem divf_1024 (φ : FTy) (f : ℕ → ℕ → ℝ) :
    divf (F := Ideal) (φ := φ) (up S f) (up S fun _ _ => 1024) = up S (fun r c => f r c / 1024) :=
  divf_up f _ fun _ _ => by norm_num
theorem host_divf_1024 (φ : FTy) (f : ℕ → ℕ → ℝ) :
    Host.divf (F := Ideal) (φ := φ) (up S f) (up S fun _ _ => 1024) = up S (fun r c => f r c / 1024) :=
  host_divf_up f _ fun _ _ => by norm_num
end

end Cert.Lift

end
-- ==== Proof.Pay.lean ====
/-
  The kernel's payloads at the ideal values, each as the block's quantity over the real numbers.
-/
module

public import proofs.«01_k».proof.Proof.Lits
public import proofs.«01_k».proof.Proof.Gen.KernelIdeal.Skeleton

@[expose] public section

set_option maxRecDepth 16384

noncomputable section

namespace Cert.Pay

open Idealize.ShloMosaic Cert.Lift Cert.Spec Cert.KernelIdeal Cert.KernelIdeal.Gen Finset

section
variable {φ₁ φ₂ : FTy} (f g z : ℕ → ℕ → ℝ)

theorem dot_plain : matmul (F := Ideal) (φ₁ := φ₁) (φ₂ := φ₂) dot_S256x1024_S1024x1024_S256x1024_1_0_0_1_n_n none (up S256x1024 f) (up S1024x1024 g) (up S256x1024 z)
    = up S256x1024 (fun r c => z r c + ∑ k ∈ range 1024, f r k * g k c) :=
  matmul_up (M := 256) (K := 1024) (N := 1024) f g z none
theorem dot_trans : matmul (F := Ideal) (φ₁ := φ₁) (φ₂ := φ₂) dot_S256x1024_S1024x1024_S256x1024_1_1_0_0_n_n none (up S256x1024 f) (up S1024x1024 g) (up S256x1024 z)
    = up S256x1024 (fun r c => z r c + ∑ k ∈ range 1024, f r k * g c k) :=
  matmulT_up (M := 256) (K := 1024) (N := 1024) f g z none
theorem sum_r (h : S256x1024.Reduces [1] S256) (hφ : FKind.Formats .f32) (ha : (0x00000000#32 : BitVec 32) = 0x00000000#32) :
    multiReduction (F := Ideal) (φ := .f32) .add [1] S256 (up S256x1024 f) 0x00000000#32 h hφ ha
      = up S256 (fun r _ => ∑ k ∈ range 1024, f r k) := sum_rows f _ h hφ ha
theorem sum_c (h : S256x1024.Reduces [0] S1024) (hφ : FKind.Formats .f32) (ha : (0x00000000#32 : BitVec 32) = 0x00000000#32) :
    multiReduction (F := Ideal) (φ := .f32) .add [0] S1024 (up S256x1024 f) 0x00000000#32 h hφ ha
      = up S1024 (fun c _ => ∑ k ∈ range 256, f k c) := sum_cols f _ h hφ ha
theorem sum_one (h : S256x1.Reduces [0] S1) (hφ : FKind.Formats .f32) (ha : (0x00000000#32 : BitVec 32) = 0x00000000#32) :
    multiReduction (F := Ideal) (φ := .f32) .add [0] S1 (up S256x1 f) 0x00000000#32 h hφ ha
      = up S1 (fun c _ => ∑ k ∈ range 256, f k c) := sum_cols f _ h hφ ha
end

variable (P : Args)

/-! The block's input and the hidden layer, by chunks of 1024 columns. -/

theorem pay7 : k0_pay7 (F := Ideal) (up S256x1024 P.X) (up S1x1024 P.g) (up S1x1024 P.b)
    = up S256x1024 (x1 P) := by
  rw [k0_pay7]
  simp -proj only [lit_zero, num_zero, num_two, num_1024, num_1024th, num_2048th, num_alpha, num_eps, divf_1024, mulf_up, addf_up, subf_up, maximumf_up, truncf_up, shapeCast_same, dot_plain, dot_trans, zero_add, broadcastTo_row (m := 256) (n := 1024) _ (by decide)]
  rfl
theorem pay8 : k0_pay8 (F := Ideal) (up S256x1024 P.X) (up S1x1024 P.g) (up S1x1024 P.b)
    = up S256x1024 (x1 P) := by
  rw [k0_pay8]
  simp -proj only [lit_zero, num_zero, num_two, num_1024, num_1024th, num_2048th, num_alpha, num_eps, divf_1024, mulf_up, addf_up, subf_up, maximumf_up, truncf_up, shapeCast_same, dot_plain, dot_trans, zero_add, pay7]
theorem pay9 : k0_pay9 (F := Ideal) (up S256x1024 P.X) (up S1x1024 P.g) (up S1x1024 P.b)
    = up S1024x256 (fun c r => x1 P r c) := by
  rw [k0_pay9]
  simp -proj only [lit_zero, num_zero, num_two, num_1024, num_1024th, num_2048th, num_alpha, num_eps, divf_1024, mulf_up, addf_up, subf_up, maximumf_up, truncf_up, shapeCast_same, dot_plain, dot_trans, zero_add, pay8, transpose_up (m := 256) (n := 1024)]
theorem pay10 : k0_pay10 (F := Ideal) (up S256x1024 P.X) (up S1x1024 P.g) (up S1x1024 P.b) (up S1024x1024 (fun k j => P.wu j (1024 + k)))
    = up S256x1024 (fun r k => ∑ j ∈ range 1024, x1 P r j * P.wu j (1024 + k)) := by
  rw [k0_pay10]
  simp -proj only [lit_zero, num_zero, num_two, num_1024, num_1024th, num_2048th, num_alpha, num_eps, divf_1024, mulf_up, addf_up, subf_up, maximumf_up, truncf_up, shapeCast_same, dot_plain, dot_trans, zero_add, pay8]
theorem pay11 : k0_pay11 (F := Ideal) (up S256x1024 P.X) (up S1x1024 P.g) (up S1x1024 P.b) (up S1024x1024 (fun k j => P.wu j (2048 + k)))
    = up S256x1024 (fun r k => ∑ j ∈ range 1024, x1 P r j * P.wu j (2048 + k)) := by
  rw [k0_pay11]
  simp -proj only [lit_zero, num_zero, num_two, num_1024, num_1024th, num_2048th, num_alpha, num_eps, divf_1024, mulf_up, addf_up, subf_up, maximumf_up, truncf_up, shapeCast_same, dot_plain, dot_trans, zero_add, pay8]
theorem pay12 : k0_pay12 (F := Ideal) (up S256x1024 P.X) (up S1x1024 P.g) (up S1x1024 P.b) (up S1024x1024 (fun k j => P.wu j (3072 + k)))
    = up S256x1024 (fun r k => ∑ j ∈ range 1024, x1 P r j * P.wu j (3072 + k)) := by
  rw [k0_pay12]
  simp -proj only [lit_zero, num_zero, num_two, num_1024, num_1024th, num_2048th, num_alpha, num_eps, divf_1024, mulf_up, addf_up, subf_up, maximumf_up, truncf_up, shapeCast_same, dot_plain, dot_trans, zero_add, pay8]
theorem pay13 : k0_pay13 (F := Ideal) (up S256x1024 P.X) (up S1x1024 P.g) (up S1x1024 P.b) (up S1024x1024 (fun k j => P.wu j (k))) (up S1x1024 (fun r k => P.bu r (k)))
    = up S256x1024 (rl P) := by
  rw [k0_pay13]
  simp -proj only [lit_zero, num_zero, num_two, num_1024, num_1024th, num_2048th, num_alpha, num_eps, divf_1024, mulf_up, addf_up, subf_up, maximumf_up, truncf_up, shapeCast_same, dot_plain, dot_trans, zero_add, pay8, broadcastTo_row (m := 256) (n := 1024) _ (by decide)]
  rfl
theorem pay14 : k0_pay14 (F := Ideal) (up S256x1024 (rl P))
    = up S256x1024 (rl P) := by
  rw [k0_pay14]
  simp -proj only [lit_zero, num_zero, num_two, num_1024, num_1024th, num_2048th, num_alpha, num_eps, divf_1024, mulf_up, addf_up, subf_up, maximumf_up, truncf_up, shapeCast_same, dot_plain, dot_trans, zero_add]
theorem pay15 : k0_pay15 (F := Ideal) (up S256x1024 (rl P))
    = up S256x1024 (fun r k => rl P r (k) * rl P r (k)) := by
  rw [k0_pay15]
  simp -proj only [lit_zero, num_zero, num_two, num_1024, num_1024th, num_2048th, num_alpha, num_eps, divf_1024, mulf_up, addf_up, subf_up, maximumf_up, truncf_up, shapeCast_same, dot_plain, dot_trans, zero_add]
theorem pay16 : k0_pay16 (F := Ideal) (up S256x1024 (fun r k => ∑ j ∈ range 1024, x1 P r j * P.wu j (1024 + k))) (up S1x1024 (fun r k => P.bu r (1024 + k)))
    = up S256x1024 (fun r k => rl P r (1024 + k)) := by
  rw [k0_pay16]
  simp -proj only [lit_zero, num_zero, num_two, num_1024, num_1024th, num_2048th, num_alpha, num_eps, divf_1024, mulf_up, addf_up, subf_up, maximumf_up, truncf_up, shapeCast_same, dot_plain, dot_trans, zero_add, broadcastTo_row (m := 256) (n := 1024) _ (by decide)]
  rfl
theorem pay17 : k0_pay17 (F := Ideal) (up S256x1024 (fun r k => ∑ j ∈ range 1024, x1 P r j * P.wu j (1024 + k))) (up S1x1024 (fun r k => P.bu r (1024 + k)))
    = up S256x1024 (fun r k => rl P r (1024 + k)) := by
  rw [k0_pay17]
  simp -proj only [lit_zero, num_zero, num_two, num_1024, num_1024th, num_2048th, num_alpha, num_eps, divf_1024, mulf_up, addf_up, subf_up, maximumf_up, truncf_up, shapeCast_same, dot_plain, dot_trans, zero_add, pay16]
theorem pay18 : k0_pay18 (F := Ideal) (up S256x1024 (fun r k => ∑ j ∈ range 1024, x1 P r j * P.wu j (1024 + k))) (up S1x1024 (fun r k => P.bu r (1024 + k)))
    = up S256x1024 (fun r k => rl P r (1024 + k) * rl P r (1024 + k)) := by
  rw [k0_pay18]
  simp -proj only [lit_zero, num_zero, num_two, num_1024, num_1024th, num_2048th, num_alpha, num_eps, divf_1024, mulf_up, addf_up, subf_up, maximumf_up, truncf_up, shapeCast_same, dot_plain, dot_trans, zero_add, pay16]
theorem pay19 : k0_pay19 (F := Ideal) (up S256x1024 (fun r k => ∑ j ∈ range 1024, x1 P r j * P.wu j (2048 + k))) (up S1x1024 (fun r k => P.bu r (2048 + k)))
    = up S256x1024 (fun r k => rl P r (2048 + k)) := by
  rw [k0_pay19]
  simp -proj only [lit_zero, num_zero, num_two, num_1024, num_1024th, num_2048th, num_alpha, num_eps, divf_1024, mulf_up, addf_up, subf_up, maximumf_up, truncf_up, shapeCast_same, dot_plain, dot_trans, zero_add, broadcastTo_row (m := 256) (n := 1024) _ (by decide)]
  rfl
theorem pay20 : k0_pay20 (F := Ideal) (up S256x1024 (fun r k => ∑ j ∈ range 1024, x1 P r j * P.wu j (2048 + k))) (up S1x1024 (fun r k => P.bu r (2048 + k)))
    = up S256x1024 (fun r k => rl P r (2048 + k)) := by
  rw [k0_pay20]
  simp -proj only [lit_zero, num_zero, num_two, num_1024, num_1024th, num_2048th, num_alpha, num_eps, divf_1024, mulf_up, addf_up, subf_up, maximumf_up, truncf_up, shapeCast_same, dot_plain, dot_trans, zero_add, pay19]
theorem pay21 : k0_pay21 (F := Ideal) (up S256x1024 (fun r k => ∑ j ∈ range 1024, x1 P r j * P.wu j (2048 + k))) (up S1x1024 (fun r k => P.bu r (2048 + k)))
    = up S256x1024 (fun r k => rl P r (2048 + k) * rl P r (2048 + k)) := by
  rw [k0_pay21]
  simp -proj only [lit_zero, num_zero, num_two, num_1024, num_1024th, num_2048th, num_alpha, num_eps, divf_1024, mulf_up, addf_up, subf_up, maximumf_up, truncf_up, shapeCast_same, dot_plain, dot_trans, zero_add, pay19]
theorem pay22 : k0_pay22 (F := Ideal) (up S256x1024 (fun r k => ∑ j ∈ range 1024, x1 P r j * P.wu j (3072 + k))) (up S1x1024 (fun r k => P.bu r (3072 + k)))
    = up S256x1024 (fun r k => rl P r (3072 + k)) := by
  rw [k0_pay22]
  simp -proj only [lit_zero, num_zero, num_two, num_1024, num_1024th, num_2048th, num_alpha, num_eps, divf_1024, mulf_up, addf_up, subf_up, maximumf_up, truncf_up, shapeCast_same, dot_plain, dot_trans, zero_add, broadcastTo_row (m := 256) (n := 1024) _ (by decide)]
  rfl
theorem pay23 : k0_pay23 (F := Ideal) (up S256x1024 (fun r k => rl P r (3072 + k)))
    = up S256x1024 (fun r k => rl P r (3072 + k)) := by
  rw [k0_pay23]
  simp -proj only [lit_zero, num_zero, num_two, num_1024, num_1024th, num_2048th, num_alpha, num_eps, divf_1024, mulf_up, addf_up, subf_up, maximumf_up, truncf_up, shapeCast_same, dot_plain, dot_trans, zero_add]
theorem pay24 : k0_pay24 (F := Ideal) (up S256x1024 (fun r k => rl P r (3072 + k)))
    = up S256x1024 (fun r k => rl P r (3072 + k) * rl P r (3072 + k)) := by
  rw [k0_pay24]
  simp -proj only [lit_zero, num_zero, num_two, num_1024, num_1024th, num_2048th, num_alpha, num_eps, divf_1024, mulf_up, addf_up, subf_up, maximumf_up, truncf_up, shapeCast_same, dot_plain, dot_trans, zero_add]
/-! The residual sum, its mean, the normalised row and the error. -/

theorem pay25 : k0_pay25 (F := Ideal) (up S256x1024 (x1 P)) (up S256x1024 (fun r k => rl P r (k) * rl P r (k))) (up S256x1024 (fun r k => rl P r (1024 + k) * rl P r (1024 + k))) (up S256x1024 (fun r k => rl P r (2048 + k) * rl P r (2048 + k))) (up S256x1024 (fun r k => rl P r (3072 + k))) (up S1024x1024 (fun k c => P.wd (k) c)) (up S1024x1024 (fun k c => P.wd (1024 + k) c)) (up S1024x1024 (fun k c => P.wd (2048 + k) c)) (up S1024x1024 (fun k c => P.wd (3072 + k) c)) (up S1x1024 P.bd)
    = up S256x1024 (r2 P) := by
  rw [k0_pay25]
  simp -proj only [lit_zero, num_zero, num_two, num_1024, num_1024th, num_2048th, num_alpha, num_eps, divf_1024, mulf_up, addf_up, subf_up, maximumf_up, truncf_up, shapeCast_same, dot_plain, dot_trans, zero_add, pay24, broadcastTo_row (m := 256) (n := 1024) _ (by decide)]
  refine congrArg (up S256x1024) (funext fun r => funext fun c => ?_)
  unfold r2
  rw [sum_four]
theorem pay26 : k0_pay26 (F := Ideal) (up S256x1024 (x1 P)) (up S256x1024 (fun r k => rl P r (k) * rl P r (k))) (up S256x1024 (fun r k => rl P r (1024 + k) * rl P r (1024 + k))) (up S256x1024 (fun r k => rl P r (2048 + k) * rl P r (2048 + k))) (up S256x1024 (fun r k => rl P r (3072 + k))) (up S1024x1024 (fun k c => P.wd (k) c)) (up S1024x1024 (fun k c => P.wd (1024 + k) c)) (up S1024x1024 (fun k c => P.wd (2048 + k) c)) (up S1024x1024 (fun k c => P.wd (3072 + k) c)) (up S1x1024 P.bd)
    = up S256x1 (fun r _ => mu P r) := by
  rw [k0_pay26]
  simp -proj only [lit_zero, num_zero, num_two, num_1024, num_1024th, num_2048th, num_alpha, num_eps, divf_1024, mulf_up, addf_up, subf_up, maximumf_up, truncf_up, shapeCast_same, dot_plain, dot_trans, zero_add, pay25, sum_r, shapeCast_col (m := 256)]
  rfl
theorem pay27 : k0_pay27 (F := Ideal) (up S256x1024 (x1 P)) (up S256x1024 (fun r k => rl P r (k) * rl P r (k))) (up S256x1024 (fun r k => rl P r (1024 + k) * rl P r (1024 + k))) (up S256x1024 (fun r k => rl P r (2048 + k) * rl P r (2048 + k))) (up S256x1024 (fun r k => rl P r (3072 + k))) (up S1024x1024 (fun k c => P.wd (k) c)) (up S1024x1024 (fun k c => P.wd (1024 + k) c)) (up S1024x1024 (fun k c => P.wd (2048 + k) c)) (up S1024x1024 (fun k c => P.wd (3072 + k) c)) (up S1x1024 P.bd)
    = up S256x1024 (dev P) := by
  rw [k0_pay27]
  simp -proj only [lit_zero, num_zero, num_two, num_1024, num_1024th, num_2048th, num_alpha, num_eps, divf_1024, mulf_up, addf_up, subf_up, maximumf_up, truncf_up, shapeCast_same, dot_plain, dot_trans, zero_add, pay25, pay26, broadcastTo_col (m := 256) (n := 1024) _ (by decide)]
  rfl
theorem pay28 : k0_pay28 (F := Ideal) (up S256x1024 (dev P))
    = up S256x1 (fun r _ => rstd P r) := by
  rw [k0_pay28]
  simp -proj only [lit_zero, num_zero, num_two, num_1024, num_1024th, num_2048th, num_alpha, num_eps, divf_1024, mulf_up, addf_up, subf_up, maximumf_up, truncf_up, shapeCast_same, dot_plain, dot_trans, zero_add, sum_r, shapeCast_col (m := 256)]
  exact rsqrt_up (fun r _ => vare P r) fun r _ => vare_pos P r
theorem pay29 : k0_pay29 (F := Ideal) (up S256x1024 (r2 P)) (up S256x1 fun r _ => mu P r) (up S256x1024 (dev P))
    = up S256x1024 (xhat P) := by
  rw [k0_pay29]
  simp -proj only [lit_zero, num_zero, num_two, num_1024, num_1024th, num_2048th, num_alpha, num_eps, divf_1024, mulf_up, addf_up, subf_up, maximumf_up, truncf_up, shapeCast_same, dot_plain, dot_trans, zero_add, pay28, broadcastTo_col (m := 256) (n := 1024) _ (by decide)]
  rfl
theorem pay30 : k0_pay30 (F := Ideal) (up S256x1024 (r2 P)) (up S1x1024 P.g2) (up S1x1024 P.b2) (up S256x1 fun r _ => mu P r) (up S256x1024 (dev P)) (up S256x1024 P.T)
    = up S256x1024 (err P) := by
  rw [k0_pay30]
  simp -proj only [lit_zero, num_zero, num_two, num_1024, num_1024th, num_2048th, num_alpha, num_eps, divf_1024, mulf_up, addf_up, subf_up, maximumf_up, truncf_up, shapeCast_same, dot_plain, dot_trans, zero_add, pay29, broadcastTo_row (m := 256) (n := 1024) _ (by decide)]
  rfl
variable (s : ℕ → ℕ → ℝ)

theorem pay31 : k0_pay31 (F := Ideal) (up S256x1024 (r2 P)) (up S1x1024 P.g2) (up S1x1024 P.b2) (up S256x1 fun r _ => mu P r) (up S256x1024 (dev P)) (up S256x1024 P.T) (up S1x128 s)
    = up S1x128 (fun r c => s r c + (∑ r ∈ range 256, sqr P r) * (1 / 2048)) := by
  rw [k0_pay31]
  simp -proj only [lit_zero, num_zero, num_two, num_1024, num_1024th, num_2048th, num_alpha, num_eps, divf_1024, mulf_up, addf_up, subf_up, maximumf_up, truncf_up, shapeCast_same, dot_plain, dot_trans, zero_add, pay30, sum_r, shapeCast_col (m := 256), sum_one, shapeCast_row (n := 1), broadcastTo_one (m := 1) (n := 128)]
  rfl
theorem pay32 : k0_pay32 (F := Ideal) (up S256x1024 (r2 P)) (up S1x1024 P.g2) (up S1x1024 P.b2) (up S256x1 fun r _ => mu P r) (up S256x1024 (dev P)) (up S256x1024 P.T)
    = up S256x1024 (dy P) := by
  rw [k0_pay32]
  simp -proj only [lit_zero, num_zero, num_two, num_1024, num_1024th, num_2048th, num_alpha, num_eps, divf_1024, mulf_up, addf_up, subf_up, maximumf_up, truncf_up, shapeCast_same, dot_plain, dot_trans, zero_add, pay30]
  rfl
theorem pay33 : k0_pay33 (F := Ideal) (up S256x1024 (r2 P)) (up S1x1024 P.g2) (up S1x1024 P.b2) (up S256x1 fun r _ => mu P r) (up S256x1024 (dev P)) (up S256x1024 P.T) (up S1x1024 s)
    = up S1x1024 (fun r c => s r c + ∑ r ∈ range 256, dy P r c * xhat P r c) := by
  rw [k0_pay33]
  simp -proj only [lit_zero, num_zero, num_two, num_1024, num_1024th, num_2048th, num_alpha, num_eps, divf_1024, mulf_up, addf_up, subf_up, maximumf_up, truncf_up, shapeCast_same, dot_plain, dot_trans, zero_add, pay32, pay29, sum_c, shapeCast_row (n := 1024)]
theorem pay34 : k0_pay34 (F := Ideal) (up S256x1024 (dy P)) (up S1x1024 s)
    = up S1x1024 (fun r c => s r c + ∑ r ∈ range 256, dy P r c) := by
  rw [k0_pay34]
  simp -proj only [lit_zero, num_zero, num_two, num_1024, num_1024th, num_2048th, num_alpha, num_eps, divf_1024, mulf_up, addf_up, subf_up, maximumf_up, truncf_up, shapeCast_same, dot_plain, dot_trans, zero_add, sum_c, shapeCast_row (n := 1024)]
/-! The gradient by the residual sum. -/

theorem pay35 : k0_pay35 (F := Ideal) (up S256x1 fun r _ => rstd P r) (up S256x1024 (xhat P)) (up S256x1024 (dy P)) (up S1x1024 P.g2)
    = up S256x1024 (dr2 P) := by
  rw [k0_pay35]
  simp -proj only [lit_zero, num_zero, num_two, num_1024, num_1024th, num_2048th, num_alpha, num_eps, divf_1024, mulf_up, addf_up, subf_up, maximumf_up, truncf_up, shapeCast_same, dot_plain, dot_trans, zero_add, broadcastTo_row (m := 256) (n := 1024) _ (by decide), broadcastTo_col (m := 256) (n := 1024) _ (by decide), sum_r, shapeCast_col (m := 256)]
  rfl
theorem pay36 : k0_pay36 (F := Ideal) (up S256x1 fun r _ => rstd P r) (up S256x1024 (xhat P)) (up S256x1024 (dy P)) (up S1x1024 P.g2) (up S1x1024 s)
    = up S1x1024 (fun r c => s r c + ∑ r ∈ range 256, dr2 P r c) := by
  rw [k0_pay36]
  simp -proj only [lit_zero, num_zero, num_two, num_1024, num_1024th, num_2048th, num_alpha, num_eps, divf_1024, mulf_up, addf_up, subf_up, maximumf_up, truncf_up, shapeCast_same, dot_plain, dot_trans, zero_add, pay35, sum_c, shapeCast_row (n := 1024)]
theorem pay37 : k0_pay37 (F := Ideal) (up S256x1 fun r _ => rstd P r) (up S256x1024 (xhat P)) (up S256x1024 (dy P)) (up S1x1024 P.g2)
    = up S256x1024 (dr2 P) := by
  rw [k0_pay37]
  simp -proj only [lit_zero, num_zero, num_two, num_1024, num_1024th, num_2048th, num_alpha, num_eps, divf_1024, mulf_up, addf_up, subf_up, maximumf_up, truncf_up, shapeCast_same, dot_plain, dot_trans, zero_add, pay35]
theorem pay38 : k0_pay38 (F := Ideal) (up S256x1 fun r _ => rstd P r) (up S256x1024 (xhat P)) (up S256x1024 (dy P)) (up S1x1024 P.g2)
    = up S1024x256 (fun c r => dr2 P r c) := by
  rw [k0_pay38]
  simp -proj only [lit_zero, num_zero, num_two, num_1024, num_1024th, num_2048th, num_alpha, num_eps, divf_1024, mulf_up, addf_up, subf_up, maximumf_up, truncf_up, shapeCast_same, dot_plain, dot_trans, zero_add, pay37, transpose_up (m := 256) (n := 1024)]
/-! The gradient by the hidden layer, by chunks. -/

theorem pay39 : k0_pay39 (F := Ideal) (up S256x1 fun r _ => rstd P r) (up S256x1024 (xhat P)) (up S256x1024 (dy P)) (up S1x1024 P.g2) (up S1024x1024 (fun k c => P.wd (k) c))
    = up S256x1024 (dh P) := by
  rw [k0_pay39]
  simp -proj only [lit_zero, num_zero, num_two, num_1024, num_1024th, num_2048th, num_alpha, num_eps, divf_1024, mulf_up, addf_up, subf_up, maximumf_up, truncf_up, shapeCast_same, dot_plain, dot_trans, zero_add, pay37]
  rfl
theorem pay40 : k0_pay40 (F := Ideal) (up S256x1024 (dr2 P)) (up S1024x1024 (fun k c => P.wd (2048 + k) c))
    = up S256x1024 (fun r k => dh P r (2048 + k)) := by
  rw [k0_pay40]
  simp -proj only [lit_zero, num_zero, num_two, num_1024, num_1024th, num_2048th, num_alpha, num_eps, divf_1024, mulf_up, addf_up, subf_up, maximumf_up, truncf_up, shapeCast_same, dot_plain, dot_trans, zero_add]
  rfl
theorem pay41 : k0_pay41 (F := Ideal) (up S256x1024 (dr2 P)) (up S1024x1024 (fun k c => P.wd (3072 + k) c))
    = up S256x1024 (fun r k => dh P r (3072 + k)) := by
  rw [k0_pay41]
  simp -proj only [lit_zero, num_zero, num_two, num_1024, num_1024th, num_2048th, num_alpha, num_eps, divf_1024, mulf_up, addf_up, subf_up, maximumf_up, truncf_up, shapeCast_same, dot_plain, dot_trans, zero_add]
  rfl
theorem pay42 : k0_pay42 (F := Ideal) (up S256x1024 (dh P)) (up S256x1024 (rl P))
    = up S256x1024 (dpre P) := by
  rw [k0_pay42]
  simp -proj only [lit_zero, num_zero, num_two, num_1024, num_1024th, num_2048th, num_alpha, num_eps, divf_1024, mulf_up, addf_up, subf_up, maximumf_up, truncf_up, shapeCast_same, dot_plain, dot_trans, zero_add]
  rfl
theorem pay43 : k0_pay43 (F := Ideal) (up S256x1024 (dh P)) (up S256x1024 (rl P)) (up S1x1024 s)
    = up S1x1024 (fun r k => s r k + ∑ r ∈ range 256, dpre P r (k)) := by
  rw [k0_pay43]
  simp -proj only [lit_zero, num_zero, num_two, num_1024, num_1024th, num_2048th, num_alpha, num_eps, divf_1024, mulf_up, addf_up, subf_up, maximumf_up, truncf_up, shapeCast_same, dot_plain, dot_trans, zero_add, pay42, sum_c, shapeCast_row (n := 1024)]
theorem pay44 : k0_pay44 (F := Ideal) (up S256x1024 (dh P)) (up S256x1024 (rl P))
    = up S256x1024 (dpre P) := by
  rw [k0_pay44]
  simp -proj only [lit_zero, num_zero, num_two, num_1024, num_1024th, num_2048th, num_alpha, num_eps, divf_1024, mulf_up, addf_up, subf_up, maximumf_up, truncf_up, shapeCast_same, dot_plain, dot_trans, zero_add, pay42]
theorem pay45 : k0_pay45 (F := Ideal) (up S256x1024 (dr2 P)) (up S1024x1024 (fun k c => P.wd (1024 + k) c)) (up S256x1024 (fun r k => rl P r (1024 + k)))
    = up S256x1024 (fun r k => dpre P r (1024 + k)) := by
  rw [k0_pay45]
  simp -proj only [lit_zero, num_zero, num_two, num_1024, num_1024th, num_2048th, num_alpha, num_eps, divf_1024, mulf_up, addf_up, subf_up, maximumf_up, truncf_up, shapeCast_same, dot_plain, dot_trans, zero_add]
  rfl
theorem pay46 : k0_pay46 (F := Ideal) (up S256x1024 (dr2 P)) (up S1024x1024 (fun k c => P.wd (1024 + k) c)) (up S256x1024 (fun r k => rl P r (1024 + k))) (up S1x1024 s)
    = up S1x1024 (fun r k => s r k + ∑ r ∈ range 256, dpre P r (1024 + k)) := by
  rw [k0_pay46]
  simp -proj only [lit_zero, num_zero, num_two, num_1024, num_1024th, num_2048th, num_alpha, num_eps, divf_1024, mulf_up, addf_up, subf_up, maximumf_up, truncf_up, shapeCast_same, dot_plain, dot_trans, zero_add, pay45, sum_c, shapeCast_row (n := 1024)]
theorem pay47 : k0_pay47 (F := Ideal) (up S256x1024 (fun r k => dpre P r (1024 + k)))
    = up S256x1024 (fun r k => dpre P r (1024 + k)) := by
  rw [k0_pay47]
  simp -proj only [lit_zero, num_zero, num_two, num_1024, num_1024th, num_2048th, num_alpha, num_eps, divf_1024, mulf_up, addf_up, subf_up, maximumf_up, truncf_up, shapeCast_same, dot_plain, dot_trans, zero_add]
theorem pay48 : k0_pay48 (F := Ideal) (up S256x1024 (fun r k => dh P r (2048 + k))) (up S256x1024 (fun r k => rl P r (2048 + k)))
    = up S256x1024 (fun r k => dpre P r (2048 + k)) := by
  rw [k0_pay48]
  simp -proj only [lit_zero, num_zero, num_two, num_1024, num_1024th, num_2048th, num_alpha, num_eps, divf_1024, mulf_up, addf_up, subf_up, maximumf_up, truncf_up, shapeCast_same, dot_plain, dot_trans, zero_add]
  rfl
theorem pay49 : k0_pay49 (F := Ideal) (up S256x1024 (fun r k => dh P r (2048 + k))) (up S256x1024 (fun r k => rl P r (2048 + k))) (up S1x1024 s)
    = up S1x1024 (fun r k => s r k + ∑ r ∈ range 256, dpre P r (2048 + k)) := by
  rw [k0_pay49]
  simp -proj only [lit_zero, num_zero, num_two, num_1024, num_1024th, num_2048th, num_alpha, num_eps, divf_1024, mulf_up, addf_up, subf_up, maximumf_up, truncf_up, shapeCast_same, dot_plain, dot_trans, zero_add, pay48, sum_c, shapeCast_row (n := 1024)]
theorem pay50 : k0_pay50 (F := Ideal) (up S256x1024 (fun r k => dh P r (2048 + k))) (up S256x1024 (fun r k => rl P r (2048 + k)))
    = up S256x1024 (fun r k => dpre P r (2048 + k)) := by
  rw [k0_pay50]
  simp -proj only [lit_zero, num_zero, num_two, num_1024, num_1024th, num_2048th, num_alpha, num_eps, divf_1024, mulf_up, addf_up, subf_up, maximumf_up, truncf_up, shapeCast_same, dot_plain, dot_trans, zero_add, pay48]
theorem pay51 : k0_pay51 (F := Ideal) (up S256x1024 (fun r k => dh P r (3072 + k))) (up S256x1024 (fun r k => rl P r (3072 + k)))
    = up S256x1024 (fun r k => dpre P r (3072 + k)) := by
  rw [k0_pay51]
  simp -proj only [lit_zero, num_zero, num_two, num_1024, num_1024th, num_2048th, num_alpha, num_eps, divf_1024, mulf_up, addf_up, subf_up, maximumf_up, truncf_up, shapeCast_same, dot_plain, dot_trans, zero_add]
  rfl
theorem pay52 : k0_pay52 (F := Ideal) (up S256x1024 (fun r k => dh P r (3072 + k))) (up S256x1024 (fun r k => rl P r (3072 + k))) (up S1x1024 s)
    = up S1x1024 (fun r k => s r k + ∑ r ∈ range 256, dpre P r (3072 + k)) := by
  rw [k0_pay52]
  simp -proj only [lit_zero, num_zero, num_two, num_1024, num_1024th, num_2048th, num_alpha, num_eps, divf_1024, mulf_up, addf_up, subf_up, maximumf_up, truncf_up, shapeCast_same, dot_plain, dot_trans, zero_add, pay51, sum_c, shapeCast_row (n := 1024)]
theorem pay53 : k0_pay53 (F := Ideal) (up S256x1024 (fun r k => dh P r (3072 + k))) (up S256x1024 (fun r k => rl P r (3072 + k)))
    = up S256x1024 (fun r k => dpre P r (3072 + k)) := by
  rw [k0_pay53]
  simp -proj only [lit_zero, num_zero, num_two, num_1024, num_1024th, num_2048th, num_alpha, num_eps, divf_1024, mulf_up, addf_up, subf_up, maximumf_up, truncf_up, shapeCast_same, dot_plain, dot_trans, zero_add, pay51]
/-! The gradient by the block's input. -/

theorem pay54 : k0_pay54 (F := Ideal) (up S256x1024 (dpre P)) (up S1024x1024 (fun k j => P.wu j (k)))
    = up S256x1024 (fun r c => ∑ k ∈ range 1024, dpre P r k * P.wu c k) := by
  rw [k0_pay54]
  simp -proj only [lit_zero, num_zero, num_two, num_1024, num_1024th, num_2048th, num_alpha, num_eps, divf_1024, mulf_up, addf_up, subf_up, maximumf_up, truncf_up, shapeCast_same, dot_plain, dot_trans, zero_add]
theorem pay1 : k0_pay1 (F := Ideal) (up S256x1024 (dr2 P)) (up S256x1024 (fun r k => dpre P r (1024 + k))) (up S256x1024 (fun r k => dpre P r (2048 + k))) (up S256x1024 (fun r k => dpre P r (3072 + k))) (up S256x1024 (fun r c => ∑ k ∈ range 1024, dpre P r k * P.wu c k)) (up S1024x1024 (fun k j => P.wu j (1024 + k))) (up S1024x1024 (fun k j => P.wu j (2048 + k))) (up S1024x1024 (fun k j => P.wu j (3072 + k)))
    = up S256x1024 (dx1 P) := by
  rw [k0_pay1]
  simp -proj only [lit_zero, num_zero, num_two, num_1024, num_1024th, num_2048th, num_alpha, num_eps, divf_1024, mulf_up, addf_up, subf_up, maximumf_up, truncf_up, shapeCast_same, dot_plain, dot_trans, zero_add]
  refine congrArg (up S256x1024) (funext fun r => funext fun c => ?_)
  unfold dx1
  rw [sum_four]
/-! The accumulators' zeros. -/

theorem pay2 : k0_pay2 (F := Ideal)
    = up S1x128 (fun _ _ => 0) := by
  rw [k0_pay2]
  simp -proj only [lit_zero, num_zero, num_two, num_1024, num_1024th, num_2048th, num_alpha, num_eps, divf_1024, mulf_up, addf_up, subf_up, maximumf_up, truncf_up, shapeCast_same, dot_plain, dot_trans, zero_add]
theorem pay3 : k0_pay3 (F := Ideal)
    = up S1x1024 (fun _ _ => 0) := by
  rw [k0_pay3]
  simp -proj only [lit_zero, num_zero, num_two, num_1024, num_1024th, num_2048th, num_alpha, num_eps, divf_1024, mulf_up, addf_up, subf_up, maximumf_up, truncf_up, shapeCast_same, dot_plain, dot_trans, zero_add]
theorem pay4 : k0_pay4 (F := Ideal)
    = up S1x1024 (fun _ _ => 0) := by
  rw [k0_pay4]
  simp -proj only [lit_zero, num_zero, num_two, num_1024, num_1024th, num_2048th, num_alpha, num_eps, divf_1024, mulf_up, addf_up, subf_up, maximumf_up, truncf_up, shapeCast_same, dot_plain, dot_trans, zero_add]
theorem pay5 : k0_pay5 (F := Ideal)
    = up S1x1024 (fun _ _ => 0) := by
  rw [k0_pay5]
  simp -proj only [lit_zero, num_zero, num_two, num_1024, num_1024th, num_2048th, num_alpha, num_eps, divf_1024, mulf_up, addf_up, subf_up, maximumf_up, truncf_up, shapeCast_same, dot_plain, dot_trans, zero_add]
theorem pay6 : k0_pay6 (F := Ideal)
    = up S1x4096 (fun _ _ => 0) := by
  rw [k0_pay6]
  simp -proj only [lit_zero, num_zero, num_two, num_1024, num_1024th, num_2048th, num_alpha, num_eps, divf_1024, mulf_up, addf_up, subf_up, maximumf_up, truncf_up, shapeCast_same, dot_plain, dot_trans, zero_add]

end Cert.Pay

end
-- ==== Proof.Block.lean ====
/-
  The kernel's input blocks at a grid point, as the block's arguments over the real numbers.
-/
module

public import proofs.«01_k».proof.Proof.Pay
public import proofs.«01_k».proof.Proof.Gen.KernelIdeal.Value
public import Idealize.ShloMosaic.Lib.Pipeline.ValueKit

@[expose] public section

set_option maxRecDepth 16384

noncomputable section

namespace Cert.Block

open Idealize.ShloMosaic Idealize.ShloMosaic.TcCoe Cert.Lift Cert.Spec Cert.KernelIdeal Cert.KernelIdeal.Gen

variable (m : (ℓ : Loc nD τ sig) → Buf (Elt Ideal) ℓ) (c : Dev nD) (P : Args)

/-- The program's arguments on a device are the real arrays `P`. -/
structure Given : Prop where
  h0 : m ((c : Thread nD τ).loc main_arg0) = up S8192x1024 P.X
  h1 : m ((c : Thread nD τ).loc main_arg1) = up S8192x1024 P.T
  h2 : m ((c : Thread nD τ).loc main_arg2) = up S1x1024 P.g
  h3 : m ((c : Thread nD τ).loc main_arg3) = up S1x1024 P.b
  h4 : m ((c : Thread nD τ).loc main_arg4) = up S1024x4096 P.wu
  h5 : m ((c : Thread nD τ).loc main_arg5) = up S1x4096 P.bu
  h6 : m ((c : Thread nD τ).loc main_arg6) = up S4096x1024 P.wd
  h7 : m ((c : Thread nD τ).loc main_arg7) = up S1x1024 P.bd
  h8 : m ((c : Thread nD τ).loc main_arg8) = up S1x1024 P.g2
  h9 : m ((c : Thread nD τ).loc main_arg9) = up S1x1024 P.b2

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel

variable {m c P}

theorem Given.v1 (h : Given m c P) : V m c main_v1 = up S4096x1024 fun k j => P.wu j k := by
  have e : V m c main_v1 = truncf (F := Ideal) (φ := .f32) .bf16 (transpose S4096x1024 [1, 0] (m ((c : Thread nD τ).loc main_arg4)) transposes_S1024x4096_S4096x1024_1_0) bitsLt_bf16_f32 := by
    unfold_abbrev_sides
    after_results
  rw [e, h.h4, transpose_up (m := 1024) (n := 4096), truncf_up]

theorem Given.v2 (h : Given m c P) : V m c main_v2 = up S4096x1024 P.wd := by
  have e : V m c main_v2 = truncf (F := Ideal) (φ := .f32) .bf16 (m ((c : Thread nD τ).loc main_arg6)) bitsLt_bf16_f32 := by
    unfold_abbrev_sides
    after_results
  rw [e, h.h6]
  rfl

theorem Given.in0 (h : Given m c P) (t : Fin cfg0.N) : iblk m c 0 t = up S256x1024 ((P.rows t.val).X) := by
  funext y
  have e : iblk m c 0 t y = m ((c : Thread nD τ).loc main_arg0) (((cfg0.win 0).blk t).view.emb y) := congrFun (V_main_arg0 m c) _
  rw [e, h.h0]
  refine congrArg (fun x : ℝ => (x : EReal)) (congrArg₂ P.X ?_ ?_)
  · show (((cfg0.win 0).blk t).view.emb y 0).val = 256 * t.val + (y 0).val
    blk_simp [index0 t]
    try omega
  · show (((cfg0.win 0).blk t).view.emb y 1).val = (y 1).val
    blk_simp [index0 t]
    try omega

theorem Given.in1 (h : Given m c P) (t : Fin cfg0.N) : iblk m c 1 t = up S256x1024 ((P.rows t.val).T) := by
  funext y
  have e : iblk m c 1 t y = m ((c : Thread nD τ).loc main_arg1) (((cfg0.win 1).blk t).view.emb y) := congrFun (V_main_arg1 m c) _
  rw [e, h.h1]
  refine congrArg (fun x : ℝ => (x : EReal)) (congrArg₂ P.T ?_ ?_)
  · show (((cfg0.win 1).blk t).view.emb y 0).val = 256 * t.val + (y 0).val
    blk_simp [index1 t]
    try omega
  · show (((cfg0.win 1).blk t).view.emb y 1).val = (y 1).val
    blk_simp [index1 t]
    try omega

theorem Given.in2 (h : Given m c P) (t : Fin cfg0.N) : iblk m c 2 t = up S1x1024 ((P.rows t.val).g) := by
  funext y
  have e : iblk m c 2 t y = m ((c : Thread nD τ).loc main_arg2) (((cfg0.win 2).blk t).view.emb y) := congrFun (V_main_arg2 m c) _
  rw [e, h.h2]
  refine congrArg (fun x : ℝ => (x : EReal)) (congrArg₂ P.g ?_ ?_)
  · show (((cfg0.win 2).blk t).view.emb y 0).val = (y 0).val
    blk_simp [index2 t]
    try omega
  · show (((cfg0.win 2).blk t).view.emb y 1).val = (y 1).val
    blk_simp [index2 t]
    try omega

theorem Given.in3 (h : Given m c P) (t : Fin cfg0.N) : iblk m c 3 t = up S1x1024 ((P.rows t.val).b) := by
  funext y
  have e : iblk m c 3 t y = m ((c : Thread nD τ).loc main_arg3) (((cfg0.win 3).blk t).view.emb y) := congrFun (V_main_arg3 m c) _
  rw [e, h.h3]
  refine congrArg (fun x : ℝ => (x : EReal)) (congrArg₂ P.b ?_ ?_)
  · show (((cfg0.win 3).blk t).view.emb y 0).val = (y 0).val
    blk_simp [index3 t]
    try omega
  · show (((cfg0.win 3).blk t).view.emb y 1).val = (y 1).val
    blk_simp [index3 t]
    try omega

theorem Given.in4 (h : Given m c P) (t : Fin cfg0.N) : iblk m c 4 t = up S4096x1024 (fun k j => (P.rows t.val).wu j k) := by
  funext y
  have e : iblk m c 4 t y = V m c main_v1 (((cfg0.win 4).blk t).view.emb y) := rfl
  rw [e, h.v1]
  refine congrArg (fun x : ℝ => (x : EReal)) (congrArg₂ (fun k j => P.wu j k) ?_ ?_)
  · show (((cfg0.win 4).blk t).view.emb y 0).val = (y 0).val
    blk_simp [index4 t]
    try omega
  · show (((cfg0.win 4).blk t).view.emb y 1).val = (y 1).val
    blk_simp [index4 t]
    try omega

theorem Given.in5 (h : Given m c P) (t : Fin cfg0.N) : iblk m c 5 t = up S1x4096 ((P.rows t.val).bu) := by
  funext y
  have e : iblk m c 5 t y = m ((c : Thread nD τ).loc main_arg5) (((cfg0.win 5).blk t).view.emb y) := congrFun (V_main_arg5 m c) _
  rw [e, h.h5]
  refine congrArg (fun x : ℝ => (x : EReal)) (congrArg₂ P.bu ?_ ?_)
  · show (((cfg0.win 5).blk t).view.emb y 0).val = (y 0).val
    blk_simp [index5 t]
    try omega
  · show (((cfg0.win 5).blk t).view.emb y 1).val = (y 1).val
    blk_simp [index5 t]
    try omega

theorem Given.in6 (h : Given m c P) (t : Fin cfg0.N) : iblk m c 6 t = up S4096x1024 ((P.rows t.val).wd) := by
  funext y
  have e : iblk m c 6 t y = V m c main_v2 (((cfg0.win 6).blk t).view.emb y) := rfl
  rw [e, h.v2]
  refine congrArg (fun x : ℝ => (x : EReal)) (congrArg₂ P.wd ?_ ?_)
  · show (((cfg0.win 6).blk t).view.emb y 0).val = (y 0).val
    blk_simp [index6 t]
    try omega
  · show (((cfg0.win 6).blk t).view.emb y 1).val = (y 1).val
    blk_simp [index6 t]
    try omega

theorem Given.in7 (h : Given m c P) (t : Fin cfg0.N) : iblk m c 7 t = up S1x1024 ((P.rows t.val).bd) := by
  funext y
  have e : iblk m c 7 t y = m ((c : Thread nD τ).loc main_arg7) (((cfg0.win 7).blk t).view.emb y) := congrFun (V_main_arg7 m c) _
  rw [e, h.h7]
  refine congrArg (fun x : ℝ => (x : EReal)) (congrArg₂ P.bd ?_ ?_)
  · show (((cfg0.win 7).blk t).view.emb y 0).val = (y 0).val
    blk_simp [index7 t]
    try omega
  · show (((cfg0.win 7).blk t).view.emb y 1).val = (y 1).val
    blk_simp [index7 t]
    try omega

theorem Given.in8 (h : Given m c P) (t : Fin cfg0.N) : iblk m c 8 t = up S1x1024 ((P.rows t.val).g2) := by
  funext y
  have e : iblk m c 8 t y = m ((c : Thread nD τ).loc main_arg8) (((cfg0.win 8).blk t).view.emb y) := congrFun (V_main_arg8 m c) _
  rw [e, h.h8]
  refine congrArg (fun x : ℝ => (x : EReal)) (congrArg₂ P.g2 ?_ ?_)
  · show (((cfg0.win 8).blk t).view.emb y 0).val = (y 0).val
    blk_simp [index8 t]
    try omega
  · show (((cfg0.win 8).blk t).view.emb y 1).val = (y 1).val
    blk_simp [index8 t]
    try omega

theorem Given.in9 (h : Given m c P) (t : Fin cfg0.N) : iblk m c 9 t = up S1x1024 ((P.rows t.val).b2) := by
  funext y
  have e : iblk m c 9 t y = m ((c : Thread nD τ).loc main_arg9) (((cfg0.win 9).blk t).view.emb y) := congrFun (V_main_arg9 m c) _
  rw [e, h.h9]
  refine congrArg (fun x : ℝ => (x : EReal)) (congrArg₂ P.b2 ?_ ?_)
  · show (((cfg0.win 9).blk t).view.emb y 0).val = (y 0).val
    blk_simp [index9 t]
    try omega
  · show (((cfg0.win 9).blk t).view.emb y 1).val = (y 1).val
    blk_simp [index9 t]
    try omega

end Cert.Block

end
-- ==== Proof.Comp.lean ====
/-
  What the kernel leaves in each output block at a grid point.
-/
module

public import proofs.«01_k».proof.Proof.Block
public import Idealize.ShloMosaic.Lib.Pipeline.ReadBack

@[expose] public section

set_option maxRecDepth 16384

noncomputable section

namespace Cert.Block

open Idealize.ShloMosaic Idealize.ShloMosaic.TcCoe Cert.Lift Cert.Spec Cert.Pay Cert.KernelIdeal Cert.KernelIdeal.Gen

/-- A rectangle read out of an array of `f32`. -/
theorem ld_f32 {m n m' n' o p : ℕ} (f : ℕ → ℕ → ℝ) (inb : ∀ a, (![o, p] : Fin 2 → ℕ) a + (![m', n'] : Fin 2 → ℕ) a ≤ (⟨2, ![m, n]⟩ : Shape).size a) :
    View.ld (Val := Elt Ideal) (e' := .f32) (up ⟨2, ![m, n]⟩ f) (Rect.unit (s := ⟨2, ![m, n]⟩) ![o, p] ![m', n'] inb)
      = up ⟨2, ![m', n']⟩ (fun r c => f (o + r) (p + c)) := by
  funext j
  refine congrArg (fun x : ℝ => (x : EReal)) (congrArg₂ f ?_ ?_)
  · show o + 1 * (j 0).val = o + (j 0).val
    omega
  · show p + 1 * (j 1).val = p + (j 1).val
    omega

/-- A rectangle read out of an array of `bf16`. -/
theorem ld_bf16 {m n m' n' o p : ℕ} (f : ℕ → ℕ → ℝ) (inb : ∀ a, (![o, p] : Fin 2 → ℕ) a + (![m', n'] : Fin 2 → ℕ) a ≤ (⟨2, ![m, n]⟩ : Shape).size a) :
    View.ld (Val := Elt Ideal) (e' := .bf16) (up ⟨2, ![m, n]⟩ f) (Rect.unit (s := ⟨2, ![m, n]⟩) ![o, p] ![m', n'] inb)
      = up ⟨2, ![m', n']⟩ (fun r c => f (o + r) (p + c)) := by
  funext j
  refine congrArg (fun x : ℝ => (x : EReal)) (congrArg₂ f ?_ ?_)
  · show o + 1 * (j 0).val = o + (j 0).val
    omega
  · show p + 1 * (j 1).val = p + (j 1).val
    omega

/-- Four column chunks of 1024 written into an array of `f32`. -/
theorem canon_f32 {m : ℕ} (f : ℕ → ℕ → ℝ) (L : List (View.Piece (Elt Ideal) ⟨2, ![m, 4096]⟩ .f32))
    (i3 : ∀ a, (![0, 3072] : Fin 2 → ℕ) a + (![m, 1024] : Fin 2 → ℕ) a ≤ (⟨2, ![m, 4096]⟩ : Shape).size a)
    (i2 : ∀ a, (![0, 2048] : Fin 2 → ℕ) a + (![m, 1024] : Fin 2 → ℕ) a ≤ (⟨2, ![m, 4096]⟩ : Shape).size a)
    (i1 : ∀ a, (![0, 1024] : Fin 2 → ℕ) a + (![m, 1024] : Fin 2 → ℕ) a ≤ (⟨2, ![m, 4096]⟩ : Shape).size a)
    (i0 : ∀ a, (![0, 0] : Fin 2 → ℕ) a + (![m, 1024] : Fin 2 → ℕ) a ≤ (⟨2, ![m, 4096]⟩ : Shape).size a) :
    View.canon (Val := Elt Ideal) (s := ⟨2, ![m, 4096]⟩) (e := .f32)
      (⟨Rect.unit (s := ⟨2, ![m, 4096]⟩) ![0, 3072] ![m, 1024] i3, up ⟨2, ![m, 1024]⟩ fun r k => f r (3072 + k)⟩ ::
        ⟨Rect.unit (s := ⟨2, ![m, 4096]⟩) ![0, 2048] ![m, 1024] i2, up ⟨2, ![m, 1024]⟩ fun r k => f r (2048 + k)⟩ ::
        ⟨Rect.unit (s := ⟨2, ![m, 4096]⟩) ![0, 1024] ![m, 1024] i1, up ⟨2, ![m, 1024]⟩ fun r k => f r (1024 + k)⟩ ::
        ⟨Rect.unit (s := ⟨2, ![m, 4096]⟩) ![0, 0] ![m, 1024] i0, up ⟨2, ![m, 1024]⟩ fun r k => f r k⟩ :: L) = up ⟨2, ![m, 4096]⟩ f := by
  funext y
  have hy : (y 1).val < 4096 := (y 1).isLt
  have tile (o : ℕ) (inb) (g : ℕ → ℕ → ℝ) (hg : ∀ r k, g r k = f r (o + k)) (x : (⟨2, ![m, 1024]⟩ : Shape).Idx) :
      up ⟨2, ![m, 1024]⟩ g x = up ⟨2, ![m, 4096]⟩ f ((Rect.unit (s := ⟨2, ![m, 4096]⟩) ![0, o] ![m, 1024] inb).emb x) := by
    have h0 : 0 + 1 * (x 0).val = (x 0).val := by omega
    have h1 : o + 1 * (x 1).val = o + (x 1).val := by omega
    show ((g (x 0).val (x 1).val : ℝ) : EReal) = ((f (0 + 1 * (x 0).val) (o + 1 * (x 1).val) : ℝ) : EReal)
    rw [hg, h0, h1]
  refine View.canon_append_of_piecesOf (up ⟨2, ![m, 4096]⟩ f) L [_, _, _, _] ?_ y ?_
  · exact ⟨tile 3072 i3 _ fun _ _ => rfl, tile 2048 i2 _ fun _ _ => rfl, tile 1024 i1 _ fun _ _ => rfl,
      tile 0 i0 _ fun _ _ => by rw [Nat.zero_add], trivial⟩
  · have at_chunk (o : ℕ) (inb) (h1 : o ≤ (y 1).val) (h2 : (y 1).val < o + 1024) :
        y ∈ (Rect.unit (s := ⟨2, ![m, 4096]⟩) ![0, o] ![m, 1024] inb).set := by
      rw [Rect.mem_set_unit]
      intro a
      match a with
      | ⟨0, _⟩ => exact ⟨Nat.zero_le _, by have := (y 0).isLt; show (y 0).val < 0 + m; rw [Nat.zero_add]; exact this⟩
      | ⟨1, _⟩ => exact ⟨h1, h2⟩
    by_cases h1 : (y 1).val < 1024
    · exact ⟨_, .tail _ (.tail _ (.tail _ (.head _))), at_chunk 0 i0 (Nat.zero_le _) (by omega)⟩
    by_cases h2 : (y 1).val < 2048
    · exact ⟨_, .tail _ (.tail _ (.head _)), at_chunk 1024 i1 (by omega) (by omega)⟩
    by_cases h3 : (y 1).val < 3072
    · exact ⟨_, .tail _ (.head _), at_chunk 2048 i2 (by omega) (by omega)⟩
    · exact ⟨_, .head _, at_chunk 3072 i3 (by omega) (by omega)⟩

/-- Four column chunks of 1024 written into an array of `bf16`. -/
theorem canon_bf16 {m : ℕ} (f : ℕ → ℕ → ℝ)
    (i3 : ∀ a, (![0, 3072] : Fin 2 → ℕ) a + (![m, 1024] : Fin 2 → ℕ) a ≤ (⟨2, ![m, 4096]⟩ : Shape).size a)
    (i2 : ∀ a, (![0, 2048] : Fin 2 → ℕ) a + (![m, 1024] : Fin 2 → ℕ) a ≤ (⟨2, ![m, 4096]⟩ : Shape).size a)
    (i1 : ∀ a, (![0, 1024] : Fin 2 → ℕ) a + (![m, 1024] : Fin 2 → ℕ) a ≤ (⟨2, ![m, 4096]⟩ : Shape).size a)
    (i0 : ∀ a, (![0, 0] : Fin 2 → ℕ) a + (![m, 1024] : Fin 2 → ℕ) a ≤ (⟨2, ![m, 4096]⟩ : Shape).size a) :
    View.canon (Val := Elt Ideal) (s := ⟨2, ![m, 4096]⟩) (e := .bf16)
      [⟨Rect.unit (s := ⟨2, ![m, 4096]⟩) ![0, 3072] ![m, 1024] i3, up ⟨2, ![m, 1024]⟩ fun r k => f r (3072 + k)⟩,
        ⟨Rect.unit (s := ⟨2, ![m, 4096]⟩) ![0, 2048] ![m, 1024] i2, up ⟨2, ![m, 1024]⟩ fun r k => f r (2048 + k)⟩,
        ⟨Rect.unit (s := ⟨2, ![m, 4096]⟩) ![0, 1024] ![m, 1024] i1, up ⟨2, ![m, 1024]⟩ fun r k => f r (1024 + k)⟩,
        ⟨Rect.unit (s := ⟨2, ![m, 4096]⟩) ![0, 0] ![m, 1024] i0, up ⟨2, ![m, 1024]⟩ fun r k => f r k⟩] = up ⟨2, ![m, 4096]⟩ f := by
  funext y
  have hy : (y 1).val < 4096 := (y 1).isLt
  refine View.canon_eq_of_allAt _ y _ ?_ ?_
  · have at_chunk (o : ℕ) (inb) (h1 : o ≤ (y 1).val) (h2 : (y 1).val < o + 1024) :
        y ∈ (Rect.unit (s := ⟨2, ![m, 4096]⟩) ![0, o] ![m, 1024] inb).set := by
      rw [Rect.mem_set_unit]
      intro a
      match a with
      | ⟨0, _⟩ => exact ⟨Nat.zero_le _, by have := (y 0).isLt; show (y 0).val < 0 + m; rw [Nat.zero_add]; exact this⟩
      | ⟨1, _⟩ => exact ⟨h1, h2⟩
    by_cases h1 : (y 1).val < 1024
    · exact ⟨_, .tail _ (.tail _ (.tail _ (.head _))), at_chunk 0 i0 (Nat.zero_le _) (by omega)⟩
    by_cases h2 : (y 1).val < 2048
    · exact ⟨_, .tail _ (.tail _ (.head _)), at_chunk 1024 i1 (by omega) (by omega)⟩
    by_cases h3 : (y 1).val < 3072
    · exact ⟨_, .tail _ (.head _), at_chunk 2048 i2 (by omega) (by omega)⟩
    · exact ⟨_, .head _, at_chunk 3072 i3 (by omega) (by omega)⟩
  · have tile (o : ℕ) (g : ℕ → ℕ → ℝ) (hg : ∀ r k, g r k = f r (o + k)) :
        View.TileAt (Val := Elt Ideal) (S := ⟨2, ![m, 4096]⟩) (e := .bf16) y ![0, o] ![m, 1024] (up ⟨2, ![m, 1024]⟩ g) (up ⟨2, ![m, 4096]⟩ f y) := by
      intro x hx
      have e0 : (y 0).val = 0 + (x 0).val := hx 0
      have e1 : (y 1).val = o + (x 1).val := hx 1
      show ((g (x 0).val (x 1).val : ℝ) : EReal) = ((f (y 0).val (y 1).val : ℝ) : EReal)
      rw [hg, e0, e1, Nat.zero_add]
    refine View.allAt_cons_unit _ _ _ _ _ (tile 3072 _ fun _ _ => rfl) ?_
    refine View.allAt_cons_unit _ _ _ _ _ (tile 2048 _ fun _ _ => rfl) ?_
    refine View.allAt_cons_unit _ _ _ _ _ (tile 1024 _ fun _ _ => rfl) ?_
    exact View.allAt_cons_unit _ _ _ _ _ (tile 0 _ fun r k => by rw [Nat.zero_add]) (View.allAt_nil _ _)

/-- A chunk of the scratch array read back after its four chunks were written. -/
theorem scratch_up {o : ℕ} (f : ℕ → ℕ → ℝ) (i3 i2 i1 i0) (inb : ∀ a, (![0, o] : Fin 2 → ℕ) a + (![256, 1024] : Fin 2 → ℕ) a ≤ S256x4096.size a) :
    (View.whole cc0_scratch0).readCov (Val := Elt Ideal)
      [⟨Rect.unit (s := S256x4096) ![0, 3072] ![256, 1024] i3, up S256x1024 fun r k => f r (3072 + k)⟩,
        ⟨Rect.unit (s := S256x4096) ![0, 2048] ![256, 1024] i2, up S256x1024 fun r k => f r (2048 + k)⟩,
        ⟨Rect.unit (s := S256x4096) ![0, 1024] ![256, 1024] i1, up S256x1024 fun r k => f r (1024 + k)⟩,
        ⟨Rect.unit (s := S256x4096) ![0, 0] ![256, 1024] i0, up S256x1024 fun r k => f r k⟩]
      (Rect.unit (s := S256x4096) ![0, o] ![256, 1024] inb).toLoadRect = up S256x1024 fun r k => f r (o + k) := by
  rw [View.readCov_eq_canon']
  refine (congrArg (fun X => View.ld X (Rect.unit (s := S256x4096) ![0, o] ![256, 1024] inb)) (canon_f32 (m := 256) f [] i3 i2 i1 i0)).trans ?_
  refine (ld_f32 f inb).trans ?_
  simp only [zero_add]

variable {m : (ℓ : Loc nD τ sig) → Buf (Elt Ideal) ℓ} {c : Dev nD} {P : Args}

/-- The block's input, transposed. -/
theorem comp10 (h : Given m c P) (t : Fin cfg0.N) : (outsAt0 m c t.val t.isLt).1 = up S1024x256 (fun c r => x1 (P.rows t.val) r c) := by
  by_cases hA : t.val % 32 = 0
  · rw [outsAt0_A m c t hA]
    frame_out
    simp -proj only [h.in0, h.in1, h.in2, h.in3, h.in4, h.in5, h.in6, h.in7, h.in8, h.in9, ld_f32, ld_bf16, zero_add,
      scratch_up (rl (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1]
  · rw [outsAt0_B m c t hA]
    frame_out
    simp -proj only [h.in0, h.in1, h.in2, h.in3, h.in4, h.in5, h.in6, h.in7, h.in8, h.in9, ld_f32, ld_bf16, zero_add,
      scratch_up (rl (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1]

/-- The hidden layer. -/
theorem comp11 (h : Given m c P) (t : Fin cfg0.N) : (outsAt0 m c t.val t.isLt).2.1 = up S256x4096 (fun r k => rl (P.rows t.val) r k * rl (P.rows t.val) r k) := by
  by_cases hA : t.val % 32 = 0
  · rw [outsAt0_A m c t hA]
    frame_out
    simp -proj only [h.in0, h.in1, h.in2, h.in3, h.in4, h.in5, h.in6, h.in7, h.in8, h.in9, ld_f32, ld_bf16, zero_add,
      scratch_up (rl (P.rows t.val)), canon_bf16 (m := 256) (fun r k => rl (P.rows t.val) r k * rl (P.rows t.val) r k), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1]
  · rw [outsAt0_B m c t hA]
    frame_out
    simp -proj only [h.in0, h.in1, h.in2, h.in3, h.in4, h.in5, h.in6, h.in7, h.in8, h.in9, ld_f32, ld_bf16, zero_add,
      scratch_up (rl (P.rows t.val)), canon_bf16 (m := 256) (fun r k => rl (P.rows t.val) r k * rl (P.rows t.val) r k), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1]

/-- The gradient by the residual sum, transposed. -/
theorem comp12 (h : Given m c P) (t : Fin cfg0.N) : (outsAt0 m c t.val t.isLt).2.2.1 = up S1024x256 (fun c r => dr2 (P.rows t.val) r c) := by
  by_cases hA : t.val % 32 = 0
  · rw [outsAt0_A m c t hA]
    frame_out
    simp -proj only [h.in0, h.in1, h.in2, h.in3, h.in4, h.in5, h.in6, h.in7, h.in8, h.in9, ld_f32, ld_bf16, zero_add,
      scratch_up (rl (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1]
  · rw [outsAt0_B m c t hA]
    frame_out
    simp -proj only [h.in0, h.in1, h.in2, h.in3, h.in4, h.in5, h.in6, h.in7, h.in8, h.in9, ld_f32, ld_bf16, zero_add,
      scratch_up (rl (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1]

/-- The gradient by the hidden layer before the ReLU. -/
theorem comp13 (h : Given m c P) (t : Fin cfg0.N) : (outsAt0 m c t.val t.isLt).2.2.2.1 = up S256x4096 (dpre (P.rows t.val)) := by
  by_cases hA : t.val % 32 = 0
  · rw [outsAt0_A m c t hA]
    frame_out
    simp -proj only [h.in0, h.in1, h.in2, h.in3, h.in4, h.in5, h.in6, h.in7, h.in8, h.in9, ld_f32, ld_bf16, zero_add,
      scratch_up (rl (P.rows t.val)), canon_bf16 (m := 256) (dpre (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1]
  · rw [outsAt0_B m c t hA]
    frame_out
    simp -proj only [h.in0, h.in1, h.in2, h.in3, h.in4, h.in5, h.in6, h.in7, h.in8, h.in9, ld_f32, ld_bf16, zero_add,
      scratch_up (rl (P.rows t.val)), canon_bf16 (m := 256) (dpre (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1]

/-- The gradient by the block's input. -/
theorem comp14 (h : Given m c P) (t : Fin cfg0.N) : (outsAt0 m c t.val t.isLt).2.2.2.2.1 = up S256x1024 (dx1 (P.rows t.val)) := by
  by_cases hA : t.val % 32 = 0
  · rw [outsAt0_A m c t hA]
    frame_out
    simp -proj only [h.in0, h.in1, h.in2, h.in3, h.in4, h.in5, h.in6, h.in7, h.in8, h.in9, ld_f32, ld_bf16, zero_add,
      scratch_up (rl (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1]
  · rw [outsAt0_B m c t hA]
    frame_out
    simp -proj only [h.in0, h.in1, h.in2, h.in3, h.in4, h.in5, h.in6, h.in7, h.in8, h.in9, ld_f32, ld_bf16, zero_add,
      scratch_up (rl (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1]

/-- A read of one column chunk passes over a store of a chunk that is disjoint from it. -/
theorem skip_f32 {p o : ℕ} (v : View sig .tc .vmem S1x4096 .f32) (ip : ∀ a, (![0, p] : Fin 2 → ℕ) a + (![1, 1024] : Fin 2 → ℕ) a ≤ S1x4096.size a)
    (w : S1x1024.Idx → Elt Ideal .f32) (L : List (View.Piece (Elt Ideal) S1x4096 .f32))
    (io : ∀ a, (![0, o] : Fin 2 → ℕ) a + (![1, 1024] : Fin 2 → ℕ) a ≤ S1x4096.size a)
    (h : LoadRect.disj (Rect.unit (s := S1x4096) ![0, p] ![1, 1024] ip) (Rect.unit (s := S1x4096) ![0, o] ![1, 1024] io).toLoadRect = true) :
    v.readCov (Val := Elt Ideal) (⟨Rect.unit (s := S1x4096) ![0, p] ![1, 1024] ip, w⟩ :: L) (Rect.unit (s := S1x4096) ![0, o] ![1, 1024] io).toLoadRect
      = v.readCov (Val := Elt Ideal) L (Rect.unit (s := S1x4096) ![0, o] ![1, 1024] io).toLoadRect :=
  View.readCov_skip v _ _ _ _ h

/-- A column chunk read after the whole row was written. -/
theorem fill_f32 {o : ℕ} (v : View sig .tc .vmem S1x4096 .f32) (f : ℕ → ℕ → ℝ) (iw) (io : ∀ a, (![0, o] : Fin 2 → ℕ) a + (![1, 1024] : Fin 2 → ℕ) a ≤ S1x4096.size a) :
    v.readCov (Val := Elt Ideal) [⟨Rect.unit (s := S1x4096) ![0, 0] ![1, 4096] iw, up S1x4096 f⟩] (Rect.unit (s := S1x4096) ![0, o] ![1, 1024] io).toLoadRect
      = up S1x1024 fun r k => f (0 + r) (o + k) := by
  refine (View.readCov_fill (Val := Elt Ideal) v iw (up S1x4096 f) [] (Rect.unit (s := S1x4096) ![0, o] ![1, 1024] io) ?_).trans (ld_f32 f io)
  intro a
  match a with
  | ⟨0, _⟩ => rfl
  | ⟨1, _⟩ => rfl

/-- The loss: the first block of rows. -/
theorem comp15A (h : Given m c P) (t : Fin cfg0.N) (hA : t.val % 32 = 0) :
    (outsAt0 m c t.val t.isLt).2.2.2.2.2.1 = up S1x128 fun r c => 0 + (∑ r ∈ Finset.range 256, sqr (P.rows t.val) r) * (1 / 2048) := by
  rw [outsAt0_A m c t hA]
  frame_out
  simp -proj only [h.in0, h.in1, h.in2, h.in3, h.in4, h.in5, h.in6, h.in7, h.in8, h.in9, ld_f32, ld_bf16, zero_add,
    scratch_up (rl (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1, pay2, pay3, pay4, pay5, pay6]

/-- The loss: a later block of rows, added to what the blocks before it left. -/
theorem comp15B {s : ℕ → ℕ → ℝ} (h : Given m c P) (t : Fin cfg0.N) (hA : ¬t.val % 32 = 0)
    (hs : (outsAt0 m c (t.val - 1) (Nat.lt_of_le_of_lt (Nat.sub_le _ _) t.isLt)).2.2.2.2.2.1 = up S1x128 s) :
    (outsAt0 m c t.val t.isLt).2.2.2.2.2.1 = up S1x128 fun r c => s r c + (∑ r ∈ Finset.range 256, sqr (P.rows t.val) r) * (1 / 2048) := by
  rw [outsAt0_B m c t hA]
  frame_out
  simp -proj only [hs, h.in0, h.in1, h.in2, h.in3, h.in4, h.in5, h.in6, h.in7, h.in8, h.in9, ld_f32, ld_bf16, zero_add,
    scratch_up (rl (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1, pay2, pay3, pay4, pay5, pay6]

/-- The gradient by the second norm's scale: the first block of rows. -/
theorem comp16A (h : Given m c P) (t : Fin cfg0.N) (hA : t.val % 32 = 0) :
    (outsAt0 m c t.val t.isLt).2.2.2.2.2.2.1 = up S1x1024 fun r c => 0 + ∑ r ∈ Finset.range 256, dy (P.rows t.val) r c * xhat (P.rows t.val) r c := by
  rw [outsAt0_A m c t hA]
  frame_out
  simp -proj only [h.in0, h.in1, h.in2, h.in3, h.in4, h.in5, h.in6, h.in7, h.in8, h.in9, ld_f32, ld_bf16, zero_add,
    scratch_up (rl (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1, pay2, pay3, pay4, pay5, pay6]

/-- The gradient by the second norm's scale: a later block of rows, added to what the blocks before it left. -/
theorem comp16B {s : ℕ → ℕ → ℝ} (h : Given m c P) (t : Fin cfg0.N) (hA : ¬t.val % 32 = 0)
    (hs : (outsAt0 m c (t.val - 1) (Nat.lt_of_le_of_lt (Nat.sub_le _ _) t.isLt)).2.2.2.2.2.2.1 = up S1x1024 s) :
    (outsAt0 m c t.val t.isLt).2.2.2.2.2.2.1 = up S1x1024 fun r c => s r c + ∑ r ∈ Finset.range 256, dy (P.rows t.val) r c * xhat (P.rows t.val) r c := by
  rw [outsAt0_B m c t hA]
  frame_out
  simp -proj only [hs, h.in0, h.in1, h.in2, h.in3, h.in4, h.in5, h.in6, h.in7, h.in8, h.in9, ld_f32, ld_bf16, zero_add,
    scratch_up (rl (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1, pay2, pay3, pay4, pay5, pay6]

/-- The gradient by the second norm's shift: the first block of rows. -/
theorem comp17A (h : Given m c P) (t : Fin cfg0.N) (hA : t.val % 32 = 0) :
    (outsAt0 m c t.val t.isLt).2.2.2.2.2.2.2.1 = up S1x1024 fun r c => 0 + ∑ r ∈ Finset.range 256, dy (P.rows t.val) r c := by
  rw [outsAt0_A m c t hA]
  frame_out
  simp -proj only [h.in0, h.in1, h.in2, h.in3, h.in4, h.in5, h.in6, h.in7, h.in8, h.in9, ld_f32, ld_bf16, zero_add,
    scratch_up (rl (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1, pay2, pay3, pay4, pay5, pay6]

/-- The gradient by the second norm's shift: a later block of rows, added to what the blocks before it left. -/
theorem comp17B {s : ℕ → ℕ → ℝ} (h : Given m c P) (t : Fin cfg0.N) (hA : ¬t.val % 32 = 0)
    (hs : (outsAt0 m c (t.val - 1) (Nat.lt_of_le_of_lt (Nat.sub_le _ _) t.isLt)).2.2.2.2.2.2.2.1 = up S1x1024 s) :
    (outsAt0 m c t.val t.isLt).2.2.2.2.2.2.2.1 = up S1x1024 fun r c => s r c + ∑ r ∈ Finset.range 256, dy (P.rows t.val) r c := by
  rw [outsAt0_B m c t hA]
  frame_out
  simp -proj only [hs, h.in0, h.in1, h.in2, h.in3, h.in4, h.in5, h.in6, h.in7, h.in8, h.in9, ld_f32, ld_bf16, zero_add,
    scratch_up (rl (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1, pay2, pay3, pay4, pay5, pay6]

/-- The gradient by the second product's bias: the first block of rows. -/
theorem comp18A (h : Given m c P) (t : Fin cfg0.N) (hA : t.val % 32 = 0) :
    (outsAt0 m c t.val t.isLt).2.2.2.2.2.2.2.2.1 = up S1x1024 fun r c => 0 + ∑ r ∈ Finset.range 256, dr2 (P.rows t.val) r c := by
  rw [outsAt0_A m c t hA]
  frame_out
  simp -proj only [h.in0, h.in1, h.in2, h.in3, h.in4, h.in5, h.in6, h.in7, h.in8, h.in9, ld_f32, ld_bf16, zero_add,
    scratch_up (rl (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1, pay2, pay3, pay4, pay5, pay6]

/-- The gradient by the second product's bias: a later block of rows, added to what the blocks before it left. -/
theorem comp18B {s : ℕ → ℕ → ℝ} (h : Given m c P) (t : Fin cfg0.N) (hA : ¬t.val % 32 = 0)
    (hs : (outsAt0 m c (t.val - 1) (Nat.lt_of_le_of_lt (Nat.sub_le _ _) t.isLt)).2.2.2.2.2.2.2.2.1 = up S1x1024 s) :
    (outsAt0 m c t.val t.isLt).2.2.2.2.2.2.2.2.1 = up S1x1024 fun r c => s r c + ∑ r ∈ Finset.range 256, dr2 (P.rows t.val) r c := by
  rw [outsAt0_B m c t hA]
  frame_out
  simp -proj only [hs, h.in0, h.in1, h.in2, h.in3, h.in4, h.in5, h.in6, h.in7, h.in8, h.in9, ld_f32, ld_bf16, zero_add,
    scratch_up (rl (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1, pay2, pay3, pay4, pay5, pay6]

/-- The gradient by the first product's bias: the first block of rows. -/
theorem comp19A (h : Given m c P) (t : Fin cfg0.N) (hA : t.val % 32 = 0) :
    (outsAt0 m c t.val t.isLt).2.2.2.2.2.2.2.2.2 = up S1x4096 fun r c => 0 + ∑ r ∈ Finset.range 256, dpre (P.rows t.val) r c := by
  have s01 := fun v ip w L io => skip_f32 (p := 0) (o := 1024) v ip w L io rfl
  have s02 := fun v ip w L io => skip_f32 (p := 0) (o := 2048) v ip w L io rfl
  have s03 := fun v ip w L io => skip_f32 (p := 0) (o := 3072) v ip w L io rfl
  have s12 := fun v ip w L io => skip_f32 (p := 1024) (o := 2048) v ip w L io rfl
  have s13 := fun v ip w L io => skip_f32 (p := 1024) (o := 3072) v ip w L io rfl
  have s23 := fun v ip w L io => skip_f32 (p := 2048) (o := 3072) v ip w L io rfl
  rw [outsAt0_A m c t hA]
  frame_out
  simp -proj only [s01, s02, s03, s12, s13, s23, fill_f32,
    canon_f32 (m := 1) (fun r c => ∑ r ∈ Finset.range 256, dpre (P.rows t.val) r c), h.in0, h.in1, h.in2, h.in3, h.in4, h.in5, h.in6, h.in7, h.in8, h.in9, ld_f32, ld_bf16, zero_add,
    scratch_up (rl (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1, pay2, pay3, pay4, pay5, pay6]

/-- The gradient by the first product's bias: a later block of rows, added to what the blocks before it left. -/
theorem comp19B {s : ℕ → ℕ → ℝ} (h : Given m c P) (t : Fin cfg0.N) (hA : ¬t.val % 32 = 0)
    (hs : (outsAt0 m c (t.val - 1) (Nat.lt_of_le_of_lt (Nat.sub_le _ _) t.isLt)).2.2.2.2.2.2.2.2.2 = up S1x4096 s) :
    (outsAt0 m c t.val t.isLt).2.2.2.2.2.2.2.2.2 = up S1x4096 fun r c => s r c + ∑ r ∈ Finset.range 256, dpre (P.rows t.val) r c := by
  rw [outsAt0_B m c t hA]
  frame_out
  simp -proj only [hs,
    canon_f32 (m := 1) (fun r c => s r c + ∑ r ∈ Finset.range 256, dpre (P.rows t.val) r c), h.in0, h.in1, h.in2, h.in3, h.in4, h.in5, h.in6, h.in7, h.in8, h.in9, ld_f32, ld_bf16, zero_add,
    scratch_up (rl (P.rows t.val)), pay7, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay49, pay50, pay51, pay52, pay53, pay54, pay1, pay2, pay3, pay4, pay5, pay6]

end Cert.Block

end
-- ==== Proof.Out.lean ====
/-
  The kernel's whole output arrays over the real numbers: the tiled ones put together of their blocks, the accumulated ones
  summed over all rows.
-/
module

public import proofs.«01_k».proof.Proof.Comp

@[expose] public section

set_option maxRecDepth 16384

noncomputable section

namespace Cert.Block

open Idealize.ShloMosaic Idealize.ShloMosaic.TcCoe Cert.Lift Cert.Spec Cert.KernelIdeal Cert.KernelIdeal.Gen Finset

variable {m : (ℓ : Loc nD τ sig) → Buf (Elt Ideal) ℓ} {c : Dev nD} {P : Args}

theorem index10 : ∀ t : Fin grid0.N, win0_10.index t 0 = 0 ∧ win0_10.index t 1 = t.val := by decide +kernel
theorem index11 : ∀ t : Fin grid0.N, win0_11.index t 0 = t.val ∧ win0_11.index t 1 = 0 := by decide +kernel
theorem index12 : ∀ t : Fin grid0.N, win0_12.index t 0 = 0 ∧ win0_12.index t 1 = t.val := by decide +kernel
theorem index13 : ∀ t : Fin grid0.N, win0_13.index t 0 = t.val ∧ win0_13.index t 1 = 0 := by decide +kernel
theorem index14 : ∀ t : Fin grid0.N, win0_14.index t 0 = t.val ∧ win0_14.index t 1 = 0 := by decide +kernel

/-- The block's input, transposed. -/
theorem out10 (h : Given m c P) : (dats m 0 c).arrAt 10 cfg0.N = up S1024x8192 (fun c r => x1 P r c) := by
  refine (dats m 0 c).arrAt_eq_of_covers 10 (up S1024x8192 (fun c r => x1 P r c)) (by decide +kernel) fun t _ y => ?_
  refine (congrFun ((after0_10 m c t).trans (comp10 h t)) _).trans ?_
  refine congrArg (fun x : ℝ => (x : EReal)) (congrArg₂ (fun c r => x1 P r c) ?_ ?_)
  · show (y 0).val = (((cfg0.win 10).blk t).view.emb y 0).val
    blk_simp [index10 t]
    try omega
  · show 256 * t.val + (y 1).val = (((cfg0.win 10).blk t).view.emb y 1).val
    blk_simp [index10 t]
    try omega

/-- The hidden layer. -/
theorem out11 (h : Given m c P) : (dats m 0 c).arrAt 11 cfg0.N = up S8192x4096 (fun r k => rl P r k * rl P r k) := by
  refine (dats m 0 c).arrAt_eq_of_covers 11 (up S8192x4096 (fun r k => rl P r k * rl P r k)) (by decide +kernel) fun t _ y => ?_
  refine (congrFun ((after0_11 m c t).trans (comp11 h t)) _).trans ?_
  refine congrArg (fun x : ℝ => (x : EReal)) (congrArg₂ (fun r k => rl P r k * rl P r k) ?_ ?_)
  · show 256 * t.val + (y 0).val = (((cfg0.win 11).blk t).view.emb y 0).val
    blk_simp [index11 t]
    try omega
  · show (y 1).val = (((cfg0.win 11).blk t).view.emb y 1).val
    blk_simp [index11 t]
    try omega

/-- The gradient by the residual sum, transposed. -/
theorem out12 (h : Given m c P) : (dats m 0 c).arrAt 12 cfg0.N = up S1024x8192 (fun c r => dr2 P r c) := by
  refine (dats m 0 c).arrAt_eq_of_covers 12 (up S1024x8192 (fun c r => dr2 P r c)) (by decide +kernel) fun t _ y => ?_
  refine (congrFun ((after0_12 m c t).trans (comp12 h t)) _).trans ?_
  refine congrArg (fun x : ℝ => (x : EReal)) (congrArg₂ (fun c r => dr2 P r c) ?_ ?_)
  · show (y 0).val = (((cfg0.win 12).blk t).view.emb y 0).val
    blk_simp [index12 t]
    try omega
  · show 256 * t.val + (y 1).val = (((cfg0.win 12).blk t).view.emb y 1).val
    blk_simp [index12 t]
    try omega

/-- The gradient by the hidden layer before the ReLU. -/
theorem out13 (h : Given m c P) : (dats m 0 c).arrAt 13 cfg0.N = up S8192x4096 (dpre P) := by
  refine (dats m 0 c).arrAt_eq_of_covers 13 (up S8192x4096 (dpre P)) (by decide +kernel) fun t _ y => ?_
  refine (congrFun ((after0_13 m c t).trans (comp13 h t)) _).trans ?_
  refine congrArg (fun x : ℝ => (x : EReal)) (congrArg₂ (dpre P) ?_ ?_)
  · show 256 * t.val + (y 0).val = (((cfg0.win 13).blk t).view.emb y 0).val
    blk_simp [index13 t]
    try omega
  · show (y 1).val = (((cfg0.win 13).blk t).view.emb y 1).val
    blk_simp [index13 t]
    try omega

/-- The gradient by the block's input. -/
theorem out14 (h : Given m c P) : (dats m 0 c).arrAt 14 cfg0.N = up S8192x1024 (dx1 P) := by
  refine (dats m 0 c).arrAt_eq_of_covers 14 (up S8192x1024 (dx1 P)) (by decide +kernel) fun t _ y => ?_
  refine (congrFun ((after0_14 m c t).trans (comp14 h t)) _).trans ?_
  refine congrArg (fun x : ℝ => (x : EReal)) (congrArg₂ (dx1 P) ?_ ?_)
  · show 256 * t.val + (y 0).val = (((cfg0.win 14).blk t).view.emb y 0).val
    blk_simp [index14 t]
    try omega
  · show (y 1).val = (((cfg0.win 14).blk t).view.emb y 1).val
    blk_simp [index14 t]
    try omega

/-- What an accumulated array holds after a point: the sum of the contributions up to it. -/
theorem accum {S : Shape} (g : (n : ℕ) → n < cfg0.N → S.Idx → EReal) (f : ℕ → ℕ → ℕ → ℝ) (lift : (ℕ → ℕ → ℝ) → S.Idx → EReal)
    (hA : ∀ t : Fin cfg0.N, t.val % 32 = 0 → g t.val t.isLt = lift fun r c => 0 + f t.val r c)
    (hB : ∀ (t : Fin cfg0.N) (s : ℕ → ℕ → ℝ), ¬t.val % 32 = 0 →
      g (t.val - 1) (Nat.lt_of_le_of_lt (Nat.sub_le _ _) t.isLt) = lift s → g t.val t.isLt = lift fun r c => s r c + f t.val r c) :
    ∀ (n : ℕ) (hn : n < cfg0.N), g n hn = lift fun r c => ∑ t ∈ range (n + 1), f t r c
  | 0, hn => (hA ⟨0, hn⟩ rfl).trans (congrArg lift (by funext r c; rw [zero_add, zero_add, sum_range_one]))
  | n + 1, hn => by
    have h32 : n + 1 < 32 := lt_of_lt_of_eq hn (show cfg0.N = 32 from N_0)
    have ih := accum g f lift hA hB n (by omega)
    exact (hB ⟨n + 1, hn⟩ _ (show ¬(n + 1) % 32 = 0 by omega) ih).trans
      (congrArg lift (by funext r c; rw [sum_range_succ _ (n + 1)]))

/-- The loss. -/
theorem out15 (h : Given m c P) : (dats m 0 c).arrAt 15 cfg0.N = up S1x128 (fun _ _ => (∑ r ∈ range 8192, sqr P r) * (1 / 2048)) := by
  have e : (outsAt0 m c 31 (by decide)).2.2.2.2.2.1 = up S1x128 (fun _ _ => (∑ r ∈ range 8192, sqr P r) * (1 / 2048)) := by
    refine (accum (fun n hn => (outsAt0 m c n hn).2.2.2.2.2.1) (fun t _ _ => (∑ r ∈ range 256, sqr (P.rows t) r) * (1 / 2048)) (up S1x128)
      (fun t hA => comp15A h t hA) (fun t s hB hs => comp15B h t hB hs) 31 (by decide)).trans (congrArg (up S1x128) ?_)
    funext _ c
    rw [← sum_mul]
    exact congrArg (· * (1 / 2048)) (sum_rows (sqr P) 32)
  refine Pipeline.Dat.arrAt_eq_of_after_last (dats m 0 c) 15 ⟨31, by decide⟩ (by decide +kernel) (up S1x128 (fun _ _ => (∑ r ∈ range 8192, sqr P r) * (1 / 2048))) fun j => ?_
  refine (congrFun ((after0_15 m c ⟨31, by decide⟩).trans e) _).trans ?_
  rfl

/-- The gradient by the second norm's scale. -/
theorem out16 (h : Given m c P) : (dats m 0 c).arrAt 16 cfg0.N = up S1x1024 (fun _ c => ∑ r ∈ range 8192, dy P r c * xhat P r c) := by
  have e : (outsAt0 m c 31 (by decide)).2.2.2.2.2.2.1 = up S1x1024 (fun _ c => ∑ r ∈ range 8192, dy P r c * xhat P r c) := by
    refine (accum (fun n hn => (outsAt0 m c n hn).2.2.2.2.2.2.1) (fun t _ c => ∑ r ∈ range 256, dy (P.rows t) r c * xhat (P.rows t) r c) (up S1x1024)
      (fun t hA => comp16A h t hA) (fun t s hB hs => comp16B h t hB hs) 31 (by decide)).trans (congrArg (up S1x1024) ?_)
    funext _ c
    exact (sum_rows (fun r => dy P r c * xhat P r c) 32)
  refine Pipeline.Dat.arrAt_eq_of_after_last (dats m 0 c) 16 ⟨31, by decide⟩ (by decide +kernel) (up S1x1024 (fun _ c => ∑ r ∈ range 8192, dy P r c * xhat P r c)) fun j => ?_
  refine (congrFun ((after0_16 m c ⟨31, by decide⟩).trans e) _).trans ?_
  rfl

/-- The gradient by the second norm's shift. -/
theorem out17 (h : Given m c P) : (dats m 0 c).arrAt 17 cfg0.N = up S1x1024 (fun _ c => ∑ r ∈ range 8192, dy P r c) := by
  have e : (outsAt0 m c 31 (by decide)).2.2.2.2.2.2.2.1 = up S1x1024 (fun _ c => ∑ r ∈ range 8192, dy P r c) := by
    refine (accum (fun n hn => (outsAt0 m c n hn).2.2.2.2.2.2.2.1) (fun t _ c => ∑ r ∈ range 256, dy (P.rows t) r c) (up S1x1024)
      (fun t hA => comp17A h t hA) (fun t s hB hs => comp17B h t hB hs) 31 (by decide)).trans (congrArg (up S1x1024) ?_)
    funext _ c
    exact (sum_rows (fun r => dy P r c) 32)
  refine Pipeline.Dat.arrAt_eq_of_after_last (dats m 0 c) 17 ⟨31, by decide⟩ (by decide +kernel) (up S1x1024 (fun _ c => ∑ r ∈ range 8192, dy P r c)) fun j => ?_
  refine (congrFun ((after0_17 m c ⟨31, by decide⟩).trans e) _).trans ?_
  rfl

/-- The gradient by the second product's bias. -/
theorem out18 (h : Given m c P) : (dats m 0 c).arrAt 18 cfg0.N = up S1x1024 (fun _ c => ∑ r ∈ range 8192, dr2 P r c) := by
  have e : (outsAt0 m c 31 (by decide)).2.2.2.2.2.2.2.2.1 = up S1x1024 (fun _ c => ∑ r ∈ range 8192, dr2 P r c) := by
    refine (accum (fun n hn => (outsAt0 m c n hn).2.2.2.2.2.2.2.2.1) (fun t _ c => ∑ r ∈ range 256, dr2 (P.rows t) r c) (up S1x1024)
      (fun t hA => comp18A h t hA) (fun t s hB hs => comp18B h t hB hs) 31 (by decide)).trans (congrArg (up S1x1024) ?_)
    funext _ c
    exact (sum_rows (fun r => dr2 P r c) 32)
  refine Pipeline.Dat.arrAt_eq_of_after_last (dats m 0 c) 18 ⟨31, by decide⟩ (by decide +kernel) (up S1x1024 (fun _ c => ∑ r ∈ range 8192, dr2 P r c)) fun j => ?_
  refine (congrFun ((after0_18 m c ⟨31, by decide⟩).trans e) _).trans ?_
  rfl

/-- The gradient by the first product's bias. -/
theorem out19 (h : Given m c P) : (dats m 0 c).arrAt 19 cfg0.N = up S1x4096 (fun _ c => ∑ r ∈ range 8192, dpre P r c) := by
  have e : (outsAt0 m c 31 (by decide)).2.2.2.2.2.2.2.2.2 = up S1x4096 (fun _ c => ∑ r ∈ range 8192, dpre P r c) := by
    refine (accum (fun n hn => (outsAt0 m c n hn).2.2.2.2.2.2.2.2.2) (fun t _ c => ∑ r ∈ range 256, dpre (P.rows t) r c) (up S1x4096)
      (fun t hA => comp19A h t hA) (fun t s hB hs => comp19B h t hB hs) 31 (by decide)).trans (congrArg (up S1x4096) ?_)
    funext _ c
    exact (sum_rows (fun r => dpre P r c) 32)
  refine Pipeline.Dat.arrAt_eq_of_after_last (dats m 0 c) 19 ⟨31, by decide⟩ (by decide +kernel) (up S1x4096 (fun _ c => ∑ r ∈ range 8192, dpre P r c)) fun j => ?_
  refine (congrFun ((after0_19 m c ⟨31, by decide⟩).trans e) _).trans ?_
  rfl

end Cert.Block

end
-- ==== Proof.Ref.lean ====
/-
  The reference's stages at the ideal values, each as the block's quantity over the real numbers.
-/
module

public import proofs.«01_k».proof.Proof.Lits
public import proofs.«01_k».proof.Proof.Gen.ReferenceIdeal.Read

@[expose] public section

set_option maxRecDepth 16384

noncomputable section

namespace Cert.Ref

open Idealize.ShloMosaic Cert.Lift Cert.Spec Cert.ReferenceIdeal Cert.ReferenceIdeal.Read Finset

theorem rows_1024 : S8192x1024.Reduces [1] S8192 := by decide
theorem cols_1024 : S8192x1024.Reduces [0] S1024 := by decide
theorem cols_4096 : S8192x4096.Reduces [0] S4096 := by decide
theorem rows_one : S8192x1.Reduces [1] S8192 := by decide

section
variable {φ₁ φ₂ : FTy} (f g : ℕ → ℕ → ℝ)

theorem sum_r (z : ℕ → ℕ → ℝ) {φ : FTy} (h : S8192x1024.ReducesTo [1] S8192) (hu : 0 < S_.numel) : Host.reduceAdd (F := Ideal) (φ := φ) (up S8192x1024 f) (up S_ z) h hu
    = up S8192 (fun r _ => z 0 0 + ∑ k ∈ range 1024, f r k) := host_sum_rows f z _ rows_1024 _
theorem sum_one (z : ℕ → ℕ → ℝ) {φ : FTy} (h : S8192x1.ReducesTo [1] S8192) (hu : 0 < S_.numel) : Host.reduceAdd (F := Ideal) (φ := φ) (up S8192x1 f) (up S_ z) h hu
    = up S8192 (fun r _ => z 0 0 + f r 0) := by
  refine (host_sum_rows f z _ rows_one _).trans ?_
  simp only [sum_range_one]
theorem sum_c (z : ℕ → ℕ → ℝ) {φ : FTy} (h : S8192x1024.ReducesTo [0] S1024) (hu : 0 < S_.numel) : Host.reduceAdd (F := Ideal) (φ := φ) (up S8192x1024 f) (up S_ z) h hu
    = up S1024 (fun c _ => z 0 0 + ∑ k ∈ range 8192, f k c) := host_sum_cols f z _ cols_1024 _
theorem sum_k (z : ℕ → ℕ → ℝ) {φ : FTy} (h : S8192x4096.ReducesTo [0] S4096) (hu : 0 < S_.numel) : Host.reduceAdd (F := Ideal) (φ := φ) (up S8192x4096 f) (up S_ z) h hu
    = up S4096 (fun c _ => z 0 0 + ∑ k ∈ range 8192, f k c) := host_sum_cols f z _ cols_4096 _
theorem sum_v (z : ℕ → ℕ → ℝ) {φ : FTy} (h : S8192.ReducesTo [0] S_) (hu : 0 < S_.numel) : Host.reduceAdd (F := Ideal) (φ := φ) (up S8192 f) (up S_ z) h hu
    = up S_ (fun _ _ => z 0 0 + ∑ k ∈ range 8192, f k 0) := host_sum_all f z _ _

theorem dot_up : Host.dotGeneral (F := Ideal) (φ₁ := φ₁) (φ₂ := φ₂) dot_S8192x1024_S1024x4096_S8192x4096_1_0_0_1_n_n none (up S8192x1024 f) (up S1024x4096 g)
    = up S8192x4096 (fun r c => 0 + ∑ k ∈ range 1024, f r k * g k c) := by
  rw [dotGeneral_eq_matmul]; exact matmul_up (M := 8192) (K := 1024) (N := 4096) f g _ none
theorem dot_down : Host.dotGeneral (F := Ideal) (φ₁ := φ₁) (φ₂ := φ₂) dot_S8192x4096_S4096x1024_S8192x1024_1_0_0_1_n_n none (up S8192x4096 f) (up S4096x1024 g)
    = up S8192x1024 (fun r c => 0 + ∑ k ∈ range 4096, f r k * g k c) := by
  rw [dotGeneral_eq_matmul]; exact matmul_up (M := 8192) (K := 4096) (N := 1024) f g _ none
theorem dot_downT : Host.dotGeneral (F := Ideal) (φ₁ := φ₁) (φ₂ := φ₂) dot_S8192x1024_S4096x1024_S8192x4096_1_1_0_0_n_n none (up S8192x1024 f) (up S4096x1024 g)
    = up S8192x4096 (fun r c => 0 + ∑ k ∈ range 1024, f r k * g c k) := by
  rw [dotGeneral_eq_matmul]; exact matmulT_up (M := 8192) (K := 1024) (N := 4096) f g _ none
theorem dot_upT : Host.dotGeneral (F := Ideal) (φ₁ := φ₁) (φ₂ := φ₂) dot_S8192x4096_S1024x4096_S8192x1024_1_1_0_0_n_n none (up S8192x4096 f) (up S1024x4096 g)
    = up S8192x1024 (fun r c => 0 + ∑ k ∈ range 4096, f r k * g c k) := by
  rw [dotGeneral_eq_matmul]; exact matmulT_up (M := 8192) (K := 4096) (N := 1024) f g _ none
end

variable (P : Args)

/-- The block's input. -/
theorem stage_x1 : val_main_v3 (F := Ideal) (up S8192x1024 P.X) (up S1x1024 P.g) (up S1x1024 P.b)
    = up S8192x1024 (x1 P) := by
  simp only [val_main_v3, val_main_v2, val_main_v1, val_main_v0, lit_zero, lit_one, lit_two, lit_half, lit_neg_half, lit_1024, lit_alpha, lit_eps, bcast_num, host_divf_1024, mulf_up, addf_up, subf_up, zero_add, add_zero, bcast_row (m := 8192) (n := 1024) _ (by decide)]
  rfl

/-- The hidden layer before the ReLU. -/
theorem stage_pre : val_main_v9 (F := Ideal) (up S8192x1024 P.X) (up S1x1024 P.g) (up S1x1024 P.b) (up S1024x4096 P.wu) (up S1x4096 P.bu)
    = up S8192x4096 (pre P) := by
  simp only [val_main_v9, val_main_v4, val_main_cst, val_main_v8, val_main_v7, val_main_v6, lit_zero, lit_one, lit_two, lit_half, lit_neg_half, lit_1024, lit_alpha, lit_eps, bcast_num, host_divf_1024, mulf_up, addf_up, subf_up, zero_add, add_zero, stage_x1, dot_up, bcast_row (m := 8192) (n := 4096) _ (by decide)]
  rfl

/-- Its ReLU. -/
theorem stage_rl : val_main_v10 (F := Ideal) (up S8192x1024 P.X) (up S1x1024 P.g) (up S1x1024 P.b) (up S1024x4096 P.wu) (up S1x4096 P.bu)
    = up S8192x4096 (rl P) := by
  simp only [val_main_v10, val_main_call0_v0, val_main_call0_cst, lit_zero, lit_one, lit_two, lit_half, lit_neg_half, lit_1024, lit_alpha, lit_eps, bcast_num, host_divf_1024, mulf_up, addf_up, subf_up, zero_add, add_zero, stage_pre, maximumf_up]
  rfl

/-- The ReLU's square. -/
theorem stage_sq : val_main_v14 (F := Ideal) (up S8192x1024 P.X) (up S1x1024 P.g) (up S1x1024 P.b) (up S1024x4096 P.wu) (up S1x4096 P.bu)
    = up S8192x4096 (fun r k => rl P r k * rl P r k) := by
  simp only [val_main_v14, lit_zero, lit_one, lit_two, lit_half, lit_neg_half, lit_1024, lit_alpha, lit_eps, bcast_num, host_divf_1024, mulf_up, addf_up, subf_up, zero_add, add_zero, stage_rl]

/-- The residual sum. -/
theorem stage_r2 : val_main_v23 (F := Ideal) (up S8192x1024 P.X) (up S1x1024 P.g) (up S1x1024 P.b) (up S1024x4096 P.wu) (up S1x4096 P.bu) (up S4096x1024 P.wd) (up S1x1024 P.bd)
    = up S8192x1024 (r2 P) := by
  simp only [val_main_v23, val_main_v5, val_main_cst_0, val_main_v22, val_main_v21, val_main_v20, val_main_v19, val_main_v18, val_main_v17, val_main_cst_4, lit_zero, lit_one, lit_two, lit_half, lit_neg_half, lit_1024, lit_alpha, lit_eps, bcast_num, host_divf_1024, mulf_up, addf_up, subf_up, zero_add, add_zero, stage_x1, stage_sq, dot_down, bcast_row (m := 8192) (n := 1024) _ (by decide)]
  rfl

/-- The rows' means. -/
theorem stage_mu : val_main_v27 (F := Ideal) (up S8192x1024 P.X) (up S1x1024 P.g) (up S1x1024 P.b) (up S1024x4096 P.wu) (up S1x4096 P.bu) (up S4096x1024 P.wd) (up S1x1024 P.bd)
    = up S8192x1 (fun r _ => mu P r) := by
  simp only [val_main_v27, val_main_v26, val_main_cst_6, val_main_v25, val_main_v24, val_main_cst_5, lit_zero, lit_one, lit_two, lit_half, lit_neg_half, lit_1024, lit_alpha, lit_eps, bcast_num, host_divf_1024, mulf_up, addf_up, subf_up, zero_add, add_zero, stage_r2, sum_r, bcast_v1 (m := 8192) _ (by decide)]
  rfl

/-- The deviations. -/
theorem stage_dev : val_main_v29 (F := Ideal) (up S8192x1024 P.X) (up S1x1024 P.g) (up S1x1024 P.b) (up S1024x4096 P.wu) (up S1x4096 P.bu) (up S4096x1024 P.wd) (up S1x1024 P.bd)
    = up S8192x1024 (dev P) := by
  simp only [val_main_v29, val_main_v28, lit_zero, lit_one, lit_two, lit_half, lit_neg_half, lit_1024, lit_alpha, lit_eps, bcast_num, host_divf_1024, mulf_up, addf_up, subf_up, zero_add, add_zero, stage_r2, stage_mu, bcast_col (m := 8192) (n := 1024) _ (by decide)]
  rfl

/-- The deviations, written again. -/
theorem stage_dev2 : val_main_v38 (F := Ideal) (up S8192x1024 P.X) (up S1x1024 P.g) (up S1x1024 P.b) (up S1024x4096 P.wu) (up S1x4096 P.bu) (up S4096x1024 P.wd) (up S1x1024 P.bd)
    = up S8192x1024 (dev P) := by
  simp only [val_main_v38, val_main_v37, lit_zero, lit_one, lit_two, lit_half, lit_neg_half, lit_1024, lit_alpha, lit_eps, bcast_num, host_divf_1024, mulf_up, addf_up, subf_up, zero_add, add_zero, stage_r2, stage_mu, bcast_col (m := 8192) (n := 1024) _ (by decide)]
  rfl

/-- The rows' variances with the small number added. -/
theorem stage_vare : val_main_v40 (F := Ideal) (up S8192x1024 P.X) (up S1x1024 P.g) (up S1x1024 P.b) (up S1024x4096 P.wu) (up S1x4096 P.bu) (up S4096x1024 P.wd) (up S1x1024 P.bd)
    = up S8192x1 (fun r _ => vare P r) := by
  simp only [val_main_v40, val_main_v39, val_main_cst_10, val_main_v36, val_main_v35, val_main_cst_9, val_main_v34, val_main_v33, val_main_cst_8, val_main_v30, lit_zero, lit_one, lit_two, lit_half, lit_neg_half, lit_1024, lit_alpha, lit_eps, bcast_num, host_divf_1024, mulf_up, addf_up, subf_up, zero_add, add_zero, stage_dev, sum_r, bcast_v1 (m := 8192) _ (by decide)]
  rfl

/-- The reciprocal standard deviations. -/
theorem stage_rstd : val_main_v41 (F := Ideal) (up S8192x1024 P.X) (up S1x1024 P.g) (up S1x1024 P.b) (up S1024x4096 P.wu) (up S1x4096 P.bu) (up S4096x1024 P.wd) (up S1x1024 P.bd)
    = up S8192x1 (fun r _ => rstd P r) := by
  simp only [val_main_v41, stage_vare]
  exact host_rsqrt_up _ fun r _ => vare_pos P r

/-- Their derivative by the variance. -/
theorem stage_drs : val_main_v44 (F := Ideal) (up S8192x1024 P.X) (up S1x1024 P.g) (up S1x1024 P.b) (up S1024x4096 P.wu) (up S1x4096 P.bu) (up S4096x1024 P.wd) (up S1x1024 P.bd)
    = up S8192x1 (fun r _ => -(1 / 2) * (rstd P r / vare P r)) := by
  simp only [val_main_v44, val_main_v43, val_main_cst_11, val_main_v42, lit_zero, lit_one, lit_two, lit_half, lit_neg_half, lit_1024, lit_alpha, lit_eps, bcast_num, host_divf_1024, mulf_up, addf_up, subf_up, zero_add, add_zero, stage_rstd, stage_vare, host_divf_up (S := S8192x1) (fun r _ => rstd P r) (fun r _ => vare P r) fun r _ => (vare_pos P r).ne']

/-- The normalised rows. -/
theorem stage_xhat : val_main_v46 (F := Ideal) (up S8192x1024 P.X) (up S1x1024 P.g) (up S1x1024 P.b) (up S1024x4096 P.wu) (up S1x4096 P.bu) (up S4096x1024 P.wd) (up S1x1024 P.bd)
    = up S8192x1024 (xhat P) := by
  simp only [val_main_v46, val_main_v45, lit_zero, lit_one, lit_two, lit_half, lit_neg_half, lit_1024, lit_alpha, lit_eps, bcast_num, host_divf_1024, mulf_up, addf_up, subf_up, zero_add, add_zero, stage_dev2, stage_rstd, bcast_col (m := 8192) (n := 1024) _ (by decide)]
  rfl

/-- The output less the target. -/
theorem stage_err : val_main_v51 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S8192x1024 (err P) := by
  simp only [val_main_v51, val_main_v50, val_main_v49, val_main_v48, val_main_v47, lit_zero, lit_one, lit_two, lit_half, lit_neg_half, lit_1024, lit_alpha, lit_eps, bcast_num, host_divf_1024, mulf_up, addf_up, subf_up, zero_add, add_zero, stage_xhat, bcast_row (m := 8192) (n := 1024) _ (by decide)]
  rfl

/-- The loss. -/
theorem stage_loss : val_main_v59 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S_ (fun _ _ => (∑ r ∈ range 8192, sqr P r) * (1 / 2048)) := by
  simp only [val_main_v59, val_main_cst_16, val_main_v58, val_main_cst_15, val_main_v57, val_main_v56, val_main_cst_14, val_main_v55, val_main_cst_13, val_main_v52, lit_zero, lit_one, lit_two, lit_half, lit_neg_half, lit_1024, lit_alpha, lit_eps, bcast_num, host_divf_1024, mulf_up, addf_up, subf_up, zero_add, add_zero, stage_err, sum_r, sum_v]
  refine congrArg (up S_) (funext fun _ => funext fun _ => ?_)
  rw [← sum_div]
  simp only [sqr]
  ring

/-- The loss's gradient by the output. -/
theorem stage_dy : val_main_v65 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S8192x1024 (dy P) := by
  simp only [val_main_v65, val_main_v64, val_main_v63, val_main_v62, val_main_cst_19, val_main_v61, val_main_v60, val_main_cst_17, val_main_cst_18, val_main_v54, val_main_v53, val_main_cst_12, lit_zero, lit_one, lit_two, lit_half, lit_neg_half, lit_1024, lit_alpha, lit_eps, bcast_num, host_divf_1024, mulf_up, addf_up, subf_up, zero_add, add_zero, stage_err, bcast_vec (m := 8192) (n := 1024) _ (by decide)]
  refine up_congr2 fun r _ c _ => ?_
  unfold dy
  ring

/-- The gradient of the second norm's shift. -/
theorem stage_db2 : val_main_v67 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S1x1024 (fun _ c => ∑ r ∈ range 8192, dy P r c) := by
  simp only [val_main_v67, val_main_v66, val_main_cst_20, lit_zero, lit_one, lit_two, lit_half, lit_neg_half, lit_1024, lit_alpha, lit_eps, bcast_num, host_divf_1024, mulf_up, addf_up, subf_up, zero_add, add_zero, stage_dy, sum_c, shapeCast_row (n := 1024)]

/-- The gradient of the second norm's scale. -/
theorem stage_dg2 : val_main_v70 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S1x1024 (fun _ c => ∑ r ∈ range 8192, dy P r c * xhat P r c) := by
  simp only [val_main_v70, val_main_v69, val_main_cst_21, val_main_v68, lit_zero, lit_one, lit_two, lit_half, lit_neg_half, lit_1024, lit_alpha, lit_eps, bcast_num, host_divf_1024, mulf_up, addf_up, subf_up, zero_add, add_zero, stage_dy, stage_xhat, sum_c, shapeCast_row (n := 1024), mul_comm (xhat P _ _)]

/-- The gradient by the normalised rows. -/
theorem stage_ct : val_main_v72 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S8192x1024 (ct P) := by
  simp only [val_main_v72, val_main_v71, lit_zero, lit_one, lit_two, lit_half, lit_neg_half, lit_1024, lit_alpha, lit_eps, bcast_num, host_divf_1024, mulf_up, addf_up, subf_up, zero_add, add_zero, stage_dy, bcast_row (m := 8192) (n := 1024) _ (by decide)]
  rfl

/-- Its row sums against the deviations. -/
theorem stage_dot : val_main_v75 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S8192x1 (fun r _ => ∑ j ∈ range 1024, dev P r j * ct P r j) := by
  simp only [val_main_v75, val_main_v74, val_main_cst_22, val_main_v73, lit_zero, lit_one, lit_two, lit_half, lit_neg_half, lit_1024, lit_alpha, lit_eps, bcast_num, host_divf_1024, mulf_up, addf_up, subf_up, zero_add, add_zero, stage_dev2, stage_ct, sum_r, shapeCast_col (m := 8192)]

/-- The gradient by a squared deviation. -/
theorem stage_dvar : val_main_v84 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S8192 (fun r _ => ((∑ j ∈ range 1024, dev P r j * ct P r j) * (-(1 / 2) * (rstd P r / vare P r))) / 1024) := by
  simp only [val_main_v84, val_main_cst_25, val_main_v83, val_main_v82, val_main_cst_24, val_main_v78, lit_zero, lit_one, lit_two, lit_half, lit_neg_half, lit_1024, lit_alpha, lit_eps, bcast_num, host_divf_1024, mulf_up, addf_up, subf_up, zero_add, add_zero, stage_dot, stage_drs, sum_one]

/-- The gradient by the deviation, through the normalised row. -/
theorem stage_via : val_main_v77 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S8192x1024 (fun r c => ct P r c * rstd P r) := by
  simp only [val_main_v77, val_main_v76, lit_zero, lit_one, lit_two, lit_half, lit_neg_half, lit_1024, lit_alpha, lit_eps, bcast_num, host_divf_1024, mulf_up, addf_up, subf_up, zero_add, add_zero, stage_ct, stage_rstd, bcast_col (m := 8192) (n := 1024) _ (by decide)]

/-- The gradient by the deviation, through the variance. -/
theorem stage_viavar : val_main_v86 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S8192x1024 (fun r c => ((∑ j ∈ range 1024, dev P r j * ct P r j) * (-(1 / 2) * (rstd P r / vare P r))) / 1024 * (2 * dev P r c)) := by
  simp only [val_main_v86, val_main_v85, val_main_v32, val_main_v31, val_main_cst_7, lit_zero, lit_one, lit_two, lit_half, lit_neg_half, lit_1024, lit_alpha, lit_eps, bcast_num, host_divf_1024, mulf_up, addf_up, subf_up, zero_add, add_zero, stage_dvar, stage_dev, bcast_vec (m := 8192) (n := 1024) _ (by decide)]

/-- The gradient by the residual sum. -/
theorem stage_dr2 : val_main_v96 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S8192x1024 (dr2 P) := by
  simp only [val_main_v96, val_main_v95, val_main_v94, val_main_cst_28, val_main_v93, val_main_v92, val_main_cst_27, val_main_v91, val_main_v90, val_main_v89, val_main_v88, val_main_cst_26, val_main_v87, val_main_v81, val_main_v80, val_main_cst_23, val_main_v79, lit_zero, lit_one, lit_two, lit_half, lit_neg_half, lit_1024, lit_alpha, lit_eps, bcast_num, host_divf_1024, mulf_up, addf_up, subf_up, zero_add, add_zero, stage_via, stage_viavar, host_negf_up, sum_r, sum_one, shapeCast_col (m := 8192), bcast_vec (m := 8192) (n := 1024) _ (by decide)]
  exact up_congr2 fun r _ c _ => norm_grad (dev P r) (ct P r) (vare P r) (vare_pos P r) (dev_sum P r) c

/-- The gradient of the second product's bias. -/
theorem stage_dbd : val_main_v98 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S1x1024 (fun _ c => ∑ r ∈ range 8192, dr2 P r c) := by
  simp only [val_main_v98, val_main_v97, val_main_cst_29, lit_zero, lit_one, lit_two, lit_half, lit_neg_half, lit_1024, lit_alpha, lit_eps, bcast_num, host_divf_1024, mulf_up, addf_up, subf_up, zero_add, add_zero, stage_dr2, sum_c, shapeCast_row (n := 1024)]

/-- The gradient by the hidden layer before the ReLU. -/
theorem stage_dpre : val_main_v104 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S8192x4096 (dpre P) := by
  simp only [val_main_v104, val_main_v103, val_main_cst_31, val_main_v102, val_main_v99, val_main_v16, val_main_v15, val_main_cst_3, val_main_v12, val_main_v11, val_main_cst_1, lit_zero, lit_one, lit_two, lit_half, lit_neg_half, lit_1024, lit_alpha, lit_eps, bcast_num, host_divf_1024, mulf_up, addf_up, subf_up, zero_add, add_zero, stage_dr2, stage_rl, stage_pre, dot_downT, select_cmpf_up]
  exact up_congr2 fun r _ k _ => relu_grad (pre P r k) (dh P r k)

/-- The gradient of the first product's bias. -/
theorem stage_dbu : val_main_v106 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S1x4096 (fun _ c => ∑ r ∈ range 8192, dpre P r c) := by
  simp only [val_main_v106, val_main_v105, val_main_cst_32, lit_zero, lit_one, lit_two, lit_half, lit_neg_half, lit_1024, lit_alpha, lit_eps, bcast_num, host_divf_1024, mulf_up, addf_up, subf_up, zero_add, add_zero, stage_dpre, sum_k, shapeCast_row (n := 4096)]

/-- The gradient by the block's input. -/
theorem stage_dx1 : val_main_v108 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S8192x1024 (dx1 P) := by
  simp only [val_main_v108, val_main_v107, val_main_v101, val_main_v100, val_main_cst_30, lit_zero, lit_one, lit_two, lit_half, lit_neg_half, lit_1024, lit_alpha, lit_eps, bcast_num, host_divf_1024, mulf_up, addf_up, subf_up, zero_add, add_zero, stage_dpre, stage_dr2, dot_upT]
  rfl

/-- The block's input, its columns as rows. -/
theorem stage_x1t : val_main_v110 (F := Ideal) (up S8192x1024 P.X) (up S1x1024 P.g) (up S1x1024 P.b)
    = up S1024x8192 (fun c r => x1 P r c) := by
  simp only [val_main_v110, val_main_v109, lit_zero, lit_one, lit_two, lit_half, lit_neg_half, lit_1024, lit_alpha, lit_eps, bcast_num, host_divf_1024, mulf_up, addf_up, subf_up, zero_add, add_zero, stage_x1, transpose_up (m := 8192) (n := 1024), truncf_up]

/-- The hidden layer. -/
theorem stage_hdn : val_main_v111 (F := Ideal) (up S8192x1024 P.X) (up S1x1024 P.g) (up S1x1024 P.b) (up S1024x4096 P.wu) (up S1x4096 P.bu)
    = up S8192x4096 (fun r k => rl P r k * rl P r k) := by
  simp only [val_main_v111, lit_zero, lit_one, lit_two, lit_half, lit_neg_half, lit_1024, lit_alpha, lit_eps, bcast_num, host_divf_1024, mulf_up, addf_up, subf_up, zero_add, add_zero, stage_sq, truncf_up]

/-- The gradient by the residual sum, its columns as rows. -/
theorem stage_dr2t : val_main_v113 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S1024x8192 (fun c r => dr2 P r c) := by
  simp only [val_main_v113, val_main_v112, lit_zero, lit_one, lit_two, lit_half, lit_neg_half, lit_1024, lit_alpha, lit_eps, bcast_num, host_divf_1024, mulf_up, addf_up, subf_up, zero_add, add_zero, stage_dr2, transpose_up (m := 8192) (n := 1024), truncf_up]

/-- The gradient by the hidden layer before the ReLU, as given back. -/
theorem stage_dpre_out : val_main_v114 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S8192x4096 (dpre P) := by
  simp only [val_main_v114, lit_zero, lit_one, lit_two, lit_half, lit_neg_half, lit_1024, lit_alpha, lit_eps, bcast_num, host_divf_1024, mulf_up, addf_up, subf_up, zero_add, add_zero, stage_dpre, truncf_up]

/-- The loss, as given back. -/
theorem stage_loss_out : val_main_v115 (F := Ideal) (up S8192x1024 P.X) (up S8192x1024 P.T) (up S1x1024 P.g) (up S1x1024 P.b) (up S1024x4096 P.wu) (up S1x4096 P.bu) (up S4096x1024 P.wd) (up S1x1024 P.bd) (up S1x1024 P.g2) (up S1x1024 P.b2)
    = up S1x128 (fun _ _ => (∑ r ∈ range 8192, sqr P r) * (1 / 2048)) := by
  simp only [val_main_v115, lit_zero, lit_one, lit_two, lit_half, lit_neg_half, lit_1024, lit_alpha, lit_eps, bcast_num, host_divf_1024, mulf_up, addf_up, subf_up, zero_add, add_zero, stage_loss]

end Cert.Ref

end
-- ==== Proof.Equal.lean ====
/-
  The value claim: on finite arguments the kernel's ten results and the reference's are the same real arrays.
-/
module

public import proofs.«01_k».proof.Defs
public import proofs.«01_k».proof.Proof.Out
public import proofs.«01_k».proof.Proof.Ref
public import proofs.«01_k».proof.Proof.Gen.Pre_finite
public import proofs.«01_k».proof.Proof.Gen.ReferenceIdeal.Run
public import proofs.«01_k».proof.Proof.Gen.ReferenceIdeal.Read

@[expose] public section

set_option maxRecDepth 16384

noncomputable section

namespace Cert.Equal

open Idealize.ShloMosaic Idealize.ShloMosaic.TcCoe Idealize.SL.Sem Cert.Lift Cert.Spec Cert.Block

/-- An extended real whose absolute value is below infinity is a real number. -/
theorem real_of_bit {x : EReal} (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  have hlt : max x (-x) < (⊤ : EReal) := by
    by_contra hn
    have : Ideal.cmp .olt (max x (-x)) (⊤ : EReal) = 0#1 := by simp [Ideal.cmp, hn]
    rw [this] at h
    exact absurd h (by decide)
  induction x using EReal.rec with
  | bot => simp at hlt
  | coe r => exact ⟨r, rfl⟩
  | top => simp at hlt

/-- An array whose entries' absolute values are all below infinity is a real array. -/
theorem real_array {m n : ℕ} (x : FVec Ideal ⟨2, ![m, n]⟩ .f32) (S : Shape) (d hb)
    (h : cmpf .olt (Host.absf x) (broadcastInDim (s := S) ⟨2, ![m, n]⟩ d hb (constant (F := Ideal) S .f32 0x7F800000#32)) = fun _ => 1#1) :
    ∃ f : ℕ → ℕ → ℝ, x = up ⟨2, ![m, n]⟩ f :=
  exists_up2 x fun i => real_of_bit (congrFun h i)

/-- On finite arguments each device's argument arrays are real arrays. -/
theorem given_of_finite (m : (ℓ : Loc Cert.KernelIdeal.nD Cert.KernelIdeal.τ Cert.KernelIdeal.sig) → Buf (Elt Ideal) ℓ)
    (h : Cert.Pre_KernelIdeal_finite m) (c : Dev Cert.KernelIdeal.nD) : ∃ P : Args, Given m c P := by
  obtain ⟨h0, h1, h2, h3, h4, h5, h6, h7, h8, h9⟩ := h c
  obtain ⟨X, e0⟩ := real_array _ _ _ _ h0
  obtain ⟨T, e1⟩ := real_array _ _ _ _ h1
  obtain ⟨g, e2⟩ := real_array _ _ _ _ h2
  obtain ⟨b, e3⟩ := real_array _ _ _ _ h3
  obtain ⟨wu, e4⟩ := real_array _ _ _ _ h4
  obtain ⟨bu, e5⟩ := real_array _ _ _ _ h5
  obtain ⟨wd, e6⟩ := real_array _ _ _ _ h6
  obtain ⟨bd, e7⟩ := real_array _ _ _ _ h7
  obtain ⟨g2, e8⟩ := real_array _ _ _ _ h8
  obtain ⟨b2, e9⟩ := real_array _ _ _ _ h9
  exact ⟨⟨X, T, g, b, wu, bu, wd, bd, g2, b2⟩, ⟨e0, e1, e2, e3, e4, e5, e6, e7, e8, e9⟩⟩

theorem equal : Cert.algebraic_KernelIdeal_ReferenceIdeal_pre_finite := by
  intro m g m' g' hpre hargs
  choose P hP using given_of_finite m hpre
  refine ⟨fun c => up Cert.KernelIdeal.S1024x8192 (fun i r => x1 (P c) r i),
    fun c => up Cert.KernelIdeal.S8192x4096 (fun r k => rl (P c) r k * rl (P c) r k),
    fun c => up Cert.KernelIdeal.S1024x8192 (fun i r => dr2 (P c) r i),
    fun c => up Cert.KernelIdeal.S8192x4096 (dpre (P c)),
    fun c => up Cert.KernelIdeal.S8192x1024 (dx1 (P c)),
    fun c => up Cert.KernelIdeal.S1x128 (fun _ _ => (∑ r ∈ Finset.range 8192, sqr (P c) r) * (1 / 2048)),
    fun c => up Cert.KernelIdeal.S1x1024 (fun _ i => ∑ r ∈ Finset.range 8192, dy (P c) r i * xhat (P c) r i),
    fun c => up Cert.KernelIdeal.S1x1024 (fun _ i => ∑ r ∈ Finset.range 8192, dy (P c) r i),
    fun c => up Cert.KernelIdeal.S1x1024 (fun _ i => ∑ r ∈ Finset.range 8192, dr2 (P c) r i),
    fun c => up Cert.KernelIdeal.S1x4096 (fun _ k => ∑ r ∈ Finset.range 8192, dpre (P c) r k), ?_, ?_⟩
  · refine (θ_run _ _ _).mono (fun r h c => ?_) (Cert.KernelIdeal.Value.run_blocks m g)
    obtain ⟨k0, k1, k2, k3, k4, k5, k6, k7, k8, k9, ka⟩ := h c
    exact ⟨k0.trans (out10 (hP c)), k1.trans (out11 (hP c)), k2.trans (out12 (hP c)), k3.trans (out13 (hP c)), k4.trans (out14 (hP c)), k5.trans (out15 (hP c)), k6.trans (out16 (hP c)), k7.trans (out17 (hP c)), k8.trans (out18 (hP c)), k9.trans (out19 (hP c)), ka⟩
  · refine (θ_run _ _ _).mono (fun r h c => ?_) (Cert.ReferenceIdeal.Value.run m' g')
    obtain ⟨k0, k1, k2, k3, k4, k5, k6, k7, k8, k9, ka⟩ := h c
    obtain ⟨b0, b1, b2, b3, b4, b5, b6, b7, b8, b9⟩ := hargs c
    have a0 : StableHlo.launchContents m' c (Proc.devRef .tc Cert.ReferenceIdeal.main_arg0) = _ := b0.trans (hP c).h0
    have a1 : StableHlo.launchContents m' c (Proc.devRef .tc Cert.ReferenceIdeal.main_arg1) = _ := b1.trans (hP c).h1
    have a2 : StableHlo.launchContents m' c (Proc.devRef .tc Cert.ReferenceIdeal.main_arg2) = _ := b2.trans (hP c).h2
    have a3 : StableHlo.launchContents m' c (Proc.devRef .tc Cert.ReferenceIdeal.main_arg3) = _ := b3.trans (hP c).h3
    have a4 : StableHlo.launchContents m' c (Proc.devRef .tc Cert.ReferenceIdeal.main_arg4) = _ := b4.trans (hP c).h4
    have a5 : StableHlo.launchContents m' c (Proc.devRef .tc Cert.ReferenceIdeal.main_arg5) = _ := b5.trans (hP c).h5
    have a6 : StableHlo.launchContents m' c (Proc.devRef .tc Cert.ReferenceIdeal.main_arg6) = _ := b6.trans (hP c).h6
    have a7 : StableHlo.launchContents m' c (Proc.devRef .tc Cert.ReferenceIdeal.main_arg7) = _ := b7.trans (hP c).h7
    have a8 : StableHlo.launchContents m' c (Proc.devRef .tc Cert.ReferenceIdeal.main_arg8) = _ := b8.trans (hP c).h8
    have a9 : StableHlo.launchContents m' c (Proc.devRef .tc Cert.ReferenceIdeal.main_arg9) = _ := b9.trans (hP c).h9
    refine ⟨(k0.trans (Cert.ReferenceIdeal.Read.val_main_v110_eq _)).trans ?_, (k1.trans (Cert.ReferenceIdeal.Read.val_main_v111_eq _)).trans ?_, (k2.trans (Cert.ReferenceIdeal.Read.val_main_v113_eq _)).trans ?_, (k3.trans (Cert.ReferenceIdeal.Read.val_main_v114_eq _)).trans ?_, (k4.trans (Cert.ReferenceIdeal.Read.val_main_v108_eq _)).trans ?_, (k5.trans (Cert.ReferenceIdeal.Read.val_main_v115_eq _)).trans ?_, (k6.trans (Cert.ReferenceIdeal.Read.val_main_v70_eq _)).trans ?_, (k7.trans (Cert.ReferenceIdeal.Read.val_main_v67_eq _)).trans ?_, (k8.trans (Cert.ReferenceIdeal.Read.val_main_v98_eq _)).trans ?_, (k9.trans (Cert.ReferenceIdeal.Read.val_main_v106_eq _)).trans ?_, ka⟩
    · rw [a0, a2, a3]
      exact Cert.Ref.stage_x1t (P c)
    · rw [a0, a2, a3, a4, a5]
      exact Cert.Ref.stage_hdn (P c)
    · rw [a0, a1, a2, a3, a4, a5, a6, a7, a8, a9]
      exact Cert.Ref.stage_dr2t (P c)
    · rw [a0, a1, a2, a3, a4, a5, a6, a7, a8, a9]
      exact Cert.Ref.stage_dpre_out (P c)
    · rw [a0, a1, a2, a3, a4, a5, a6, a7, a8, a9]
      exact Cert.Ref.stage_dx1 (P c)
    · rw [a0, a1, a2, a3, a4, a5, a6, a7, a8, a9]
      exact Cert.Ref.stage_loss_out (P c)
    · rw [a0, a1, a2, a3, a4, a5, a6, a7, a8, a9]
      exact Cert.Ref.stage_dg2 (P c)
    · rw [a0, a1, a2, a3, a4, a5, a6, a7, a8, a9]
      exact Cert.Ref.stage_db2 (P c)
    · rw [a0, a1, a2, a3, a4, a5, a6, a7, a8, a9]
      exact Cert.Ref.stage_dbd (P c)
    · rw [a0, a1, a2, a3, a4, a5, a6, a7, a8, a9]
      exact Cert.Ref.stage_dbu (P c)

end Cert.Equal

end
-- ==== Proof.Keys.lean ====
/-
  The value claim of the call that makes the memory's keys and values: the product, its first half transposed, and the
  memory itself. Both sides are the same sums of the same products, so nothing is asked of the arguments.
-/
module

public import proofs.«01_k».proof.Proof.Merge
public import proofs.«01_k».proof.Proof.Gen.Kernel5Ideal.Value
public import proofs.«01_k».proof.Proof.Gen.Reference5Ideal.Run

@[expose] public section

set_option maxRecDepth 16384

noncomputable section

namespace Cert.Keys

open Idealize.ShloMosaic Idealize.ShloMosaic.TcCoe Idealize.SL.Sem Cert.Lift Cert.InProj Cert.Merge

/-- The keys and, beside them, the values. -/
def prod (f g : ℕ → ℕ → EReal) (r c : ℕ) : EReal := ∑ k ∈ Finset.range 1024, f r k * g k c

section Kernel
open Cert.Kernel5Ideal Cert.Kernel5Ideal.Gen

variable (f g : ℕ → ℕ → EReal)

theorem pay2 : k0_pay2 (F := Ideal) (lay S256x1024 f) (lay S1024x1024 g) = lay S256x1024 (prod f g) := by
  unfold k0_pay2
  rw [shapeCast_self]
  exact matmul_lay f g 256 1024 1024 (φ₁ := .bf16) (φ₂ := .bf16) none

/-- The product. -/
theorem block2 : out0_2 (F := Ideal) (lay S256x1024 f) (lay S1024x1024 g) = lay S256x1024 (prod f g) := by
  unfold out0_2
  rw [View.canon_cons_unit_lit (Val := Elt Ideal) _ _ _ (by decide), View.ld_unit_lit (Val := Elt Ideal) _ _ (by decide),
    View.ld_unit_lit (Val := Elt Ideal) _ _ (by decide)]
  exact pay2 f g

/-- The product's first half, transposed. -/
theorem block3 : out0_3 (F := Ideal) (lay S256x1024 f) (lay S1024x1024 g) = lay S512x256 (fun r c => prod f g (0 + c) (0 + r)) := by
  unfold out0_3
  rw [View.canon_cons_unit_lit (Val := Elt Ideal) _ _ _ (by decide), View.ld_unit_lit (Val := Elt Ideal) _ _ (by decide),
    View.ld_unit_lit (Val := Elt Ideal) _ _ (by decide)]
  unfold k0_pay3
  rw [pay2]
  exact transpose_lay (m := 256) (n := 512) (fun r c => prod f g (0 + r) (0 + c)) _

/-- The memory. -/
theorem block4 : out0_4 (F := Ideal) (lay S256x1024 f) (lay S1024x1024 g) = lay S256x1024 f := by
  unfold out0_4
  rw [View.canon_cons_unit_lit (Val := Elt Ideal) _ _ _ (by decide), View.ld_unit_lit (Val := Elt Ideal) _ _ (by decide)]
  rfl

theorem index0 : ∀ t : Fin grid0.N, win0_0.index t 0 = 0 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel

/-- The program's arguments on a device are these tables. -/
structure Given (m : (ℓ : Loc nD τ sig) → Buf (Elt Ideal) ℓ) (c : Dev nD) (f g : ℕ → ℕ → EReal) : Prop where
  h0 : m ((c : Thread nD τ).loc main_arg0) = lay S256x1024 f
  h1 : m ((c : Thread nD τ).loc main_arg1) = lay S1024x1024 g

variable {m : (ℓ : Loc nD τ sig) → Buf (Elt Ideal) ℓ} {c : Dev nD} {f g : ℕ → ℕ → EReal}

theorem Given.v0 (h : Given m c f g) : V m c main_v0 = lay S1024x1024 g := by
  have e : V m c main_v0 = truncf (F := Ideal) (φ := .f32) .bf16 (m ((c : Thread nD τ).loc main_arg1)) bitsLt_bf16_f32 := by
    unfold_abbrev_sides
    after_results
  rw [e, h.h1]
  rfl

theorem Given.in0 (h : Given m c f g) (t : Fin cfg0.N) : iblk m c 0 t = lay S256x1024 f := by
  funext y
  have e : iblk m c 0 t y = m ((c : Thread nD τ).loc main_arg0) (((cfg0.win 0).blk t).view.emb y) := congrFun (V_main_arg0 m c) _
  rw [e, h.h0]
  refine congrArg₂ f ?_ ?_
  · show (((cfg0.win 0).blk t).view.emb y 0).val = (y 0).val
    blk_simp [index0 t]
    try omega
  · show (((cfg0.win 0).blk t).view.emb y 1).val = (y 1).val
    blk_simp [index0 t]
    try omega

theorem Given.in1 (h : Given m c f g) (t : Fin cfg0.N) : iblk m c 1 t = lay S1024x1024 g := by
  funext y
  have e : iblk m c 1 t y = V m c main_v0 (((cfg0.win 1).blk t).view.emb y) := rfl
  rw [e, h.v0]
  refine congrArg₂ g ?_ ?_
  · show (((cfg0.win 1).blk t).view.emb y 0).val = (y 0).val
    blk_simp [index1 t]
    try omega
  · show (((cfg0.win 1).blk t).view.emb y 1).val = (y 1).val
    blk_simp [index1 t]
    try omega

theorem out2 (h : Given m c f g) : (dats m 0 c).arrAt 2 cfg0.N = lay S256x1024 (prod f g) := by
  refine (dats m 0 c).arrAt_eq_of_covers 2 (lay S256x1024 (prod f g)) (by decide +kernel) fun t _ y => ?_
  refine (congrFun (after0_2 m c t) _).trans ?_
  rw [h.in0, h.in1]
  refine (congrFun (block2 _ _) _).trans ?_
  refine congrArg₂ (prod f g) ?_ ?_
  · show (y 0).val = (((cfg0.win 2).blk t).view.emb y 0).val
    blk_simp [index2 t]
    try omega
  · show (y 1).val = (((cfg0.win 2).blk t).view.emb y 1).val
    blk_simp [index2 t]
    try omega

theorem out3 (h : Given m c f g) : (dats m 0 c).arrAt 3 cfg0.N = lay S512x256 (fun r c => prod f g (0 + c) (0 + r)) := by
  refine (dats m 0 c).arrAt_eq_of_covers 3 (lay S512x256 (fun r c => prod f g (0 + c) (0 + r))) (by decide +kernel) fun t _ y => ?_
  refine (congrFun (after0_3 m c t) _).trans ?_
  rw [h.in0, h.in1]
  refine (congrFun (block3 _ _) _).trans ?_
  refine congrArg₂ (fun r c => prod f g (0 + c) (0 + r)) ?_ ?_
  · show (y 0).val = (((cfg0.win 3).blk t).view.emb y 0).val
    blk_simp [index3 t]
    try omega
  · show (y 1).val = (((cfg0.win 3).blk t).view.emb y 1).val
    blk_simp [index3 t]
    try omega

theorem out4 (h : Given m c f g) : (dats m 0 c).arrAt 4 cfg0.N = lay S256x1024 f := by
  refine (dats m 0 c).arrAt_eq_of_covers 4 (lay S256x1024 f) (by decide +kernel) fun t _ y => ?_
  refine (congrFun (after0_4 m c t) _).trans ?_
  rw [h.in0, h.in1]
  refine (congrFun (block4 _ _) _).trans ?_
  refine congrArg₂ f ?_ ?_
  · show (y 0).val = (((cfg0.win 4).blk t).view.emb y 0).val
    blk_simp [index4 t]
    try omega
  · show (y 1).val = (((cfg0.win 4).blk t).view.emb y 1).val
    blk_simp [index4 t]
    try omega

end Kernel

/-- Every launch's arguments are laid out of tables. -/
theorem exists_given (m : (ℓ : Loc Cert.Kernel5Ideal.nD Cert.Kernel5Ideal.τ Cert.Kernel5Ideal.sig) → Buf (Elt Ideal) ℓ) (c : Dev Cert.Kernel5Ideal.nD) :
    ∃ f : Fin 2 → ℕ → ℕ → EReal, Given m c (f 0) (f 1) := by
  obtain ⟨f, h0⟩ := exists_lay (m := 256) (n := 1024) (m ((c.tc : Thread Cert.Kernel5Ideal.nD Cert.Kernel5Ideal.τ).loc Cert.Kernel5Ideal.main_arg0))
  obtain ⟨g, h1⟩ := exists_lay (m := 1024) (n := 1024) (m ((c.tc : Thread Cert.Kernel5Ideal.nD Cert.Kernel5Ideal.τ).loc Cert.Kernel5Ideal.main_arg1))
  exact ⟨fun | 0 => f | 1 => g, ⟨h0, h1⟩⟩

theorem equal : Cert.algebraic_Kernel5Ideal_Reference5Ideal := by
  intro m g m' g' _ hargs
  choose f hf using exists_given m
  refine ⟨fun c => lay Cert.Kernel5Ideal.S256x1024 (prod (f c 0) (f c 1)),
    fun c => lay Cert.Kernel5Ideal.S512x256 (fun r k => prod (f c 0) (f c 1) (0 + k) (0 + r)),
    fun c => lay Cert.Kernel5Ideal.S256x1024 (f c 0), ?_, ?_⟩
  · refine (θ_run _ _ _).mono (fun r h c => ?_) (Cert.Kernel5Ideal.Value.run_blocks m g)
    obtain ⟨k0, k1, k2, ka⟩ := h c
    exact ⟨k0.trans (out2 (hf c)), k1.trans (out3 (hf c)), k2.trans (out4 (hf c)), ka⟩
  · refine (θ_run _ _ _).mono (fun r h c => ?_) (Cert.Reference5Ideal.Value.run m' g')
    obtain ⟨k0, k1, k2, ka⟩ := h c
    obtain ⟨b0, b1⟩ := hargs c
    have a0 := b0.trans (hf c).h0
    have a1 := b1.trans (hf c).h1
    have e : Host.dotGeneral (F := Ideal) (φ₁ := .f32) (φ₂ := .f32) Cert.Reference5Ideal.dot_S256x1024_S1024x1024_S256x1024_1_0_0_1_n_n none
        (lay Cert.Kernel5Ideal.S256x1024 (f c 0)) (lay Cert.Kernel5Ideal.S1024x1024 (f c 1)) = lay Cert.Kernel5Ideal.S256x1024 (prod (f c 0) (f c 1)) :=
      plain_lay (f c 0) (f c 1) 256 1024 1024 (φ₁ := .f32) (φ₂ := .f32) none
    refine ⟨k0.trans ?_, k1.trans ?_, k2.trans ?_, ka⟩
    · rw [a0, a1]
      exact e
    · rw [a0, a1, e]
      exact transpose_lay (m := 256) (n := 512) (fun r k => prod (f c 0) (f c 1) (0 + r) (0 + k)) _
    · rw [a0]
      rfl

end Cert.Keys

end
-- ==== Proof.MidSpec.lean ====
/-
  The middle backward call over the real numbers: from the gradient of the first layer norm's output to the gradients of
  what the three branches and their gates are made of. Arrays are functions of a row and a column; every quantity of a row
  depends on that row alone, so that the same definitions serve a block of rows and the whole array.
-/
module

public import proofs.«01_k».proof.Proof.Lits
public import Mathlib.Analysis.Complex.Trigonometric

@[expose] public section

noncomputable section

namespace Cert.MidSpec

open Finset Cert.Spec

/-- The tanh form's inner scale, the rational of its float word. -/
def gc : ℝ := 13386282 / 16777216
/-- The tanh form's cubic coefficient. -/
def co : ℝ := 8943 / 200000
/-- Three times it. -/
def co3 : ℝ := 26829 / 200000

theorem co3_eq : co3 = 3 * co := by unfold co co3; norm_num

/-- The logistic function. -/
def sig (x : ℝ) : ℝ := (1 + Real.exp (-x))⁻¹
/-- The tanh of the activation. -/
def th (x : ℝ) : ℝ := Real.tanh (gc * (x + co * x * x * x))
/-- The activation's derivative. -/
def gg (x : ℝ) : ℝ := 1 / 2 * (1 + th x) + 1 / 2 * x * (1 - th x * th x) * gc * (1 + co3 * x * x)

/-- The call's arguments: the gradient by the first norm's output, the block's input, the gates before their logistic, the
    three branches' inputs, the gates' bias, the norm's scale and the four products' weights. -/
structure Args where
  dx : Mat
  x : Mat
  gp : Mat
  ain : Mat
  ob : Mat
  y : Mat
  bg : Mat
  lg : Mat
  wo : Mat
  wg : Mat
  wc : Mat
  wx : Mat

/-- The arguments as block `t` of 256 rows sees them. -/
def Args.rows (P : Args) (t : ℕ) : Args :=
  { P with
    dx := fun r c => P.dx (256 * t + r) c
    x := fun r c => P.x (256 * t + r) c
    gp := fun r c => P.gp (256 * t + r) c
    ain := fun r c => P.ain (256 * t + r) c
    ob := fun r c => P.ob (256 * t + r) c
    y := fun r c => P.y (256 * t + r) c }

variable (P : Args)

/-- The three gates, side by side. -/
def gates : Mat := fun r c => sig (P.gp r c + P.bg 0 c)
/-- The activation. -/
def act : Mat := fun r k => 1 / 2 * P.y r k * (1 + th (P.y r k))
/-- The gated unit's two halves. -/
def glu : Mat := fun r c => ∑ k ∈ range 512, act P r k * P.wg k c
/-- The second half's logistic. -/
def sb : Mat := fun r c => sig (glu P r (1024 + c))
/-- The gated unit's output. -/
def yb : Mat := fun r c => glu P r c * sb P r c
/-- The convolution branch's output. -/
def ya : Mat := fun r c => ∑ k ∈ range 512, P.ain r k * P.wc k c
/-- The cross-attention branch's output. -/
def yc : Mat := fun r c => ∑ k ∈ range 512, P.ob r k * P.wx k c
/-- The gated sum of the branches. -/
def merged : Mat := fun r c => gates P r c * ya P r c + gates P r (1024 + c) * yb P r c + gates P r (2048 + c) * yc P r c
/-- The residual sum. -/
def res : Mat := fun r c => alpha * P.x r c + ∑ k ∈ range 1024, merged P r k * P.wo k c
/-- A row's mean. -/
def mu : ℕ → ℝ := fun r => (∑ c ∈ range 1024, res P r c) / 1024
/-- The deviation from the row's mean. -/
def dev : Mat := fun r c => res P r c - mu P r
/-- A row's variance with `eps` added. -/
def vare : ℕ → ℝ := fun r => (∑ c ∈ range 1024, dev P r c * dev P r c) / 1024 + eps
/-- The reciprocal standard deviation. -/
def rstd : ℕ → ℝ := fun r => (Real.sqrt (vare P r))⁻¹
/-- The normalised row. -/
def xhat : Mat := fun r c => dev P r c * rstd P r

/-- The gradient by the normalised row. -/
def ct : Mat := fun r c => P.dx r c * P.lg 0 c
/-- … by the residual sum. -/
def dr : Mat := fun r c =>
  rstd P r * (ct P r c - (∑ j ∈ range 1024, ct P r j) / 1024
    - xhat P r c * ((∑ j ∈ range 1024, ct P r j * xhat P r j) / 1024))
/-- … by the gated sum. -/
def dm : Mat := fun r c => ∑ k ∈ range 1024, dr P r k * P.wo c k
/-- … by each gate before its logistic. -/
def d0 : Mat := fun r c => dm P r c * ya P r c * gates P r c * (1 - gates P r c)
def d1 : Mat := fun r c => dm P r c * yb P r c * gates P r (1024 + c) * (1 - gates P r (1024 + c))
def d2 : Mat := fun r c => dm P r c * yc P r c * gates P r (2048 + c) * (1 - gates P r (2048 + c))
/-- … the three side by side. -/
def dgp : Mat := fun r c => if c < 1024 then d0 P r c else if c < 2048 then d1 P r (c - 1024) else d2 P r (c - 2048)
/-- … by the convolution branch, the gated unit and the cross-attention branch. -/
def dya : Mat := fun r c => dm P r c * gates P r c
def dyb : Mat := fun r c => dm P r c * gates P r (1024 + c)
def dyc : Mat := fun r c => dm P r c * gates P r (2048 + c)
/-- … by the gated unit's two halves. -/
def dga : Mat := fun r c => dyb P r c * sb P r c
def dgb : Mat := fun r c => dyb P r c * glu P r c * sb P r c * (1 - sb P r c)
/-- … the two side by side. -/
def dglu : Mat := fun r c => if c < 1024 then dga P r c else dgb P r (c - 1024)
/-- … by the activation. -/
def dact : Mat := fun r k => ∑ c ∈ range 1024, dga P r c * P.wg k c + ∑ c ∈ range 1024, dgb P r c * P.wg k (1024 + c)
/-- … by the activation's argument. -/
def dy : Mat := fun r k => dact P r k * gg (P.y r k)

theorem vare_pos (r : ℕ) : 0 < vare P r := by
  unfold vare
  have h : 0 ≤ ∑ c ∈ range 1024, dev P r c * dev P r c := sum_nonneg fun c _ => mul_self_nonneg _
  have := eps_pos
  positivity

/-- A row's deviations add up to zero. -/
theorem dev_sum (r : ℕ) : ∑ c ∈ range 1024, dev P r c = 0 := by
  simp only [dev, sum_sub_distrib, sum_const, card_range, nsmul_eq_mul]
  unfold mu
  norm_num
  ring

/-- The tanh's argument with the cube written first. -/
theorem th_cube (x : ℝ) : Real.tanh (gc * (x + co * (x * x * x))) = th x :=
  congrArg Real.tanh (by ring)

/-- The activation with the factor one half kept by the tanh. -/
theorem act_eq (r k : ℕ) : P.y r k * (1 / 2 * (1 + th (P.y r k))) = act P r k := by unfold act; ring

/-- The gates' gradients, the gate's derivative multiplied in as one factor. -/
theorem dgp_eq (r c : ℕ) :
    (if c < 1024 then dm P r c * ya P r c else if c < 2048 then dm P r (c - 1024) * yb P r (c - 1024)
      else dm P r (c - 2048) * yc P r (c - 2048)) * (gates P r c * (1 - gates P r c)) = dgp P r c := by
  unfold dgp d0 d1 d2
  split_ifs with h1 h2
  · ring
  · rw [show 1024 + (c - 1024) = c by omega]; ring
  · rw [show 2048 + (c - 2048) = c by omega]; ring

/-- The gated unit's gradients, the logistic's derivative multiplied in as one factor. -/
theorem dglu_eq (r c : ℕ) :
    (if c < 1024 then gates P r (1024 + c) * dm P r c * sb P r c
      else glu P r (c - 1024) * (gates P r (1024 + (c - 1024)) * dm P r (c - 1024)) * (sb P r (c - 1024) * (1 - sb P r (c - 1024))))
      = dglu P r c := by
  unfold dglu dga dgb dyb
  split_ifs <;> ring

/-- The activation's gradient as one sum over the unit's 2048 columns. -/
theorem dact_eq (r k : ℕ) : ∑ c ∈ range 2048, dglu P r c * P.wg k c = dact P r k := by
  rw [show (2048 : ℕ) = 1024 + 1024 from rfl, sum_range_add]
  unfold dact dglu
  refine congrArg₂ (· + ·) (sum_congr rfl fun c hc => ?_) (sum_congr rfl fun c _ => ?_)
  · rw [if_pos (mem_range.1 hc)]
  · rw [if_neg (by omega), show 1024 + c - 1024 = c by omega]

/-- The gradient by the activation's argument, term by term. -/
theorem dy_eq (r k : ℕ) (D : ℝ) :
    D * (1 / 2 * (1 + th (P.y r k)))
        + gc * (1 / 2 * (P.y r k * D) * ((1 + th (P.y r k)) * (1 - th (P.y r k))))
      + co * (gc * (1 / 2 * (P.y r k * D) * ((1 + th (P.y r k)) * (1 - th (P.y r k))))) * (3 * (P.y r k * P.y r k))
    = D * gg (P.y r k) := by
  unfold gg
  rw [co3_eq]
  ring

end Cert.MidSpec

namespace Cert.Lift

open Idealize.ShloMosaic Cert.MidSpec ValueIdx

theorem word_gc : Ideal.ofBits .f32 0x3F4C422A#32 = ((gc : ℝ) : EReal) := by
  unfold gc
  simp [Ideal.ofBits, Ideal.ieee, -EReal.coe_mul]; try norm_num
theorem word_three : Ideal.ofBits .f32 0x40400000#32 = ((3 : ℝ) : EReal) := by
  simp [Ideal.ofBits, Ideal.ieee, -EReal.coe_mul]; try norm_num
theorem word_44715 : Ideal.ofBits .f32 0x472EAB00#32 = ((44715 : ℝ) : EReal) := by
  simp [Ideal.ofBits, Ideal.ieee, -EReal.coe_mul]; try norm_num
theorem word_million : Ideal.ofBits .f32 0x49742400#32 = ((1000000 : ℝ) : EReal) := by
  simp [Ideal.ofBits, Ideal.ieee, -EReal.coe_mul]; try norm_num

section
variable (S : Shape)
theorem lit_gc : constant (F := Ideal) S .f32 0x3F4C422A#32 = up S fun _ _ => gc := constant_up S _ _ word_gc
theorem lit_three : constant (F := Ideal) S .f32 0x40400000#32 = up S fun _ _ => 3 := constant_up S _ _ word_three
theorem lit_44715 : constant (F := Ideal) S .f32 0x472EAB00#32 = up S fun _ _ => 44715 := constant_up S _ _ word_44715
theorem lit_million : constant (F := Ideal) S .f32 0x49742400#32 = up S fun _ _ => 1000000 := constant_up S _ _ word_million
theorem num_one : broadcast S (Scalar.ofBits (F := Ideal) .f32 0x3F800000#32) = up S fun _ _ => 1 := funext fun _ => word_one
theorem num_half : broadcast S (Scalar.ofBits (F := Ideal) .f32 0x3F000000#32) = up S fun _ _ => 1 / 2 := funext fun _ => word_half
theorem num_gc : broadcast S (Scalar.ofBits (F := Ideal) .f32 0x3F4C422A#32) = up S fun _ _ => gc := funext fun _ => word_gc

/-- The cubic coefficient as the quotient that the host takes. -/
theorem host_co : Host.divf (F := Ideal) (φ := .f32) (up S fun _ _ => 44715) (up S fun _ _ => 1000000) = up S fun _ _ => co := by
  refine (host_divf_up (S := S) _ _ fun _ _ => by norm_num).trans ?_
  exact congrArg (up S) (funext fun _ => funext fun _ => by unfold co; norm_num)

/-- The logistic function as the quotient that the host takes. -/
theorem host_sig (f : ℕ → ℕ → ℝ) :
    Host.divf (F := Ideal) (φ := .f32) (up S fun _ _ => 1) (up S fun r c => 1 + Real.exp (-f r c)) = up S fun r c => sig (f r c) := by
  refine (host_divf_up (S := S) _ _ fun r c => by positivity).trans ?_
  exact congrArg (up S) (funext fun _ => funext fun _ => one_div _)

/-- Three arrays as the pieces of a concatenation. -/
abbrev thirds (f g h : ℕ → ℕ → ℝ) (m : ℕ) : List ((s : Shape) × (s.Idx → EReal)) :=
  [⟨⟨2, ![m, 1024]⟩, up ⟨2, ![m, 1024]⟩ f⟩, ⟨⟨2, ![m, 1024]⟩, up ⟨2, ![m, 1024]⟩ g⟩, ⟨⟨2, ![m, 1024]⟩, up ⟨2, ![m, 1024]⟩ h⟩]

/-- Three arrays side by side. -/
theorem concat3_up {m : ℕ} (f g h : ℕ → ℕ → ℝ)
    (H : Shape.Concatenates [⟨2, ![m, 1024]⟩, ⟨2, ![m, 1024]⟩, ⟨2, ![m, 1024]⟩] ⟨2, ![m, 3072]⟩ 1) :
    concatenate ⟨2, ![m, 3072]⟩ 1 (thirds f g h m) H
      = up ⟨2, ![m, 3072]⟩ (fun r c => if c < 1024 then f r c else if c < 2048 then g r (c - 1024) else h r (c - 2048)) := by
  funext i
  have hi := lt2_1 i
  rw [rd2_1] at hi
  rw [up_apply, rd2_0, rd2_1]
  by_cases h0 : (i 1).val < 1024
  · rw [if_pos h0, concatenate_apply_piece (t := ⟨2, ![m, 3072]⟩) 1 (thirds f g h m) H i 0 (by show 0 < 3; decide) ⟨2, ![m, 1024]⟩ (up ⟨2, ![m, 1024]⟩ f) rfl rfl 0 rfl (ix2 (i 0) ⟨(i 1).val - 0, by omega⟩) (fun b hb => by
      match b with
      | ⟨0, _⟩ => rfl
      | ⟨1, _⟩ => exact absurd rfl hb) (by show 0 + ((i 1).val - 0) = (i 1).val; omega)]
    rfl
  rw [if_neg h0]
  by_cases h1 : (i 1).val < 2048
  · rw [if_pos h1, concatenate_apply_piece (t := ⟨2, ![m, 3072]⟩) 1 (thirds f g h m) H i 1 (by show 1 < 3; decide) ⟨2, ![m, 1024]⟩ (up ⟨2, ![m, 1024]⟩ g) rfl rfl 1024 rfl (ix2 (i 0) ⟨(i 1).val - 1024, by omega⟩) (fun b hb => by
      match b with
      | ⟨0, _⟩ => rfl
      | ⟨1, _⟩ => exact absurd rfl hb) (by show 1024 + ((i 1).val - 1024) = (i 1).val; omega)]
    rfl
  · rw [if_neg h1, concatenate_apply_piece (t := ⟨2, ![m, 3072]⟩) 1 (thirds f g h m) H i 2 (by show 2 < 3; decide) ⟨2, ![m, 1024]⟩ (up ⟨2, ![m, 1024]⟩ h) rfl rfl 2048 rfl (ix2 (i 0) ⟨(i 1).val - 2048, by omega⟩) (fun b hb => by
      match b with
      | ⟨0, _⟩ => rfl
      | ⟨1, _⟩ => exact absurd rfl hb) (by show 2048 + ((i 1).val - 2048) = (i 1).val; omega)]
    rfl
end

end Cert.Lift

end
-- ==== Proof.MidPay.lean ====
/-
  The middle backward call's payloads at the ideal values, each as the call's quantity over the real numbers.
-/
module

public import proofs.«01_k».proof.Proof.MidSpec
public import proofs.«01_k».proof.Proof.Gen.Kernel3Ideal.Skeleton

@[expose] public section

set_option maxRecDepth 16384

noncomputable section

namespace Cert.MidPay

open Idealize.ShloMosaic Cert.Lift Cert.MidSpec Cert.Kernel3Ideal Cert.Kernel3Ideal.Gen Finset
open Cert.Spec (alpha)

section
variable {φ₁ φ₂ : FTy} (f g z : ℕ → ℕ → ℝ)

theorem dot_o : matmul (F := Ideal) (φ₁ := φ₁) (φ₂ := φ₂) dot_S256x1024_S1024x1024_S256x1024_1_1_0_0_n_n none (up S256x1024 f) (up S1024x1024 g) (up S256x1024 z)
    = up S256x1024 (fun r c => z r c + ∑ k ∈ range 1024, f r k * g c k) :=
  matmulT_up (M := 256) (K := 1024) (N := 1024) f g z none
theorem dot_g : matmul (F := Ideal) (φ₁ := φ₁) (φ₂ := φ₂) dot_S256x512_S2048x512_S256x2048_1_1_0_0_n_n none (up S256x512 f) (up S2048x512 g) (up S256x2048 z)
    = up S256x2048 (fun r c => z r c + ∑ k ∈ range 512, f r k * g c k) :=
  matmulT_up (M := 256) (K := 512) (N := 2048) f g z none
theorem dot_x : matmul (F := Ideal) (φ₁ := φ₁) (φ₂ := φ₂) dot_S256x512_S1024x512_S256x1024_1_1_0_0_n_n none (up S256x512 f) (up S1024x512 g) (up S256x1024 z)
    = up S256x1024 (fun r c => z r c + ∑ k ∈ range 512, f r k * g c k) :=
  matmulT_up (M := 256) (K := 512) (N := 1024) f g z none
theorem dot_y : matmul (F := Ideal) (φ₁ := φ₁) (φ₂ := φ₂) dot_S256x1024_S1024x512_S256x512_1_0_0_1_n_n none (up S256x1024 f) (up S1024x512 g) (up S256x512 z)
    = up S256x512 (fun r c => z r c + ∑ k ∈ range 1024, f r k * g k c) :=
  matmul_up (M := 256) (K := 1024) (N := 512) f g z none
theorem sum_r (h : S256x1024.Reduces [1] S256) (hφ : FKind.Formats .f32) (ha : (0x00000000#32 : BitVec 32) = 0x00000000#32) :
    multiReduction (F := Ideal) (φ := .f32) .add [1] S256 (up S256x1024 f) 0x00000000#32 h hφ ha
      = up S256 (fun r _ => ∑ k ∈ range 1024, f r k) := sum_rows f _ h hφ ha
theorem sum_c (h : S256x1024.Reduces [0] S1024) (hφ : FKind.Formats .f32) (ha : (0x00000000#32 : BitVec 32) = 0x00000000#32) :
    multiReduction (F := Ideal) (φ := .f32) .add [0] S1024 (up S256x1024 f) 0x00000000#32 h hφ ha
      = up S1024 (fun c _ => ∑ k ∈ range 256, f k c) := sum_cols f _ h hφ ha
theorem cut2_0 (h : S256x2048.Slices ![0, 0] S256x1024) :
    extractStridedSlice S256x1024 ![0, 0] (up S256x2048 f) h = up S256x1024 (f) := by
  refine (extract_up (m := 256) (n := 2048) (m' := 256) (n' := 1024) f h).trans ?_
  simp only [zero_add]
theorem cut2_1 (h : S256x2048.Slices ![0, 1024] S256x1024) :
    extractStridedSlice S256x1024 ![0, 1024] (up S256x2048 f) h = up S256x1024 (fun r c => f r (1024 + c)) := by
  refine (extract_up (m := 256) (n := 2048) (m' := 256) (n' := 1024) f h).trans ?_
  simp only [zero_add]
theorem cut3_0 (h : S256x3072.Slices ![0, 0] S256x1024) :
    extractStridedSlice S256x1024 ![0, 0] (up S256x3072 f) h = up S256x1024 (f) := by
  refine (extract_up (m := 256) (n := 3072) (m' := 256) (n' := 1024) f h).trans ?_
  simp only [zero_add]
theorem cut3_1 (h : S256x3072.Slices ![0, 1024] S256x1024) :
    extractStridedSlice S256x1024 ![0, 1024] (up S256x3072 f) h = up S256x1024 (fun r c => f r (1024 + c)) := by
  refine (extract_up (m := 256) (n := 3072) (m' := 256) (n' := 1024) f h).trans ?_
  simp only [zero_add]
theorem cut3_2 (h : S256x3072.Slices ![0, 2048] S256x1024) :
    extractStridedSlice S256x1024 ![0, 2048] (up S256x3072 f) h = up S256x1024 (fun r c => f r (2048 + c)) := by
  refine (extract_up (m := 256) (n := 3072) (m' := 256) (n' := 1024) f h).trans ?_
  simp only [zero_add]
end

/-- The named constants over an array. -/
theorem num_co (S : Shape) : broadcast S (Named.named (F := Ideal) (φ := .f32) κ "gelu_c" 0x3D372713#32) = up S fun _ _ => co := rfl
theorem num_co3 (S : Shape) : broadcast S (Named.named (F := Ideal) (φ := .f32) κ "gelu_3c" 0x3E095D4F#32) = up S fun _ _ => co3 := rfl

variable (P : Args) (s : ℕ → ℕ → ℝ)

theorem pay1 : k0_pay1 (F := Ideal) (up S256x512 (dact P)) (up S256x512 fun r k => gg (P.y r k))
    = up S256x512 (dy P) := by
  rw [k0_pay1]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
  rfl
theorem pay2 : k0_pay2 (F := Ideal)
    = up S1x1024 (fun _ _ => 0) := by
  rw [k0_pay2]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
theorem pay3 : k0_pay3 (F := Ideal)
    = up S1x1024 (fun _ _ => 0) := by
  rw [k0_pay3]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
theorem pay4 : k0_pay4 (F := Ideal)
    = up S1x3072 (fun _ _ => 0) := by
  rw [k0_pay4]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
theorem pay5 : k0_pay5 (F := Ideal) (up S256x1024 (xhat P))
    = up S256x1024 (xhat P) := by
  rw [k0_pay5]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
theorem pay6 : k0_pay6 (F := Ideal) (up S256x1024 P.dx) (up S256x1024 (xhat P)) (up S1x1024 s)
    = up S1x1024 (fun r c => s r c + ∑ k ∈ range 256, P.dx k c * xhat P k c) := by
  rw [k0_pay6]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay5]
theorem pay7 : k0_pay7 (F := Ideal) (up S256x1024 P.dx) (up S1x1024 s)
    = up S1x1024 (fun r c => s r c + ∑ k ∈ range 256, P.dx k c) := by
  rw [k0_pay7]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
theorem pay8 : k0_pay8 (F := Ideal) (up S256x1 fun r _ => rstd P r)
    = up S256x1 (fun r _ => rstd P r) := by
  rw [k0_pay8]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
theorem pay9 : k0_pay9 (F := Ideal) (up S256x1024 P.dx) (up S1x1024 P.lg)
    = up S256x1024 (ct P) := by
  rw [k0_pay9]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
  rfl
theorem pay10 : k0_pay10 (F := Ideal) (up S256x1024 P.dx) (up S1x1024 P.lg)
    = up S256x1 (fun r _ => (∑ j ∈ range 1024, ct P r j) / 1024) := by
  rw [k0_pay10]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay9]
theorem pay11 : k0_pay11 (F := Ideal) (up S256x1024 P.dx) (up S256x1024 (xhat P)) (up S1x1024 P.lg)
    = up S256x1 (fun r _ => ∑ j ∈ range 1024, ct P r j * xhat P r j) := by
  rw [k0_pay11]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay9, pay5]
theorem pay12 : k0_pay12 (F := Ideal)
    = up S256x1 (fun _ _ => 1024) := by
  rw [k0_pay12]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
theorem pay13 : k0_pay13 (F := Ideal) (up S256x1024 (xhat P)) (up S256x1 fun r _ => rstd P r) (up S256x1024 (ct P)) (up S256x1 fun r _ => (∑ j ∈ range 1024, ct P r j) / 1024) (up S256x1 fun r _ => ∑ j ∈ range 1024, ct P r j * xhat P r j) (up S256x1 fun _ _ => 1024)
    = up S256x1024 (dr P) := by
  rw [k0_pay13]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
  rfl
theorem pay14 : k0_pay14 (F := Ideal) (up S256x1024 (xhat P)) (up S256x1 fun r _ => rstd P r) (up S256x1024 (ct P)) (up S256x1 fun r _ => (∑ j ∈ range 1024, ct P r j) / 1024) (up S256x1 fun r _ => ∑ j ∈ range 1024, ct P r j * xhat P r j) (up S256x1 fun _ _ => 1024)
    = up S256x1024 (fun r c => alpha * dr P r c) := by
  rw [k0_pay14]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay13]
theorem pay15 : k0_pay15 (F := Ideal) (up S256x1024 (xhat P)) (up S256x1 fun r _ => rstd P r) (up S256x1024 (ct P)) (up S256x1 fun r _ => (∑ j ∈ range 1024, ct P r j) / 1024) (up S256x1 fun r _ => ∑ j ∈ range 1024, ct P r j * xhat P r j) (up S256x1 fun _ _ => 1024)
    = up S256x1024 (dr P) := by
  rw [k0_pay15]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay13]
theorem pay16 : k0_pay16 (F := Ideal) (up S256x1024 (xhat P)) (up S256x1 fun r _ => rstd P r) (up S256x1024 (ct P)) (up S256x1 fun r _ => (∑ j ∈ range 1024, ct P r j) / 1024) (up S256x1 fun r _ => ∑ j ∈ range 1024, ct P r j * xhat P r j) (up S256x1 fun _ _ => 1024)
    = up S1024x256 (fun c r => dr P r c) := by
  rw [k0_pay16]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay15, transpose_up (m := 256) (n := 1024)]
theorem pay17 : k0_pay17 (F := Ideal) (up S256x1024 (xhat P)) (up S256x1 fun r _ => rstd P r) (up S256x1024 (ct P)) (up S256x1 fun r _ => (∑ j ∈ range 1024, ct P r j) / 1024) (up S256x1 fun r _ => ∑ j ∈ range 1024, ct P r j * xhat P r j) (up S256x1 fun _ _ => 1024) (up S1024x1024 P.wo)
    = up S256x1024 (dm P) := by
  rw [k0_pay17]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay15]
  rfl
theorem pay18 : k0_pay18 (F := Ideal) (up S256x512 P.y) (up S2048x512 fun c k => P.wg k c)
    = up S256x2048 (glu P) := by
  rw [k0_pay18]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
  rfl
theorem pay19 : k0_pay19 (F := Ideal) (up S256x512 P.y) (up S2048x512 fun c k => P.wg k c)
    = up S256x1024 (glu P) := by
  rw [k0_pay19]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay18, cut2_0, cut2_1]
theorem pay20 : k0_pay20 (F := Ideal) (up S256x512 P.y) (up S2048x512 fun c k => P.wg k c)
    = up S256x1024 (sb P) := by
  rw [k0_pay20]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay18, cut2_0, cut2_1]
  rfl
theorem pay21 : k0_pay21 (F := Ideal) (up S256x512 P.ob) (up S1024x512 fun c k => P.wx k c)
    = up S256x1024 (yc P) := by
  rw [k0_pay21]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
  rfl
theorem pay22 : k0_pay22 (F := Ideal) (up S256x3072 (gates P))
    = up S256x3072 (gates P) := by
  rw [k0_pay22]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
theorem pay23 : k0_pay23 (F := Ideal) (up S256x1024 (dm P)) (up S256x512 P.ain) (up S1024x512 fun c k => P.wc k c) (up S256x3072 (gates P))
    = up S256x1024 (d0 P) := by
  rw [k0_pay23]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay22, cut3_0, cut3_1, cut3_2]
  rfl
theorem pay24 : k0_pay24 (F := Ideal) (up S256x1024 (dm P)) (up S256x512 P.ain) (up S1024x512 fun c k => P.wc k c) (up S256x3072 (gates P)) (up S1x1024 s)
    = up S1x1024 (fun r c => s r c + ∑ k ∈ range 256, d0 P k c) := by
  rw [k0_pay24]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay23]
theorem pay25 : k0_pay25 (F := Ideal) (up S256x1024 (dm P)) (up S256x512 P.ain) (up S1024x512 fun c k => P.wc k c) (up S256x3072 (gates P))
    = up S256x1024 (d0 P) := by
  rw [k0_pay25]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay23]
theorem pay26 : k0_pay26 (F := Ideal) (up S256x1024 (dm P)) (up S256x1024 (glu P)) (up S256x1024 (sb P)) (up S256x3072 (gates P))
    = up S256x1024 (d1 P) := by
  rw [k0_pay26]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay22, cut3_0, cut3_1, cut3_2]
  rfl
theorem pay27 : k0_pay27 (F := Ideal) (up S1x1024 s)
    = up S1x1024 s := by
  rw [k0_pay27]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
theorem pay28 : k0_pay28 (F := Ideal) (up S256x1024 (dm P)) (up S256x1024 (glu P)) (up S256x1024 (sb P)) (up S256x3072 (gates P))
    = up S1024 (fun c _ => ∑ k ∈ range 256, d1 P k c) := by
  rw [k0_pay28]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay26]
theorem pay29 : k0_pay29 (F := Ideal) (up S1x1024 s) (up S1024 fun c _ => ∑ k ∈ range 256, d1 P k c)
    = up S1x1024 (fun r c => s r c + ∑ k ∈ range 256, d1 P k c) := by
  rw [k0_pay29]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
theorem pay30 : k0_pay30 (F := Ideal) (up S256x1024 (d1 P))
    = up S256x1024 (d1 P) := by
  rw [k0_pay30]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
theorem pay31 : k0_pay31 (F := Ideal) (up S256x1024 (dm P)) (up S256x1024 (yc P)) (up S256x3072 (gates P))
    = up S256x1024 (d2 P) := by
  rw [k0_pay31]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), cut3_0, cut3_1, cut3_2]
  rfl
theorem pay32 : k0_pay32 (F := Ideal) (up S256x1024 (dm P)) (up S256x1024 (yc P)) (up S256x3072 (gates P)) (up S1x1024 s)
    = up S1x1024 (fun r c => s r c + ∑ k ∈ range 256, d2 P k c) := by
  rw [k0_pay32]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay31]
theorem pay33 : k0_pay33 (F := Ideal) (up S256x1024 (dm P)) (up S256x1024 (yc P)) (up S256x3072 (gates P))
    = up S256x1024 (d2 P) := by
  rw [k0_pay33]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay31]
theorem pay34 : k0_pay34 (F := Ideal) (up S256x1024 (dm P)) (up S256x3072 (gates P))
    = up S256x1024 (dya P) := by
  rw [k0_pay34]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), cut3_0, cut3_1, cut3_2]
  rfl
theorem pay35 : k0_pay35 (F := Ideal) (up S256x1024 (dm P)) (up S256x3072 (gates P))
    = up S256x1024 (dyc P) := by
  rw [k0_pay35]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), cut3_0, cut3_1, cut3_2]
  rfl
theorem pay36 : k0_pay36 (F := Ideal) (up S256x1024 (dm P)) (up S256x3072 (gates P))
    = up S256x1024 (dyb P) := by
  rw [k0_pay36]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), cut3_0, cut3_1, cut3_2]
  rfl
theorem pay37 : k0_pay37 (F := Ideal) (up S256x1024 (dm P)) (up S256x1024 (sb P)) (up S256x3072 (gates P))
    = up S256x1024 (dga P) := by
  rw [k0_pay37]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay36]
  rfl
theorem pay38 : k0_pay38 (F := Ideal) (up S256x1024 (dm P)) (up S256x1024 (glu P)) (up S256x1024 (sb P)) (up S256x3072 (gates P))
    = up S256x1024 (dgb P) := by
  rw [k0_pay38]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256), pay36]
  rfl
theorem pay39 : k0_pay39 (F := Ideal) (up S256x1024 (dga P)) (up S256x1024 (dgb P)) (up S1024x512 fun c k => P.wg k c) (up S1024x512 fun c k => P.wg k (1024 + c))
    = up S256x512 (dact P) := by
  rw [k0_pay39]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
  rfl
theorem pay40 : k0_pay40 (F := Ideal) (up S256x512 P.y)
    = up S256x512 (fun r k => gg (P.y r k)) := by
  rw [k0_pay40]
  simp -proj only [lit_zero, num_zero, num_one, num_half, num_gc, num_co, num_co3, num_1024, num_alpha, divf_1024, mulf_up, addf_up, subf_up, truncf_up, extf_up, tanh_up, logistic_up, shapeCast_same, dot_o, dot_g, dot_x, dot_y, sum_r, sum_c, zero_add, broadcastTo_row (m := 256) (n := 1024) _ (by decide), broadcastTo_col (m := 256) (n := 1024) _ (by decide), shapeCast_row (n := 1024), shapeCast_col (m := 256)]
  rfl

end Cert.MidPay

end
-- ==== Proof.MidBlock.lean ====
/-
  The middle backward call's input blocks at a grid point, as the call's arguments over the real numbers.
-/
module

public import proofs.«01_k».proof.Proof.MidPay
public import proofs.«01_k».proof.Proof.Gen.Kernel3Ideal.Frame.Runs
public import Idealize.ShloMosaic.Lib.Pipeline.ValueKit

@[expose] public section

set_option maxRecDepth 16384

noncomputable section

namespace Cert.MidBlock

open Idealize.ShloMosaic Idealize.ShloMosaic.TcCoe Cert.Lift Cert.MidSpec Cert.Kernel3Ideal Cert.Kernel3Ideal.Gen Finset
open Cert.Spec (alpha eps)

/-! ## The forward pass's lines on the host -/

section
variable (f g : ℕ → ℕ → ℝ)

theorem rows_1024 : S8192x1024.Reduces [1] S8192 := by decide
theorem sum_r (z : ℕ → ℕ → ℝ) (h : S8192x1024.ReducesTo [1] S8192) (hu : 0 < S_.numel) : Host.reduceAdd (F := Ideal) (φ := .f32) (up S8192x1024 f) (up S_ z) h hu
    = up S8192 (fun r _ => z 0 0 + ∑ k ∈ range 1024, f r k) := host_sum_rows f z _ rows_1024 _
theorem dot_x : Host.dotGeneral (F := Ideal) (φ₁ := .f32) (φ₂ := .f32) dot_S8192x512_S512x1024_S8192x1024_1_0_0_1_n_n none (up S8192x512 f) (up S512x1024 g)
    = up S8192x1024 (fun r c => 0 + ∑ k ∈ range 512, f r k * g k c) := by
  rw [dotGeneral_eq_matmul]; exact matmul_up (M := 8192) (K := 512) (N := 1024) f g _ none
theorem dot_g : Host.dotGeneral (F := Ideal) (φ₁ := .f32) (φ₂ := .f32) dot_S8192x512_S512x2048_S8192x2048_1_0_0_1_n_n none (up S8192x512 f) (up S512x2048 g)
    = up S8192x2048 (fun r c => 0 + ∑ k ∈ range 512, f r k * g k c) := by
  rw [dotGeneral_eq_matmul]; exact matmul_up (M := 8192) (K := 512) (N := 2048) f g _ none
theorem dot_o : Host.dotGeneral (F := Ideal) (φ₁ := .f32) (φ₂ := .f32) dot_S8192x1024_S1024x1024_S8192x1024_1_0_0_1_n_n none (up S8192x1024 f) (up S1024x1024 g)
    = up S8192x1024 (fun r c => 0 + ∑ k ∈ range 1024, f r k * g k c) := by
  rw [dotGeneral_eq_matmul]; exact matmul_up (M := 8192) (K := 1024) (N := 1024) f g _ none
theorem cut3_0 (h : S8192x3072.Slices ![0, 0] S8192x1024) :
    extractStridedSlice S8192x1024 ![0, 0] (up S8192x3072 f) h = up S8192x1024 f := by
  refine (extract_up (m := 8192) (n := 3072) (m' := 8192) (n' := 1024) f h).trans ?_
  simp only [zero_add]
theorem cut3_1 (h : S8192x3072.Slices ![0, 1024] S8192x1024) :
    extractStridedSlice S8192x1024 ![0, 1024] (up S8192x3072 f) h = up S8192x1024 (fun r c => f r (1024 + c)) := by
  refine (extract_up (m := 8192) (n := 3072) (m' := 8192) (n' := 1024) f h).trans ?_
  simp only [zero_add]
theorem cut3_2 (h : S8192x3072.Slices ![0, 2048] S8192x1024) :
    extractStridedSlice S8192x1024 ![0, 2048] (up S8192x3072 f) h = up S8192x1024 (fun r c => f r (2048 + c)) := by
  refine (extract_up (m := 8192) (n := 3072) (m' := 8192) (n' := 1024) f h).trans ?_
  simp only [zero_add]
theorem cut2_0 (h : S8192x2048.Slices ![0, 0] S8192x1024) :
    extractStridedSlice S8192x1024 ![0, 0] (up S8192x2048 f) h = up S8192x1024 f := by
  refine (extract_up (m := 8192) (n := 2048) (m' := 8192) (n' := 1024) f h).trans ?_
  simp only [zero_add]
theorem cut2_1 (h : S8192x2048.Slices ![0, 1024] S8192x1024) :
    extractStridedSlice S8192x1024 ![0, 1024] (up S8192x2048 f) h = up S8192x1024 (fun r c => f r (1024 + c)) := by
  refine (extract_up (m := 8192) (n := 2048) (m' := 8192) (n' := 1024) f h).trans ?_
  simp only [zero_add]
end

/-- A 32-bit array of a shape at the ideal values. -/
abbrev Arr (S : Shape) : Type := FVec Ideal S .f32

/-- The gates. -/
def hostGates (a2 : Arr S8192x3072) (a6 : Arr S1x3072) : Arr S8192x3072 :=
  Host.divf (broadcastInDim S8192x3072 ![] bcast_S_S8192x3072 (constant S_ .f32 0x3F800000#32)) (addf (broadcastInDim S8192x3072 ![] bcast_S_S8192x3072 (constant S_ .f32 0x3F800000#32)) (Host.exp (Host.negf (addf a2 (broadcastInDim S8192x3072 ![0, 1] bcast_S1x3072_S8192x3072_0_1 a6)))))
/-- The activation. -/
def hostAct (y : Arr S8192x512) : Arr S8192x512 :=
  mulf y (mulf (broadcastInDim S8192x512 ![] bcast_S_S8192x512 (constant S_ .f32 0x3F000000#32)) (addf (broadcastInDim S8192x512 ![] bcast_S_S8192x512 (constant S_ .f32 0x3F800000#32))
    (Host.tanh (mulf (broadcastInDim S8192x512 ![] bcast_S_S8192x512 (constant S_ .f32 0x3F4C422A#32))
      (addf y (mulf (broadcastInDim S8192x512 ![] bcast_S_S8192x512 (Host.divf (constant S_ .f32 0x472EAB00#32) (constant S_ .f32 0x49742400#32)))
        (mulf (mulf y y) y)))))))
/-- The gated unit's two halves. -/
def hostGlu (y : Arr S8192x512) (a9 : Arr S512x2048) : Arr S8192x2048 :=
  Host.dotGeneral dot_S8192x512_S512x2048_S8192x2048_1_0_0_1_n_n none (hostAct y) a9
/-- The gated unit's output. -/
def hostYb (u : Arr S8192x2048) : Arr S8192x1024 :=
  mulf (extractStridedSlice S8192x1024 ![0, 0] u slices_S8192x2048_S8192x1024_0_0)
    (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extractStridedSlice S8192x1024 ![0, 1024] u slices_S8192x2048_S8192x1024_0_1024)))))
/-- The gated sum of the branches. -/
def hostMerged (gt : Arr S8192x3072) (yb : Arr S8192x1024) (a3 a4 : Arr S8192x512) (a10 a11 : Arr S512x1024) : Arr S8192x1024 :=
  addf (addf (mulf (extractStridedSlice S8192x1024 ![0, 0] gt slices_S8192x3072_S8192x1024_0_0) (Host.dotGeneral dot_S8192x512_S512x1024_S8192x1024_1_0_0_1_n_n none a3 a10))
      (mulf (extractStridedSlice S8192x1024 ![0, 1024] gt slices_S8192x3072_S8192x1024_0_1024) yb))
    (mulf (extractStridedSlice S8192x1024 ![0, 2048] gt slices_S8192x3072_S8192x1024_0_2048) (Host.dotGeneral dot_S8192x512_S512x1024_S8192x1024_1_0_0_1_n_n none a4 a11))
/-- The residual sum. -/
def hostRes (x mg : Arr S8192x1024) (a8 : Arr S1024x1024) : Arr S8192x1024 :=
  addf (mulf (broadcastInDim S8192x1024 ![] bcast_S_S8192x1024 (constant S_ .f32 0x3F9837F0#32)) x) (Host.dotGeneral dot_S8192x1024_S1024x1024_S8192x1024_1_0_0_1_n_n none mg a8)
/-- The rows' means. -/
def hostMean (r : Arr S8192x1024) : Arr S8192x1 :=
  Host.divf (broadcastInDim S8192x1 ![0] bcast_S8192_S8192x1_0 (Host.reduceAdd r (constant S_ .f32 0x00000000#32) reducesTo_S8192x1024_S8192_d1 h_S_))
    (broadcastInDim S8192x1 ![] bcast_S_S8192x1 (constant S_ .f32 0x44800000#32))
/-- The deviations from them. -/
def hostDev (r : Arr S8192x1024) : Arr S8192x1024 := subf r (broadcastInDim S8192x1024 ![0, 1] bcast_S8192x1_S8192x1024_0_1 (hostMean r))
/-- The reciprocal standard deviations. -/
def hostRstd (r : Arr S8192x1024) : Arr S8192x1 :=
  Host.rsqrt (addf (hostMean (mulf (hostDev r) (hostDev r))) (broadcastInDim S8192x1 ![] bcast_S_S8192x1 (constant S_ .f32 0x3727C5AC#32)))
/-- The normalised rows. -/
def hostXhat (r : Arr S8192x1024) : Arr S8192x1024 :=
  mulf (hostDev r) (broadcastInDim S8192x1024 ![0, 1] bcast_S8192x1_S8192x1024_0_1 (hostRstd r))

variable (P : Args)

theorem hostGates_up : hostGates (up S8192x3072 P.gp) (up S1x3072 P.bg) = up S8192x3072 (gates P) := by
  simp only [hostGates, lit_zero, lit_one, lit_half, lit_1024, lit_alpha, lit_eps, lit_gc, lit_44715, lit_million, host_co, host_sig, bcast_num, host_divf_1024, mulf_up, addf_up, subf_up, host_negf_up, host_exp_up, host_tanh_up, zero_add, add_zero, bcast_row (m := 8192) (n := 3072) _ (by decide)]
  rfl
theorem hostAct_up : hostAct (up S8192x512 P.y) = up S8192x512 (act P) := by
  simp only [hostAct, lit_zero, lit_one, lit_half, lit_1024, lit_alpha, lit_eps, lit_gc, lit_44715, lit_million, host_co, host_sig, bcast_num, host_divf_1024, mulf_up, addf_up, subf_up, host_negf_up, host_exp_up, host_tanh_up, zero_add, add_zero, th_cube, act_eq]
theorem hostGlu_up : hostGlu (up S8192x512 P.y) (up S512x2048 P.wg) = up S8192x2048 (glu P) := by
  simp only [hostGlu, hostAct_up, dot_g, lit_zero, lit_one, lit_half, lit_1024, lit_alpha, lit_eps, lit_gc, lit_44715, lit_million, host_co, host_sig, bcast_num, host_divf_1024, mulf_up, addf_up, subf_up, host_negf_up, host_exp_up, host_tanh_up, zero_add, add_zero]
  rfl
theorem hostYb_up : hostYb (up S8192x2048 (glu P)) = up S8192x1024 (yb P) := by
  simp only [hostYb, cut2_0, cut2_1, lit_zero, lit_one, lit_half, lit_1024, lit_alpha, lit_eps, lit_gc, lit_44715, lit_million, host_co, host_sig, bcast_num, host_divf_1024, mulf_up, addf_up, subf_up, host_negf_up, host_exp_up, host_tanh_up, zero_add, add_zero]
  rfl
theorem hostMerged_up : hostMerged (up S8192x3072 (gates P)) (up S8192x1024 (yb P)) (up S8192x512 P.ain) (up S8192x512 P.ob) (up S512x1024 P.wc) (up S512x1024 P.wx)
    = up S8192x1024 (merged P) := by
  simp only [hostMerged, cut3_0, cut3_1, cut3_2, dot_x, lit_zero, lit_one, lit_half, lit_1024, lit_alpha, lit_eps, lit_gc, lit_44715, lit_million, host_co, host_sig, bcast_num, host_divf_1024, mulf_up, addf_up, subf_up, host_negf_up, host_exp_up, host_tanh_up, zero_add, add_zero]
  rfl
theorem hostRes_up : hostRes (up S8192x1024 P.x) (up S8192x1024 (merged P)) (up S1024x1024 P.wo) = up S8192x1024 (res P) := by
  simp only [hostRes, dot_o, lit_zero, lit_one, lit_half, lit_1024, lit_alpha, lit_eps, lit_gc, lit_44715, lit_million, host_co, host_sig, bcast_num, host_divf_1024, mulf_up, addf_up, subf_up, host_negf_up, host_exp_up, host_tanh_up, zero_add, add_zero]
  rfl
theorem hostMean_up (f : ℕ → ℕ → ℝ) : hostMean (up S8192x1024 f) = up S8192x1 (fun r _ => (∑ c ∈ range 1024, f r c) / 1024) := by
  simp only [hostMean, sum_r, bcast_v1 (m := 8192) _ (by decide), lit_zero, lit_one, lit_half, lit_1024, lit_alpha, lit_eps, lit_gc, lit_44715, lit_million, host_co, host_sig, bcast_num, host_divf_1024, mulf_up, addf_up, subf_up, host_negf_up, host_exp_up, host_tanh_up, zero_add, add_zero]
theorem hostDev_up : hostDev (up S8192x1024 (res P)) = up S8192x1024 (dev P) := by
  simp only [hostDev, hostMean_up, bcast_col (m := 8192) (n := 1024) _ (by decide), lit_zero, lit_one, lit_half, lit_1024, lit_alpha, lit_eps, lit_gc, lit_44715, lit_million, host_co, host_sig, bcast_num, host_divf_1024, mulf_up, addf_up, subf_up, host_negf_up, host_exp_up, host_tanh_up, zero_add, add_zero]
  rfl
theorem hostRstd_up : hostRstd (up S8192x1024 (res P)) = up S8192x1 (fun r _ => rstd P r) := by
  simp only [hostRstd, hostDev_up, hostMean_up, lit_zero, lit_one, lit_half, lit_1024, lit_alpha, lit_eps, lit_gc, lit_44715, lit_million, host_co, host_sig, bcast_num, host_divf_1024, mulf_up, addf_up, subf_up, host_negf_up, host_exp_up, host_tanh_up, zero_add, add_zero]
  exact host_rsqrt_up (S := S8192x1) (f := fun r _ => vare P r) (fun r _ => vare_pos P r)
theorem hostXhat_up : hostXhat (up S8192x1024 (res P)) = up S8192x1024 (xhat P) := by
  simp only [hostXhat, hostDev_up, hostRstd_up, bcast_col (m := 8192) (n := 1024) _ (by decide), lit_zero, lit_one, lit_half, lit_1024, lit_alpha, lit_eps, lit_gc, lit_44715, lit_million, host_co, host_sig, bcast_num, host_divf_1024, mulf_up, addf_up, subf_up, host_negf_up, host_exp_up, host_tanh_up, zero_add, add_zero]
  rfl

/-! ## The arguments and the blocks -/

variable (m : (ℓ : Loc nD τ sig) → Buf (Elt Ideal) ℓ) (c : Dev nD)

/-- The program's arguments on a device are the real arrays `P`. -/
structure Given : Prop where
  h0 : m ((c : Thread nD τ).loc main_arg0) = up S8192x1024 P.dx
  h1 : m ((c : Thread nD τ).loc main_arg1) = up S8192x1024 P.x
  h2 : m ((c : Thread nD τ).loc main_arg2) = up S8192x3072 P.gp
  h3 : m ((c : Thread nD τ).loc main_arg3) = up S8192x512 P.ain
  h4 : m ((c : Thread nD τ).loc main_arg4) = up S8192x512 P.ob
  h5 : m ((c : Thread nD τ).loc main_arg5) = up S8192x512 P.y
  h6 : m ((c : Thread nD τ).loc main_arg6) = up S1x3072 P.bg
  h7 : m ((c : Thread nD τ).loc main_arg7) = up S1x1024 P.lg
  h8 : m ((c : Thread nD τ).loc main_arg8) = up S1024x1024 P.wo
  h9 : m ((c : Thread nD τ).loc main_arg9) = up S512x2048 P.wg
  h10 : m ((c : Thread nD τ).loc main_arg10) = up S512x1024 P.wc
  h11 : m ((c : Thread nD τ).loc main_arg11) = up S512x1024 P.wx

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = 0 ∧ win0_7.index t 1 = 0 := by decide +kernel
theorem index8 : ∀ t : Fin grid0.N, win0_8.index t 0 = 0 ∧ win0_8.index t 1 = 0 := by decide +kernel
theorem index9 : ∀ t : Fin grid0.N, win0_9.index t 0 = 0 ∧ win0_9.index t 1 = 0 := by decide +kernel
theorem index10 : ∀ t : Fin grid0.N, win0_10.index t 0 = 0 ∧ win0_10.index t 1 = 0 := by decide +kernel
theorem index11 : ∀ t : Fin grid0.N, win0_11.index t 0 = 0 ∧ win0_11.index t 1 = 0 := by decide +kernel
theorem index12 : ∀ t : Fin grid0.N, win0_12.index t 0 = t.val ∧ win0_12.index t 1 = 0 := by decide +kernel
theorem index13 : ∀ t : Fin grid0.N, win0_13.index t 0 = 0 ∧ win0_13.index t 1 = t.val := by decide +kernel
theorem index14 : ∀ t : Fin grid0.N, win0_14.index t 0 = t.val ∧ win0_14.index t 1 = 0 := by decide +kernel
theorem index15 : ∀ t : Fin grid0.N, win0_15.index t 0 = t.val ∧ win0_15.index t 1 = 0 := by decide +kernel
theorem index16 : ∀ t : Fin grid0.N, win0_16.index t 0 = t.val ∧ win0_16.index t 1 = 0 := by decide +kernel
theorem index17 : ∀ t : Fin grid0.N, win0_17.index t 0 = t.val ∧ win0_17.index t 1 = 0 := by decide +kernel
theorem index18 : ∀ t : Fin grid0.N, win0_18.index t 0 = t.val ∧ win0_18.index t 1 = 0 := by decide +kernel
theorem index19 : ∀ t : Fin grid0.N, win0_19.index t 0 = 0 ∧ win0_19.index t 1 = 0 := by decide +kernel
theorem index20 : ∀ t : Fin grid0.N, win0_20.index t 0 = 0 ∧ win0_20.index t 1 = 0 := by decide +kernel
theorem index21 : ∀ t : Fin grid0.N, win0_21.index t 0 = 0 ∧ win0_21.index t 1 = 0 := by decide +kernel

variable {m c P}

/-- The residual sum of a device's arguments. -/
theorem Given.res (h : Given P m c) : hostRes (m ((c : Thread nD τ).loc main_arg1)) (hostMerged (hostGates (m ((c : Thread nD τ).loc main_arg2)) (m ((c : Thread nD τ).loc main_arg6))) (hostYb (hostGlu (m ((c : Thread nD τ).loc main_arg5)) (m ((c : Thread nD τ).loc main_arg9)))) (m ((c : Thread nD τ).loc main_arg3)) (m ((c : Thread nD τ).loc main_arg4)) (m ((c : Thread nD τ).loc main_arg10)) (m ((c : Thread nD τ).loc main_arg11))) (m ((c : Thread nD τ).loc main_arg8))
    = up S8192x1024 (res P) := by
  rw [h.h1, h.h2, h.h3, h.h4, h.h5, h.h6, h.h8, h.h9, h.h10, h.h11, hostGates_up, hostGlu_up, hostYb_up, hostMerged_up, hostRes_up]

theorem Given.v59 (h : Given P m c) : V m c main_v59 = up S8192x1 (fun r _ => rstd P r) := by
  have e : V m c main_v59 = hostRstd (hostRes (m ((c : Thread nD τ).loc main_arg1)) (hostMerged (hostGates (m ((c : Thread nD τ).loc main_arg2)) (m ((c : Thread nD τ).loc main_arg6))) (hostYb (hostGlu (m ((c : Thread nD τ).loc main_arg5)) (m ((c : Thread nD τ).loc main_arg9)))) (m ((c : Thread nD τ).loc main_arg3)) (m ((c : Thread nD τ).loc main_arg4)) (m ((c : Thread nD τ).loc main_arg10)) (m ((c : Thread nD τ).loc main_arg11))) (m ((c : Thread nD τ).loc main_arg8))) := by
    unfold_abbrev_sides
    after_results_simp
    rfl
  rw [e, h.res, hostRstd_up]

theorem Given.v63 (h : Given P m c) : V m c main_v63 = up S8192x1024 (xhat P) := by
  have e : V m c main_v63 = hostXhat (hostRes (m ((c : Thread nD τ).loc main_arg1)) (hostMerged (hostGates (m ((c : Thread nD τ).loc main_arg2)) (m ((c : Thread nD τ).loc main_arg6))) (hostYb (hostGlu (m ((c : Thread nD τ).loc main_arg5)) (m ((c : Thread nD τ).loc main_arg9)))) (m ((c : Thread nD τ).loc main_arg3)) (m ((c : Thread nD τ).loc main_arg4)) (m ((c : Thread nD τ).loc main_arg10)) (m ((c : Thread nD τ).loc main_arg11))) (m ((c : Thread nD τ).loc main_arg8))) := by
    unfold_abbrev_sides
    after_results_simp
    rfl
  rw [e, h.res, hostXhat_up]

theorem Given.v64 (h : Given P m c) : V m c main_v64 = up S8192x3072 (gates P) := by
  have e : V m c main_v64 = truncf (F := Ideal) (φ := .f32) .bf16 (hostGates (m ((c : Thread nD τ).loc main_arg2)) (m ((c : Thread nD τ).loc main_arg6))) bitsLt_bf16_f32 := by
    unfold_abbrev_sides
    after_results_simp
    rfl
  rw [e, h.h2, h.h6, hostGates_up]
  rfl

theorem Given.v65 (h : Given P m c) : V m c main_v65 = up S8192x512 P.ain := by
  have e : V m c main_v65 = truncf (F := Ideal) (φ := .f32) .bf16 (m ((c : Thread nD τ).loc main_arg3)) bitsLt_bf16_f32 := by
    unfold_abbrev_sides
    after_results
  rw [e, h.h3]
  rfl

theorem Given.v66 (h : Given P m c) : V m c main_v66 = up S8192x512 P.ob := by
  have e : V m c main_v66 = truncf (F := Ideal) (φ := .f32) .bf16 (m ((c : Thread nD τ).loc main_arg4)) bitsLt_bf16_f32 := by
    unfold_abbrev_sides
    after_results
  rw [e, h.h4]
  rfl

theorem Given.v67 (h : Given P m c) : V m c main_v67 = up S1024x1024 P.wo := by
  have e : V m c main_v67 = truncf (F := Ideal) (φ := .f32) .bf16 (m ((c : Thread nD τ).loc main_arg8)) bitsLt_bf16_f32 := by
    unfold_abbrev_sides
    after_results
  rw [e, h.h8]
  rfl

theorem Given.v69 (h : Given P m c) : V m c main_v69 = up S2048x512 (fun c k => P.wg k c) := by
  have e : V m c main_v69 = truncf (F := Ideal) (φ := .f32) .bf16 (transpose S2048x512 [1, 0] (m ((c : Thread nD τ).loc main_arg9)) transposes_S512x2048_S2048x512_1_0) bitsLt_bf16_f32 := by
    unfold_abbrev_sides
    after_results
  rw [e, h.h9, transpose_up (m := 512) (n := 2048), truncf_up]

theorem Given.v71 (h : Given P m c) : V m c main_v71 = up S1024x512 (fun c k => P.wc k c) := by
  have e : V m c main_v71 = truncf (F := Ideal) (φ := .f32) .bf16 (transpose S1024x512 [1, 0] (m ((c : Thread nD τ).loc main_arg10)) transposes_S512x1024_S1024x512_1_0) bitsLt_bf16_f32 := by
    unfold_abbrev_sides
    after_results
  rw [e, h.h10, transpose_up (m := 512) (n := 1024), truncf_up]

theorem Given.v73 (h : Given P m c) : V m c main_v73 = up S1024x512 (fun c k => P.wx k c) := by
  have e : V m c main_v73 = truncf (F := Ideal) (φ := .f32) .bf16 (transpose S1024x512 [1, 0] (m ((c : Thread nD τ).loc main_arg11)) transposes_S512x1024_S1024x512_1_0) bitsLt_bf16_f32 := by
    unfold_abbrev_sides
    after_results
  rw [e, h.h11, transpose_up (m := 512) (n := 1024), truncf_up]

theorem Given.in0 (h : Given P m c) (t : Fin cfg0.N) : iblk m c 0 t = up S256x1024 (P.rows t.val).dx := by
  funext y
  have e : iblk m c 0 t y = m ((c : Thread nD τ).loc main_arg0) (((cfg0.win 0).blk t).view.emb y) := congrFun (V_main_arg0 m c) _
  rw [e, h.h0]
  show _ = up S256x1024 (fun r c => P.dx (256 * t.val + r) c) y
  refine congrArg (fun x : ℝ => (x : EReal)) (congrArg₂ P.dx ?_ ?_)
  · show (((cfg0.win 0).blk t).view.emb y 0).val = 256 * t.val + (y 0).val
    blk_simp [index0 t]
    try omega
  · show (((cfg0.win 0).blk t).view.emb y 1).val = (y 1).val
    blk_simp [index0 t]
    try omega

theorem Given.in1 (h : Given P m c) (t : Fin cfg0.N) : iblk m c 1 t = up S256x1024 (xhat (P.rows t.val)) := by
  funext y
  have e : iblk m c 1 t y = V m c main_v63 (((cfg0.win 1).blk t).view.emb y) := rfl
  rw [e, h.v63]
  show _ = up S256x1024 (fun r c => (xhat P) (256 * t.val + r) c) y
  refine congrArg (fun x : ℝ => (x : EReal)) (congrArg₂ (xhat P) ?_ ?_)
  · show (((cfg0.win 1).blk t).view.emb y 0).val = 256 * t.val + (y 0).val
    blk_simp [index1 t]
    try omega
  · show (((cfg0.win 1).blk t).view.emb y 1).val = (y 1).val
    blk_simp [index1 t]
    try omega

theorem Given.in2 (h : Given P m c) (t : Fin cfg0.N) : iblk m c 2 t = up S256x1 (fun r _ => rstd (P.rows t.val) r) := by
  funext y
  have e : iblk m c 2 t y = V m c main_v59 (((cfg0.win 2).blk t).view.emb y) := rfl
  rw [e, h.v59]
  refine congrArg (fun x : ℝ => (x : EReal)) (congrArg (rstd P) ?_)
  show (((cfg0.win 2).blk t).view.emb y 0).val = 256 * t.val + (y 0).val
  blk_simp [index2 t]
  try omega

theorem Given.in3 (h : Given P m c) (t : Fin cfg0.N) : iblk m c 3 t = up S256x3072 (gates (P.rows t.val)) := by
  funext y
  have e : iblk m c 3 t y = V m c main_v64 (((cfg0.win 3).blk t).view.emb y) := rfl
  rw [e, h.v64]
  show _ = up S256x3072 (fun r c => (gates P) (256 * t.val + r) c) y
  refine congrArg (fun x : ℝ => (x : EReal)) (congrArg₂ (gates P) ?_ ?_)
  · show (((cfg0.win 3).blk t).view.emb y 0).val = 256 * t.val + (y 0).val
    blk_simp [index3 t]
    try omega
  · show (((cfg0.win 3).blk t).view.emb y 1).val = (y 1).val
    blk_simp [index3 t]
    try omega

theorem Given.in4 (h : Given P m c) (t : Fin cfg0.N) : iblk m c 4 t = up S256x512 (P.rows t.val).ain := by
  funext y
  have e : iblk m c 4 t y = V m c main_v65 (((cfg0.win 4).blk t).view.emb y) := rfl
  rw [e, h.v65]
  show _ = up S256x512 (fun r c => P.ain (256 * t.val + r) c) y
  refine congrArg (fun x : ℝ => (x : EReal)) (congrArg₂ P.ain ?_ ?_)
  · show (((cfg0.win 4).blk t).view.emb y 0).val = 256 * t.val + (y 0).val
    blk_simp [index4 t]
    try omega
  · show (((cfg0.win 4).blk t).view.emb y 1).val = (y 1).val
    blk_simp [index4 t]
    try omega

theorem Given.in5 (h : Given P m c) (t : Fin cfg0.N) : iblk m c 5 t = up S256x512 (P.rows t.val).ob := by
  funext y
  have e : iblk m c 5 t y = V m c main_v66 (((cfg0.win 5).blk t).view.emb y) := rfl
  rw [e, h.v66]
  show _ = up S256x512 (fun r c => P.ob (256 * t.val + r) c) y
  refine congrArg (fun x : ℝ => (x : EReal)) (congrArg₂ P.ob ?_ ?_)
  · show (((cfg0.win 5).blk t).view.emb y 0).val = 256 * t.val + (y 0).val
    blk_simp [index5 t]
    try omega
  · show (((cfg0.win 5).blk t).view.emb y 1).val = (y 1).val
    blk_simp [index5 t]
    try omega

theorem Given.in6 (h : Given P m c) (t : Fin cfg0.N) : iblk m c 6 t = up S256x512 (P.rows t.val).y := by
  funext y
  have e : iblk m c 6 t y = m ((c : Thread nD τ).loc main_arg5) (((cfg0.win 6).blk t).view.emb y) := congrFun (V_main_arg5 m c) _
  rw [e, h.h5]
  show _ = up S256x512 (fun r c => P.y (256 * t.val + r) c) y
  refine congrArg (fun x : ℝ => (x : EReal)) (congrArg₂ P.y ?_ ?_)
  · show (((cfg0.win 6).blk t).view.emb y 0).val = 256 * t.val + (y 0).val
    blk_simp [index6 t]
    try omega
  · show (((cfg0.win 6).blk t).view.emb y 1).val = (y 1).val
    blk_simp [index6 t]
    try omega

theorem Given.in7 (h : Given P m c) (t : Fin cfg0.N) : iblk m c 7 t = up S1x1024 (P.rows t.val).lg := by
  funext y
  have e : iblk m c 7 t y = m ((c : Thread nD τ).loc main_arg7) (((cfg0.win 7).blk t).view.emb y) := congrFun (V_main_arg7 m c) _
  rw [e, h.h7]
  show _ = up S1x1024 P.lg y
  refine congrArg (fun x : ℝ => (x : EReal)) (congrArg₂ P.lg ?_ ?_)
  · show (((cfg0.win 7).blk t).view.emb y 0).val = (y 0).val
    blk_simp [index7 t]
    try omega
  · show (((cfg0.win 7).blk t).view.emb y 1).val = (y 1).val
    blk_simp [index7 t]
    try omega

theorem Given.in8 (h : Given P m c) (t : Fin cfg0.N) : iblk m c 8 t = up S1024x1024 (P.rows t.val).wo := by
  funext y
  have e : iblk m c 8 t y = V m c main_v67 (((cfg0.win 8).blk t).view.emb y) := rfl
  rw [e, h.v67]
  show _ = up S1024x1024 P.wo y
  refine congrArg (fun x : ℝ => (x : EReal)) (congrArg₂ P.wo ?_ ?_)
  · show (((cfg0.win 8).blk t).view.emb y 0).val = (y 0).val
    blk_simp [index8 t]
    try omega
  · show (((cfg0.win 8).blk t).view.emb y 1).val = (y 1).val
    blk_simp [index8 t]
    try omega

theorem Given.in9 (h : Given P m c) (t : Fin cfg0.N) : iblk m c 9 t = up S2048x512 (fun c k => (P.rows t.val).wg k c) := by
  funext y
  have e : iblk m c 9 t y = V m c main_v69 (((cfg0.win 9).blk t).view.emb y) := rfl
  rw [e, h.v69]
  show _ = up S2048x512 (fun c k => P.wg k c) y
  refine congrArg (fun x : ℝ => (x : EReal)) (congrArg₂ (fun c k => P.wg k c) ?_ ?_)
  · show (((cfg0.win 9).blk t).view.emb y 0).val = (y 0).val
    blk_simp [index9 t]
    try omega
  · show (((cfg0.win 9).blk t).view.emb y 1).val = (y 1).val
    blk_simp [index9 t]
    try omega

theorem Given.in10 (h : Given P m c) (t : Fin cfg0.N) : iblk m c 10 t = up S1024x512 (fun c k => (P.rows t.val).wc k c) := by
  funext y
  have e : iblk m c 10 t y = V m c main_v71 (((cfg0.win 10).blk t).view.emb y) := rfl
  rw [e, h.v71]
  show _ = up S1024x512 (fun c k => P.wc k c) y
  refine congrArg (fun x : ℝ => (x : EReal)) (congrArg₂ (fun c k => P.wc k c) ?_ ?_)
  · show (((cfg0.win 10).blk t).view.emb y 0).val = (y 0).val
    blk_simp [index10 t]
    try omega
  · show (((cfg0.win 10).blk t).view.emb y 1).val = (y 1).val
    blk_simp [index10 t]
    try omega

theorem Given.in11 (h : Given P m c) (t : Fin cfg0.N) : iblk m c 11 t = up S1024x512 (fun c k => (P.rows t.val).wx k c) := by
  funext y
  have e : iblk m c 11 t y = V m c main_v73 (((cfg0.win 11).blk t).view.emb y) := rfl
  rw [e, h.v73]
  show _ = up S1024x512 (fun c k => P.wx k c) y
  refine congrArg (fun x : ℝ => (x : EReal)) (congrArg₂ (fun c k => P.wx k c) ?_ ?_)
  · show (((cfg0.win 11).blk t).view.emb y 0).val = (y 0).val
    blk_simp [index11 t]
    try omega
  · show (((cfg0.win 11).blk t).view.emb y 1).val = (y 1).val
    blk_simp [index11 t]
    try omega

end Cert.MidBlock

end
-- ==== Proof.MidRunA.lean ====
/-
  The middle backward call's body over the ideal constants, run at the first point, where the sums are set to zero.
-/
module

public import proofs.«01_k».proof.Proof.Gen.Kernel3Ideal.Frame.Runs

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the run is long: it takes more steps than the default limit
set_option maxHeartbeats 2000000 in
/-- The pieces the body's stores leave in each output's staging buffer at the first point, where the sums are set to zero, with the proof that the body, from the
    inputs' buffers at their contents and the outputs' at anything, runs to its end with the inputs' kept and those pieces written. -/
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1 .f32) (harg3 : arg3.IsWhole) (arg4 : Memref sig .tc .vmem S256x3072 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S2048x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S256x1024 .f32) (harg13 : arg13.IsWhole) (arg14 : Memref sig .tc .vmem S1024x256 .bf16) (harg14 : arg14.IsWhole) (arg15 : Memref sig .tc .vmem S256x3072 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x2048 .bf16) (harg18 : arg18.IsWhole) (arg19 : Memref sig .tc .vmem S256x512 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x3072 .f32) (harg22 : arg22.IsWhole) (hc0 : cond0_0 i)
    (x0 : Vec F S256x1024 .f32) (x1 : Vec F S256x1024 .f32) (x2 : Vec F S256x1 .f32) (x3 : Vec F S256x3072 .bf16) (x4 : Vec F S256x512 .bf16) (x5 : Vec F S256x512 .bf16) (x6 : Vec F S256x512 .f32) (x7 : Vec F S1x1024 .f32) (x8 : Vec F S1024x1024 .bf16) (x9 : Vec F S2048x512 .bf16) (x10 : Vec F S1024x512 .bf16) (x11 : Vec F S1024x512 .bf16) :
    Σ' (L12 : List (View.Piece (Elt F) S256x1024 .f32)), Σ' (L13 : List (View.Piece (Elt F) S1024x256 .bf16)), Σ' (L14 : List (View.Piece (Elt F) S256x3072 .bf16)), Σ' (L15 : List (View.Piece (Elt F) S256x1024 .bf16)), Σ' (L16 : List (View.Piece (Elt F) S256x1024 .bf16)), Σ' (L17 : List (View.Piece (Elt F) S256x2048 .bf16)), Σ' (L18 : List (View.Piece (Elt F) S256x512 .f32)), Σ' (L19 : List (View.Piece (Elt F) S1x1024 .f32)), Σ' (L20 : List (View.Piece (Elt F) S1x1024 .f32)), { L21 : List (View.Piece (Elt F) S1x3072 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21)) -∗ K ⟨⟩))
          ⊢ wp frame (wpE (defs₀ (F := F)) Variants.none c none) E (cc0_mid_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, fun E K => ?run⟩
  case run =>
    simp only [cc0_mid_bwd_eq_skeleton]; unfold cc0_mid_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.Kernel3Ideal.Gen

end
-- ==== Proof.MidRunB.lean ====
/-
  The middle backward call's body over the ideal constants, run at every later point, where the sums carry over.
-/
module

public import proofs.«01_k».proof.Proof.MidRunA

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the run is long: it takes more steps than the default limit
set_option maxHeartbeats 2000000 in
/-- The pieces the body's stores leave in each output's staging buffer at every later point, where the sums carry over, with the proof that the body, from the
    inputs' buffers at their contents and the sums' at their running contents, the other outputs' at anything, runs to its end with the inputs' kept and those pieces written. -/
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1 .f32) (harg3 : arg3.IsWhole) (arg4 : Memref sig .tc .vmem S256x3072 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S2048x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S256x1024 .f32) (harg13 : arg13.IsWhole) (arg14 : Memref sig .tc .vmem S1024x256 .bf16) (harg14 : arg14.IsWhole) (arg15 : Memref sig .tc .vmem S256x3072 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x2048 .bf16) (harg18 : arg18.IsWhole) (arg19 : Memref sig .tc .vmem S256x512 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x3072 .f32) (harg22 : arg22.IsWhole) (hc0 : ¬cond0_0 i)
    (x0 : Vec F S256x1024 .f32) (x1 : Vec F S256x1024 .f32) (x2 : Vec F S256x1 .f32) (x3 : Vec F S256x3072 .bf16) (x4 : Vec F S256x512 .bf16) (x5 : Vec F S256x512 .bf16) (x6 : Vec F S256x512 .f32) (x7 : Vec F S1x1024 .f32) (x8 : Vec F S1024x1024 .bf16) (x9 : Vec F S2048x512 .bf16) (x10 : Vec F S1024x512 .bf16) (x11 : Vec F S1024x512 .bf16) (xo19 : Vec F S1x1024 .f32) (xo20 : Vec F S1x1024 .f32) (xo21 : Vec F S1x3072 .f32) :
    Σ' (L12 : List (View.Piece (Elt F) S256x1024 .f32)), Σ' (L13 : List (View.Piece (Elt F) S1024x256 .bf16)), Σ' (L14 : List (View.Piece (Elt F) S256x3072 .bf16)), Σ' (L15 : List (View.Piece (Elt F) S256x1024 .bf16)), Σ' (L16 : List (View.Piece (Elt F) S256x1024 .bf16)), Σ' (L17 : List (View.Piece (Elt F) S256x2048 .bf16)), Σ' (L18 : List (View.Piece (Elt F) S256x512 .f32)), Σ' (L19 : List (View.Piece (Elt F) S1x1024 .f32)), Σ' (L20 : List (View.Piece (Elt F) S1x1024 .f32)), { L21 : List (View.Piece (Elt F) S1x3072 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xo19 ∗ owns (c : Thread nD τ) arg21 fullShare xo20 ∗ owns (c : Thread nD τ) arg22 fullShare xo21
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21)) -∗ K ⟨⟩))
          ⊢ wp frame (wpE (defs₀ (F := F)) Variants.none c none) E (cc0_mid_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, fun E K => ?run⟩
  case run =>
    simp only [cc0_mid_bwd_eq_skeleton]; unfold cc0_mid_bwd_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%f19, %hf19, H19⟩, ⟨%f20, %hf20, H20⟩, ⟨%f21, %hf21, H21⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg20.eq_unread hf19; obtain rfl := harg21.eq_unread hf20; obtain rfl := harg22.eq_unread hf21
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.Kernel3Ideal.Gen

end
-- ==== Proof.MidFrame.lean ====
/-
  The middle backward call's run over the ideal constants: what each output's buffer holds after each point of the grid,
  the pipeline's proof data, the body at any point, and the frame.
-/
module

public import proofs.«01_k».proof.Proof.MidRunB
public import Idealize.ShloMosaic.Lib.Claim

@[expose] public section

set_option maxHeartbeats 2000000
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1 .f32) (harg3 : arg3.IsWhole) (arg4 : Memref sig .tc .vmem S256x3072 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S2048x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S256x1024 .f32) (harg13 : arg13.IsWhole) (arg14 : Memref sig .tc .vmem S1024x256 .bf16) (harg14 : arg14.IsWhole) (arg15 : Memref sig .tc .vmem S256x3072 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x2048 .bf16) (harg18 : arg18.IsWhole) (arg19 : Memref sig .tc .vmem S256x512 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x3072 .f32) (harg22 : arg22.IsWhole) (hc0 : cond0_0 i)
  (x0 : Vec F S256x1024 .f32) (x1 : Vec F S256x1024 .f32) (x2 : Vec F S256x1 .f32) (x3 : Vec F S256x3072 .bf16) (x4 : Vec F S256x512 .bf16) (x5 : Vec F S256x512 .bf16) (x6 : Vec F S256x512 .f32) (x7 : Vec F S1x1024 .f32) (x8 : Vec F S1024x1024 .bf16) (x9 : Vec F S2048x512 .bf16) (x10 : Vec F S1024x512 .bf16) (x11 : Vec F S1024x512 .bf16)

/-- Case A's pieces cover output 12's block. -/
theorem cover0_A_12
    (y : S256x1024.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).1, y ∈ pc.1.set :=
  View.cover_of_tiledL _ S256x1024.size (by sl_kernel_rfl) y

/-- What case A leaves in output 12's staging buffer: its pieces read back over junk. -/
def out0_A_12 : Vec F S256x1024 .f32 :=
  VO0_12.read (Elt F) (VO0_12.writes (Elt F) VO0_12.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).1)

/-- Case A's pieces cover output 13's block. -/
theorem cover0_A_13
    (y : S1024x256.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.1, y ∈ pc.1.set :=
  View.cover_of_tiledL _ S1024x256.size (by sl_kernel_rfl) y

/-- What case A leaves in output 13's staging buffer: its pieces read back over junk. -/
def out0_A_13 : Vec F S1024x256 .bf16 :=
  VO0_13.read (Elt F) (VO0_13.writes (Elt F) VO0_13.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.1)

/-- Case A's pieces cover output 14's block. -/
theorem cover0_A_14
    (y : S256x3072.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.2.1, y ∈ pc.1.set :=
  View.cover_of_tiledL (s := S256x3072) _ S256x1024.size (by sl_kernel_rfl) y

/-- What case A leaves in output 14's staging buffer: its pieces read back over junk. -/
def out0_A_14 : Vec F S256x3072 .bf16 :=
  VO0_14.read (Elt F) (VO0_14.writes (Elt F) VO0_14.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.2.1)

/-- Case A's pieces cover output 15's block. -/
theorem cover0_A_15
    (y : S256x1024.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.2.2.1, y ∈ pc.1.set :=
  View.cover_of_tiledL _ S256x1024.size (by sl_kernel_rfl) y

/-- What case A leaves in output 15's staging buffer: its pieces read back over junk. -/
def out0_A_15 : Vec F S256x1024 .bf16 :=
  VO0_15.read (Elt F) (VO0_15.writes (Elt F) VO0_15.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.2.2.1)

/-- Case A's pieces cover output 16's block. -/
theorem cover0_A_16
    (y : S256x1024.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.2.2.2.1, y ∈ pc.1.set :=
  View.cover_of_tiledL _ S256x1024.size (by sl_kernel_rfl) y

/-- What case A leaves in output 16's staging buffer: its pieces read back over junk. -/
def out0_A_16 : Vec F S256x1024 .bf16 :=
  VO0_16.read (Elt F) (VO0_16.writes (Elt F) VO0_16.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.2.2.2.1)

/-- Case A's pieces cover output 17's block. -/
theorem cover0_A_17
    (y : S256x2048.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.2.2.2.2.1, y ∈ pc.1.set :=
  View.cover_of_tiledL (s := S256x2048) _ S256x1024.size (by sl_kernel_rfl) y

/-- What case A leaves in output 17's staging buffer: its pieces read back over junk. -/
def out0_A_17 : Vec F S256x2048 .bf16 :=
  VO0_17.read (Elt F) (VO0_17.writes (Elt F) VO0_17.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.2.2.2.2.1)

/-- Case A's pieces cover output 18's block. -/
theorem cover0_A_18
    (y : S256x512.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.2.2.2.2.2.1, y ∈ pc.1.set :=
  View.cover_of_tiledL _ S256x512.size (by sl_kernel_rfl) y

/-- What case A leaves in output 18's staging buffer: its pieces read back over junk. -/
def out0_A_18 : Vec F S256x512 .f32 :=
  VO0_18.read (Elt F) (VO0_18.writes (Elt F) VO0_18.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.2.2.2.2.2.1)

/-- Case A's pieces cover output 19's block. -/
theorem cover0_A_19
    (y : S1x1024.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.2.2.2.2.2.2.1, y ∈ pc.1.set :=
  View.cover_of_tiledL _ S1x1024.size (by sl_kernel_rfl) y

/-- What case A leaves in output 19's staging buffer: its pieces read back over junk. -/
def out0_A_19 : Vec F S1x1024 .f32 :=
  VO0_19.read (Elt F) (VO0_19.writes (Elt F) VO0_19.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.2.2.2.2.2.2.1)

/-- Case A's pieces cover output 20's block. -/
theorem cover0_A_20
    (y : S1x1024.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.2.2.2.2.2.2.2.1, y ∈ pc.1.set :=
  View.cover_of_tiledL _ S1x1024.size (by sl_kernel_rfl) y

/-- What case A leaves in output 20's staging buffer: its pieces read back over junk. -/
def out0_A_20 : Vec F S1x1024 .f32 :=
  VO0_20.read (Elt F) (VO0_20.writes (Elt F) VO0_20.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.2.2.2.2.2.2.2.1)

/-- Case A's pieces cover output 21's block. -/
theorem cover0_A_21
    (y : S1x3072.Idx) :
    ∃ pc ∈ (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.2.2.2.2.2.2.2.2.1, y ∈ pc.1.set :=
  View.cover_of_tiledBy (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.2.2.2.2.2.2.2.2.1 ![1, 1024] (by sl_kernel_rfl) y

/-- What case A leaves in output 21's staging buffer: its pieces read back over junk. -/
def out0_A_21 : Vec F S1x3072 .f32 :=
  VO0_21.read (Elt F) (VO0_21.writes (Elt F) VO0_21.junk (kernelRun0_A c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11).2.2.2.2.2.2.2.2.2.1)

end

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1 .f32) (harg3 : arg3.IsWhole) (arg4 : Memref sig .tc .vmem S256x3072 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S2048x512 .bf16) (harg10 : arg10.IsWhole) (arg11 : Memref sig .tc .vmem S1024x512 .bf16) (harg11 : arg11.IsWhole) (arg12 : Memref sig .tc .vmem S1024x512 .bf16) (harg12 : arg12.IsWhole) (arg13 : Memref sig .tc .vmem S256x1024 .f32) (harg13 : arg13.IsWhole) (arg14 : Memref sig .tc .vmem S1024x256 .bf16) (harg14 : arg14.IsWhole) (arg15 : Memref sig .tc .vmem S256x3072 .bf16) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x2048 .bf16) (harg18 : arg18.IsWhole) (arg19 : Memref sig .tc .vmem S256x512 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x3072 .f32) (harg22 : arg22.IsWhole) (hc0 : ¬cond0_0 i)
  (x0 : Vec F S256x1024 .f32) (x1 : Vec F S256x1024 .f32) (x2 : Vec F S256x1 .f32) (x3 : Vec F S256x3072 .bf16) (x4 : Vec F S256x512 .bf16) (x5 : Vec F S256x512 .bf16) (x6 : Vec F S256x512 .f32) (x7 : Vec F S1x1024 .f32) (x8 : Vec F S1024x1024 .bf16) (x9 : Vec F S2048x512 .bf16) (x10 : Vec F S1024x512 .bf16) (x11 : Vec F S1024x512 .bf16) (xo19 : Vec F S1x1024 .f32) (xo20 : Vec F S1x1024 .f32) (xo21 : Vec F S1x3072 .f32)

/-- Case B's pieces cover output 12's block. -/
theorem cover0_B_12
    (y : S256x1024.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).1, y ∈ pc.1.set :=
  View.cover_of_tiledL _ S256x1024.size (by sl_kernel_rfl) y

/-- What case B leaves in output 12's staging buffer: its pieces read back over junk. -/
def out0_B_12 : Vec F S256x1024 .f32 :=
  VO0_12.read (Elt F) (VO0_12.writes (Elt F) VO0_12.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).1)

/-- Case B's pieces cover output 13's block. -/
theorem cover0_B_13
    (y : S1024x256.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.1, y ∈ pc.1.set :=
  View.cover_of_tiledL _ S1024x256.size (by sl_kernel_rfl) y

/-- What case B leaves in output 13's staging buffer: its pieces read back over junk. -/
def out0_B_13 : Vec F S1024x256 .bf16 :=
  VO0_13.read (Elt F) (VO0_13.writes (Elt F) VO0_13.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.1)

/-- Case B's pieces cover output 14's block. -/
theorem cover0_B_14
    (y : S256x3072.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.2.1, y ∈ pc.1.set :=
  View.cover_of_tiledL (s := S256x3072) _ S256x1024.size (by sl_kernel_rfl) y

/-- What case B leaves in output 14's staging buffer: its pieces read back over junk. -/
def out0_B_14 : Vec F S256x3072 .bf16 :=
  VO0_14.read (Elt F) (VO0_14.writes (Elt F) VO0_14.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.2.1)

/-- Case B's pieces cover output 15's block. -/
theorem cover0_B_15
    (y : S256x1024.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.2.2.1, y ∈ pc.1.set :=
  View.cover_of_tiledL _ S256x1024.size (by sl_kernel_rfl) y

/-- What case B leaves in output 15's staging buffer: its pieces read back over junk. -/
def out0_B_15 : Vec F S256x1024 .bf16 :=
  VO0_15.read (Elt F) (VO0_15.writes (Elt F) VO0_15.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.2.2.1)

/-- Case B's pieces cover output 16's block. -/
theorem cover0_B_16
    (y : S256x1024.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.2.2.2.1, y ∈ pc.1.set :=
  View.cover_of_tiledL _ S256x1024.size (by sl_kernel_rfl) y

/-- What case B leaves in output 16's staging buffer: its pieces read back over junk. -/
def out0_B_16 : Vec F S256x1024 .bf16 :=
  VO0_16.read (Elt F) (VO0_16.writes (Elt F) VO0_16.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.2.2.2.1)

/-- Case B's pieces cover output 17's block. -/
theorem cover0_B_17
    (y : S256x2048.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.2.2.2.2.1, y ∈ pc.1.set :=
  View.cover_of_tiledL (s := S256x2048) _ S256x1024.size (by sl_kernel_rfl) y

/-- What case B leaves in output 17's staging buffer: its pieces read back over junk. -/
def out0_B_17 : Vec F S256x2048 .bf16 :=
  VO0_17.read (Elt F) (VO0_17.writes (Elt F) VO0_17.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.2.2.2.2.1)

/-- Case B's pieces cover output 18's block. -/
theorem cover0_B_18
    (y : S256x512.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.2.2.2.2.2.1, y ∈ pc.1.set :=
  View.cover_of_tiledL _ S256x512.size (by sl_kernel_rfl) y

/-- What case B leaves in output 18's staging buffer: its pieces read back over junk. -/
def out0_B_18 : Vec F S256x512 .f32 :=
  VO0_18.read (Elt F) (VO0_18.writes (Elt F) VO0_18.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.2.2.2.2.2.1)

/-- Case B's pieces cover output 19's block. -/
theorem cover0_B_19
    (y : S1x1024.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.2.2.2.2.2.2.1, y ∈ pc.1.set :=
  View.cover_of_tiledL _ S1x1024.size (by sl_kernel_rfl) y

/-- What case B leaves in output 19's staging buffer: its pieces read back over junk. -/
def out0_B_19 : Vec F S1x1024 .f32 :=
  VO0_19.read (Elt F) (VO0_19.writes (Elt F) VO0_19.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.2.2.2.2.2.2.1)

/-- Case B's pieces cover output 20's block. -/
theorem cover0_B_20
    (y : S1x1024.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.2.2.2.2.2.2.2.1, y ∈ pc.1.set :=
  View.cover_of_tiledL _ S1x1024.size (by sl_kernel_rfl) y

/-- What case B leaves in output 20's staging buffer: its pieces read back over junk. -/
def out0_B_20 : Vec F S1x1024 .f32 :=
  VO0_20.read (Elt F) (VO0_20.writes (Elt F) VO0_20.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.2.2.2.2.2.2.2.1)

/-- Case B's pieces cover output 21's block. -/
theorem cover0_B_21
    (y : S1x3072.Idx) :
    ∃ pc ∈ (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.2.2.2.2.2.2.2.2.1, y ∈ pc.1.set :=
  View.cover_of_tiledL (s := S1x3072) _ S1x1024.size (by sl_kernel_rfl) y

/-- What case B leaves in output 21's staging buffer: its pieces read back over junk. -/
def out0_B_21 : Vec F S1x3072 .f32 :=
  VO0_21.read (Elt F) (VO0_21.writes (Elt F) VO0_21.junk (kernelRun0_B c i _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 _ harg22 hc0 x0 x1 x2 x3 x4 x5 x6 x7 x8 x9 x10 x11 xo19 xo20 xo21).2.2.2.2.2.2.2.2.2.1)

end

/-! ## What the outputs hold after each point -/

/-- The outputs' staging buffers, in window order. -/
abbrev Outs (F : FTy → Type) [FloatOps F] : Type := Vec F S256x1024 .f32 × Vec F S1024x256 .bf16 × Vec F S256x3072 .bf16 × Vec F S256x1024 .bf16 × Vec F S256x1024 .bf16 × Vec F S256x2048 .bf16 × Vec F S256x512 .f32 × Vec F S1x1024 .f32 × Vec F S1x1024 .f32 × Vec F S1x3072 .f32

/-- Case A's contents of the outputs' buffers at the point `t`. -/
def outsA (c : Dev nD) (t : Fin cfg0.N) (h0 : t.val % 32 = 0) : Outs F :=
  (out0_A_12 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_16 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_17 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_18 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_19 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_20 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_21 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- Case B's contents of the outputs' buffers at the point `t`, over what the point before left, `p`. -/
def outsB (c : Dev nD) (t : Fin cfg0.N) (h0 : ¬t.val % 32 = 0) (p : Outs F) : Outs F :=
  (out0_B_12 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.2.2.1 p.2.2.2.2.2.2.2.2.1 p.2.2.2.2.2.2.2.2.2, out0_B_13 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.2.2.1 p.2.2.2.2.2.2.2.2.1 p.2.2.2.2.2.2.2.2.2, out0_B_14 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.2.2.1 p.2.2.2.2.2.2.2.2.1 p.2.2.2.2.2.2.2.2.2, out0_B_15 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.2.2.1 p.2.2.2.2.2.2.2.2.1 p.2.2.2.2.2.2.2.2.2, out0_B_16 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.2.2.1 p.2.2.2.2.2.2.2.2.1 p.2.2.2.2.2.2.2.2.2, out0_B_17 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.2.2.1 p.2.2.2.2.2.2.2.2.1 p.2.2.2.2.2.2.2.2.2, out0_B_18 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.2.2.1 p.2.2.2.2.2.2.2.2.1 p.2.2.2.2.2.2.2.2.2, out0_B_19 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.2.2.1 p.2.2.2.2.2.2.2.2.1 p.2.2.2.2.2.2.2.2.2, out0_B_20 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.2.2.1 p.2.2.2.2.2.2.2.2.1 p.2.2.2.2.2.2.2.2.2, out0_B_21 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.2.2.1 p.2.2.2.2.2.2.2.2.1 p.2.2.2.2.2.2.2.2.2)

/-- What the outputs' staging buffers hold after the body at position `n`, in window order: the case of `n` run at the
    point's input blocks, the sums at what the point before left. -/
def outsAt0 (c : Dev nD) : (n : ℕ) → n < cfg0.N → Outs F
  | 0, hn => outsA m c ⟨0, hn⟩ (Nat.zero_mod _)
  | n + 1, hn =>
    if h0 : (n + 1) % 32 = 0 then
      outsA m c ⟨n + 1, hn⟩ h0
    else
      outsB m c ⟨n + 1, hn⟩ h0 (outsAt0 c n (Nat.lt_of_succ_lt hn))

/-- `outsAt0` at a point of case A: that case's contents. -/
theorem outsAt0_A (c : Dev nD) (t : Fin cfg0.N) (h0 : t.val % 32 = 0) :
    outsAt0 m c t.val t.isLt = outsA m c t h0 := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 32 = 0) :
    outsAt0 m c t.val t.isLt = outsB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's buffer at its
    block and the outputs' at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨18, _⟩ => (outsAt0 m c t.val t.isLt).2.2.2.2.2.2.1
    | ⟨19, _⟩ => (outsAt0 m c t.val t.isLt).2.2.2.2.2.2.2.1
    | ⟨20, _⟩ => (outsAt0 m c t.val t.isLt).2.2.2.2.2.2.2.2.1
    | ⟨21, _⟩ => (outsAt0 m c t.val t.isLt).2.2.2.2.2.2.2.2.2
    | ⟨_ + 22, h⟩ => absurd h (Nat.not_lt.2 (Nat.le_add_left _ _))
  Φ _ := Pipeline.ΦA spec0 c
  q _ := fullShare
  owed _ := 0

/-- The proof data's arrays are those the region finds. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]
theorem after0_17 (c : Dev nD) (t : Fin cfg0.N) : (dats m 0 c).after 17 t = (outsAt0 m c t.val t.isLt).2.2.2.2.2.1 := by dsimp only [dats]
theorem after0_18 (c : Dev nD) (t : Fin cfg0.N) : (dats m 0 c).after 18 t = (outsAt0 m c t.val t.isLt).2.2.2.2.2.2.1 := by dsimp only [dats]
theorem after0_19 (c : Dev nD) (t : Fin cfg0.N) : (dats m 0 c).after 19 t = (outsAt0 m c t.val t.isLt).2.2.2.2.2.2.2.1 := by dsimp only [dats]
theorem after0_20 (c : Dev nD) (t : Fin cfg0.N) : (dats m 0 c).after 20 t = (outsAt0 m c t.val t.isLt).2.2.2.2.2.2.2.2.1 := by dsimp only [dats]
theorem after0_21 (c : Dev nD) (t : Fin cfg0.N) : (dats m 0 c).after 21 t = (outsAt0 m c t.val t.isLt).2.2.2.2.2.2.2.2.2 := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
/-- At a later point output 19's staging buffer holds what the point before left. -/
theorem before0_19_B (c : Dev nD) (t : Fin cfg0.N) (h0 : ¬t.val % 32 = 0) (d) :
    (dats m 0 c).before 19 t d = (outsAt0 m c (t.val - 1) (Nat.lt_of_le_of_lt (Nat.sub_le _ _) t.isLt)).2.2.2.2.2.2.2.1 := by
  have hN : t.val < 32 := lt_of_lt_of_eq t.isLt (show cfg0.N = 32 from N_0)
  rw [Dat.before_out_kept _ 19 rfl t (by omega) (Bool.eq_false_iff.mpr fun h => by have := (flush0_19 _).mp h; dsimp only at this; omega)
    (fun _ => rfl) (fun _ _ => rfl)]
  dsimp only [dats]
/-- At a later point output 20's staging buffer holds what the point before left. -/
theorem before0_20_B (c : Dev nD) (t : Fin cfg0.N) (h0 : ¬t.val % 32 = 0) (d) :
    (dats m 0 c).before 20 t d = (outsAt0 m c (t.val - 1) (Nat.lt_of_le_of_lt (Nat.sub_le _ _) t.isLt)).2.2.2.2.2.2.2.2.1 := by
  have hN : t.val < 32 := lt_of_lt_of_eq t.isLt (show cfg0.N = 32 from N_0)
  rw [Dat.before_out_kept _ 20 rfl t (by omega) (Bool.eq_false_iff.mpr fun h => by have := (flush0_20 _).mp h; dsimp only at this; omega)
    (fun _ => rfl) (fun _ _ => rfl)]
  dsimp only [dats]
/-- At a later point output 21's staging buffer holds what the point before left. -/
theorem before0_21_B (c : Dev nD) (t : Fin cfg0.N) (h0 : ¬t.val % 32 = 0) (d) :
    (dats m 0 c).before 21 t d = (outsAt0 m c (t.val - 1) (Nat.lt_of_le_of_lt (Nat.sub_le _ _) t.isLt)).2.2.2.2.2.2.2.2.2 := by
  have hN : t.val < 32 := lt_of_lt_of_eq t.isLt (show cfg0.N = 32 from N_0)
  rw [Dat.before_out_kept _ 21 rfl t (by omega) (Bool.eq_false_iff.mpr fun h => by have := (flush0_21 _).mp h; dsimp only at this; omega)
    (fun _ => rfl) (fun _ _ => rfl)]
  dsimp only [dats]

/-! ## The body obligation, at a generic point -/

/-- What the body is called with at point `t`, … -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d)))

/-- … and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t))

set_option maxHeartbeats 4000000 in
/-- The body at any point: its case's run from the inputs' blocks and what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  have hN : t.val < 32 := lt_of_lt_of_eq t.isLt (show cfg0.N = 32 from N_0)
  by_cases h0 : t.val % 32 = 0
  · rw [outsAt0_A m c t h0]
    unfold outsA out0_A_12 out0_A_13 out0_A_14 out0_A_15 out0_A_16 out0_A_17 out0_A_18 out0_A_19 out0_A_20 out0_A_21; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _)
    isplitl [H18]
    · unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _)
    isplitl [H19]
    · unfold owns; iexists _; isplitr
      swap; · iexact H19
      ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _)
    isplitl [H20]
    · unfold owns; iexists _; isplitr
      swap; · iexact H20
      ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _)
  · rw [outsAt0_B m c t h0]
    simp only [before0_19_B m c t h0, before0_20_B m c t h0, before0_21_B m c t h0]
    unfold outsB out0_B_12 out0_B_13 out0_B_14 out0_B_15 out0_B_16 out0_B_17 out0_B_18 out0_B_19 out0_B_20 out0_B_21; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((kernelRun0_B c (grid0.coords t) _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexact H19
    isplitl [H20]; · iexact H20
    isplitl [H21]; · iexact H21
    iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H13]
    · unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H14]
    · unfold owns; iexists _; isplitr
      swap; · iexact H14
      ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H15]
    · unfold owns; iexists _; isplitr
      swap; · iexact H15
      ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H16]
    · unfold owns; iexists _; isplitr
      swap; · iexact H16
      ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H18]
    · unfold owns; iexists _; isplitr
      swap; · iexact H18
      ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H19]
    · unfold owns; iexists _; isplitr
      swap; · iexact H19
      ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H20]
    · unfold owns; iexists _; isplitr
      swap; · iexact H20
      ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H21
    ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 2000000 in
/-- The whole run, with every counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every fair run ends with the pipeline's arrays at what the proof data computes and every other array as it was. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel3Ideal.Gen

end
-- ==== Proof.MidComp.lean ====
/-
  What the middle backward call leaves in each output block at a grid point.
-/
module

public import proofs.«01_k».proof.Proof.MidBlock
public import proofs.«01_k».proof.Proof.MidFrame
public import proofs.«01_k».proof.Proof.Comp
public import Idealize.ShloMosaic.Lib.Pipeline.ReadBack

@[expose] public section

set_option maxRecDepth 16384

noncomputable section

namespace Cert.MidBlock

open Idealize.ShloMosaic Idealize.ShloMosaic.TcCoe Cert.Lift Cert.MidSpec Cert.MidPay Cert.Kernel3Ideal Cert.Kernel3Ideal.Gen Finset
open Cert.Block (ld_f32 ld_bf16)

/-- Three column chunks of 1024 written into an array of `f32`. -/
theorem canon3_f32 {m : ℕ} (f0 f1 f2 : ℕ → ℕ → ℝ) (L : List (View.Piece (Elt Ideal) ⟨2, ![m, 3072]⟩ .f32))
    (i2 : ∀ a, (![0, 2048] : Fin 2 → ℕ) a + (![m, 1024] : Fin 2 → ℕ) a ≤ (⟨2, ![m, 3072]⟩ : Shape).size a)
    (i1 : ∀ a, (![0, 1024] : Fin 2 → ℕ) a + (![m, 1024] : Fin 2 → ℕ) a ≤ (⟨2, ![m, 3072]⟩ : Shape).size a)
    (i0 : ∀ a, (![0, 0] : Fin 2 → ℕ) a + (![m, 1024] : Fin 2 → ℕ) a ≤ (⟨2, ![m, 3072]⟩ : Shape).size a) :
    View.canon (Val := Elt Ideal) (s := ⟨2, ![m, 3072]⟩) (e := .f32)
      (⟨Rect.unit (s := ⟨2, ![m, 3072]⟩) ![0, 2048] ![m, 1024] i2, up ⟨2, ![m, 1024]⟩ f2⟩ ::
        ⟨Rect.unit (s := ⟨2, ![m, 3072]⟩) ![0, 1024] ![m, 1024] i1, up ⟨2, ![m, 1024]⟩ f1⟩ ::
        ⟨Rect.unit (s := ⟨2, ![m, 3072]⟩) ![0, 0] ![m, 1024] i0, up ⟨2, ![m, 1024]⟩ f0⟩ :: L)
      = up ⟨2, ![m, 3072]⟩ fun r c => if c < 1024 then f0 r c else if c < 2048 then f1 r (c - 1024) else f2 r (c - 2048) := by
  funext y
  have hy : (y 1).val < 3072 := (y 1).isLt
  have tile (o : ℕ) (inb) (g : ℕ → ℕ → ℝ) (hg : ∀ r k, k < 1024 → g r k = (fun r c => if c < 1024 then f0 r c else if c < 2048 then f1 r (c - 1024) else f2 r (c - 2048)) r (o + k)) (x : (⟨2, ![m, 1024]⟩ : Shape).Idx) :
      up ⟨2, ![m, 1024]⟩ g x = up ⟨2, ![m, 3072]⟩ (fun r c => if c < 1024 then f0 r c else if c < 2048 then f1 r (c - 1024) else f2 r (c - 2048)) ((Rect.unit (s := ⟨2, ![m, 3072]⟩) ![0, o] ![m, 1024] inb).emb x) := by
    have h0 : 0 + 1 * (x 0).val = (x 0).val := by omega
    have h1 : o + 1 * (x 1).val = o + (x 1).val := by omega
    show ((g (x 0).val (x 1).val : ℝ) : EReal) = (((fun r c => if c < 1024 then f0 r c else if c < 2048 then f1 r (c - 1024) else f2 r (c - 2048)) (0 + 1 * (x 0).val) (o + 1 * (x 1).val) : ℝ) : EReal)
    rw [hg _ _ (x 1).isLt, h0, h1]
  refine View.canon_append_of_piecesOf (up ⟨2, ![m, 3072]⟩ fun r c => if c < 1024 then f0 r c else if c < 2048 then f1 r (c - 1024) else f2 r (c - 2048)) L [_, _, _] ?_ y ?_
  · exact ⟨tile 2048 i2 _ (fun r k hk => by beta_reduce; rw [if_neg (by omega), if_neg (by omega), Nat.add_sub_cancel_left]), tile 1024 i1 _ (fun r k hk => by beta_reduce; rw [if_neg (by omega), if_pos (by omega), Nat.add_sub_cancel_left]), tile 0 i0 _ (fun r k hk => by beta_reduce; rw [Nat.zero_add, if_pos hk]), trivial⟩
  · have at_chunk (o : ℕ) (inb) (h1 : o ≤ (y 1).val) (h2 : (y 1).val < o + 1024) :
        y ∈ (Rect.unit (s := ⟨2, ![m, 3072]⟩) ![0, o] ![m, 1024] inb).set := by
      rw [Rect.mem_set_unit]
      intro a
      match a with
      | ⟨0, _⟩ => exact ⟨Nat.zero_le _, by have := (y 0).isLt; show (y 0).val < 0 + m; rw [Nat.zero_add]; exact this⟩
      | ⟨1, _⟩ => exact ⟨h1, h2⟩
    by_cases h0 : (y 1).val < 1024
    · exact ⟨_, .tail _ (.tail _ (.head _)), at_chunk 0 i0 (by omega) (by omega)⟩
    by_cases h1 : (y 1).val < 2048
    · exact ⟨_, .tail _ (.head _), at_chunk 1024 i1 (by omega) (by omega)⟩
    · exact ⟨_, .head _, at_chunk 2048 i2 (by omega) (by omega)⟩

/-- Three column chunks of 1024 written into an array of `bf16`. -/
theorem canon3_bf16 {m : ℕ} (f0 f1 f2 : ℕ → ℕ → ℝ) (L : List (View.Piece (Elt Ideal) ⟨2, ![m, 3072]⟩ .bf16))
    (i2 : ∀ a, (![0, 2048] : Fin 2 → ℕ) a + (![m, 1024] : Fin 2 → ℕ) a ≤ (⟨2, ![m, 3072]⟩ : Shape).size a)
    (i1 : ∀ a, (![0, 1024] : Fin 2 → ℕ) a + (![m, 1024] : Fin 2 → ℕ) a ≤ (⟨2, ![m, 3072]⟩ : Shape).size a)
    (i0 : ∀ a, (![0, 0] : Fin 2 → ℕ) a + (![m, 1024] : Fin 2 → ℕ) a ≤ (⟨2, ![m, 3072]⟩ : Shape).size a) :
    View.canon (Val := Elt Ideal) (s := ⟨2, ![m, 3072]⟩) (e := .bf16)
      (⟨Rect.unit (s := ⟨2, ![m, 3072]⟩) ![0, 2048] ![m, 1024] i2, up ⟨2, ![m, 1024]⟩ f2⟩ ::
        ⟨Rect.unit (s := ⟨2, ![m, 3072]⟩) ![0, 1024] ![m, 1024] i1, up ⟨2, ![m, 1024]⟩ f1⟩ ::
        ⟨Rect.unit (s := ⟨2, ![m, 3072]⟩) ![0, 0] ![m, 1024] i0, up ⟨2, ![m, 1024]⟩ f0⟩ :: L)
      = up ⟨2, ![m, 3072]⟩ fun r c => if c < 1024 then f0 r c else if c < 2048 then f1 r (c - 1024) else f2 r (c - 2048) := by
  funext y
  have hy : (y 1).val < 3072 := (y 1).isLt
  have tile (o : ℕ) (inb) (g : ℕ → ℕ → ℝ) (hg : ∀ r k, k < 1024 → g r k = (fun r c => if c < 1024 then f0 r c else if c < 2048 then f1 r (c - 1024) else f2 r (c - 2048)) r (o + k)) (x : (⟨2, ![m, 1024]⟩ : Shape).Idx) :
      up ⟨2, ![m, 1024]⟩ g x = up ⟨2, ![m, 3072]⟩ (fun r c => if c < 1024 then f0 r c else if c < 2048 then f1 r (c - 1024) else f2 r (c - 2048)) ((Rect.unit (s := ⟨2, ![m, 3072]⟩) ![0, o] ![m, 1024] inb).emb x) := by
    have h0 : 0 + 1 * (x 0).val = (x 0).val := by omega
    have h1 : o + 1 * (x 1).val = o + (x 1).val := by omega
    show ((g (x 0).val (x 1).val : ℝ) : EReal) = (((fun r c => if c < 1024 then f0 r c else if c < 2048 then f1 r (c - 1024) else f2 r (c - 2048)) (0 + 1 * (x 0).val) (o + 1 * (x 1).val) : ℝ) : EReal)
    rw [hg _ _ (x 1).isLt, h0, h1]
  refine View.canon_append_of_piecesOf (up ⟨2, ![m, 3072]⟩ fun r c => if c < 1024 then f0 r c else if c < 2048 then f1 r (c - 1024) else f2 r (c - 2048)) L [_, _, _] ?_ y ?_
  · exact ⟨tile 2048 i2 _ (fun r k hk => by beta_reduce; rw [if_neg (by omega), if_neg (by omega), Nat.add_sub_cancel_left]), tile 1024 i1 _ (fun r k hk => by beta_reduce; rw [if_neg (by omega), if_pos (by omega), Nat.add_sub_cancel_left]), tile 0 i0 _ (fun r k hk => by beta_reduce; rw [Nat.zero_add, if_pos hk]), trivial⟩
  · have at_chunk (o : ℕ) (inb) (h1 : o ≤ (y 1).val) (h2 : (y 1).val < o + 1024) :
        y ∈ (Rect.unit (s := ⟨2, ![m, 3072]⟩) ![0, o] ![m, 1024] inb).set := by
      rw [Rect.mem_set_unit]
      intro a
      match a with
      | ⟨0, _⟩ => exact ⟨Nat.zero_le _, by have := (y 0).isLt; show (y 0).val < 0 + m; rw [Nat.zero_add]; exact this⟩
      | ⟨1, _⟩ => exact ⟨h1, h2⟩
    by_cases h0 : (y 1).val < 1024
    · exact ⟨_, .tail _ (.tail _ (.head _)), at_chunk 0 i0 (by omega) (by omega)⟩
    by_cases h1 : (y 1).val < 2048
    · exact ⟨_, .tail _ (.head _), at_chunk 1024 i1 (by omega) (by omega)⟩
    · exact ⟨_, .head _, at_chunk 2048 i2 (by omega) (by omega)⟩

/-- Two column chunks of 1024 written into an array of `bf16`. -/
theorem canon2_bf16 {m : ℕ} (f0 f1 : ℕ → ℕ → ℝ) (L : List (View.Piece (Elt Ideal) ⟨2, ![m, 2048]⟩ .bf16))
    (i1 : ∀ a, (![0, 1024] : Fin 2 → ℕ) a + (![m, 1024] : Fin 2 → ℕ) a ≤ (⟨2, ![m, 2048]⟩ : Shape).size a)
    (i0 : ∀ a, (![0, 0] : Fin 2 → ℕ) a + (![m, 1024] : Fin 2 → ℕ) a ≤ (⟨2, ![m, 2048]⟩ : Shape).size a) :
    View.canon (Val := Elt Ideal) (s := ⟨2, ![m, 2048]⟩) (e := .bf16)
      (⟨Rect.unit (s := ⟨2, ![m, 2048]⟩) ![0, 1024] ![m, 1024] i1, up ⟨2, ![m, 1024]⟩ f1⟩ ::
        ⟨Rect.unit (s := ⟨2, ![m, 2048]⟩) ![0, 0] ![m, 1024] i0, up ⟨2, ![m, 1024]⟩ f0⟩ :: L)
      = up ⟨2, ![m, 2048]⟩ fun r c => if c < 1024 then f0 r c else f1 r (c - 1024) := by
  funext y
  have hy : (y 1).val < 2048 := (y 1).isLt
  have tile (o : ℕ) (inb) (g : ℕ → ℕ → ℝ) (hg : ∀ r k, k < 1024 → g r k = (fun r c => if c < 1024 then f0 r c else f1 r (c - 1024)) r (o + k)) (x : (⟨2, ![m, 1024]⟩ : Shape).Idx) :
      up ⟨2, ![m, 1024]⟩ g x = up ⟨2, ![m, 2048]⟩ (fun r c => if c < 1024 then f0 r c else f1 r (c - 1024)) ((Rect.unit (s := ⟨2, ![m, 2048]⟩) ![0, o] ![m, 1024] inb).emb x) := by
    have h0 : 0 + 1 * (x 0).val = (x 0).val := by omega
    have h1 : o + 1 * (x 1).val = o + (x 1).val := by omega
    show ((g (x 0).val (x 1).val : ℝ) : EReal) = (((fun r c => if c < 1024 then f0 r c else f1 r (c - 1024)) (0 + 1 * (x 0).val) (o + 1 * (x 1).val) : ℝ) : EReal)
    rw [hg _ _ (x 1).isLt, h0, h1]
  refine View.canon_append_of_piecesOf (up ⟨2, ![m, 2048]⟩ fun r c => if c < 1024 then f0 r c else f1 r (c - 1024)) L [_, _] ?_ y ?_
  · exact ⟨tile 1024 i1 _ (fun r k hk => by beta_reduce; rw [if_neg (by omega), Nat.add_sub_cancel_left]), tile 0 i0 _ (fun r k hk => by beta_reduce; rw [Nat.zero_add, if_pos hk]), trivial⟩
  · have at_chunk (o : ℕ) (inb) (h1 : o ≤ (y 1).val) (h2 : (y 1).val < o + 1024) :
        y ∈ (Rect.unit (s := ⟨2, ![m, 2048]⟩) ![0, o] ![m, 1024] inb).set := by
      rw [Rect.mem_set_unit]
      intro a
      match a with
      | ⟨0, _⟩ => exact ⟨Nat.zero_le _, by have := (y 0).isLt; show (y 0).val < 0 + m; rw [Nat.zero_add]; exact this⟩
      | ⟨1, _⟩ => exact ⟨h1, h2⟩
    by_cases h0 : (y 1).val < 1024
    · exact ⟨_, .tail _ (.head _), at_chunk 0 i0 (by omega) (by omega)⟩
    · exact ⟨_, .head _, at_chunk 1024 i1 (by omega) (by omega)⟩

/-- A read of one column chunk passes over a store of a chunk that is disjoint from it. -/
theorem skip3 {p o : ℕ} (v : View sig .tc .vmem S1x3072 .f32) (ip : ∀ a, (![0, p] : Fin 2 → ℕ) a + (![1, 1024] : Fin 2 → ℕ) a ≤ S1x3072.size a)
    (w : S1x1024.Idx → Elt Ideal .f32) (L : List (View.Piece (Elt Ideal) S1x3072 .f32))
    (io : ∀ a, (![0, o] : Fin 2 → ℕ) a + (![1, 1024] : Fin 2 → ℕ) a ≤ S1x3072.size a)
    (h : LoadRect.disj (Rect.unit (s := S1x3072) ![0, p] ![1, 1024] ip) (Rect.unit (s := S1x3072) ![0, o] ![1, 1024] io).toLoadRect = true) :
    v.readCov (Val := Elt Ideal) (⟨Rect.unit (s := S1x3072) ![0, p] ![1, 1024] ip, w⟩ :: L) (Rect.unit (s := S1x3072) ![0, o] ![1, 1024] io).toLoadRect
      = v.readCov (Val := Elt Ideal) L (Rect.unit (s := S1x3072) ![0, o] ![1, 1024] io).toLoadRect :=
  View.readCov_skip v _ _ _ _ h

/-- A column chunk read after the whole row was written. -/
theorem fill3 {o : ℕ} (v : View sig .tc .vmem S1x3072 .f32) (f : ℕ → ℕ → ℝ) (iw) (io : ∀ a, (![0, o] : Fin 2 → ℕ) a + (![1, 1024] : Fin 2 → ℕ) a ≤ S1x3072.size a) :
    v.readCov (Val := Elt Ideal) [⟨Rect.unit (s := S1x3072) ![0, 0] ![1, 3072] iw, up S1x3072 f⟩] (Rect.unit (s := S1x3072) ![0, o] ![1, 1024] io).toLoadRect
      = up S1x1024 fun r k => f (0 + r) (o + k) := by
  refine (View.readCov_fill (Val := Elt Ideal) v iw (up S1x3072 f) [] (Rect.unit (s := S1x3072) ![0, o] ![1, 1024] io) ?_).trans (ld_f32 f io)
  intro a
  match a with
  | ⟨0, _⟩ => rfl
  | ⟨1, _⟩ => rfl

/-- The column sums of the gates' gradients, chunk by chunk. -/
theorem sum_dgp (P : Args) (c : ℕ) :
    (if c < 1024 then ∑ k ∈ range 256, d0 P k c else if c < 2048 then ∑ k ∈ range 256, d1 P k (c - 1024) else ∑ k ∈ range 256, d2 P k (c - 2048))
      = ∑ k ∈ range 256, dgp P k c := by
  unfold dgp
  split_ifs <;> rfl

/-- … each chunk added to what the row held before. -/
theorem add_dgp (P : Args) (s : ℕ → ℕ → ℝ) (r c : ℕ) :
    (if c < 1024 then s r c + ∑ k ∈ range 256, d0 P k c
      else if c < 2048 then s r (1024 + (c - 1024)) + ∑ k ∈ range 256, d1 P k (c - 1024)
      else s r (2048 + (c - 2048)) + ∑ k ∈ range 256, d2 P k (c - 2048))
      = s r c + ∑ k ∈ range 256, dgp P k c := by
  rw [← sum_dgp]
  split_ifs with h1 h2
  · rfl
  · rw [show 1024 + (c - 1024) = c by omega]
  · rw [show 2048 + (c - 2048) = c by omega]

variable {m : (ℓ : Loc nD τ sig) → Buf (Elt Ideal) ℓ} {c : Dev nD} {P : Args}

/-- The gradient by the block input. -/
theorem comp12 (h : Given P m c) (t : Fin cfg0.N) : (outsAt0 m c t.val t.isLt).1 = up S256x1024 (fun r c => Cert.Spec.alpha * dr (P.rows t.val) r c) := by
  by_cases hA : t.val % 32 = 0
  · rw [outsAt0_A m c t hA, outsA]
    frame_out
    simp -proj only [h.in0, h.in1, h.in2, h.in3, h.in4, h.in5, h.in6, h.in7, h.in8, h.in9, h.in10, h.in11, ld_f32, ld_bf16, zero_add,
      pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]
  · rw [outsAt0_B m c t hA, outsB]
    frame_out
    simp -proj only [h.in0, h.in1, h.in2, h.in3, h.in4, h.in5, h.in6, h.in7, h.in8, h.in9, h.in10, h.in11, ld_f32, ld_bf16, zero_add,
      pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]

/-- The gradient by the residual sum, transposed. -/
theorem comp13 (h : Given P m c) (t : Fin cfg0.N) : (outsAt0 m c t.val t.isLt).2.1 = up S1024x256 (fun c r => dr (P.rows t.val) r c) := by
  by_cases hA : t.val % 32 = 0
  · rw [outsAt0_A m c t hA, outsA]
    frame_out
    simp -proj only [h.in0, h.in1, h.in2, h.in3, h.in4, h.in5, h.in6, h.in7, h.in8, h.in9, h.in10, h.in11, ld_f32, ld_bf16, zero_add,
      pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]
  · rw [outsAt0_B m c t hA, outsB]
    frame_out
    simp -proj only [h.in0, h.in1, h.in2, h.in3, h.in4, h.in5, h.in6, h.in7, h.in8, h.in9, h.in10, h.in11, ld_f32, ld_bf16, zero_add,
      pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]

/-- The gates' gradients. -/
theorem comp14 (h : Given P m c) (t : Fin cfg0.N) : (outsAt0 m c t.val t.isLt).2.2.1 = up S256x3072 (dgp (P.rows t.val)) := by
  by_cases hA : t.val % 32 = 0
  · rw [outsAt0_A m c t hA, outsA]
    frame_out
    simp -proj only [h.in0, h.in1, h.in2, h.in3, h.in4, h.in5, h.in6, h.in7, h.in8, h.in9, h.in10, h.in11, ld_f32, ld_bf16, zero_add,
      canon3_bf16 (m := 256), pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]
    rfl
  · rw [outsAt0_B m c t hA, outsB]
    frame_out
    simp -proj only [h.in0, h.in1, h.in2, h.in3, h.in4, h.in5, h.in6, h.in7, h.in8, h.in9, h.in10, h.in11, ld_f32, ld_bf16, zero_add,
      canon3_bf16 (m := 256), pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]
    rfl

/-- The gradient by the convolution branch. -/
theorem comp15 (h : Given P m c) (t : Fin cfg0.N) : (outsAt0 m c t.val t.isLt).2.2.2.1 = up S256x1024 (dya (P.rows t.val)) := by
  by_cases hA : t.val % 32 = 0
  · rw [outsAt0_A m c t hA, outsA]
    frame_out
    simp -proj only [h.in0, h.in1, h.in2, h.in3, h.in4, h.in5, h.in6, h.in7, h.in8, h.in9, h.in10, h.in11, ld_f32, ld_bf16, zero_add,
      pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]
  · rw [outsAt0_B m c t hA, outsB]
    frame_out
    simp -proj only [h.in0, h.in1, h.in2, h.in3, h.in4, h.in5, h.in6, h.in7, h.in8, h.in9, h.in10, h.in11, ld_f32, ld_bf16, zero_add,
      pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]

/-- The gradient by the cross-attention branch. -/
theorem comp16 (h : Given P m c) (t : Fin cfg0.N) : (outsAt0 m c t.val t.isLt).2.2.2.2.1 = up S256x1024 (dyc (P.rows t.val)) := by
  by_cases hA : t.val % 32 = 0
  · rw [outsAt0_A m c t hA, outsA]
    frame_out
    simp -proj only [h.in0, h.in1, h.in2, h.in3, h.in4, h.in5, h.in6, h.in7, h.in8, h.in9, h.in10, h.in11, ld_f32, ld_bf16, zero_add,
      pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]
  · rw [outsAt0_B m c t hA, outsB]
    frame_out
    simp -proj only [h.in0, h.in1, h.in2, h.in3, h.in4, h.in5, h.in6, h.in7, h.in8, h.in9, h.in10, h.in11, ld_f32, ld_bf16, zero_add,
      pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]

/-- The gradients by the gated unit's halves. -/
theorem comp17 (h : Given P m c) (t : Fin cfg0.N) : (outsAt0 m c t.val t.isLt).2.2.2.2.2.1 = up S256x2048 (dglu (P.rows t.val)) := by
  by_cases hA : t.val % 32 = 0
  · rw [outsAt0_A m c t hA, outsA]
    frame_out
    simp -proj only [h.in0, h.in1, h.in2, h.in3, h.in4, h.in5, h.in6, h.in7, h.in8, h.in9, h.in10, h.in11, ld_f32, ld_bf16, zero_add,
      canon2_bf16 (m := 256), pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]
    rfl
  · rw [outsAt0_B m c t hA, outsB]
    frame_out
    simp -proj only [h.in0, h.in1, h.in2, h.in3, h.in4, h.in5, h.in6, h.in7, h.in8, h.in9, h.in10, h.in11, ld_f32, ld_bf16, zero_add,
      canon2_bf16 (m := 256), pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]
    rfl

/-- The gradient by the activation's argument. -/
theorem comp18 (h : Given P m c) (t : Fin cfg0.N) : (outsAt0 m c t.val t.isLt).2.2.2.2.2.2.1 = up S256x512 (dy (P.rows t.val)) := by
  by_cases hA : t.val % 32 = 0
  · rw [outsAt0_A m c t hA, outsA]
    frame_out
    simp -proj only [h.in0, h.in1, h.in2, h.in3, h.in4, h.in5, h.in6, h.in7, h.in8, h.in9, h.in10, h.in11, ld_f32, ld_bf16, zero_add,
      pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]
  · rw [outsAt0_B m c t hA, outsB]
    frame_out
    simp -proj only [h.in0, h.in1, h.in2, h.in3, h.in4, h.in5, h.in6, h.in7, h.in8, h.in9, h.in10, h.in11, ld_f32, ld_bf16, zero_add,
      pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]

/-- The gradient by the norm's scale: the first block of rows. -/
theorem comp19A (h : Given P m c) (t : Fin cfg0.N) (hA : t.val % 32 = 0) :
    (outsAt0 m c t.val t.isLt).2.2.2.2.2.2.2.1 = up S1x1024 fun r c => 0 + ∑ r ∈ range 256, (P.rows t.val).dx r c * xhat (P.rows t.val) r c := by
  rw [outsAt0_A m c t hA, outsA]
  frame_out
  simp -proj only [h.in0, h.in1, h.in2, h.in3, h.in4, h.in5, h.in6, h.in7, h.in8, h.in9, h.in10, h.in11, ld_f32, ld_bf16, zero_add,
    pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]

/-- The gradient by the norm's scale: a later block of rows, added to what the blocks before it left. -/
theorem comp19B {s : ℕ → ℕ → ℝ} (h : Given P m c) (t : Fin cfg0.N) (hA : ¬t.val % 32 = 0)
    (hs : (outsAt0 m c (t.val - 1) (Nat.lt_of_le_of_lt (Nat.sub_le _ _) t.isLt)).2.2.2.2.2.2.2.1 = up S1x1024 s) :
    (outsAt0 m c t.val t.isLt).2.2.2.2.2.2.2.1 = up S1x1024 fun r c => s r c + ∑ r ∈ range 256, (P.rows t.val).dx r c * xhat (P.rows t.val) r c := by
  rw [outsAt0_B m c t hA, outsB]
  frame_out
  simp -proj only [hs, h.in0, h.in1, h.in2, h.in3, h.in4, h.in5, h.in6, h.in7, h.in8, h.in9, h.in10, h.in11, ld_f32, ld_bf16, zero_add,
    pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]

/-- The gradient by the norm's shift: the first block of rows. -/
theorem comp20A (h : Given P m c) (t : Fin cfg0.N) (hA : t.val % 32 = 0) :
    (outsAt0 m c t.val t.isLt).2.2.2.2.2.2.2.2.1 = up S1x1024 fun r c => 0 + ∑ r ∈ range 256, (P.rows t.val).dx r c := by
  rw [outsAt0_A m c t hA, outsA]
  frame_out
  simp -proj only [h.in0, h.in1, h.in2, h.in3, h.in4, h.in5, h.in6, h.in7, h.in8, h.in9, h.in10, h.in11, ld_f32, ld_bf16, zero_add,
    pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]

/-- The gradient by the norm's shift: a later block of rows, added to what the blocks before it left. -/
theorem comp20B {s : ℕ → ℕ → ℝ} (h : Given P m c) (t : Fin cfg0.N) (hA : ¬t.val % 32 = 0)
    (hs : (outsAt0 m c (t.val - 1) (Nat.lt_of_le_of_lt (Nat.sub_le _ _) t.isLt)).2.2.2.2.2.2.2.2.1 = up S1x1024 s) :
    (outsAt0 m c t.val t.isLt).2.2.2.2.2.2.2.2.1 = up S1x1024 fun r c => s r c + ∑ r ∈ range 256, (P.rows t.val).dx r c := by
  rw [outsAt0_B m c t hA, outsB]
  frame_out
  simp -proj only [hs, h.in0, h.in1, h.in2, h.in3, h.in4, h.in5, h.in6, h.in7, h.in8, h.in9, h.in10, h.in11, ld_f32, ld_bf16, zero_add,
    pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]

/-- The gradient by the gates' bias: the first block of rows. -/
theorem comp21A (h : Given P m c) (t : Fin cfg0.N) (hA : t.val % 32 = 0) :
    (outsAt0 m c t.val t.isLt).2.2.2.2.2.2.2.2.2 = up S1x3072 fun r c => 0 + ∑ r ∈ range 256, dgp (P.rows t.val) r c := by
  have s01 := fun v ip w L io => skip3 (p := 0) (o := 1024) v ip w L io rfl
  have s02 := fun v ip w L io => skip3 (p := 0) (o := 2048) v ip w L io rfl
  have s12 := fun v ip w L io => skip3 (p := 1024) (o := 2048) v ip w L io rfl
  rw [outsAt0_A m c t hA, outsA]
  frame_out
  simp -proj only [s01, s02, s12, fill3, canon3_f32 (m := 1), h.in0, h.in1, h.in2, h.in3, h.in4, h.in5, h.in6, h.in7, h.in8, h.in9, h.in10, h.in11, ld_f32, ld_bf16, zero_add,
    pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]
  exact up_congr2 fun _ _ c _ => sum_dgp _ c

/-- The gradient by the gates' bias: a later block of rows, added to what the blocks before it left. -/
theorem comp21B {s : ℕ → ℕ → ℝ} (h : Given P m c) (t : Fin cfg0.N) (hA : ¬t.val % 32 = 0)
    (hs : (outsAt0 m c (t.val - 1) (Nat.lt_of_le_of_lt (Nat.sub_le _ _) t.isLt)).2.2.2.2.2.2.2.2.2 = up S1x3072 s) :
    (outsAt0 m c t.val t.isLt).2.2.2.2.2.2.2.2.2 = up S1x3072 fun r c => s r c + ∑ r ∈ range 256, dgp (P.rows t.val) r c := by
  rw [outsAt0_B m c t hA, outsB]
  frame_out
  simp -proj only [hs, canon3_f32 (m := 1), h.in0, h.in1, h.in2, h.in3, h.in4, h.in5, h.in6, h.in7, h.in8, h.in9, h.in10, h.in11, ld_f32, ld_bf16, zero_add,
    pay1, pay2, pay3, pay4, pay5, pay6, pay7, pay8, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40]
  exact up_congr2 fun r _ c _ => add_dgp _ s r c

end Cert.MidBlock

end
-- ==== Proof.MidOut.lean ====
/-
  The middle backward call's whole output arrays over the real numbers: the tiled ones put together of their blocks, the
  accumulated ones summed over all rows.
-/
module

public import proofs.«01_k».proof.Proof.MidComp

@[expose] public section

set_option maxRecDepth 16384

noncomputable section

namespace Cert.MidBlock

open Idealize.ShloMosaic Idealize.ShloMosaic.TcCoe Cert.Lift Cert.MidSpec Cert.Kernel3Ideal Cert.Kernel3Ideal.Gen Finset
open Cert.Spec (sum_rows)

variable {m : (ℓ : Loc nD τ sig) → Buf (Elt Ideal) ℓ} {c : Dev nD} {P : Args}

/-- The gradient by the block input. -/
theorem out12 (h : Given P m c) : (dats m 0 c).arrAt 12 cfg0.N = up S8192x1024 (fun r c => Cert.Spec.alpha * dr P r c) := by
  refine (dats m 0 c).arrAt_eq_of_covers 12 (up S8192x1024 (fun r c => Cert.Spec.alpha * dr P r c)) (by decide +kernel) fun t _ y => ?_
  refine (congrFun ((after0_12 m c t).trans (comp12 h t)) _).trans ?_
  refine congrArg (fun x : ℝ => (x : EReal)) (congrArg₂ (fun r c => Cert.Spec.alpha * dr P r c) ?_ ?_)
  · show 256 * t.val + (y 0).val = (((cfg0.win 12).blk t).view.emb y 0).val
    blk_simp [index12 t]
    try omega
  · show (y 1).val = (((cfg0.win 12).blk t).view.emb y 1).val
    blk_simp [index12 t]
    try omega

/-- The gradient by the residual sum, transposed. -/
theorem out13 (h : Given P m c) : (dats m 0 c).arrAt 13 cfg0.N = up S1024x8192 (fun c r => dr P r c) := by
  refine (dats m 0 c).arrAt_eq_of_covers 13 (up S1024x8192 (fun c r => dr P r c)) (by decide +kernel) fun t _ y => ?_
  refine (congrFun ((after0_13 m c t).trans (comp13 h t)) _).trans ?_
  refine congrArg (fun x : ℝ => (x : EReal)) (congrArg₂ (fun c r => dr P r c) ?_ ?_)
  · show (y 0).val = (((cfg0.win 13).blk t).view.emb y 0).val
    blk_simp [index13 t]
    try omega
  · show 256 * t.val + (y 1).val = (((cfg0.win 13).blk t).view.emb y 1).val
    blk_simp [index13 t]
    try omega

/-- The gates' gradients. -/
theorem out14 (h : Given P m c) : (dats m 0 c).arrAt 14 cfg0.N = up S8192x3072 (dgp P) := by
  refine (dats m 0 c).arrAt_eq_of_covers 14 (up S8192x3072 (dgp P)) (by decide +kernel) fun t _ y => ?_
  refine (congrFun ((after0_14 m c t).trans (comp14 h t)) _).trans ?_
  refine congrArg (fun x : ℝ => (x : EReal)) (congrArg₂ (dgp P) ?_ ?_)
  · show 256 * t.val + (y 0).val = (((cfg0.win 14).blk t).view.emb y 0).val
    blk_simp [index14 t]
    try omega
  · show (y 1).val = (((cfg0.win 14).blk t).view.emb y 1).val
    blk_simp [index14 t]
    try omega

/-- The gradient by the convolution branch. -/
theorem out15 (h : Given P m c) : (dats m 0 c).arrAt 15 cfg0.N = up S8192x1024 (dya P) := by
  refine (dats m 0 c).arrAt_eq_of_covers 15 (up S8192x1024 (dya P)) (by decide +kernel) fun t _ y => ?_
  refine (congrFun ((after0_15 m c t).trans (comp15 h t)) _).trans ?_
  refine congrArg (fun x : ℝ => (x : EReal)) (congrArg₂ (dya P) ?_ ?_)
  · show 256 * t.val + (y 0).val = (((cfg0.win 15).blk t).view.emb y 0).val
    blk_simp [index15 t]
    try omega
  · show (y 1).val = (((cfg0.win 15).blk t).view.emb y 1).val
    blk_simp [index15 t]
    try omega

/-- The gradient by the cross-attention branch. -/
theorem out16 (h : Given P m c) : (dats m 0 c).arrAt 16 cfg0.N = up S8192x1024 (dyc P) := by
  refine (dats m 0 c).arrAt_eq_of_covers 16 (up S8192x1024 (dyc P)) (by decide +kernel) fun t _ y => ?_
  refine (congrFun ((after0_16 m c t).trans (comp16 h t)) _).trans ?_
  refine congrArg (fun x : ℝ => (x : EReal)) (congrArg₂ (dyc P) ?_ ?_)
  · show 256 * t.val + (y 0).val = (((cfg0.win 16).blk t).view.emb y 0).val
    blk_simp [index16 t]
    try omega
  · show (y 1).val = (((cfg0.win 16).blk t).view.emb y 1).val
    blk_simp [index16 t]
    try omega

/-- The gradients by the gated unit's halves. -/
theorem out17 (h : Given P m c) : (dats m 0 c).arrAt 17 cfg0.N = up S8192x2048 (dglu P) := by
  refine (dats m 0 c).arrAt_eq_of_covers 17 (up S8192x2048 (dglu P)) (by decide +kernel) fun t _ y => ?_
  refine (congrFun ((after0_17 m c t).trans (comp17 h t)) _).trans ?_
  refine congrArg (fun x : ℝ => (x : EReal)) (congrArg₂ (dglu P) ?_ ?_)
  · show 256 * t.val + (y 0).val = (((cfg0.win 17).blk t).view.emb y 0).val
    blk_simp [index17 t]
    try omega
  · show (y 1).val = (((cfg0.win 17).blk t).view.emb y 1).val
    blk_simp [index17 t]
    try omega

/-- The gradient by the activation's argument. -/
theorem out18 (h : Given P m c) : (dats m 0 c).arrAt 18 cfg0.N = up S8192x512 (dy P) := by
  refine (dats m 0 c).arrAt_eq_of_covers 18 (up S8192x512 (dy P)) (by decide +kernel) fun t _ y => ?_
  refine (congrFun ((after0_18 m c t).trans (comp18 h t)) _).trans ?_
  refine congrArg (fun x : ℝ => (x : EReal)) (congrArg₂ (dy P) ?_ ?_)
  · show 256 * t.val + (y 0).val = (((cfg0.win 18).blk t).view.emb y 0).val
    blk_simp [index18 t]
    try omega
  · show (y 1).val = (((cfg0.win 18).blk t).view.emb y 1).val
    blk_simp [index18 t]
    try omega

/-- What an accumulated array holds after a point: the sum of the contributions up to it. -/
theorem accum {S : Shape} (g : (n : ℕ) → n < cfg0.N → S.Idx → EReal) (f : ℕ → ℕ → ℕ → ℝ) (lift : (ℕ → ℕ → ℝ) → S.Idx → EReal)
    (hA : ∀ t : Fin cfg0.N, t.val % 32 = 0 → g t.val t.isLt = lift fun r c => 0 + f t.val r c)
    (hB : ∀ (t : Fin cfg0.N) (s : ℕ → ℕ → ℝ), ¬t.val % 32 = 0 →
      g (t.val - 1) (Nat.lt_of_le_of_lt (Nat.sub_le _ _) t.isLt) = lift s → g t.val t.isLt = lift fun r c => s r c + f t.val r c) :
    ∀ (n : ℕ) (hn : n < cfg0.N), g n hn = lift fun r c => ∑ t ∈ range (n + 1), f t r c
  | 0, hn => (hA ⟨0, hn⟩ rfl).trans (congrArg lift (by funext r c; rw [zero_add, zero_add, sum_range_one]))
  | n + 1, hn => by
    have h32 : n + 1 < 32 := lt_of_lt_of_eq hn (show cfg0.N = 32 from N_0)
    have ih := accum g f lift hA hB n (by omega)
    exact (hB ⟨n + 1, hn⟩ _ (show ¬(n + 1) % 32 = 0 by omega) ih).trans
      (congrArg lift (by funext r c; rw [sum_range_succ _ (n + 1)]))

/-- The gradient by the norm's scale. -/
theorem out19 (h : Given P m c) : (dats m 0 c).arrAt 19 cfg0.N = up S1x1024 (fun _ c => ∑ r ∈ range 8192, P.dx r c * xhat P r c) := by
  have e : (outsAt0 m c 31 (by decide)).2.2.2.2.2.2.2.1 = up S1x1024 (fun _ c => ∑ r ∈ range 8192, P.dx r c * xhat P r c) := by
    refine (accum (fun n hn => (outsAt0 m c n hn).2.2.2.2.2.2.2.1) (fun t _ c => ∑ r ∈ range 256, (P.rows t).dx r c * xhat (P.rows t) r c) (up S1x1024)
      (fun t hA => comp19A h t hA) (fun t s hB hs => comp19B h t hB hs) 31 (by decide)).trans (congrArg (up S1x1024) ?_)
    funext _ c
    exact sum_rows (fun r => P.dx r c * xhat P r c) 32
  refine Pipeline.Dat.arrAt_eq_of_after_last (dats m 0 c) 19 ⟨31, by decide⟩ (by decide +kernel) (up S1x1024 (fun _ c => ∑ r ∈ range 8192, P.dx r c * xhat P r c)) fun j => ?_
  refine (congrFun ((after0_19 m c ⟨31, by decide⟩).trans e) _).trans ?_
  rfl

/-- The gradient by the norm's shift. -/
theorem out20 (h : Given P m c) : (dats m 0 c).arrAt 20 cfg0.N = up S1x1024 (fun _ c => ∑ r ∈ range 8192, P.dx r c) := by
  have e : (outsAt0 m c 31 (by decide)).2.2.2.2.2.2.2.2.1 = up S1x1024 (fun _ c => ∑ r ∈ range 8192, P.dx r c) := by
    refine (accum (fun n hn => (outsAt0 m c n hn).2.2.2.2.2.2.2.2.1) (fun t _ c => ∑ r ∈ range 256, (P.rows t).dx r c) (up S1x1024)
      (fun t hA => comp20A h t hA) (fun t s hB hs => comp20B h t hB hs) 31 (by decide)).trans (congrArg (up S1x1024) ?_)
    funext _ c
    exact sum_rows (fun r => P.dx r c) 32
  refine Pipeline.Dat.arrAt_eq_of_after_last (dats m 0 c) 20 ⟨31, by decide⟩ (by decide +kernel) (up S1x1024 (fun _ c => ∑ r ∈ range 8192, P.dx r c)) fun j => ?_
  refine (congrFun ((after0_20 m c ⟨31, by decide⟩).trans e) _).trans ?_
  rfl

/-- The gradient by the gates' bias. -/
theorem out21 (h : Given P m c) : (dats m 0 c).arrAt 21 cfg0.N = up S1x3072 (fun _ c => ∑ r ∈ range 8192, dgp P r c) := by
  have e : (outsAt0 m c 31 (by decide)).2.2.2.2.2.2.2.2.2 = up S1x3072 (fun _ c => ∑ r ∈ range 8192, dgp P r c) := by
    refine (accum (fun n hn => (outsAt0 m c n hn).2.2.2.2.2.2.2.2.2) (fun t _ c => ∑ r ∈ range 256, dgp (P.rows t) r c) (up S1x3072)
      (fun t hA => comp21A h t hA) (fun t s hB hs => comp21B h t hB hs) 31 (by decide)).trans (congrArg (up S1x3072) ?_)
    funext _ c
    exact sum_rows (fun r => dgp P r c) 32
  refine Pipeline.Dat.arrAt_eq_of_after_last (dats m 0 c) 21 ⟨31, by decide⟩ (by decide +kernel) (up S1x3072 (fun _ c => ∑ r ∈ range 8192, dgp P r c)) fun j => ?_
  refine (congrFun ((after0_21 m c ⟨31, by decide⟩).trans e) _).trans ?_
  rfl

end Cert.MidBlock

end
-- ==== Proof.MidValue.lean ====
/-
  The middle backward call's run at the ideal values, with each output array named.
-/
module

public import proofs.«01_k».proof.Proof.MidFrame
public import Idealize.ShloMosaic.Lib.Pipeline.Value

@[expose] public section

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

theorem post12 (r : PUnit × MemSt nD τ sig (Elt F)) (h : Pipeline.FramePost cfgs (dats m) 0 (V m) r) (c : Dev nD) :
    r.2.mem ((c : Thread nD τ).loc main_v74_0) = (dats m 0 c).arrAt 12 cfg0.N :=
  (h c).1 12
theorem post13 (r : PUnit × MemSt nD τ sig (Elt F)) (h : Pipeline.FramePost cfgs (dats m) 0 (V m) r) (c : Dev nD) :
    r.2.mem ((c : Thread nD τ).loc main_v74_1) = (dats m 0 c).arrAt 13 cfg0.N :=
  (h c).1 13
theorem post14 (r : PUnit × MemSt nD τ sig (Elt F)) (h : Pipeline.FramePost cfgs (dats m) 0 (V m) r) (c : Dev nD) :
    r.2.mem ((c : Thread nD τ).loc main_v74_2) = (dats m 0 c).arrAt 14 cfg0.N :=
  (h c).1 14
theorem post15 (r : PUnit × MemSt nD τ sig (Elt F)) (h : Pipeline.FramePost cfgs (dats m) 0 (V m) r) (c : Dev nD) :
    r.2.mem ((c : Thread nD τ).loc main_v74_3) = (dats m 0 c).arrAt 15 cfg0.N :=
  (h c).1 15
theorem post16 (r : PUnit × MemSt nD τ sig (Elt F)) (h : Pipeline.FramePost cfgs (dats m) 0 (V m) r) (c : Dev nD) :
    r.2.mem ((c : Thread nD τ).loc main_v74_4) = (dats m 0 c).arrAt 16 cfg0.N :=
  (h c).1 16
theorem post17 (r : PUnit × MemSt nD τ sig (Elt F)) (h : Pipeline.FramePost cfgs (dats m) 0 (V m) r) (c : Dev nD) :
    r.2.mem ((c : Thread nD τ).loc main_v74_5) = (dats m 0 c).arrAt 17 cfg0.N :=
  (h c).1 17
theorem post18 (r : PUnit × MemSt nD τ sig (Elt F)) (h : Pipeline.FramePost cfgs (dats m) 0 (V m) r) (c : Dev nD) :
    r.2.mem ((c : Thread nD τ).loc main_v74_6) = (dats m 0 c).arrAt 18 cfg0.N :=
  (h c).1 18
theorem post19 (r : PUnit × MemSt nD τ sig (Elt F)) (h : Pipeline.FramePost cfgs (dats m) 0 (V m) r) (c : Dev nD) :
    r.2.mem ((c : Thread nD τ).loc main_v74_7) = (dats m 0 c).arrAt 19 cfg0.N :=
  (h c).1 19
theorem post20 (r : PUnit × MemSt nD τ sig (Elt F)) (h : Pipeline.FramePost cfgs (dats m) 0 (V m) r) (c : Dev nD) :
    r.2.mem ((c : Thread nD τ).loc main_v74_8) = (dats m 0 c).arrAt 20 cfg0.N :=
  (h c).1 20
theorem post21 (r : PUnit × MemSt nD τ sig (Elt F)) (h : Pipeline.FramePost cfgs (dats m) 0 (V m) r) (c : Dev nD) :
    r.2.mem ((c : Thread nD τ).loc main_v74_9) = (dats m 0 c).arrAt 21 cfg0.N :=
  (h c).1 21
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 6).trans (((dats m 0 c).arrAt_in 6 rfl _).trans ((A_eq m c 6).trans (V_main_arg5 m c)))
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

set_option maxHeartbeats 331560 in
/-- The run with each output array named, the arguments unchanged. -/
theorem run_blocks : θ_run defs (onTc (τ := τ) (main (F := F))) ⟨m, fun _ => 0, ρ⟩ fun r => ∀ c : Dev nD,
      r.2.mem ((c : Thread nD τ).loc main_v74_0) = (dats m 0 c).arrAt 12 cfg0.N
      ∧ r.2.mem ((c : Thread nD τ).loc main_v74_1) = (dats m 0 c).arrAt 13 cfg0.N
      ∧ r.2.mem ((c : Thread nD τ).loc main_v74_2) = (dats m 0 c).arrAt 14 cfg0.N
      ∧ r.2.mem ((c : Thread nD τ).loc main_v74_3) = (dats m 0 c).arrAt 15 cfg0.N
      ∧ r.2.mem ((c : Thread nD τ).loc main_v74_4) = (dats m 0 c).arrAt 16 cfg0.N
      ∧ r.2.mem ((c : Thread nD τ).loc main_v74_5) = (dats m 0 c).arrAt 17 cfg0.N
      ∧ r.2.mem ((c : Thread nD τ).loc main_v74_6) = (dats m 0 c).arrAt 18 cfg0.N
      ∧ r.2.mem ((c : Thread nD τ).loc main_v74_7) = (dats m 0 c).arrAt 19 cfg0.N
      ∧ r.2.mem ((c : Thread nD τ).loc main_v74_8) = (dats m 0 c).arrAt 20 cfg0.N
      ∧ r.2.mem ((c : Thread nD τ).loc main_v74_9) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post12 m r h c,
      post13 m r h c,
      post14 m r h c,
      post15 m r h c,
      post16 m r h c,
      post17 m r h c,
      post18 m r h c,
      post19 m r h c,
      post20 m r h c,
      post21 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c⟩)
    (run_main m ρ)

end Cert.Kernel3Ideal.Value

end
-- ==== Proof.MidRef.lean ====
/-
  The middle backward call's reference at the ideal values, stage by stage, each as the call's quantity over the real numbers.
-/
module

public import proofs.«01_k».proof.Proof.MidSpec
public import proofs.«01_k».proof.Proof.Gen.Reference3Ideal.Read

@[expose] public section

set_option maxRecDepth 16384

noncomputable section

namespace Cert.MidRef

open Idealize.ShloMosaic Cert.Lift Cert.MidSpec Cert.Reference3Ideal Cert.Reference3Ideal.Read Finset
open Cert.Spec (alpha eps eps_pos norm_grad)

theorem rows_1024 : S8192x1024.Reduces [1] S8192 := by decide
theorem cols_1024 : S8192x1024.Reduces [0] S1024 := by decide
theorem cols_3072 : S8192x3072.Reduces [0] S3072 := by decide
theorem rows_one : S8192x1.Reduces [1] S8192 := by decide

section
variable {φ₁ φ₂ : FTy} (f g : ℕ → ℕ → ℝ)

theorem sum_r (z : ℕ → ℕ → ℝ) {φ : FTy} (h : S8192x1024.ReducesTo [1] S8192) (hu : 0 < S_.numel) : Host.reduceAdd (F := Ideal) (φ := φ) (up S8192x1024 f) (up S_ z) h hu
    = up S8192 (fun r _ => z 0 0 + ∑ k ∈ range 1024, f r k) := host_sum_rows f z _ rows_1024 _
theorem sum_one (z : ℕ → ℕ → ℝ) {φ : FTy} (h : S8192x1.ReducesTo [1] S8192) (hu : 0 < S_.numel) : Host.reduceAdd (F := Ideal) (φ := φ) (up S8192x1 f) (up S_ z) h hu
    = up S8192 (fun r _ => z 0 0 + f r 0) := by
  refine (host_sum_rows f z _ rows_one _).trans ?_
  simp only [sum_range_one]
theorem sum_c (z : ℕ → ℕ → ℝ) {φ : FTy} (h : S8192x1024.ReducesTo [0] S1024) (hu : 0 < S_.numel) : Host.reduceAdd (F := Ideal) (φ := φ) (up S8192x1024 f) (up S_ z) h hu
    = up S1024 (fun c _ => z 0 0 + ∑ k ∈ range 8192, f k c) := host_sum_cols f z _ cols_1024 _
theorem sum_k (z : ℕ → ℕ → ℝ) {φ : FTy} (h : S8192x3072.ReducesTo [0] S3072) (hu : 0 < S_.numel) : Host.reduceAdd (F := Ideal) (φ := φ) (up S8192x3072 f) (up S_ z) h hu
    = up S3072 (fun c _ => z 0 0 + ∑ k ∈ range 8192, f k c) := host_sum_cols f z _ cols_3072 _

theorem dot_x : Host.dotGeneral (F := Ideal) (φ₁ := φ₁) (φ₂ := φ₂) dot_S8192x512_S512x1024_S8192x1024_1_0_0_1_n_n none (up S8192x512 f) (up S512x1024 g)
    = up S8192x1024 (fun r c => 0 + ∑ k ∈ range 512, f r k * g k c) := by
  rw [dotGeneral_eq_matmul]; exact matmul_up (M := 8192) (K := 512) (N := 1024) f g _ none
theorem dot_g : Host.dotGeneral (F := Ideal) (φ₁ := φ₁) (φ₂ := φ₂) dot_S8192x512_S512x2048_S8192x2048_1_0_0_1_n_n none (up S8192x512 f) (up S512x2048 g)
    = up S8192x2048 (fun r c => 0 + ∑ k ∈ range 512, f r k * g k c) := by
  rw [dotGeneral_eq_matmul]; exact matmul_up (M := 8192) (K := 512) (N := 2048) f g _ none
theorem dot_o : Host.dotGeneral (F := Ideal) (φ₁ := φ₁) (φ₂ := φ₂) dot_S8192x1024_S1024x1024_S8192x1024_1_0_0_1_n_n none (up S8192x1024 f) (up S1024x1024 g)
    = up S8192x1024 (fun r c => 0 + ∑ k ∈ range 1024, f r k * g k c) := by
  rw [dotGeneral_eq_matmul]; exact matmul_up (M := 8192) (K := 1024) (N := 1024) f g _ none
theorem dot_t : Host.dotGeneral (F := Ideal) (φ₁ := φ₁) (φ₂ := φ₂) dot_S8192x1024_S1024x1024_S8192x1024_1_1_0_0_n_n none (up S8192x1024 f) (up S1024x1024 g)
    = up S8192x1024 (fun r c => 0 + ∑ k ∈ range 1024, f r k * g c k) := by
  rw [dotGeneral_eq_matmul]; exact matmulT_up (M := 8192) (K := 1024) (N := 1024) f g _ none
theorem dot_y : Host.dotGeneral (F := Ideal) (φ₁ := φ₁) (φ₂ := φ₂) dot_S8192x2048_S512x2048_S8192x512_1_1_0_0_n_n none (up S8192x2048 f) (up S512x2048 g)
    = up S8192x512 (fun r c => 0 + ∑ k ∈ range 2048, f r k * g c k) := by
  rw [dotGeneral_eq_matmul]; exact matmulT_up (M := 8192) (K := 2048) (N := 512) f g _ none
theorem cut3_0 (h : S8192x3072.Slices ![0, 0] S8192x1024) :
    extractStridedSlice S8192x1024 ![0, 0] (up S8192x3072 f) h = up S8192x1024 f := by
  refine (extract_up (m := 8192) (n := 3072) (m' := 8192) (n' := 1024) f h).trans ?_
  simp only [zero_add]
theorem cut3_1 (h : S8192x3072.Slices ![0, 1024] S8192x1024) :
    extractStridedSlice S8192x1024 ![0, 1024] (up S8192x3072 f) h = up S8192x1024 (fun r c => f r (1024 + c)) := by
  refine (extract_up (m := 8192) (n := 3072) (m' := 8192) (n' := 1024) f h).trans ?_
  simp only [zero_add]
theorem cut3_2 (h : S8192x3072.Slices ![0, 2048] S8192x1024) :
    extractStridedSlice S8192x1024 ![0, 2048] (up S8192x3072 f) h = up S8192x1024 (fun r c => f r (2048 + c)) := by
  refine (extract_up (m := 8192) (n := 3072) (m' := 8192) (n' := 1024) f h).trans ?_
  simp only [zero_add]
theorem cut2_0 (h : S8192x2048.Slices ![0, 0] S8192x1024) :
    extractStridedSlice S8192x1024 ![0, 0] (up S8192x2048 f) h = up S8192x1024 f := by
  refine (extract_up (m := 8192) (n := 2048) (m' := 8192) (n' := 1024) f h).trans ?_
  simp only [zero_add]
theorem cut2_1 (h : S8192x2048.Slices ![0, 1024] S8192x1024) :
    extractStridedSlice S8192x1024 ![0, 1024] (up S8192x2048 f) h = up S8192x1024 (fun r c => f r (1024 + c)) := by
  refine (extract_up (m := 8192) (n := 2048) (m' := 8192) (n' := 1024) f h).trans ?_
  simp only [zero_add]
theorem side2 (h : Shape.Concatenates [S8192x1024, S8192x1024] S8192x2048 1) :
    concatenate S8192x2048 1 [⟨S8192x1024, up S8192x1024 f⟩, ⟨S8192x1024, up S8192x1024 g⟩] h
      = up S8192x2048 (fun r c => if c < 1024 then f r c else g r (c - 1024)) :=
  concat_up (m := 8192) (n₁ := 1024) (n₂ := 1024) (n := 2048) f g rfl h
theorem side3 (k : ℕ → ℕ → ℝ) (h : Shape.Concatenates [S8192x1024, S8192x1024, S8192x1024] S8192x3072 1) :
    concatenate S8192x3072 1 [⟨S8192x1024, up S8192x1024 f⟩, ⟨S8192x1024, up S8192x1024 g⟩, ⟨S8192x1024, up S8192x1024 k⟩] h
      = up S8192x3072 (fun r c => if c < 1024 then f r c else if c < 2048 then g r (c - 1024) else k r (c - 2048)) :=
  concat3_up (m := 8192) f g k h
end

variable (P : Args)

/-- The gates. -/
theorem stage_12 : val_main_v12 (F := Ideal) (up S8192x3072 P.gp) (up S1x3072 P.bg)
    = up S8192x3072 (gates P) := by
  simp only [val_main_v12, val_main_v11, val_main_v10, val_main_v9, val_main_v8, val_main_v7, val_main_v6, val_main_v5, val_main_cst_4, val_main_cst_5, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, bcast_row (m := 8192) (n := 3072) _ (by decide)]
  rfl
/-- Their derivative. -/
theorem stage_15 : val_main_v15 (F := Ideal) (up S8192x3072 P.gp) (up S1x3072 P.bg)
    = up S8192x3072 (fun r c => gates P r c * (1 - gates P r c)) := by
  simp only [val_main_v15, val_main_v14, val_main_v13, val_main_cst_6, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_12]
theorem stage_16 : val_main_v16 (F := Ideal) (up S8192x3072 P.gp) (up S1x3072 P.bg)
    = up S8192x1024 (gates P) := by
  simp only [val_main_v16, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_12, cut3_0]
theorem stage_17 : val_main_v17 (F := Ideal) (up S8192x3072 P.gp) (up S1x3072 P.bg)
    = up S8192x1024 (fun r c => gates P r (1024 + c)) := by
  simp only [val_main_v17, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_12, cut3_1]
theorem stage_18 : val_main_v18 (F := Ideal) (up S8192x3072 P.gp) (up S1x3072 P.bg)
    = up S8192x1024 (fun r c => gates P r (2048 + c)) := by
  simp only [val_main_v18, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_12, cut3_2]
/-- The convolution branch. -/
theorem stage_20 : val_main_v20 (F := Ideal) (up S8192x512 P.ain) (up S512x1024 P.wc)
    = up S8192x1024 (ya P) := by
  simp only [val_main_v20, val_main_v19, val_main_v1, val_main_cst_0, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, dot_x]
  rfl
/-- The tanh of the activation. -/
theorem stage_32 : val_main_v32 (F := Ideal) (up S8192x512 P.y)
    = up S8192x512 (fun r k => th (P.y r k)) := by
  simp only [val_main_v32, val_main_v31, val_main_v30, val_main_v29, val_main_v28, val_main_v27, val_main_v23, val_main_v22, val_main_v21, val_main_cst_7, val_main_cst_8, val_main_cst_10, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, th_cube]
theorem stage_37 : val_main_v37 (F := Ideal) (up S8192x512 P.y)
    = up S8192x512 (fun r k => (1 + th (P.y r k)) * (1 - th (P.y r k))) := by
  simp only [val_main_v37, val_main_v36, val_main_v35, val_main_v34, val_main_v33, val_main_cst_11, val_main_cst_12, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_32]
theorem stage_41 : val_main_v41 (F := Ideal) (up S8192x512 P.y)
    = up S8192x512 (fun r k => 1 / 2 * (1 + th (P.y r k))) := by
  simp only [val_main_v41, val_main_v40, val_main_v39, val_main_v38, val_main_cst_13, val_main_cst_14, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_32]
/-- The activation. -/
theorem stage_42 : val_main_v42 (F := Ideal) (up S8192x512 P.y)
    = up S8192x512 (act P) := by
  simp only [val_main_v42, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_41, act_eq]
/-- The gated unit's two halves. -/
theorem stage_44 : val_main_v44 (F := Ideal) (up S8192x512 P.y) (up S512x2048 P.wg)
    = up S8192x2048 (glu P) := by
  simp only [val_main_v44, val_main_v43, val_main_v3, val_main_cst_2, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_42, dot_g]
  rfl
theorem stage_45 : val_main_v45 (F := Ideal) (up S8192x512 P.y) (up S512x2048 P.wg)
    = up S8192x1024 (glu P) := by
  simp only [val_main_v45, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_44, cut2_0]
theorem stage_52 : val_main_v52 (F := Ideal) (up S8192x512 P.y) (up S512x2048 P.wg)
    = up S8192x1024 (sb P) := by
  simp only [val_main_v52, val_main_v51, val_main_v50, val_main_v49, val_main_v48, val_main_v47, val_main_v46, val_main_cst_15, val_main_cst_16, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_44, cut2_1]
  rfl
theorem stage_55 : val_main_v55 (F := Ideal) (up S8192x512 P.y) (up S512x2048 P.wg)
    = up S8192x1024 (fun r c => sb P r c * (1 - sb P r c)) := by
  simp only [val_main_v55, val_main_v54, val_main_v53, val_main_cst_17, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_52]
/-- The gated unit's output. -/
theorem stage_56 : val_main_v56 (F := Ideal) (up S8192x512 P.y) (up S512x2048 P.wg)
    = up S8192x1024 (yb P) := by
  simp only [val_main_v56, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_45, stage_52]
  rfl
/-- The cross-attention branch. -/
theorem stage_58 : val_main_v58 (F := Ideal) (up S8192x512 P.ob) (up S512x1024 P.wx)
    = up S8192x1024 (yc P) := by
  simp only [val_main_v58, val_main_v57, val_main_v2, val_main_cst_1, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, dot_x]
  rfl
/-- The gated sum of the branches. -/
theorem stage_63 : val_main_v63 (F := Ideal) (up S8192x3072 P.gp) (up S8192x512 P.ain) (up S8192x512 P.ob) (up S8192x512 P.y) (up S1x3072 P.bg) (up S512x2048 P.wg) (up S512x1024 P.wc) (up S512x1024 P.wx)
    = up S8192x1024 (merged P) := by
  simp only [val_main_v63, val_main_v62, val_main_v61, val_main_v60, val_main_v59, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_16, stage_17, stage_18, stage_20, stage_56, stage_58]
  rfl
/-- The residual sum. -/
theorem stage_68 : val_main_v68 (F := Ideal) (up S8192x1024 P.x) (up S8192x3072 P.gp) (up S8192x512 P.ain) (up S8192x512 P.ob) (up S8192x512 P.y) (up S1x3072 P.bg) (up S1024x1024 P.wo) (up S512x2048 P.wg) (up S512x1024 P.wc) (up S512x1024 P.wx)
    = up S8192x1024 (res P) := by
  simp only [val_main_v68, val_main_v67, val_main_v66, val_main_v65, val_main_v64, val_main_v4, val_main_cst_18, val_main_cst_3, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_63, dot_o]
  rfl
/-- The rows' means. -/
theorem stage_72 : val_main_v72 (F := Ideal) (up S8192x1024 P.x) (up S8192x3072 P.gp) (up S8192x512 P.ain) (up S8192x512 P.ob) (up S8192x512 P.y) (up S1x3072 P.bg) (up S1024x1024 P.wo) (up S512x2048 P.wg) (up S512x1024 P.wc) (up S512x1024 P.wx)
    = up S8192x1 (fun r _ => mu P r) := by
  simp only [val_main_v72, val_main_v71, val_main_v70, val_main_v69, val_main_cst_19, val_main_cst_20, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_68, sum_r, bcast_v1 (m := 8192) _ (by decide)]
  rfl
/-- The deviations. -/
theorem stage_74 : val_main_v74 (F := Ideal) (up S8192x1024 P.x) (up S8192x3072 P.gp) (up S8192x512 P.ain) (up S8192x512 P.ob) (up S8192x512 P.y) (up S1x3072 P.bg) (up S1024x1024 P.wo) (up S512x2048 P.wg) (up S512x1024 P.wc) (up S512x1024 P.wx)
    = up S8192x1024 (dev P) := by
  simp only [val_main_v74, val_main_v73, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_68, stage_72, bcast_col (m := 8192) (n := 1024) _ (by decide)]
  rfl
theorem stage_83 : val_main_v83 (F := Ideal) (up S8192x1024 P.x) (up S8192x3072 P.gp) (up S8192x512 P.ain) (up S8192x512 P.ob) (up S8192x512 P.y) (up S1x3072 P.bg) (up S1024x1024 P.wo) (up S512x2048 P.wg) (up S512x1024 P.wc) (up S512x1024 P.wx)
    = up S8192x1024 (dev P) := by
  simp only [val_main_v83, val_main_v82, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_68, stage_72, bcast_col (m := 8192) (n := 1024) _ (by decide)]
  rfl
/-- The variances with `eps` added. -/
theorem stage_85 : val_main_v85 (F := Ideal) (up S8192x1024 P.x) (up S8192x3072 P.gp) (up S8192x512 P.ain) (up S8192x512 P.ob) (up S8192x512 P.y) (up S1x3072 P.bg) (up S1024x1024 P.wo) (up S512x2048 P.wg) (up S512x1024 P.wc) (up S512x1024 P.wx)
    = up S8192x1 (fun r _ => vare P r) := by
  simp only [val_main_v85, val_main_v84, val_main_v81, val_main_v80, val_main_v79, val_main_v78, val_main_v75, val_main_cst_22, val_main_cst_23, val_main_cst_24, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_74, sum_r, bcast_v1 (m := 8192) _ (by decide)]
  rfl
theorem stage_86 : val_main_v86 (F := Ideal) (up S8192x1024 P.x) (up S8192x3072 P.gp) (up S8192x512 P.ain) (up S8192x512 P.ob) (up S8192x512 P.y) (up S1x3072 P.bg) (up S1024x1024 P.wo) (up S512x2048 P.wg) (up S512x1024 P.wc) (up S512x1024 P.wx)
    = up S8192x1 (fun r _ => rstd P r) := by
  simp only [val_main_v86, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_85, host_rsqrt_up (S := S8192x1) (f := fun r _ => vare P r) (fun r _ => vare_pos P r)]
  rfl
/-- The normalised rows. -/
theorem stage_91 : val_main_v91 (F := Ideal) (up S8192x1024 P.x) (up S8192x3072 P.gp) (up S8192x512 P.ain) (up S8192x512 P.ob) (up S8192x512 P.y) (up S1x3072 P.bg) (up S1024x1024 P.wo) (up S512x2048 P.wg) (up S512x1024 P.wc) (up S512x1024 P.wx)
    = up S8192x1024 (xhat P) := by
  simp only [val_main_v91, val_main_v90, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_83, stage_86, bcast_col (m := 8192) (n := 1024) _ (by decide)]
  rfl
/-- The column sums of the norm's shift. -/
theorem stage_98 : val_main_v98 (F := Ideal) (up S8192x1024 P.dx)
    = up S1x1024 (fun _ c => ∑ r ∈ range 8192, P.dx r c) := by
  simp only [val_main_v98, val_main_v97, val_main_cst_26, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, sum_c, shapeCast_row (n := 1024)]
/-- … and of its scale. -/
theorem stage_101 : val_main_v101 (F := Ideal) (up S8192x1024 P.dx) (up S8192x1024 P.x) (up S8192x3072 P.gp) (up S8192x512 P.ain) (up S8192x512 P.ob) (up S8192x512 P.y) (up S1x3072 P.bg) (up S1024x1024 P.wo) (up S512x2048 P.wg) (up S512x1024 P.wc) (up S512x1024 P.wx)
    = up S1x1024 (fun _ c => ∑ r ∈ range 8192, P.dx r c * xhat P r c) := by
  simp only [val_main_v101, val_main_v100, val_main_v99, val_main_v96, val_main_cst_27, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_91, sum_c, shapeCast_row (n := 1024), mul_comm (xhat P _ _)]
/-- The gradient by the normalised row. -/
theorem stage_103 : val_main_v103 (F := Ideal) (up S8192x1024 P.dx) (up S1x1024 P.lg)
    = up S8192x1024 (ct P) := by
  simp only [val_main_v103, val_main_v102, val_main_v96, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, bcast_row (m := 8192) (n := 1024) _ (by decide)]
  rfl
theorem stage_89 : val_main_v89 (F := Ideal) (up S8192x1024 P.x) (up S8192x3072 P.gp) (up S8192x512 P.ain) (up S8192x512 P.ob) (up S8192x512 P.y) (up S1x3072 P.bg) (up S1024x1024 P.wo) (up S512x2048 P.wg) (up S512x1024 P.wc) (up S512x1024 P.wx)
    = up S8192x1 (fun r _ => -(1 / 2) * (rstd P r / vare P r)) := by
  simp only [val_main_v89, val_main_v88, val_main_v87, val_main_cst_25, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_85, stage_86, host_divf_up (S := S8192x1) (f := fun r _ => rstd P r) (g := fun r _ => vare P r) (fun r _ => (vare_pos P r).ne')]
theorem stage_109 : val_main_v109 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x1 (fun r _ => (∑ j ∈ range 1024, dev P r j * ct P r j) * (-(1 / 2) * (rstd P r / vare P r))) := by
  simp only [val_main_v109, val_main_v106, val_main_v105, val_main_v104, val_main_cst_28, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_83, stage_103, stage_89, sum_r, shapeCast_col (m := 8192)]
theorem stage_108 : val_main_v108 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x1024 (fun r c => ct P r c * rstd P r) := by
  simp only [val_main_v108, val_main_v107, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_103, stage_86, bcast_col (m := 8192) (n := 1024) _ (by decide)]
theorem stage_117 : val_main_v117 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x1024 (fun r c => ((∑ j ∈ range 1024, dev P r j * ct P r j) * (-(1 / 2) * (rstd P r / vare P r))) / 1024 * (2 * dev P r c)) := by
  simp only [val_main_v117, val_main_v116, val_main_v115, val_main_v114, val_main_v113, val_main_v77, val_main_v76, val_main_cst_21, val_main_cst_30, val_main_cst_31, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_109, stage_74, sum_one, bcast_vec (m := 8192) (n := 1024) _ (by decide)]
/-- The gradient by the residual sum. -/
theorem stage_127 : val_main_v127 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x1024 (dr P) := by
  simp only [val_main_v127, val_main_v126, val_main_v125, val_main_v124, val_main_v123, val_main_v122, val_main_v121, val_main_v120, val_main_v119, val_main_v118, val_main_v112, val_main_v111, val_main_v110, val_main_cst_29, val_main_cst_32, val_main_cst_33, val_main_cst_34, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_108, stage_117, sum_r, sum_one, shapeCast_col (m := 8192), bcast_vec (m := 8192) (n := 1024) _ (by decide)]
  exact up_congr2 fun r _ c _ => norm_grad (dev P r) (ct P r) (vare P r) (vare_pos P r) (dev_sum P r) c
/-- The gradient by the gated sum. -/
theorem stage_128 : val_main_v128 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x1024 (dm P) := by
  simp only [val_main_v128, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_127, dot_t]
  rfl
/-- The results. -/
theorem stage_130 : val_main_v130 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x1024 (fun r c => alpha * dr P r c) := by
  simp only [val_main_v130, val_main_v129, val_main_cst_35, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_127]
theorem stage_131 : val_main_v131 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x1024 (dyc P) := by
  simp only [val_main_v131, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_18, stage_128, mul_comm (gates P _ _)]
  rfl
theorem stage_133 : val_main_v133 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x1024 (fun r c => gates P r (1024 + c) * dm P r c) := by
  simp only [val_main_v133, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_17, stage_128]
theorem stage_135 : val_main_v135 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x1024 (dya P) := by
  simp only [val_main_v135, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_16, stage_128, mul_comm (gates P _ _)]
  rfl
theorem stage_137 : val_main_v137 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x1024 (fun r c => glu P r c * (gates P r (1024 + c) * dm P r c)) := by
  simp only [val_main_v137, stage_133, stage_45, mulf_up]
theorem stage_138 : val_main_v138 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x1024 (fun r c => gates P r (1024 + c) * dm P r c * sb P r c) := by
  simp only [val_main_v138, stage_133, stage_52, mulf_up]
theorem stage_139 : val_main_v139 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x1024 (fun r c => glu P r c * (gates P r (1024 + c) * dm P r c) * (sb P r c * (1 - sb P r c))) := by
  simp only [val_main_v139, stage_137, stage_55, mulf_up]
theorem stage_140 : val_main_v140 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x2048 (dglu P) := by
  rw [val_main_v140, stage_138, stage_139, side2]
  exact up_congr2 fun r _ c _ => dglu_eq P r c
theorem stage_141 : val_main_v141 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x512 (dact P) := by
  simp only [val_main_v141, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_140, dot_y, dact_eq]
theorem stage_153 : val_main_v153 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x512 (dy P) := by
  simp only [val_main_v153, val_main_v152, val_main_v151, val_main_v150, val_main_v149, val_main_v148, val_main_v147, val_main_v146, val_main_v145, val_main_v144, val_main_v143, val_main_v142, val_main_v26, val_main_v25, val_main_v24, val_main_v21, val_main_cst_7, val_main_cst_8, val_main_cst_9, val_main_cst_36, val_main_cst_37, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_141, stage_41, stage_37, dy_eq]
  rfl
theorem stage_132 : val_main_v132 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x1024 (fun r c => dm P r c * yc P r c) := by
  simp only [val_main_v132, stage_128, stage_58, mulf_up]
theorem stage_134 : val_main_v134 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x1024 (fun r c => dm P r c * yb P r c) := by
  simp only [val_main_v134, stage_128, stage_56, mulf_up]
theorem stage_136 : val_main_v136 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x1024 (fun r c => dm P r c * ya P r c) := by
  simp only [val_main_v136, stage_128, stage_20, mulf_up]
theorem stage_155 : val_main_v155 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x3072 (dgp P) := by
  rw [val_main_v155, val_main_v154, stage_136, stage_134, stage_132, side3, stage_15, mulf_up]
  exact up_congr2 fun r _ c _ => dgp_eq P r c
theorem stage_157 : val_main_v157 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S1x3072 (fun _ c => ∑ r ∈ range 8192, dgp P r c) := by
  simp only [val_main_v157, val_main_v156, val_main_cst_38, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_155, sum_k, shapeCast_row (n := 3072)]
theorem stage_159 : val_main_v159 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S1024x8192 (fun c r => dr P r c) := by
  simp only [val_main_v159, val_main_v158, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_127, transpose_up (m := 8192) (n := 1024)]
theorem stage_160 : val_main_v160 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x3072 (dgp P) := by
  simp only [val_main_v160, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_155]
theorem stage_161 : val_main_v161 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x1024 (dya P) := by
  simp only [val_main_v161, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_135]
theorem stage_162 : val_main_v162 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x1024 (dyc P) := by
  simp only [val_main_v162, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_131]
theorem stage_163 : val_main_v163 (F := Ideal) (up S8192x1024 P.dx) (up S8192x1024 P.x) (up S8192x3072 P.gp) (up S8192x512 P.ain) (up S8192x512 P.ob) (up S8192x512 P.y) (up S1x3072 P.bg) (up S1x1024 P.lg) (up S1024x1024 P.wo) (up S512x2048 P.wg) (up S512x1024 P.wc) (up S512x1024 P.wx)
    = up S8192x2048 (dglu P) := by
  simp only [val_main_v163, lit_zero, lit_one, lit_two, lit_three, lit_half, lit_neg_half, lit_1024, lit_alpha, lit_eps, lit_gc, lit_44715, lit_million, host_co, host_sig, bcast_num, host_divf_1024, mulf_up, addf_up, subf_up, truncf_up, host_negf_up, host_exp_up, host_tanh_up, zero_add, add_zero, shapeCast_same, stage_140]

end Cert.MidRef

end
-- ==== Proof.MidEqual.lean ====
/-
  The value claim of the middle backward call: on finite arguments the kernel's ten results and the reference's are the
  same real arrays.
-/
module

public import proofs.«01_k».proof.Defs
public import proofs.«01_k».proof.Proof.MidOut
public import proofs.«01_k».proof.Proof.MidValue
public import proofs.«01_k».proof.Proof.MidRef
public import proofs.«01_k».proof.Proof.Equal
public import proofs.«01_k».proof.Proof.Gen.Pre_finite3
public import proofs.«01_k».proof.Proof.Gen.Reference3Ideal.Run
public import proofs.«01_k».proof.Proof.Gen.Reference3Ideal.Read

@[expose] public section

set_option maxRecDepth 16384

noncomputable section

namespace Cert.MidEqual

open Idealize.ShloMosaic Idealize.ShloMosaic.TcCoe Idealize.SL.Sem Cert.Lift Cert.MidSpec Cert.MidBlock
open Cert.Equal (real_array)

/-- On finite arguments each device's argument arrays are real arrays. -/
theorem given_of_finite (m : (ℓ : Loc Cert.Kernel3Ideal.nD Cert.Kernel3Ideal.τ Cert.Kernel3Ideal.sig) → Buf (Elt Ideal) ℓ)
    (h : Cert.Pre_Kernel3Ideal_finite3 m) (c : Dev Cert.Kernel3Ideal.nD) : ∃ P : Args, Given P m c := by
  obtain ⟨h0, h1, h2, h3, h4, h5, h6, h7, h8, h9, h10, h11⟩ := h c
  obtain ⟨dx, e0⟩ := real_array _ _ _ _ h0
  obtain ⟨x, e1⟩ := real_array _ _ _ _ h1
  obtain ⟨gp, e2⟩ := real_array _ _ _ _ h2
  obtain ⟨ain, e3⟩ := real_array _ _ _ _ h3
  obtain ⟨ob, e4⟩ := real_array _ _ _ _ h4
  obtain ⟨y, e5⟩ := real_array _ _ _ _ h5
  obtain ⟨bg, e6⟩ := real_array _ _ _ _ h6
  obtain ⟨lg, e7⟩ := real_array _ _ _ _ h7
  obtain ⟨wo, e8⟩ := real_array _ _ _ _ h8
  obtain ⟨wg, e9⟩ := real_array _ _ _ _ h9
  obtain ⟨wc, e10⟩ := real_array _ _ _ _ h10
  obtain ⟨wx, e11⟩ := real_array _ _ _ _ h11
  exact ⟨⟨dx, x, gp, ain, ob, y, bg, lg, wo, wg, wc, wx⟩, ⟨e0, e1, e2, e3, e4, e5, e6, e7, e8, e9, e10, e11⟩⟩

set_option maxHeartbeats 2000000 in
theorem equal : Cert.algebraic_Kernel3Ideal_Reference3Ideal_pre_finite3 := by
  intro m g m' g' hpre hargs
  choose P hP using given_of_finite m hpre
  refine ⟨fun c => up Cert.Kernel3Ideal.S8192x1024 (fun r i => Cert.Spec.alpha * dr (P c) r i),
    fun c => up Cert.Kernel3Ideal.S1024x8192 (fun i r => dr (P c) r i),
    fun c => up Cert.Kernel3Ideal.S8192x3072 (dgp (P c)),
    fun c => up Cert.Kernel3Ideal.S8192x1024 (dya (P c)),
    fun c => up Cert.Kernel3Ideal.S8192x1024 (dyc (P c)),
    fun c => up Cert.Kernel3Ideal.S8192x2048 (dglu (P c)),
    fun c => up Cert.Kernel3Ideal.S8192x512 (dy (P c)),
    fun c => up Cert.Kernel3Ideal.S1x1024 (fun _ i => ∑ r ∈ Finset.range 8192, (P c).dx r i * xhat (P c) r i),
    fun c => up Cert.Kernel3Ideal.S1x1024 (fun _ i => ∑ r ∈ Finset.range 8192, (P c).dx r i),
    fun c => up Cert.Kernel3Ideal.S1x3072 (fun _ i => ∑ r ∈ Finset.range 8192, dgp (P c) r i), ?_, ?_⟩
  · refine (θ_run _ _ _).mono (fun r h c => ?_) (Cert.Kernel3Ideal.Value.run_blocks m g)
    obtain ⟨k0, k1, k2, k3, k4, k5, k6, k7, k8, k9, ka⟩ := h c
    exact ⟨k0.trans (out12 (hP c)), k1.trans (out13 (hP c)), k2.trans (out14 (hP c)), k3.trans (out15 (hP c)), k4.trans (out16 (hP c)), k5.trans (out17 (hP c)), k6.trans (out18 (hP c)), k7.trans (out19 (hP c)), k8.trans (out20 (hP c)), k9.trans (out21 (hP c)), ka⟩
  · refine (θ_run _ _ _).mono (fun r h c => ?_) (Cert.Reference3Ideal.Value.run m' g')
    obtain ⟨k0, k1, k2, k3, k4, k5, k6, k7, k8, k9, ka⟩ := h c
    obtain ⟨b0, b1, b2, b3, b4, b5, b6, b7, b8, b9, b10, b11⟩ := hargs c
    have a0 : StableHlo.launchContents m' c (Proc.devRef .tc Cert.Reference3Ideal.main_arg0) = _ := b0.trans (hP c).h0
    have a1 : StableHlo.launchContents m' c (Proc.devRef .tc Cert.Reference3Ideal.main_arg1) = _ := b1.trans (hP c).h1
    have a2 : StableHlo.launchContents m' c (Proc.devRef .tc Cert.Reference3Ideal.main_arg2) = _ := b2.trans (hP c).h2
    have a3 : StableHlo.launchContents m' c (Proc.devRef .tc Cert.Reference3Ideal.main_arg3) = _ := b3.trans (hP c).h3
    have a4 : StableHlo.launchContents m' c (Proc.devRef .tc Cert.Reference3Ideal.main_arg4) = _ := b4.trans (hP c).h4
    have a5 : StableHlo.launchContents m' c (Proc.devRef .tc Cert.Reference3Ideal.main_arg5) = _ := b5.trans (hP c).h5
    have a6 : StableHlo.launchContents m' c (Proc.devRef .tc Cert.Reference3Ideal.main_arg6) = _ := b6.trans (hP c).h6
    have a7 : StableHlo.launchContents m' c (Proc.devRef .tc Cert.Reference3Ideal.main_arg7) = _ := b7.trans (hP c).h7
    have a8 : StableHlo.launchContents m' c (Proc.devRef .tc Cert.Reference3Ideal.main_arg8) = _ := b8.trans (hP c).h8
    have a9 : StableHlo.launchContents m' c (Proc.devRef .tc Cert.Reference3Ideal.main_arg9) = _ := b9.trans (hP c).h9
    have a10 : StableHlo.launchContents m' c (Proc.devRef .tc Cert.Reference3Ideal.main_arg10) = _ := b10.trans (hP c).h10
    have a11 : StableHlo.launchContents m' c (Proc.devRef .tc Cert.Reference3Ideal.main_arg11) = _ := b11.trans (hP c).h11
    refine ⟨(k0.trans (Cert.Reference3Ideal.Read.val_main_v130_eq _)).trans ?_, (k1.trans (Cert.Reference3Ideal.Read.val_main_v159_eq _)).trans ?_, (k2.trans (Cert.Reference3Ideal.Read.val_main_v160_eq _)).trans ?_, (k3.trans (Cert.Reference3Ideal.Read.val_main_v161_eq _)).trans ?_, (k4.trans (Cert.Reference3Ideal.Read.val_main_v162_eq _)).trans ?_, (k5.trans (Cert.Reference3Ideal.Read.val_main_v163_eq _)).trans ?_, (k6.trans (Cert.Reference3Ideal.Read.val_main_v153_eq _)).trans ?_, (k7.trans (Cert.Reference3Ideal.Read.val_main_v101_eq _)).trans ?_, (k8.trans (Cert.Reference3Ideal.Read.val_main_v98_eq _)).trans ?_, (k9.trans (Cert.Reference3Ideal.Read.val_main_v157_eq _)).trans ?_, ka⟩
    · rw [a0, a1, a2, a3, a4, a5, a6, a7, a8, a9, a10, a11]
      exact Cert.MidRef.stage_130 (P c)
    · rw [a0, a1, a2, a3, a4, a5, a6, a7, a8, a9, a10, a11]
      exact Cert.MidRef.stage_159 (P c)
    · rw [a0, a1, a2, a3, a4, a5, a6, a7, a8, a9, a10, a11]
      exact Cert.MidRef.stage_160 (P c)
    · rw [a0, a1, a2, a3, a4, a5, a6, a7, a8, a9, a10, a11]
      exact Cert.MidRef.stage_161 (P c)
    · rw [a0, a1, a2, a3, a4, a5, a6, a7, a8, a9, a10, a11]
      exact Cert.MidRef.stage_162 (P c)
    · rw [a0, a1, a2, a3, a4, a5, a6, a7, a8, a9, a10, a11]
      exact Cert.MidRef.stage_163 (P c)
    · rw [a0, a1, a2, a3, a4, a5, a6, a7, a8, a9, a10, a11]
      exact Cert.MidRef.stage_153 (P c)
    · rw [a0, a1, a2, a3, a4, a5, a6, a8, a9, a10, a11]
      exact Cert.MidRef.stage_101 (P c)
    · rw [a0]
      exact Cert.MidRef.stage_98 (P c)
    · rw [a0, a1, a2, a3, a4, a5, a6, a7, a8, a9, a10, a11]
      exact Cert.MidRef.stage_157 (P c)

end Cert.MidEqual

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame.Runs
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame.Runs
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_finite3
public import proofs.«01_k».proof.Proof.AdamUp
public import proofs.«01_k».proof.Proof.AdamIn
public import proofs.«01_k».proof.Proof.AdamDown
public import proofs.«01_k».proof.Proof.Sums
public import proofs.«01_k».proof.Proof.Equal
public import proofs.«01_k».proof.Proof.InProj
public import proofs.«01_k».proof.Proof.Merge
public import proofs.«01_k».proof.Proof.Keys
public import proofs.«01_k».proof.Proof.MidEqual
public import proofs.«01_k».proof.Proof.MidBitsFrame
public import Idealize.ShloMosaic.Adequacy
public import Idealize.ShloMosaic.Init

@[expose] public section

noncomputable section

namespace Cert.Proof

open Idealize.ShloMosaic Idealize.SL.Sem

/-- The kernel runs, keeps its arguments and leaves its counters at zero. -/
theorem frame_kernel : Cert.quiescent_Kernel := fun m ρ _ => Cert.Kernel.Gen.frame m ρ

/-- The same of the kernel over the extended reals, … -/
theorem frame_ideal : Cert.quiescent_KernelIdeal := fun m ρ _ => Cert.KernelIdeal.Gen.frame m ρ

/-- … whatever is known of its arguments. -/
theorem frame_ideal_finite : Cert.quiescent_KernelIdeal_pre_finite := fun m ρ _ => Cert.KernelIdeal.Gen.frame m ρ

/-- The reference runs and keeps its arguments; it has no semaphore. -/
theorem frame_reference : Cert.quiescent_ReferenceIdeal := fun m ρ _ =>
  (θ_run _ _ _).mono (fun r h => ⟨fun c => (h c).2.2.2.2.2.2.2.2.2.2, sem_eq_zero_of_no_sems (by decide) r.2⟩)
    (Cert.ReferenceIdeal.Value.run m ρ)

/-- The input projection's backward call runs, keeps its arguments and leaves its counters at zero. -/
theorem frame_kernel2 : Cert.quiescent_Kernel2 := fun m ρ _ => Cert.Kernel2.Gen.frame m ρ

/-- The same of it over the extended reals. -/
theorem frame_ideal2 : Cert.quiescent_Kernel2Ideal := fun m ρ _ => Cert.Kernel2Ideal.Gen.frame m ρ

/-- Its reference runs and keeps its arguments; it has no semaphore. -/
theorem frame_reference2 : Cert.quiescent_Reference2Ideal := fun m ρ _ =>
  (θ_run _ _ _).mono (fun r h => ⟨fun c => (h c).2.2, sem_eq_zero_of_no_sems (by decide) r.2⟩)
    (Cert.Reference2Ideal.Value.run m ρ)

/-- The middle backward call runs, keeps its arguments and leaves its counters at zero. -/
theorem frame_kernel3 : Cert.quiescent_Kernel3 := fun m ρ _ => Cert.Kernel3.Gen.frame m ρ

/-- The same of it over the extended reals, … -/
theorem frame_ideal3 : Cert.quiescent_Kernel3Ideal := fun m ρ _ => Cert.Kernel3Ideal.Gen.frame m ρ

/-- … whatever is known of its arguments. -/
theorem frame_ideal3_finite : Cert.quiescent_Kernel3Ideal_pre_finite3 := fun m ρ _ => Cert.Kernel3Ideal.Gen.frame m ρ

/-- Its reference runs and keeps its arguments; it has no semaphore. -/
theorem frame_reference3 : Cert.quiescent_Reference3Ideal := fun m ρ _ =>
  (θ_run _ _ _).mono (fun r h => ⟨fun c => (h c).2.2.2.2.2.2.2.2.2.2, sem_eq_zero_of_no_sems (by decide) r.2⟩)
    (Cert.Reference3Ideal.Value.run m ρ)

/-- The merge's forward call runs, keeps its arguments and leaves its counters at zero. -/
theorem frame_kernel4 : Cert.quiescent_Kernel4 := fun m ρ _ => Cert.Kernel4.Gen.frame m ρ

/-- The same of it over the extended reals. -/
theorem frame_ideal4 : Cert.quiescent_Kernel4Ideal := fun m ρ _ => Cert.Kernel4Ideal.Gen.frame m ρ

/-- Its reference runs and keeps its arguments; it has no semaphore. -/
theorem frame_reference4 : Cert.quiescent_Reference4Ideal := fun m ρ _ =>
  (θ_run _ _ _).mono (fun r h => ⟨fun c => (h c).2.2.2.2, sem_eq_zero_of_no_sems (by decide) r.2⟩)
    (Cert.Reference4Ideal.Value.run m ρ)

/-- The call that makes the memory's keys and values runs, keeps its arguments and leaves its counters at zero. -/
theorem frame_kernel5 : Cert.quiescent_Kernel5 := fun m ρ _ => Cert.Kernel5.Gen.frame m ρ

/-- The same of it over the extended reals. -/
theorem frame_ideal5 : Cert.quiescent_Kernel5Ideal := fun m ρ _ => Cert.Kernel5Ideal.Gen.frame m ρ

/-- Its reference runs and keeps its arguments; it has no semaphore. -/
theorem frame_reference5 : Cert.quiescent_Reference5Ideal := fun m ρ _ =>
  (θ_run _ _ _).mono (fun r h => ⟨fun c => (h c).2.2.2, sem_eq_zero_of_no_sems (by decide) r.2⟩)
    (Cert.Reference5Ideal.Value.run m ρ)

/-- The optimiser's call on the up weights runs, keeps its arguments and leaves its counters at zero. -/
theorem frame_kernel6 : Cert.quiescent_Kernel6 := fun m ρ _ => Cert.Kernel6.Gen.frame m ρ

/-- The same of it over the extended reals. -/
theorem frame_ideal6 : Cert.quiescent_Kernel6Ideal := fun m ρ _ => Cert.Kernel6Ideal.Gen.frame m ρ

/-- Its reference runs and keeps its arguments; it has no semaphore. -/
theorem frame_reference6 : Cert.quiescent_Reference6Ideal := fun m ρ _ =>
  (θ_run _ _ _).mono (fun r h => ⟨fun c => (h c).2.2.2.2, sem_eq_zero_of_no_sems (by decide) r.2⟩)
    (Cert.Reference6Ideal.Value.run m ρ)

/-- The optimiser's call on the input projection's weights runs, keeps its arguments and leaves its counters at zero. -/
theorem frame_kernel7 : Cert.quiescent_Kernel7 := fun m ρ _ => Cert.Kernel7.Gen.frame m ρ

/-- The same of it over the extended reals. -/
theorem frame_ideal7 : Cert.quiescent_Kernel7Ideal := fun m ρ _ => Cert.Kernel7Ideal.Gen.frame m ρ

/-- Its reference runs and keeps its arguments; it has no semaphore. -/
theorem frame_reference7 : Cert.quiescent_Reference7Ideal := fun m ρ _ =>
  (θ_run _ _ _).mono (fun r h => ⟨fun c => (h c).2.2.2.2, sem_eq_zero_of_no_sems (by decide) r.2⟩)
    (Cert.Reference7Ideal.Value.run m ρ)

/-- The optimiser's call on the down weights runs, keeps its arguments and leaves its counters at zero. -/
theorem frame_kernel8 : Cert.quiescent_Kernel8 := fun m ρ _ => Cert.Kernel8.Gen.frame m ρ

/-- The same of it over the extended reals. -/
theorem frame_ideal8 : Cert.quiescent_Kernel8Ideal := fun m ρ _ => Cert.Kernel8Ideal.Gen.frame m ρ

/-- Its reference runs and keeps its arguments; it has no semaphore. -/
theorem frame_reference8 : Cert.quiescent_Reference8Ideal := fun m ρ _ =>
  (θ_run _ _ _).mono (fun r h => ⟨fun c => (h c).2.2.2.2, sem_eq_zero_of_no_sems (by decide) r.2⟩)
    (Cert.Reference8Ideal.Value.run m ρ)

/-- The call that sums the devices' parts runs, keeps its arguments and leaves its counters at zero. -/
theorem frame_kernel9 : Cert.quiescent_Kernel9 := fun m ρ _ => Cert.Kernel9.Gen.frame m ρ

/-- The same of it over the extended reals. -/
theorem frame_ideal9 : Cert.quiescent_Kernel9Ideal := fun m ρ _ => Cert.Kernel9Ideal.Gen.frame m ρ

/-- Its reference runs and keeps its arguments; it has no semaphore. -/
theorem frame_reference9 : Cert.quiescent_Reference9Ideal := fun m ρ _ =>
  (θ_run _ _ _).mono (fun r h => ⟨fun c => (h c).2.2.2.2, sem_eq_zero_of_no_sems (by decide) r.2⟩)
    (Cert.Reference9Ideal.Value.run m ρ)

/-- The idealized middle call's two constants are the reals the source writes, within rounding of the ones it carries. -/
theorem preserves3 : Cert.preserves_Kernel3_Kernel3Ideal :=
  ⟨IdealRules.named_const.statement Cert.Kernel3Ideal.κ "gelu_c" .f32 0x3D372713#32 _ rfl,
    IdealRules.named_const.statement Cert.Kernel3Ideal.κ "gelu_3c" .f32 0x3E095D4F#32 _ rfl⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite.Gen.facts, Cert.Pre_finite3.Gen.facts,
    frame_kernel, frame_ideal, frame_ideal_finite, frame_reference, fun m ρ _ => frame_reference m ρ trivial,
    frame_kernel2, frame_ideal2, frame_reference2,
    frame_kernel3, frame_ideal3, frame_ideal3_finite, frame_reference3, fun m ρ _ => frame_reference3 m ρ trivial,
    frame_kernel4, frame_ideal4, frame_reference4, frame_kernel5, frame_ideal5, frame_reference5,
    frame_kernel6, frame_ideal6, frame_reference6,
    frame_kernel7, frame_ideal7, frame_reference7,
    frame_kernel8, frame_ideal8, frame_reference8,
    frame_kernel9, frame_ideal9, frame_reference9,
    trivial, Cert.Equal.equal, trivial, Cert.InProj.equal, preserves3, Cert.MidEqual.equal, trivial, Cert.Merge.equal, trivial, Cert.Keys.equal,
    trivial, Cert.AdamUp.equal, trivial, Cert.AdamIn.equal, trivial, Cert.AdamDown.equal, trivial, Cert.Sums.equal⟩

end Cert.Proof

end
